-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_dx [hPre_finite_dx : Cert.Pre_finite_dx.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_dx.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_dx [hPre_finite_dx : Cert.Pre_finite_dx.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_dx.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Kernel20Ideal_finite_loss [hPre_finite_loss : Cert.Pre_finite_loss.Facts] (m : (ℓ : Loc Cert.Kernel20Ideal.nD Cert.Kernel20Ideal.τ Cert.Kernel20Ideal.sig) → Buf (Elt Ideal) ℓ) : Prop :=
  ∀ c : Dev Cert.Kernel20Ideal.nD,
    (Cert.Pre_finite_loss.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2))) = (fun _ => 1#1)

def Pre_Reference20Ideal (m : (ℓ : Loc Cert.Reference20Ideal.nD Cert.Reference20Ideal.τ Cert.Reference20Ideal.sig) → Buf (Elt Ideal) ℓ) : Prop :=
  True

def Pre_Reference20Ideal_finite_loss [hPre_finite_loss : Cert.Pre_finite_loss.Facts] (m : (ℓ : Loc Cert.Reference20Ideal.nD Cert.Reference20Ideal.τ Cert.Reference20Ideal.sig) → Buf (Elt Ideal) ℓ) : Prop :=
  ∀ c : Dev Cert.Reference20Ideal.nD,
    (Cert.Pre_finite_loss.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_finite_dx [hKernel4Ideal : Cert.Kernel4Ideal.Facts] [hPre_finite_dx : Cert.Pre_finite_dx.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_dx m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_finite_dx [hReference4Ideal : Cert.Reference4Ideal.Facts] [hPre_finite_dx : Cert.Pre_finite_dx.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_dx m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Kernel20Ideal_pre_finite_loss [hKernel20Ideal : Cert.Kernel20Ideal.Facts] [hPre_finite_loss : Cert.Pre_finite_loss.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal_finite_loss m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Reference20Ideal_pre_finite_loss [hReference20Ideal : Cert.Reference20Ideal.Facts] [hPre_finite_loss : Cert.Pre_finite_loss.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal_finite_loss m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v45_0)) (v1 : (c : Dev Cert.KernelIdeal.nD) → Buf (Elt Ideal) ((c.tc : Thread Cert.KernelIdeal.nD Cert.KernelIdeal.τ).loc Cert.KernelIdeal.main_v45_1)) (v2 : (c : Dev Cert.KernelIdeal.nD) → Buf (Elt Ideal) ((c.tc : Thread Cert.KernelIdeal.nD Cert.KernelIdeal.τ).loc Cert.KernelIdeal.main_v47_0)) (v3 : (c : Dev Cert.KernelIdeal.nD) → Buf (Elt Ideal) ((c.tc : Thread Cert.KernelIdeal.nD Cert.KernelIdeal.τ).loc Cert.KernelIdeal.main_v47_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45_0) = v0 c
          ∧ r.2.mem ((c.tc : Thread Cert.KernelIdeal.nD Cert.KernelIdeal.τ).loc Cert.KernelIdeal.main_v45_1) = v1 c
          ∧ r.2.mem ((c.tc : Thread Cert.KernelIdeal.nD Cert.KernelIdeal.τ).loc Cert.KernelIdeal.main_v47_0) = v2 c
          ∧ r.2.mem ((c.tc : Thread Cert.KernelIdeal.nD Cert.KernelIdeal.τ).loc Cert.KernelIdeal.main_v47_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v60) = v2 c
          ∧ r.2.mem ((c.tc : Thread Cert.ReferenceIdeal.nD Cert.ReferenceIdeal.τ).loc Cert.ReferenceIdeal.main_v63) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v27)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v27) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v25) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v58_0)) (v1 : (c : Dev Cert.Kernel3Ideal.nD) → Buf (Elt Ideal) ((c.tc : Thread Cert.Kernel3Ideal.nD Cert.Kernel3Ideal.τ).loc Cert.Kernel3Ideal.main_v58_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v58_0) = v0 c
          ∧ r.2.mem ((c.tc : Thread Cert.Kernel3Ideal.nD Cert.Kernel3Ideal.τ).loc Cert.Kernel3Ideal.main_v58_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v32) = v0 c
          ∧ r.2.mem ((c.tc : Thread Cert.Reference3Ideal.nD Cert.Reference3Ideal.τ).loc Cert.Reference3Ideal.main_v35) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_finite_dx [hKernel4Ideal : Cert.Kernel4Ideal.Facts] [hReference4Ideal : Cert.Reference4Ideal.Facts] [hPre_finite_dx : Cert.Pre_finite_dx.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_dx m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v87_0)) (v1 : (c : Dev Cert.Kernel4Ideal.nD) → Buf (Elt Ideal) ((c.tc : Thread Cert.Kernel4Ideal.nD Cert.Kernel4Ideal.τ).loc Cert.Kernel4Ideal.main_v87_1)) (v2 : (c : Dev Cert.Kernel4Ideal.nD) → Buf (Elt Ideal) ((c.tc : Thread Cert.Kernel4Ideal.nD Cert.Kernel4Ideal.τ).loc Cert.Kernel4Ideal.main_v87_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v87_0) = v0 c
          ∧ r.2.mem ((c.tc : Thread Cert.Kernel4Ideal.nD Cert.Kernel4Ideal.τ).loc Cert.Kernel4Ideal.main_v87_1) = v1 c
          ∧ r.2.mem ((c.tc : Thread Cert.Kernel4Ideal.nD Cert.Kernel4Ideal.τ).loc Cert.Kernel4Ideal.main_v87_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v52) = v0 c
          ∧ r.2.mem ((c.tc : Thread Cert.Reference4Ideal.nD Cert.Reference4Ideal.τ).loc Cert.Reference4Ideal.main_v53) = v1 c
          ∧ r.2.mem ((c.tc : Thread Cert.Reference4Ideal.nD Cert.Reference4Ideal.τ).loc Cert.Reference4Ideal.main_v35) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)) (v2 : (c : Dev Cert.Kernel5Ideal.nD) → Buf (Elt Ideal) ((c.tc : Thread Cert.Kernel5Ideal.nD Cert.Kernel5Ideal.τ).loc Cert.Kernel5Ideal.main_v4_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_v4_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v24) = v0 c
          ∧ r.2.mem ((c.tc : Thread Cert.Reference5Ideal.nD Cert.Reference5Ideal.τ).loc Cert.Reference5Ideal.main_v25) = v1 c
          ∧ r.2.mem ((c.tc : Thread Cert.Reference5Ideal.nD Cert.Reference5Ideal.τ).loc Cert.Reference5Ideal.main_v26) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)) (v2 : (c : Dev Cert.Kernel6Ideal.nD) → Buf (Elt Ideal) ((c.tc : Thread Cert.Kernel6Ideal.nD Cert.Kernel6Ideal.τ).loc Cert.Kernel6Ideal.main_v4_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_v4_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v24) = v0 c
          ∧ r.2.mem ((c.tc : Thread Cert.Reference6Ideal.nD Cert.Reference6Ideal.τ).loc Cert.Reference6Ideal.main_v25) = v1 c
          ∧ r.2.mem ((c.tc : Thread Cert.Reference6Ideal.nD Cert.Reference6Ideal.τ).loc Cert.Reference6Ideal.main_v26) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v23) = v0 c
          ∧ r.2.mem ((c.tc : Thread Cert.Reference7Ideal.nD Cert.Reference7Ideal.τ).loc Cert.Reference7Ideal.main_v4) = v1 c
          ∧ r.2.mem ((c.tc : Thread Cert.Reference7Ideal.nD Cert.Reference7Ideal.τ).loc Cert.Reference7Ideal.main_v10) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v4_0)) (v1 : (c : Dev Cert.Kernel8Ideal.nD) → Buf (Elt Ideal) ((c.tc : Thread Cert.Kernel8Ideal.nD Cert.Kernel8Ideal.τ).loc Cert.Kernel8Ideal.main_v4_1)) (v2 : (c : Dev Cert.Kernel8Ideal.nD) → Buf (Elt Ideal) ((c.tc : Thread Cert.Kernel8Ideal.nD Cert.Kernel8Ideal.τ).loc Cert.Kernel8Ideal.main_v4_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4_0) = v0 c
          ∧ r.2.mem ((c.tc : Thread Cert.Kernel8Ideal.nD Cert.Kernel8Ideal.τ).loc Cert.Kernel8Ideal.main_v4_1) = v1 c
          ∧ r.2.mem ((c.tc : Thread Cert.Kernel8Ideal.nD Cert.Kernel8Ideal.τ).loc Cert.Kernel8Ideal.main_v4_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v24) = v0 c
          ∧ r.2.mem ((c.tc : Thread Cert.Reference8Ideal.nD Cert.Reference8Ideal.τ).loc Cert.Reference8Ideal.main_v25) = v1 c
          ∧ r.2.mem ((c.tc : Thread Cert.Reference8Ideal.nD Cert.Reference8Ideal.τ).loc Cert.Reference8Ideal.main_v26) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v23) = v0 c
          ∧ r.2.mem ((c.tc : Thread Cert.Reference9Ideal.nD Cert.Reference9Ideal.τ).loc Cert.Reference9Ideal.main_v4) = v1 c
          ∧ r.2.mem ((c.tc : Thread Cert.Reference9Ideal.nD Cert.Reference9Ideal.τ).loc Cert.Reference9Ideal.main_v10) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v4_0)) (v1 : (c : Dev Cert.Kernel10Ideal.nD) → Buf (Elt Ideal) ((c.tc : Thread Cert.Kernel10Ideal.nD Cert.Kernel10Ideal.τ).loc Cert.Kernel10Ideal.main_v4_1)) (v2 : (c : Dev Cert.Kernel10Ideal.nD) → Buf (Elt Ideal) ((c.tc : Thread Cert.Kernel10Ideal.nD Cert.Kernel10Ideal.τ).loc Cert.Kernel10Ideal.main_v4_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4_0) = v0 c
          ∧ r.2.mem ((c.tc : Thread Cert.Kernel10Ideal.nD Cert.Kernel10Ideal.τ).loc Cert.Kernel10Ideal.main_v4_1) = v1 c
          ∧ r.2.mem ((c.tc : Thread Cert.Kernel10Ideal.nD Cert.Kernel10Ideal.τ).loc Cert.Kernel10Ideal.main_v4_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v24) = v0 c
          ∧ r.2.mem ((c.tc : Thread Cert.Reference10Ideal.nD Cert.Reference10Ideal.τ).loc Cert.Reference10Ideal.main_v25) = v1 c
          ∧ r.2.mem ((c.tc : Thread Cert.Reference10Ideal.nD Cert.Reference10Ideal.τ).loc Cert.Reference10Ideal.main_v26) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v23) = v0 c
          ∧ r.2.mem ((c.tc : Thread Cert.Reference11Ideal.nD Cert.Reference11Ideal.τ).loc Cert.Reference11Ideal.main_v4) = v1 c
          ∧ r.2.mem ((c.tc : Thread Cert.Reference11Ideal.nD Cert.Reference11Ideal.τ).loc Cert.Reference11Ideal.main_v10) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v4_0)) (v1 : (c : Dev Cert.Kernel12Ideal.nD) → Buf (Elt Ideal) ((c.tc : Thread Cert.Kernel12Ideal.nD Cert.Kernel12Ideal.τ).loc Cert.Kernel12Ideal.main_v4_1)) (v2 : (c : Dev Cert.Kernel12Ideal.nD) → Buf (Elt Ideal) ((c.tc : Thread Cert.Kernel12Ideal.nD Cert.Kernel12Ideal.τ).loc Cert.Kernel12Ideal.main_v4_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4_0) = v0 c
          ∧ r.2.mem ((c.tc : Thread Cert.Kernel12Ideal.nD Cert.Kernel12Ideal.τ).loc Cert.Kernel12Ideal.main_v4_1) = v1 c
          ∧ r.2.mem ((c.tc : Thread Cert.Kernel12Ideal.nD Cert.Kernel12Ideal.τ).loc Cert.Kernel12Ideal.main_v4_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v24) = v0 c
          ∧ r.2.mem ((c.tc : Thread Cert.Reference12Ideal.nD Cert.Reference12Ideal.τ).loc Cert.Reference12Ideal.main_v25) = v1 c
          ∧ r.2.mem ((c.tc : Thread Cert.Reference12Ideal.nD Cert.Reference12Ideal.τ).loc Cert.Reference12Ideal.main_v26) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v23) = v0 c
          ∧ r.2.mem ((c.tc : Thread Cert.Reference13Ideal.nD Cert.Reference13Ideal.τ).loc Cert.Reference13Ideal.main_v4) = v1 c
          ∧ r.2.mem ((c.tc : Thread Cert.Reference13Ideal.nD Cert.Reference13Ideal.τ).loc Cert.Reference13Ideal.main_v10) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v4_0)) (v1 : (c : Dev Cert.Kernel14Ideal.nD) → Buf (Elt Ideal) ((c.tc : Thread Cert.Kernel14Ideal.nD Cert.Kernel14Ideal.τ).loc Cert.Kernel14Ideal.main_v4_1)) (v2 : (c : Dev Cert.Kernel14Ideal.nD) → Buf (Elt Ideal) ((c.tc : Thread Cert.Kernel14Ideal.nD Cert.Kernel14Ideal.τ).loc Cert.Kernel14Ideal.main_v4_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v4_0) = v0 c
          ∧ r.2.mem ((c.tc : Thread Cert.Kernel14Ideal.nD Cert.Kernel14Ideal.τ).loc Cert.Kernel14Ideal.main_v4_1) = v1 c
          ∧ r.2.mem ((c.tc : Thread Cert.Kernel14Ideal.nD Cert.Kernel14Ideal.τ).loc Cert.Kernel14Ideal.main_v4_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v24) = v0 c
          ∧ r.2.mem ((c.tc : Thread Cert.Reference14Ideal.nD Cert.Reference14Ideal.τ).loc Cert.Reference14Ideal.main_v25) = v1 c
          ∧ r.2.mem ((c.tc : Thread Cert.Reference14Ideal.nD Cert.Reference14Ideal.τ).loc Cert.Reference14Ideal.main_v26) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v4_0)) (v1 : (c : Dev Cert.Kernel15Ideal.nD) → Buf (Elt Ideal) ((c.tc : Thread Cert.Kernel15Ideal.nD Cert.Kernel15Ideal.τ).loc Cert.Kernel15Ideal.main_v4_1)) (v2 : (c : Dev Cert.Kernel15Ideal.nD) → Buf (Elt Ideal) ((c.tc : Thread Cert.Kernel15Ideal.nD Cert.Kernel15Ideal.τ).loc Cert.Kernel15Ideal.main_v4_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v4_0) = v0 c
          ∧ r.2.mem ((c.tc : Thread Cert.Kernel15Ideal.nD Cert.Kernel15Ideal.τ).loc Cert.Kernel15Ideal.main_v4_1) = v1 c
          ∧ r.2.mem ((c.tc : Thread Cert.Kernel15Ideal.nD Cert.Kernel15Ideal.τ).loc Cert.Kernel15Ideal.main_v4_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v24) = v0 c
          ∧ r.2.mem ((c.tc : Thread Cert.Reference15Ideal.nD Cert.Reference15Ideal.τ).loc Cert.Reference15Ideal.main_v25) = v1 c
          ∧ r.2.mem ((c.tc : Thread Cert.Reference15Ideal.nD Cert.Reference15Ideal.τ).loc Cert.Reference15Ideal.main_v26) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v4_0)) (v1 : (c : Dev Cert.Kernel16Ideal.nD) → Buf (Elt Ideal) ((c.tc : Thread Cert.Kernel16Ideal.nD Cert.Kernel16Ideal.τ).loc Cert.Kernel16Ideal.main_v4_1)) (v2 : (c : Dev Cert.Kernel16Ideal.nD) → Buf (Elt Ideal) ((c.tc : Thread Cert.Kernel16Ideal.nD Cert.Kernel16Ideal.τ).loc Cert.Kernel16Ideal.main_v4_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v4_0) = v0 c
          ∧ r.2.mem ((c.tc : Thread Cert.Kernel16Ideal.nD Cert.Kernel16Ideal.τ).loc Cert.Kernel16Ideal.main_v4_1) = v1 c
          ∧ r.2.mem ((c.tc : Thread Cert.Kernel16Ideal.nD Cert.Kernel16Ideal.τ).loc Cert.Kernel16Ideal.main_v4_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v24) = v0 c
          ∧ r.2.mem ((c.tc : Thread Cert.Reference16Ideal.nD Cert.Reference16Ideal.τ).loc Cert.Reference16Ideal.main_v25) = v1 c
          ∧ r.2.mem ((c.tc : Thread Cert.Reference16Ideal.nD Cert.Reference16Ideal.τ).loc Cert.Reference16Ideal.main_v26) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v4_0)) (v1 : (c : Dev Cert.Kernel17Ideal.nD) → Buf (Elt Ideal) ((c.tc : Thread Cert.Kernel17Ideal.nD Cert.Kernel17Ideal.τ).loc Cert.Kernel17Ideal.main_v4_1)) (v2 : (c : Dev Cert.Kernel17Ideal.nD) → Buf (Elt Ideal) ((c.tc : Thread Cert.Kernel17Ideal.nD Cert.Kernel17Ideal.τ).loc Cert.Kernel17Ideal.main_v4_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v4_0) = v0 c
          ∧ r.2.mem ((c.tc : Thread Cert.Kernel17Ideal.nD Cert.Kernel17Ideal.τ).loc Cert.Kernel17Ideal.main_v4_1) = v1 c
          ∧ r.2.mem ((c.tc : Thread Cert.Kernel17Ideal.nD Cert.Kernel17Ideal.τ).loc Cert.Kernel17Ideal.main_v4_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v24) = v0 c
          ∧ r.2.mem ((c.tc : Thread Cert.Reference17Ideal.nD Cert.Reference17Ideal.τ).loc Cert.Reference17Ideal.main_v25) = v1 c
          ∧ r.2.mem ((c.tc : Thread Cert.Reference17Ideal.nD Cert.Reference17Ideal.τ).loc Cert.Reference17Ideal.main_v26) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v4_0)) (v1 : (c : Dev Cert.Kernel18Ideal.nD) → Buf (Elt Ideal) ((c.tc : Thread Cert.Kernel18Ideal.nD Cert.Kernel18Ideal.τ).loc Cert.Kernel18Ideal.main_v4_1)) (v2 : (c : Dev Cert.Kernel18Ideal.nD) → Buf (Elt Ideal) ((c.tc : Thread Cert.Kernel18Ideal.nD Cert.Kernel18Ideal.τ).loc Cert.Kernel18Ideal.main_v4_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v4_0) = v0 c
          ∧ r.2.mem ((c.tc : Thread Cert.Kernel18Ideal.nD Cert.Kernel18Ideal.τ).loc Cert.Kernel18Ideal.main_v4_1) = v1 c
          ∧ r.2.mem ((c.tc : Thread Cert.Kernel18Ideal.nD Cert.Kernel18Ideal.τ).loc Cert.Kernel18Ideal.main_v4_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v24) = v0 c
          ∧ r.2.mem ((c.tc : Thread Cert.Reference18Ideal.nD Cert.Reference18Ideal.τ).loc Cert.Reference18Ideal.main_v25) = v1 c
          ∧ r.2.mem ((c.tc : Thread Cert.Reference18Ideal.nD Cert.Reference18Ideal.τ).loc Cert.Reference18Ideal.main_v26) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v4_0)) (v1 : (c : Dev Cert.Kernel19Ideal.nD) → Buf (Elt Ideal) ((c.tc : Thread Cert.Kernel19Ideal.nD Cert.Kernel19Ideal.τ).loc Cert.Kernel19Ideal.main_v4_1)) (v2 : (c : Dev Cert.Kernel19Ideal.nD) → Buf (Elt Ideal) ((c.tc : Thread Cert.Kernel19Ideal.nD Cert.Kernel19Ideal.τ).loc Cert.Kernel19Ideal.main_v4_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v4_0) = v0 c
          ∧ r.2.mem ((c.tc : Thread Cert.Kernel19Ideal.nD Cert.Kernel19Ideal.τ).loc Cert.Kernel19Ideal.main_v4_1) = v1 c
          ∧ r.2.mem ((c.tc : Thread Cert.Kernel19Ideal.nD Cert.Kernel19Ideal.τ).loc Cert.Kernel19Ideal.main_v4_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v24) = v0 c
          ∧ r.2.mem ((c.tc : Thread Cert.Reference19Ideal.nD Cert.Reference19Ideal.τ).loc Cert.Reference19Ideal.main_v25) = v1 c
          ∧ r.2.mem ((c.tc : Thread Cert.Reference19Ideal.nD Cert.Reference19Ideal.τ).loc Cert.Reference19Ideal.main_v26) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal_pre_finite_loss [hKernel20Ideal : Cert.Kernel20Ideal.Facts] [hReference20Ideal : Cert.Reference20Ideal.Facts] [hPre_finite_loss : Cert.Pre_finite_loss.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal_finite_loss m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v48) = v0 c
          ∧ r.2.mem ((c.tc : Thread Cert.Reference20Ideal.nD Cert.Reference20Ideal.τ).loc Cert.Reference20Ideal.main_v49) = v1 c
          ∧ r.2.mem ((c.tc : Thread Cert.Reference20Ideal.nD Cert.Reference20Ideal.τ).loc Cert.Reference20Ideal.main_v32) = v2 c
          ∧ r.2.mem ((c.tc : Thread Cert.Reference20Ideal.nD Cert.Reference20Ideal.τ).loc Cert.Reference20Ideal.main_v50) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hPre_finite : Cert.Pre_finite.Facts) (hPre_finite_dx : Cert.Pre_finite_dx.Facts) (hPre_finite_loss : Cert.Pre_finite_loss.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_dx (hKernel4Ideal := hKernel4Ideal) (hPre_finite_dx := hPre_finite_dx)
    ∧ quiescent_Reference4Ideal (hReference4Ideal := hReference4Ideal)
    ∧ quiescent_Reference4Ideal_pre_finite_dx (hReference4Ideal := hReference4Ideal) (hPre_finite_dx := hPre_finite_dx)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Kernel20Ideal_pre_finite_loss (hKernel20Ideal := hKernel20Ideal) (hPre_finite_loss := hPre_finite_loss)
    ∧ quiescent_Reference20Ideal (hReference20Ideal := hReference20Ideal)
    ∧ quiescent_Reference20Ideal_pre_finite_loss (hReference20Ideal := hReference20Ideal) (hPre_finite_loss := hPre_finite_loss)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_dx (hKernel4Ideal := hKernel4Ideal) (hReference4Ideal := hReference4Ideal) (hPre_finite_dx := hPre_finite_dx)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal_pre_finite_loss (hKernel20Ideal := hKernel20Ideal) (hReference20Ideal := hReference20Ideal) (hPre_finite_loss := hPre_finite_loss)
-- ==== Pre_finite.lean ====
abbrev S16384x1024 : Shape := ⟨2, ![16384, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_arg5 : FVec F S1x1024 .f32) (main_arg6 : FVec F S16384x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S2816x1024 .f32 := Host.absf main_arg4
  let main_cst_6 : FVec F S_ .f32 := constant S_ .f32 0x7F800000#32
  let main_v20 : FVec F S2816x1024 .f32 := broadcastInDim S2816x1024 ![] bcast_S_S2816x1024 main_cst_6
  let main_v21 : IVec S2816x1024 1 := cmpf .olt main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  let main_v29 : FVec F S16384x1024 .f32 := Host.absf main_arg6
  let main_cst_10 : FVec F S_ .f32 := constant S_ .f32 0x7F800000#32
  let main_v30 : FVec F S16384x1024 .f32 := broadcastInDim S16384x1024 ![] bcast_S_S16384x1024 main_cst_10
  let main_v31 : IVec S16384x1024 1 := cmpf .olt main_v29 main_v30
  let main_c_11 : IVec S_ 1 := constantI S_ 1 1#1
  let main_v32 : IVec S_ 1 := (fun x v => Host.reduce IntOp.andi x v reducesTo_S16384x1024_S_d0_1 h_S_) main_v31 main_c_11
  let main_v33 : IVec S_ 1 := andi main_v28 main_v32
  main_v33

def fn {F : FTy → Type} [FloatOps F] (main_arg0 : FVec F S16384x1024 .f32) (main_arg1 : FVec F S1x1024 .f32) (main_arg2 : FVec F S1024x2816 .f32) (main_arg3 : FVec F S1024x2816 .f32) (main_arg4 : FVec F S2816x1024 .f32) (main_arg5 : FVec F S1x1024 .f32) (main_arg6 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_arg6 main_v13 main_v16
-- ==== Pre_finite_dx.lean ====
abbrev S16384x1024 : Shape := ⟨2, ![16384, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_arg5 : FVec F S16384x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S2816x1024 .f32 := Host.absf main_arg4
  let main_cst_6 : FVec F S_ .f32 := constant S_ .f32 0x7F800000#32
  let main_v20 : FVec F S2816x1024 .f32 := broadcastInDim S2816x1024 ![] bcast_S_S2816x1024 main_cst_6
  let main_v21 : IVec S2816x1024 1 := cmpf .olt main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : IVec S_ 1 := andi main_v18 main_v22
  let main_v24 : FVec F S16384x1024 .f32 := Host.absf main_arg5
  let main_cst_8 : FVec F S_ .f32 := constant S_ .f32 0x7F800000#32
  let main_v25 : FVec F S16384x1024 .f32 := broadcastInDim S16384x1024 ![] bcast_S_S16384x1024 main_cst_8
  let main_v26 : IVec S16384x1024 1 := cmpf .olt main_v24 main_v25
  let main_c_9 : IVec S_ 1 := constantI S_ 1 1#1
  let main_v27 : IVec S_ 1 := (fun x v => Host.reduce IntOp.andi x v reducesTo_S16384x1024_S_d0_1 h_S_) main_v26 main_c_9
  let main_v28 : IVec S_ 1 := andi main_v23 main_v27
  main_v28

def fn {F : FTy → Type} [FloatOps F] (main_arg0 : FVec F S16384x1024 .f32) (main_arg1 : FVec F S1x1024 .f32) (main_arg2 : FVec F S1024x2816 .f32) (main_arg3 : FVec F S1024x2816 .f32) (main_arg4 : FVec F S2816x1024 .f32) (main_arg5 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_v13 main_v16
-- ==== Pre_finite_loss.lean ====
abbrev S16384x1024 : Shape := ⟨2, ![16384, 1024]⟩
abbrev S1x1024 : Shape := ⟨2, ![1, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S16384x1024 .f32) (main_arg1 : FVec F S16384x1024 .f32) (main_arg2 : FVec F S1x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  main_v13
-- ==== Kernel.lean ====
abbrev S16384x1024 : Shape := ⟨2, ![16384, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1024x704 : Shape := ⟨2, ![1024, 704]⟩
abbrev S1x1024x704 : Shape := ⟨3, ![1, 1024, 704]⟩
abbrev S4x1024x704 : Shape := ⟨3, ![4, 1024, 704]⟩
abbrev S4x2048x704 : Shape := ⟨3, ![4, 2048, 704]⟩
abbrev S704x1024 : Shape := ⟨2, ![704, 1024]⟩
abbrev S1x704x1024 : Shape := ⟨3, ![1, 704, 1024]⟩
abbrev S4x704x1024 : Shape := ⟨3, ![4, 704, 1024]⟩
abbrev S4x16384x704 : Shape := ⟨3, ![4, 16384, 704]⟩
abbrev S1024x1024 : Shape := ⟨2, ![1024, 1024]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S512 : Shape := ⟨1, ![512]⟩
abbrev S512x1 : Shape := ⟨2, ![512, 1]⟩

abbrev nBuf : Space → Nat
  | .hbm => 62
  | .vmem => 34
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .bf16⟩
  | .hbm, ⟨23, _⟩ => ⟨S1024x704, .f32⟩
  | .hbm, ⟨24, _⟩ => ⟨S1024x704, .f32⟩
  | .hbm, ⟨25, _⟩ => ⟨S1024x704, .f32⟩
  | .hbm, ⟨26, _⟩ => ⟨S1024x704, .f32⟩
  | .hbm, ⟨27, _⟩ => ⟨S1x1024x704, .f32⟩
  | .hbm, ⟨28, _⟩ => ⟨S1x1024x704, .f32⟩
  | .hbm, ⟨29, _⟩ => ⟨S1x1024x704, .f32⟩
  | .hbm, ⟨30, _⟩ => ⟨S1x1024x704, .f32⟩
  | .hbm, ⟨31, _⟩ => ⟨S4x1024x704, .f32⟩
  | .hbm, ⟨32, _⟩ => ⟨S4x1024x704, .bf16⟩
  | .hbm, ⟨33, _⟩ => ⟨S1024x704, .f32⟩
  | .hbm, ⟨34, _⟩ => ⟨S1024x704, .f32⟩
  | .hbm, ⟨35, _⟩ => ⟨S1024x704, .f32⟩
  | .hbm, ⟨36, _⟩ => ⟨S1024x704, .f32⟩
  | .hbm, ⟨37, _⟩ => ⟨S1x1024x704, .f32⟩
  | .hbm, ⟨38, _⟩ => ⟨S1x1024x704, .f32⟩
  | .hbm, ⟨39, _⟩ => ⟨S1x1024x704, .f32⟩
  | .hbm, ⟨40, _⟩ => ⟨S1x1024x704, .f32⟩
  | .hbm, ⟨41, _⟩ => ⟨S4x1024x704, .f32⟩
  | .hbm, ⟨42, _⟩ => ⟨S4x1024x704, .bf16⟩
  | .hbm, ⟨43, _⟩ => ⟨S4x2048x704, .bf16⟩
  | .hbm, ⟨44, _⟩ => ⟨S704x1024, .f32⟩
  | .hbm, ⟨45, _⟩ => ⟨S704x1024, .f32⟩
  | .hbm, ⟨46, _⟩ => ⟨S704x1024, .f32⟩
  | .hbm, ⟨47, _⟩ => ⟨S704x1024, .f32⟩
  | .hbm, ⟨48, _⟩ => ⟨S1x704x1024, .f32⟩
  | .hbm, ⟨49, _⟩ => ⟨S1x704x1024, .f32⟩
  | .hbm, ⟨50, _⟩ => ⟨S1x704x1024, .f32⟩
  | .hbm, ⟨51, _⟩ => ⟨S1x704x1024, .f32⟩
  | .hbm, ⟨52, _⟩ => ⟨S4x704x1024, .f32⟩
  | .hbm, ⟨53, _⟩ => ⟨S4x704x1024, .bf16⟩
  | .hbm, ⟨54, _⟩ => ⟨S4x16384x704, .bf16⟩
  | .hbm, ⟨55, _⟩ => ⟨S4x16384x704, .bf16⟩
  | .hbm, ⟨56, _⟩ => ⟨S4x16384x704, .bf16⟩
  | .hbm, ⟨57, _⟩ => ⟨S16384x1024, .f32⟩
  | .hbm, ⟨58, _⟩ => ⟨S16384x1024, .bf16⟩
  | .hbm, ⟨59, _⟩ => ⟨S16384x1024, .bf16⟩
  | .hbm, ⟨60, _⟩ => ⟨S4x16384x704, .bf16⟩
  | .hbm, ⟨61, _⟩ => ⟨S4x16384x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | .local _ .vmem, ⟨12, _⟩ => ⟨S4x512x704, .bf16⟩
  | .local _ .vmem, ⟨13, _⟩ => ⟨S4x512x704, .bf16⟩
  | .local _ .vmem, ⟨14, _⟩ => ⟨S4x704x1024, .bf16⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | .local _ .vmem, ⟨22, _⟩ => ⟨S1024x1024, .bf16⟩
  | .local _ .vmem, ⟨23, _⟩ => ⟨S1024x1024, .bf16⟩
  | .local _ .vmem, ⟨24, _⟩ => ⟨S1x704x1024, .bf16⟩
  | .local _ .vmem, ⟨25, _⟩ => ⟨S1x704x1024, .bf16⟩
  | .local _ .vmem, ⟨26, _⟩ => ⟨S1x1024x704, .bf16⟩
  | .local _ .vmem, ⟨27, _⟩ => ⟨S1x1024x704, .bf16⟩
  | .local _ .vmem, ⟨28, _⟩ => ⟨S1x1024x704, .bf16⟩
  | .local _ .vmem, ⟨29, _⟩ => ⟨S1x1024x704, .bf16⟩
  | .local _ .vmem, ⟨30, _⟩ => ⟨S1x1024x704, .bf16⟩
  | .local _ .vmem, ⟨31, _⟩ => ⟨S1x1024x704, .bf16⟩
  | .local _ .vmem, ⟨32, _⟩ => ⟨S1x1024x704, .bf16⟩
  | .local _ .vmem, ⟨33, _⟩ => ⟨S1x1024x704, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44_0 : Ref sig .tc := ⟨.hbm, 54, rfl⟩
abbrev main_v44_1 : Ref sig .tc := ⟨.hbm, 55, rfl⟩
abbrev main_v44_2 : Ref sig .tc := ⟨.hbm, 56, rfl⟩
abbrev main_v45_0 : Ref sig .tc := ⟨.hbm, 57, rfl⟩
abbrev main_v45_1 : Ref sig .tc := ⟨.hbm, 58, rfl⟩
abbrev main_v46 : Ref sig .tc := ⟨.hbm, 59, rfl⟩
abbrev main_v47_0 : Ref sig .tc := ⟨.hbm, 60, rfl⟩
abbrev main_v47_1 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg4_1 : Ref sig .tc := ⟨.vmem, 31, rfl⟩
abbrev cc2_stg5_0 : Ref sig .tc := ⟨.vmem, 32, rfl⟩
abbrev cc2_stg5_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem4_1 : DmaSem sig := 19
abbrev cc1_sem5_0 : DmaSem sig := 20
abbrev cc1_sem5_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem3_1 : DmaSem sig := 29
abbrev cc2_sem4_0 : DmaSem sig := 30
abbrev cc2_sem4_1 : DmaSem sig := 31
abbrev cc2_sem5_0 : DmaSem sig := 32
abbrev cc2_sem5_1 : DmaSem sig := 33

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg0.toNat, c1_i32.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4x512x704 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x704x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![4, 16], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1x704x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x1024x704 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x1024x704 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x1024x704 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x1024x704 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]
-- ==== ReferenceIdeal.lean ====
abbrev S16384x1024 : Shape := ⟨2, ![16384, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S16384x2816 : Shape := ⟨2, ![16384, 2816]⟩
abbrev S16384x4x704 : Shape := ⟨3, ![16384, 4, 704]⟩
abbrev S4x16384x704 : Shape := ⟨3, ![4, 16384, 704]⟩

abbrev nBuf : Space → Nat
  | .hbm => 106
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S_, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S16384x1, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x2816, .f32⟩
  | .hbm, ⟨55, _⟩ => ⟨S16384x2816, .f32⟩
  | .hbm, ⟨56, _⟩ => ⟨S16384x2816, .f32⟩
  | .hbm, ⟨57, _⟩ => ⟨S16384x2816, .f32⟩
  | .hbm, ⟨58, _⟩ => ⟨S_, .f32⟩
  | .hbm, ⟨59, _⟩ => ⟨S16384x2816, .f32⟩
  | .hbm, ⟨60, _⟩ => ⟨S16384x2816, .f32⟩
  | .hbm, ⟨61, _⟩ => ⟨S_, .f32⟩
  | .hbm, ⟨62, _⟩ => ⟨S16384x2816, .f32⟩
  | .hbm, ⟨63, _⟩ => ⟨S16384x2816, .f32⟩
  | .hbm, ⟨64, _⟩ => ⟨S_, .f32⟩
  | .hbm, ⟨65, _⟩ => ⟨S16384x2816, .f32⟩
  | .hbm, ⟨66, _⟩ => ⟨S16384x2816, .f32⟩
  | .hbm, ⟨67, _⟩ => ⟨S16384x2816, .f32⟩
  | .hbm, ⟨68, _⟩ => ⟨S16384x2816, .f32⟩
  | .hbm, ⟨69, _⟩ => ⟨S16384x2816, .f32⟩
  | .hbm, ⟨70, _⟩ => ⟨S16384x1024, .f32⟩
  | .hbm, ⟨71, _⟩ => ⟨S_, .f32⟩
  | .hbm, ⟨72, _⟩ => ⟨S16384x1024, .f32⟩
  | .hbm, ⟨73, _⟩ => ⟨S16384x1024, .f32⟩
  | .hbm, ⟨74, _⟩ => ⟨S_, .f32⟩
  | .hbm, ⟨75, _⟩ => ⟨S16384x1024, .f32⟩
  | .hbm, ⟨76, _⟩ => ⟨S16384x1024, .f32⟩
  | .hbm, ⟨77, _⟩ => ⟨S16384x2816, .f32⟩
  | .hbm, ⟨78, _⟩ => ⟨S16384x2816, .f32⟩
  | .hbm, ⟨79, _⟩ => ⟨S16384x2816, .f32⟩
  | .hbm, ⟨80, _⟩ => ⟨S16384x2816, .f32⟩
  | .hbm, ⟨81, _⟩ => ⟨S16384x2816, .f32⟩
  | .hbm, ⟨82, _⟩ => ⟨S16384x2816, .f32⟩
  | .hbm, ⟨83, _⟩ => ⟨S16384x2816, .f32⟩
  | .hbm, ⟨84, _⟩ => ⟨S16384x1024, .f32⟩
  | .hbm, ⟨85, _⟩ => ⟨S_, .f32⟩
  | .hbm, ⟨86, _⟩ => ⟨S16384, .f32⟩
  | .hbm, ⟨87, _⟩ => ⟨S16384x1, .f32⟩
  | .hbm, ⟨88, _⟩ => ⟨S_, .f32⟩
  | .hbm, ⟨89, _⟩ => ⟨S16384x1, .f32⟩
  | .hbm, ⟨90, _⟩ => ⟨S16384x1, .f32⟩
  | .hbm, ⟨91, _⟩ => ⟨S_, .f32⟩
  | .hbm, ⟨92, _⟩ => ⟨S16384x1, .f32⟩
  | .hbm, ⟨93, _⟩ => ⟨S16384x1, .f32⟩
  | .hbm, ⟨94, _⟩ => ⟨S16384x1, .f32⟩
  | .hbm, ⟨95, _⟩ => ⟨S16384x1024, .f32⟩
  | .hbm, ⟨96, _⟩ => ⟨S16384x1024, .f32⟩
  | .hbm, ⟨97, _⟩ => ⟨S16384x1024, .f32⟩
  | .hbm, ⟨98, _⟩ => ⟨S16384x1024, .f32⟩
  | .hbm, ⟨99, _⟩ => ⟨S16384x1024, .bf16⟩
  | .hbm, ⟨100, _⟩ => ⟨S16384x4x704, .f32⟩
  | .hbm, ⟨101, _⟩ => ⟨S4x16384x704, .f32⟩
  | .hbm, ⟨102, _⟩ => ⟨S4x16384x704, .bf16⟩
  | .hbm, ⟨103, _⟩ => ⟨S16384x4x704, .f32⟩
  | .hbm, ⟨104, _⟩ => ⟨S4x16384x704, .f32⟩
  | .hbm, ⟨105, _⟩ => ⟨S4x16384x704, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_cst_4 : Ref sig .tc := ⟨.hbm, 43, rfl⟩
abbrev main_v23 : Ref sig .tc := ⟨.hbm, 44, rfl⟩
abbrev main_v24 : Ref sig .tc := ⟨.hbm, 45, rfl⟩
abbrev main_cst_5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_call1_v0 : Ref sig .tc := ⟨.hbm, 56, rfl⟩
abbrev main_call1_v1 : Ref sig .tc := ⟨.hbm, 57, rfl⟩
abbrev main_call1_cst : Ref sig .tc := ⟨.hbm, 58, rfl⟩
abbrev main_call1_v2 : Ref sig .tc := ⟨.hbm, 59, rfl⟩
abbrev main_call1_v3 : Ref sig .tc := ⟨.hbm, 60, rfl⟩
abbrev main_call1_cst_0 : Ref sig .tc := ⟨.hbm, 61, rfl⟩
abbrev main_call1_v4 : Ref sig .tc := ⟨.hbm, 62, rfl⟩
abbrev main_v34_2 : Ref sig .tc := ⟨.hbm, 63, rfl⟩
abbrev main_call1_cst_1 : Ref sig .tc := ⟨.hbm, 64, rfl⟩
abbrev main_call1_v6 : Ref sig .tc := ⟨.hbm, 65, rfl⟩
abbrev main_call1_v7 : Ref sig .tc := ⟨.hbm, 66, rfl⟩
abbrev main_v34_1 : Ref sig .tc := ⟨.hbm, 67, rfl⟩
abbrev main_v34_0 : Ref sig .tc := ⟨.hbm, 68, rfl⟩
abbrev main_v35 : Ref sig .tc := ⟨.hbm, 69, rfl⟩
abbrev main_v36 : Ref sig .tc := ⟨.hbm, 70, rfl⟩
abbrev main_cst_6 : Ref sig .tc := ⟨.hbm, 71, rfl⟩
abbrev main_v37 : Ref sig .tc := ⟨.hbm, 72, rfl⟩
abbrev main_v38 : Ref sig .tc := ⟨.hbm, 73, rfl⟩
abbrev main_cst_7 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_call2_v0 : Ref sig .tc := ⟨.hbm, 80, rfl⟩
abbrev main_call2_v1 : Ref sig .tc := ⟨.hbm, 81, rfl⟩
abbrev main_call2_v2 : Ref sig .tc := ⟨.hbm, 82, rfl⟩
abbrev main_v44 : Ref sig .tc := ⟨.hbm, 83, rfl⟩
abbrev main_v45 : Ref sig .tc := ⟨.hbm, 84, rfl⟩
abbrev main_cst_8 : Ref sig .tc := ⟨.hbm, 85, rfl⟩
abbrev main_v46 : Ref sig .tc := ⟨.hbm, 86, rfl⟩
abbrev main_v47 : Ref sig .tc := ⟨.hbm, 87, rfl⟩
abbrev main_cst_9 : Ref sig .tc := ⟨.hbm, 88, rfl⟩
abbrev main_v48 : Ref sig .tc := ⟨.hbm, 89, rfl⟩
abbrev main_v49 : Ref sig .tc := ⟨.hbm, 90, rfl⟩
abbrev main_cst_10 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩

abbrev nD : Nat := 1
abbrev τ : Topo := Topo.v7x

variable {F : FTy → Type} [FloatOps F]
-- ==== Kernel2.lean ====
abbrev S16384x1024 : Shape := ⟨2, ![16384, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S16384x2816 : Shape := ⟨2, ![16384, 2816]⟩
abbrev S16384x704 : Shape := ⟨2, ![16384, 704]⟩
abbrev S1x16384x704 : Shape := ⟨3, ![1, 16384, 704]⟩
abbrev S4x16384x704 : Shape := ⟨3, ![4, 16384, 704]⟩
abbrev S4x704x1024 : Shape := ⟨3, ![4, 704, 1024]⟩
abbrev S1x2048x704 : Shape := ⟨3, ![1, 2048, 704]⟩
abbrev S2048x1024 : Shape := ⟨2, ![2048, 1024]⟩
abbrev S1x704x1024 : Shape := ⟨3, ![1, 704, 1024]⟩
abbrev S704x1024 : Shape := ⟨2, ![704, 1024]⟩
abbrev S2048x704 : Shape := ⟨2, ![2048, 704]⟩

abbrev nBuf : Space → Nat
  | .hbm => 45
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S_, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x704, .f32⟩
  | .hbm, ⟨34, _⟩ => ⟨S16384x704, .f32⟩
  | .hbm, ⟨35, _⟩ => ⟨S16384x704, .f32⟩
  | .hbm, ⟨36, _⟩ => ⟨S16384x704, .f32⟩
  | .hbm, ⟨37, _⟩ => ⟨S1x16384x704, .f32⟩
  | .hbm, ⟨38, _⟩ => ⟨S1x16384x704, .f32⟩
  | .hbm, ⟨39, _⟩ => ⟨S1x16384x704, .f32⟩
  | .hbm, ⟨40, _⟩ => ⟨S1x16384x704, .f32⟩
  | .hbm, ⟨41, _⟩ => ⟨S4x16384x704, .f32⟩
  | .hbm, ⟨42, _⟩ => ⟨S4x16384x704, .bf16⟩
  | .hbm, ⟨43, _⟩ => ⟨S16384x1024, .bf16⟩
  | .hbm, ⟨44, _⟩ => ⟨S4x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .bf16⟩
  | .local _ .vmem, ⟨3, _⟩ => ⟨S2048x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_cond3 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_7 : BitVec 32 := 0#32
  let v13 : BitVec 1 := Scalar.cmpi .ne v12 c0_i32_7
  v13

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S16384x1024 : Shape := ⟨2, ![16384, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S16384x2816 : Shape := ⟨2, ![16384, 2816]⟩
abbrev S4x704x1024 : Shape := ⟨3, ![4, 704, 1024]⟩

abbrev nBuf : Space → Nat
  | .hbm => 45
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S_, .f32⟩
  | .hbm, ⟨25, _⟩ => ⟨S16384x2816, .f32⟩
  | .hbm, ⟨26, _⟩ => ⟨S16384x2816, .f32⟩
  | .hbm, ⟨27, _⟩ => ⟨S_, .f32⟩
  | .hbm, ⟨28, _⟩ => ⟨S16384x2816, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S16384x1024, .f32⟩
  | .hbm, ⟨40, _⟩ => ⟨S16384x1024, .f32⟩
  | .hbm, ⟨41, _⟩ => ⟨S1024x2816, .f32⟩
  | .hbm, ⟨42, _⟩ => ⟨S2816x1024, .f32⟩
  | .hbm, ⟨43, _⟩ => ⟨S4x704x1024, .f32⟩
  | .hbm, ⟨44, _⟩ => ⟨S4x704x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩

abbrev nD : Nat := 1
abbrev τ : Topo := Topo.v7x

variable {F : FTy → Type} [FloatOps F]
-- ==== Kernel3.lean ====
abbrev S16384x1024 : Shape := ⟨2, ![16384, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S16384x2816 : Shape := ⟨2, ![16384, 2816]⟩
abbrev S16384x704 : Shape := ⟨2, ![16384, 704]⟩
abbrev S1x16384x704 : Shape := ⟨3, ![1, 16384, 704]⟩
abbrev S4x16384x704 : Shape := ⟨3, ![4, 16384, 704]⟩
abbrev S4x1024x704 : Shape := ⟨3, ![4, 1024, 704]⟩
abbrev S2048x1024 : Shape := ⟨2, ![2048, 1024]⟩
abbrev S1x2048x704 : Shape := ⟨3, ![1, 2048, 704]⟩
abbrev S1x1024x704 : Shape := ⟨3, ![1, 1024, 704]⟩
abbrev S1024x704 : Shape := ⟨2, ![1024, 704]⟩
abbrev S2048x704 : Shape := ⟨2, ![2048, 704]⟩

abbrev nBuf : Space → Nat
  | .hbm => 89
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S_, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S_, .f32⟩
  | .hbm, ⟨32, _⟩ => ⟨S16384x2816, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S16384x2816, .f32⟩
  | .hbm, ⟨37, _⟩ => ⟨S16384x1024, .f32⟩
  | .hbm, ⟨38, _⟩ => ⟨S_, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384x1024, .f32⟩
  | .hbm, ⟨43, _⟩ => ⟨S16384x1024, .f32⟩
  | .hbm, ⟨44, _⟩ => ⟨S16384x2816, .f32⟩
  | .hbm, ⟨45, _⟩ => ⟨S16384x2816, .f32⟩
  | .hbm, ⟨46, _⟩ => ⟨S16384x2816, .f32⟩
  | .hbm, ⟨47, _⟩ => ⟨S16384x2816, .f32⟩
  | .hbm, ⟨48, _⟩ => ⟨S16384x2816, .f32⟩
  | .hbm, ⟨49, _⟩ => ⟨S16384x2816, .f32⟩
  | .hbm, ⟨50, _⟩ => ⟨S16384x2816, .f32⟩
  | .hbm, ⟨51, _⟩ => ⟨S16384x1024, .f32⟩
  | .hbm, ⟨52, _⟩ => ⟨S_, .f32⟩
  | .hbm, ⟨53, _⟩ => ⟨S16384, .f32⟩
  | .hbm, ⟨54, _⟩ => ⟨S16384x1, .f32⟩
  | .hbm, ⟨55, _⟩ => ⟨S_, .f32⟩
  | .hbm, ⟨56, _⟩ => ⟨S16384x1, .f32⟩
  | .hbm, ⟨57, _⟩ => ⟨S16384x1, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S16384x1, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1024, .bf16⟩
  | .hbm, ⟨67, _⟩ => ⟨S16384x704, .f32⟩
  | .hbm, ⟨68, _⟩ => ⟨S16384x704, .f32⟩
  | .hbm, ⟨69, _⟩ => ⟨S16384x704, .f32⟩
  | .hbm, ⟨70, _⟩ => ⟨S16384x704, .f32⟩
  | .hbm, ⟨71, _⟩ => ⟨S1x16384x704, .f32⟩
  | .hbm, ⟨72, _⟩ => ⟨S1x16384x704, .f32⟩
  | .hbm, ⟨73, _⟩ => ⟨S1x16384x704, .f32⟩
  | .hbm, ⟨74, _⟩ => ⟨S1x16384x704, .f32⟩
  | .hbm, ⟨75, _⟩ => ⟨S4x16384x704, .f32⟩
  | .hbm, ⟨76, _⟩ => ⟨S4x16384x704, .bf16⟩
  | .hbm, ⟨77, _⟩ => ⟨S16384x704, .f32⟩
  | .hbm, ⟨78, _⟩ => ⟨S16384x704, .f32⟩
  | .hbm, ⟨79, _⟩ => ⟨S16384x704, .f32⟩
  | .hbm, ⟨80, _⟩ => ⟨S16384x704, .f32⟩
  | .hbm, ⟨81, _⟩ => ⟨S1x16384x704, .f32⟩
  | .hbm, ⟨82, _⟩ => ⟨S1x16384x704, .f32⟩
  | .hbm, ⟨83, _⟩ => ⟨S1x16384x704, .f32⟩
  | .hbm, ⟨84, _⟩ => ⟨S1x16384x704, .f32⟩
  | .hbm, ⟨85, _⟩ => ⟨S4x16384x704, .f32⟩
  | .hbm, ⟨86, _⟩ => ⟨S4x16384x704, .bf16⟩
  | .hbm, ⟨87, _⟩ => ⟨S4x1024x704, .bf16⟩
  | .hbm, ⟨88, _⟩ => ⟨S4x1024x704, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x2048x704, .bf16⟩
  | .local _ .vmem, ⟨5, _⟩ => ⟨S1x2048x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1024x704, .f32⟩
  | .local _ .vmem, ⟨11, _⟩ => ⟨S1024x704, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_v14_2 : Ref sig .tc := ⟨.hbm, 30, rfl⟩
abbrev main_call0_cst_1 : Ref sig .tc := ⟨.hbm, 31, rfl⟩
abbrev main_call0_v6 : Ref sig .tc := ⟨.hbm, 32, rfl⟩
abbrev main_call0_v7 : Ref sig .tc := ⟨.hbm, 33, rfl⟩
abbrev main_v14_1 : Ref sig .tc := ⟨.hbm, 34, rfl⟩
abbrev main_v14_0 : Ref sig .tc := ⟨.hbm, 35, rfl⟩
abbrev main_v15 : Ref sig .tc := ⟨.hbm, 36, rfl⟩
abbrev main_v16 : Ref sig .tc := ⟨.hbm, 37, rfl⟩
abbrev main_cst_2 : Ref sig .tc := ⟨.hbm, 38, rfl⟩
abbrev main_v17 : Ref sig .tc := ⟨.hbm, 39, rfl⟩
abbrev main_v18 : Ref sig .tc := ⟨.hbm, 40, rfl⟩
abbrev main_cst_3 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v24 : Ref sig .tc := ⟨.hbm, 50, rfl⟩
abbrev main_v25 : Ref sig .tc := ⟨.hbm, 51, rfl⟩
abbrev main_cst_4 : Ref sig .tc := ⟨.hbm, 52, rfl⟩
abbrev main_v26 : Ref sig .tc := ⟨.hbm, 53, rfl⟩
abbrev main_v27 : Ref sig .tc := ⟨.hbm, 54, rfl⟩
abbrev main_cst_5 : Ref sig .tc := ⟨.hbm, 55, rfl⟩
abbrev main_v28 : Ref sig .tc := ⟨.hbm, 56, rfl⟩
abbrev main_v29 : Ref sig .tc := ⟨.hbm, 57, rfl⟩
abbrev main_cst_6 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58_0 : Ref sig .tc := ⟨.hbm, 87, rfl⟩
abbrev main_v58_1 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def k0_cond3 (i : grid0.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_11 : BitVec 32 := 0#32
  let v16 : BitVec 1 := Scalar.cmpi .ne v15 c0_i32_11
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference3Ideal.lean ====
abbrev S16384x1024 : Shape := ⟨2, ![16384, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S16384x2816 : Shape := ⟨2, ![16384, 2816]⟩
abbrev S1024x4x704 : Shape := ⟨3, ![1024, 4, 704]⟩
abbrev S4x1024x704 : Shape := ⟨3, ![4, 1024, 704]⟩

abbrev nBuf : Space → Nat
  | .hbm => 62
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S_, .f32⟩
  | .hbm, ⟨25, _⟩ => ⟨S16384x2816, .f32⟩
  | .hbm, ⟨26, _⟩ => ⟨S16384x2816, .f32⟩
  | .hbm, ⟨27, _⟩ => ⟨S_, .f32⟩
  | .hbm, ⟨28, _⟩ => ⟨S16384x2816, .f32⟩
  | .hbm, ⟨29, _⟩ => ⟨S16384x2816, .f32⟩
  | .hbm, ⟨30, _⟩ => ⟨S_, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S16384x2816, .f32⟩
  | .hbm, ⟨37, _⟩ => ⟨S16384x1024, .f32⟩
  | .hbm, ⟨38, _⟩ => ⟨S_, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S16384x1024, .f32⟩
  | .hbm, ⟨44, _⟩ => ⟨S16384x1024, .f32⟩
  | .hbm, ⟨45, _⟩ => ⟨S16384x2816, .f32⟩
  | .hbm, ⟨46, _⟩ => ⟨S16384x2816, .f32⟩
  | .hbm, ⟨47, _⟩ => ⟨S16384x2816, .f32⟩
  | .hbm, ⟨48, _⟩ => ⟨S2816x1024, .f32⟩
  | .hbm, ⟨49, _⟩ => ⟨S1024x2816, .f32⟩
  | .hbm, ⟨50, _⟩ => ⟨S16384x2816, .f32⟩
  | .hbm, ⟨51, _⟩ => ⟨S16384x2816, .f32⟩
  | .hbm, ⟨52, _⟩ => ⟨S16384x2816, .f32⟩
  | .hbm, ⟨53, _⟩ => ⟨S16384x2816, .f32⟩
  | .hbm, ⟨54, _⟩ => ⟨S2816x1024, .f32⟩
  | .hbm, ⟨55, _⟩ => ⟨S1024x2816, .f32⟩
  | .hbm, ⟨56, _⟩ => ⟨S1024x4x704, .f32⟩
  | .hbm, ⟨57, _⟩ => ⟨S4x1024x704, .f32⟩
  | .hbm, ⟨58, _⟩ => ⟨S4x1024x704, .bf16⟩
  | .hbm, ⟨59, _⟩ => ⟨S1024x4x704, .f32⟩
  | .hbm, ⟨60, _⟩ => ⟨S4x1024x704, .f32⟩
  | .hbm, ⟨61, _⟩ => ⟨S4x1024x704, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_v13_2 : Ref sig .tc := ⟨.hbm, 29, rfl⟩
abbrev main_call0_cst_1 : Ref sig .tc := ⟨.hbm, 30, rfl⟩
abbrev main_call0_v6 : Ref sig .tc := ⟨.hbm, 31, rfl⟩
abbrev main_call0_v7 : Ref sig .tc := ⟨.hbm, 32, rfl⟩
abbrev main_v13_1 : Ref sig .tc := ⟨.hbm, 33, rfl⟩
abbrev main_v13_0 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_3 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩

abbrev nD : Nat := 1
abbrev τ : Topo := Topo.v7x

variable {F : FTy → Type} [FloatOps F]
-- ==== Kernel4.lean ====
abbrev S16384x1024 : Shape := ⟨2, ![16384, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S16384x2816 : Shape := ⟨2, ![16384, 2816]⟩
abbrev S1024x704 : Shape := ⟨2, ![1024, 704]⟩
abbrev S1x1024x704 : Shape := ⟨3, ![1, 1024, 704]⟩
abbrev S4x1024x704 : Shape := ⟨3, ![4, 1024, 704]⟩
abbrev S4x2048x704 : Shape := ⟨3, ![4, 2048, 704]⟩
abbrev S16384x704 : Shape := ⟨2, ![16384, 704]⟩
abbrev S1x16384x704 : Shape := ⟨3, ![1, 16384, 704]⟩
abbrev S4x16384x704 : Shape := ⟨3, ![4, 16384, 704]⟩
abbrev S4x512x704 : Shape := ⟨3, ![4, 512, 704]⟩
abbrev S512x1024 : Shape := ⟨2, ![512, 1024]⟩
abbrev S2 : Shape := ⟨1, ![2]⟩
abbrev S1 : Shape := ⟨1, ![1]⟩
abbrev S1x512x704 : Shape := ⟨3, ![1, 512, 704]⟩
abbrev S512x704 : Shape := ⟨2, ![512, 704]⟩
abbrev S512 : Shape := ⟨1, ![512]⟩
abbrev S512x1 : Shape := ⟨2, ![512, 1]⟩
abbrev S1024 : Shape := ⟨1, ![1024]⟩

abbrev nBuf : Space → Nat
  | .hbm => 116
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S_, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S_, .f32⟩
  | .hbm, ⟨32, _⟩ => ⟨S16384x2816, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S16384x2816, .f32⟩
  | .hbm, ⟨37, _⟩ => ⟨S16384x1024, .f32⟩
  | .hbm, ⟨38, _⟩ => ⟨S_, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384x1024, .f32⟩
  | .hbm, ⟨43, _⟩ => ⟨S16384x1024, .f32⟩
  | .hbm, ⟨44, _⟩ => ⟨S16384x2816, .f32⟩
  | .hbm, ⟨45, _⟩ => ⟨S16384x2816, .f32⟩
  | .hbm, ⟨46, _⟩ => ⟨S16384x2816, .f32⟩
  | .hbm, ⟨47, _⟩ => ⟨S16384x2816, .f32⟩
  | .hbm, ⟨48, _⟩ => ⟨S16384x2816, .f32⟩
  | .hbm, ⟨49, _⟩ => ⟨S16384x2816, .f32⟩
  | .hbm, ⟨50, _⟩ => ⟨S16384x2816, .f32⟩
  | .hbm, ⟨51, _⟩ => ⟨S1024x704, .f32⟩
  | .hbm, ⟨52, _⟩ => ⟨S1024x704, .f32⟩
  | .hbm, ⟨53, _⟩ => ⟨S1024x704, .f32⟩
  | .hbm, ⟨54, _⟩ => ⟨S1024x704, .f32⟩
  | .hbm, ⟨55, _⟩ => ⟨S1x1024x704, .f32⟩
  | .hbm, ⟨56, _⟩ => ⟨S1x1024x704, .f32⟩
  | .hbm, ⟨57, _⟩ => ⟨S1x1024x704, .f32⟩
  | .hbm, ⟨58, _⟩ => ⟨S1x1024x704, .f32⟩
  | .hbm, ⟨59, _⟩ => ⟨S4x1024x704, .f32⟩
  | .hbm, ⟨60, _⟩ => ⟨S4x1024x704, .bf16⟩
  | .hbm, ⟨61, _⟩ => ⟨S1024x704, .f32⟩
  | .hbm, ⟨62, _⟩ => ⟨S1024x704, .f32⟩
  | .hbm, ⟨63, _⟩ => ⟨S1024x704, .f32⟩
  | .hbm, ⟨64, _⟩ => ⟨S1024x704, .f32⟩
  | .hbm, ⟨65, _⟩ => ⟨S1x1024x704, .f32⟩
  | .hbm, ⟨66, _⟩ => ⟨S1x1024x704, .f32⟩
  | .hbm, ⟨67, _⟩ => ⟨S1x1024x704, .f32⟩
  | .hbm, ⟨68, _⟩ => ⟨S1x1024x704, .f32⟩
  | .hbm, ⟨69, _⟩ => ⟨S4x1024x704, .f32⟩
  | .hbm, ⟨70, _⟩ => ⟨S4x1024x704, .bf16⟩
  | .hbm, ⟨71, _⟩ => ⟨S4x2048x704, .bf16⟩
  | .hbm, ⟨72, _⟩ => ⟨S1024x704, .f32⟩
  | .hbm, ⟨73, _⟩ => ⟨S1024x704, .f32⟩
  | .hbm, ⟨74, _⟩ => ⟨S1024x704, .f32⟩
  | .hbm, ⟨75, _⟩ => ⟨S1024x704, .f32⟩
  | .hbm, ⟨76, _⟩ => ⟨S1x1024x704, .f32⟩
  | .hbm, ⟨77, _⟩ => ⟨S1x1024x704, .f32⟩
  | .hbm, ⟨78, _⟩ => ⟨S1x1024x704, .f32⟩
  | .hbm, ⟨79, _⟩ => ⟨S1x1024x704, .f32⟩
  | .hbm, ⟨80, _⟩ => ⟨S4x1024x704, .f32⟩
  | .hbm, ⟨81, _⟩ => ⟨S4x1024x704, .bf16⟩
  | .hbm, ⟨82, _⟩ => ⟨S1024x704, .f32⟩
  | .hbm, ⟨83, _⟩ => ⟨S1024x704, .f32⟩
  | .hbm, ⟨84, _⟩ => ⟨S1024x704, .f32⟩
  | .hbm, ⟨85, _⟩ => ⟨S1024x704, .f32⟩
  | .hbm, ⟨86, _⟩ => ⟨S1x1024x704, .f32⟩
  | .hbm, ⟨87, _⟩ => ⟨S1x1024x704, .f32⟩
  | .hbm, ⟨88, _⟩ => ⟨S1x1024x704, .f32⟩
  | .hbm, ⟨89, _⟩ => ⟨S1x1024x704, .f32⟩
  | .hbm, ⟨90, _⟩ => ⟨S4x1024x704, .f32⟩
  | .hbm, ⟨91, _⟩ => ⟨S4x1024x704, .bf16⟩
  | .hbm, ⟨92, _⟩ => ⟨S4x2048x704, .bf16⟩
  | .hbm, ⟨93, _⟩ => ⟨S16384x704, .f32⟩
  | .hbm, ⟨94, _⟩ => ⟨S16384x704, .f32⟩
  | .hbm, ⟨95, _⟩ => ⟨S16384x704, .f32⟩
  | .hbm, ⟨96, _⟩ => ⟨S16384x704, .f32⟩
  | .hbm, ⟨97, _⟩ => ⟨S1x16384x704, .f32⟩
  | .hbm, ⟨98, _⟩ => ⟨S1x16384x704, .f32⟩
  | .hbm, ⟨99, _⟩ => ⟨S1x16384x704, .f32⟩
  | .hbm, ⟨100, _⟩ => ⟨S1x16384x704, .f32⟩
  | .hbm, ⟨101, _⟩ => ⟨S4x16384x704, .f32⟩
  | .hbm, ⟨102, _⟩ => ⟨S4x16384x704, .bf16⟩
  | .hbm, ⟨103, _⟩ => ⟨S16384x704, .f32⟩
  | .hbm, ⟨104, _⟩ => ⟨S16384x704, .f32⟩
  | .hbm, ⟨105, _⟩ => ⟨S16384x704, .f32⟩
  | .hbm, ⟨106, _⟩ => ⟨S16384x704, .f32⟩
  | .hbm, ⟨107, _⟩ => ⟨S1x16384x704, .f32⟩
  | .hbm, ⟨108, _⟩ => ⟨S1x16384x704, .f32⟩
  | .hbm, ⟨109, _⟩ => ⟨S1x16384x704, .f32⟩
  | .hbm, ⟨110, _⟩ => ⟨S1x16384x704, .f32⟩
  | .hbm, ⟨111, _⟩ => ⟨S4x16384x704, .f32⟩
  | .hbm, ⟨112, _⟩ => ⟨S4x16384x704, .bf16⟩
  | .hbm, ⟨113, _⟩ => ⟨S16384x1024, .f32⟩
  | .hbm, ⟨114, _⟩ => ⟨S16384x1024, .bf16⟩
  | .hbm, ⟨115, _⟩ => ⟨S1x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x512x704, .bf16⟩
  | .local _ .vmem, ⟨3, _⟩ => ⟨S4x512x704, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S4x1024x704, .bf16⟩
  | .local _ .vmem, ⟨15, _⟩ => ⟨S4x1024x704, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_v14_2 : Ref sig .tc := ⟨.hbm, 30, rfl⟩
abbrev main_call0_cst_1 : Ref sig .tc := ⟨.hbm, 31, rfl⟩
abbrev main_call0_v6 : Ref sig .tc := ⟨.hbm, 32, rfl⟩
abbrev main_call0_v7 : Ref sig .tc := ⟨.hbm, 33, rfl⟩
abbrev main_v14_1 : Ref sig .tc := ⟨.hbm, 34, rfl⟩
abbrev main_v14_0 : Ref sig .tc := ⟨.hbm, 35, rfl⟩
abbrev main_v15 : Ref sig .tc := ⟨.hbm, 36, rfl⟩
abbrev main_v16 : Ref sig .tc := ⟨.hbm, 37, rfl⟩
abbrev main_cst_2 : Ref sig .tc := ⟨.hbm, 38, rfl⟩
abbrev main_v17 : Ref sig .tc := ⟨.hbm, 39, rfl⟩
abbrev main_v18 : Ref sig .tc := ⟨.hbm, 40, rfl⟩
abbrev main_cst_3 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87_0 : Ref sig .tc := ⟨.hbm, 113, rfl⟩
abbrev main_v87_1 : Ref sig .tc := ⟨.hbm, 114, rfl⟩
abbrev main_v87_2 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c0_i32_68 : BitVec 32 := 0#32
  let v82 : BitVec 1 := Scalar.cmpi .eq arg0 c0_i32_68
  let v83 : BitVec 32 := Scalar.extui v82
  let c0_i32_69 : BitVec 32 := 0#32
  let v84 : BitVec 1 := Scalar.cmpi .ne v83 c0_i32_69
  v84

def k0_cond3 (i : grid0.Coords) : BitVec 1 :=
  let arg0 : BitVec 32 := BitVec.ofNat 32 (i 0).val
  let c0_i32_70 : BitVec 32 := 0#32
  let v85 : BitVec 1 := Scalar.cmpi .ne arg0 c0_i32_70
  let v86 : BitVec 32 := Scalar.extui v85
  let c0_i32_71 : BitVec 32 := 0#32
  let v87 : BitVec 1 := Scalar.cmpi .ne v86 c0_i32_71
  v87

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference4Ideal.lean ====
abbrev S16384x1024 : Shape := ⟨2, ![16384, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S16384x2816 : Shape := ⟨2, ![16384, 2816]⟩
abbrev S1024 : Shape := ⟨1, ![1024]⟩

abbrev nBuf : Space → Nat
  | .hbm => 85
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x2816, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S_, .f32⟩
  | .hbm, ⟨32, _⟩ => ⟨S16384x2816, .f32⟩
  | .hbm, ⟨33, _⟩ => ⟨S16384x2816, .f32⟩
  | .hbm, ⟨34, _⟩ => ⟨S_, .f32⟩
  | .hbm, ⟨35, _⟩ => ⟨S16384x2816, .f32⟩
  | .hbm, ⟨36, _⟩ => ⟨S16384x2816, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S16384x2816, .f32⟩
  | .hbm, ⟨41, _⟩ => ⟨S16384x1024, .f32⟩
  | .hbm, ⟨42, _⟩ => ⟨S_, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S16384x1024, .f32⟩
  | .hbm, ⟨49, _⟩ => ⟨S16384x1024, .f32⟩
  | .hbm, ⟨50, _⟩ => ⟨S16384x2816, .f32⟩
  | .hbm, ⟨51, _⟩ => ⟨S16384x2816, .f32⟩
  | .hbm, ⟨52, _⟩ => ⟨S16384x2816, .f32⟩
  | .hbm, ⟨53, _⟩ => ⟨S16384x1024, .f32⟩
  | .hbm, ⟨54, _⟩ => ⟨S16384x2816, .f32⟩
  | .hbm, ⟨55, _⟩ => ⟨S16384x2816, .f32⟩
  | .hbm, ⟨56, _⟩ => ⟨S16384x2816, .f32⟩
  | .hbm, ⟨57, _⟩ => ⟨S16384x2816, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S_, .f32⟩
  | .hbm, ⟨68, _⟩ => ⟨S16384, .f32⟩
  | .hbm, ⟨69, _⟩ => ⟨S16384x1, .f32⟩
  | .hbm, ⟨70, _⟩ => ⟨S16384x1024, .f32⟩
  | .hbm, ⟨71, _⟩ => ⟨S16384x1024, .f32⟩
  | .hbm, ⟨72, _⟩ => ⟨S16384x1024, .f32⟩
  | .hbm, ⟨73, _⟩ => ⟨S16384x1, .f32⟩
  | .hbm, ⟨74, _⟩ => ⟨S_, .f32⟩
  | .hbm, ⟨75, _⟩ => ⟨S16384x1, .f32⟩
  | .hbm, ⟨76, _⟩ => ⟨S16384x1, .f32⟩
  | .hbm, ⟨77, _⟩ => ⟨S_, .f32⟩
  | .hbm, ⟨78, _⟩ => ⟨S16384, .f32⟩
  | .hbm, ⟨79, _⟩ => ⟨S16384x1024, .f32⟩
  | .hbm, ⟨80, _⟩ => ⟨S16384x1024, .f32⟩
  | .hbm, ⟨81, _⟩ => ⟨S16384x1024, .f32⟩
  | .hbm, ⟨82, _⟩ => ⟨S16384x1024, .f32⟩
  | .hbm, ⟨83, _⟩ => ⟨S16384x1024, .f32⟩
  | .hbm, ⟨84, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_v16_2 : Ref sig .tc := ⟨.hbm, 33, rfl⟩
abbrev main_call0_cst_1 : Ref sig .tc := ⟨.hbm, 34, rfl⟩
abbrev main_call0_v6 : Ref sig .tc := ⟨.hbm, 35, rfl⟩
abbrev main_call0_v7 : Ref sig .tc := ⟨.hbm, 36, rfl⟩
abbrev main_v16_1 : Ref sig .tc := ⟨.hbm, 37, rfl⟩
abbrev main_v16_0 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_3 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_4 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_5 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_6 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_7 : Ref sig .tc := ⟨.hbm, 74, rfl⟩
abbrev main_v45 : Ref sig .tc := ⟨.hbm, 75, rfl⟩
abbrev main_v46 : Ref sig .tc := ⟨.hbm, 76, rfl⟩
abbrev main_cst_8 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩

abbrev nD : Nat := 1
abbrev τ : Topo := Topo.v7x

variable {F : FTy → Type} [FloatOps F]
-- ==== Kernel5.lean ====
abbrev S4x1024x704 : Shape := ⟨3, ![4, 1024, 704]⟩
abbrev S4096x704 : Shape := ⟨2, ![4096, 704]⟩
abbrev S256x704 : Shape := ⟨2, ![256, 704]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x704, .f32⟩
  | .hbm, ⟨1, _⟩ => ⟨S4x1024x704, .f32⟩
  | .hbm, ⟨2, _⟩ => ⟨S4x1024x704, .f32⟩
  | .hbm, ⟨3, _⟩ => ⟨S4x1024x704, .f32⟩
  | .hbm, ⟨4, _⟩ => ⟨S4096x704, .f32⟩
  | .hbm, ⟨5, _⟩ => ⟨S4096x704, .f32⟩
  | .hbm, ⟨6, _⟩ => ⟨S4096x704, .f32⟩
  | .hbm, ⟨7, _⟩ => ⟨S4096x704, .f32⟩
  | .hbm, ⟨8, _⟩ => ⟨S4096x704, .f32⟩
  | .hbm, ⟨9, _⟩ => ⟨S4096x704, .f32⟩
  | .hbm, ⟨10, _⟩ => ⟨S4096x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | _, _ => ⟨S4x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel5Ideal.lean ====
abbrev S4x1024x704 : Shape := ⟨3, ![4, 1024, 704]⟩
abbrev S4096x704 : Shape := ⟨2, ![4096, 704]⟩
abbrev S256x704 : Shape := ⟨2, ![256, 704]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x704, .f32⟩
  | .hbm, ⟨1, _⟩ => ⟨S4x1024x704, .f32⟩
  | .hbm, ⟨2, _⟩ => ⟨S4x1024x704, .f32⟩
  | .hbm, ⟨3, _⟩ => ⟨S4x1024x704, .f32⟩
  | .hbm, ⟨4, _⟩ => ⟨S4096x704, .f32⟩
  | .hbm, ⟨5, _⟩ => ⟨S4096x704, .f32⟩
  | .hbm, ⟨6, _⟩ => ⟨S4096x704, .f32⟩
  | .hbm, ⟨7, _⟩ => ⟨S4096x704, .f32⟩
  | .hbm, ⟨8, _⟩ => ⟨S4096x704, .f32⟩
  | .hbm, ⟨9, _⟩ => ⟨S4096x704, .f32⟩
  | .hbm, ⟨10, _⟩ => ⟨S4096x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | _, _ => ⟨S4x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S4x1024x704 : Shape := ⟨3, ![4, 1024, 704]⟩
abbrev S_ : Shape := ⟨0, ![]⟩
abbrev S4096x704 : Shape := ⟨2, ![4096, 704]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x704, .f32⟩
  | .hbm, ⟨1, _⟩ => ⟨S4x1024x704, .f32⟩
  | .hbm, ⟨2, _⟩ => ⟨S4x1024x704, .f32⟩
  | .hbm, ⟨3, _⟩ => ⟨S4x1024x704, .f32⟩
  | .hbm, ⟨4, _⟩ => ⟨S_, .f32⟩
  | .hbm, ⟨5, _⟩ => ⟨S4x1024x704, .f32⟩
  | .hbm, ⟨6, _⟩ => ⟨S4x1024x704, .f32⟩
  | .hbm, ⟨7, _⟩ => ⟨S_, .f32⟩
  | .hbm, ⟨8, _⟩ => ⟨S4x1024x704, .f32⟩
  | .hbm, ⟨9, _⟩ => ⟨S4x1024x704, .f32⟩
  | .hbm, ⟨10, _⟩ => ⟨S4x1024x704, .f32⟩
  | .hbm, ⟨11, _⟩ => ⟨S_, .f32⟩
  | .hbm, ⟨12, _⟩ => ⟨S4x1024x704, .f32⟩
  | .hbm, ⟨13, _⟩ => ⟨S4x1024x704, .f32⟩
  | .hbm, ⟨14, _⟩ => ⟨S4x1024x704, .f32⟩
  | .hbm, ⟨15, _⟩ => ⟨S_, .f32⟩
  | .hbm, ⟨16, _⟩ => ⟨S4x1024x704, .f32⟩
  | .hbm, ⟨17, _⟩ => ⟨S4x1024x704, .f32⟩
  | .hbm, ⟨18, _⟩ => ⟨S4x1024x704, .f32⟩
  | .hbm, ⟨19, _⟩ => ⟨S_, .f32⟩
  | .hbm, ⟨20, _⟩ => ⟨S4x1024x704, .f32⟩
  | .hbm, ⟨21, _⟩ => ⟨S4x1024x704, .f32⟩
  | .hbm, ⟨22, _⟩ => ⟨S_, .f32⟩
  | .hbm, ⟨23, _⟩ => ⟨S4x1024x704, .f32⟩
  | .hbm, ⟨24, _⟩ => ⟨S4x1024x704, .f32⟩
  | .hbm, ⟨25, _⟩ => ⟨S4x1024x704, .f32⟩
  | .hbm, ⟨26, _⟩ => ⟨S_, .f32⟩
  | .hbm, ⟨27, _⟩ => ⟨S4x1024x704, .f32⟩
  | .hbm, ⟨28, _⟩ => ⟨S4x1024x704, .f32⟩
  | .hbm, ⟨29, _⟩ => ⟨S4x1024x704, .f32⟩
  | .hbm, ⟨30, _⟩ => ⟨S_, .f32⟩
  | .hbm, ⟨31, _⟩ => ⟨S4x1024x704, .f32⟩
  | .hbm, ⟨32, _⟩ => ⟨S4x1024x704, .f32⟩
  | .hbm, ⟨33, _⟩ => ⟨S4x1024x704, .f32⟩
  | .hbm, ⟨34, _⟩ => ⟨S_, .f32⟩
  | .hbm, ⟨35, _⟩ => ⟨S4x1024x704, .f32⟩
  | .hbm, ⟨36, _⟩ => ⟨S4x1024x704, .f32⟩
  | .hbm, ⟨37, _⟩ => ⟨S4096x704, .f32⟩
  | .hbm, ⟨38, _⟩ => ⟨S4096x704, .f32⟩
  | .hbm, ⟨39, _⟩ => ⟨S4096x704, .f32⟩
  | _, _ => ⟨S4x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel6.lean ====
abbrev S4x704x1024 : Shape := ⟨3, ![4, 704, 1024]⟩
abbrev S2816x1024 : Shape := ⟨2, ![2816, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .hbm, ⟨8, _⟩ => ⟨S2816x1024, .f32⟩
  | .hbm, ⟨9, _⟩ => ⟨S2816x1024, .f32⟩
  | .hbm, ⟨10, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel6Ideal.lean ====
abbrev S4x704x1024 : Shape := ⟨3, ![4, 704, 1024]⟩
abbrev S2816x1024 : Shape := ⟨2, ![2816, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .hbm, ⟨8, _⟩ => ⟨S2816x1024, .f32⟩
  | .hbm, ⟨9, _⟩ => ⟨S2816x1024, .f32⟩
  | .hbm, ⟨10, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S4x704x1024 : Shape := ⟨3, ![4, 704, 1024]⟩
abbrev S_ : Shape := ⟨0, ![]⟩
abbrev S2816x1024 : Shape := ⟨2, ![2816, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S_, .f32⟩
  | .hbm, ⟨5, _⟩ => ⟨S4x704x1024, .f32⟩
  | .hbm, ⟨6, _⟩ => ⟨S4x704x1024, .f32⟩
  | .hbm, ⟨7, _⟩ => ⟨S_, .f32⟩
  | .hbm, ⟨8, _⟩ => ⟨S4x704x1024, .f32⟩
  | .hbm, ⟨9, _⟩ => ⟨S4x704x1024, .f32⟩
  | .hbm, ⟨10, _⟩ => ⟨S4x704x1024, .f32⟩
  | .hbm, ⟨11, _⟩ => ⟨S_, .f32⟩
  | .hbm, ⟨12, _⟩ => ⟨S4x704x1024, .f32⟩
  | .hbm, ⟨13, _⟩ => ⟨S4x704x1024, .f32⟩
  | .hbm, ⟨14, _⟩ => ⟨S4x704x1024, .f32⟩
  | .hbm, ⟨15, _⟩ => ⟨S_, .f32⟩
  | .hbm, ⟨16, _⟩ => ⟨S4x704x1024, .f32⟩
  | .hbm, ⟨17, _⟩ => ⟨S4x704x1024, .f32⟩
  | .hbm, ⟨18, _⟩ => ⟨S4x704x1024, .f32⟩
  | .hbm, ⟨19, _⟩ => ⟨S_, .f32⟩
  | .hbm, ⟨20, _⟩ => ⟨S4x704x1024, .f32⟩
  | .hbm, ⟨21, _⟩ => ⟨S4x704x1024, .f32⟩
  | .hbm, ⟨22, _⟩ => ⟨S_, .f32⟩
  | .hbm, ⟨23, _⟩ => ⟨S4x704x1024, .f32⟩
  | .hbm, ⟨24, _⟩ => ⟨S4x704x1024, .f32⟩
  | .hbm, ⟨25, _⟩ => ⟨S4x704x1024, .f32⟩
  | .hbm, ⟨26, _⟩ => ⟨S_, .f32⟩
  | .hbm, ⟨27, _⟩ => ⟨S4x704x1024, .f32⟩
  | .hbm, ⟨28, _⟩ => ⟨S4x704x1024, .f32⟩
  | .hbm, ⟨29, _⟩ => ⟨S4x704x1024, .f32⟩
  | .hbm, ⟨30, _⟩ => ⟨S_, .f32⟩
  | .hbm, ⟨31, _⟩ => ⟨S4x704x1024, .f32⟩
  | .hbm, ⟨32, _⟩ => ⟨S4x704x1024, .f32⟩
  | .hbm, ⟨33, _⟩ => ⟨S4x704x1024, .f32⟩
  | .hbm, ⟨34, _⟩ => ⟨S_, .f32⟩
  | .hbm, ⟨35, _⟩ => ⟨S4x704x1024, .f32⟩
  | .hbm, ⟨36, _⟩ => ⟨S4x704x1024, .f32⟩
  | .hbm, ⟨37, _⟩ => ⟨S2816x1024, .f32⟩
  | .hbm, ⟨38, _⟩ => ⟨S2816x1024, .f32⟩
  | .hbm, ⟨39, _⟩ => ⟨S2816x1024, .f32⟩
  | _, _ => ⟨S4x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel7.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel7Ideal.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference7Ideal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel8.lean ====
abbrev S2x1024x424 : Shape := ⟨3, ![2, 1024, 424]⟩
abbrev S2048x424 : Shape := ⟨2, ![2048, 424]⟩
abbrev S256x424 : Shape := ⟨2, ![256, 424]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x424, .f32⟩
  | .hbm, ⟨1, _⟩ => ⟨S2x1024x424, .f32⟩
  | .hbm, ⟨2, _⟩ => ⟨S2x1024x424, .f32⟩
  | .hbm, ⟨3, _⟩ => ⟨S2x1024x424, .f32⟩
  | .hbm, ⟨4, _⟩ => ⟨S2048x424, .f32⟩
  | .hbm, ⟨5, _⟩ => ⟨S2048x424, .f32⟩
  | .hbm, ⟨6, _⟩ => ⟨S2048x424, .f32⟩
  | .hbm, ⟨7, _⟩ => ⟨S2048x424, .f32⟩
  | .hbm, ⟨8, _⟩ => ⟨S2048x424, .f32⟩
  | .hbm, ⟨9, _⟩ => ⟨S2048x424, .f32⟩
  | .hbm, ⟨10, _⟩ => ⟨S2048x424, .f32⟩
  | .local _ .vmem, ⟨0, _⟩ => ⟨S256x424, .f32⟩
  | .local _ .vmem, ⟨1, _⟩ => ⟨S256x424, .f32⟩
  | .local _ .vmem, ⟨2, _⟩ => ⟨S256x424, .f32⟩
  | .local _ .vmem, ⟨3, _⟩ => ⟨S256x424, .f32⟩
  | .local _ .vmem, ⟨4, _⟩ => ⟨S256x424, .f32⟩
  | .local _ .vmem, ⟨5, _⟩ => ⟨S256x424, .f32⟩
  | .local _ .vmem, ⟨6, _⟩ => ⟨S256x424, .f32⟩
  | .local _ .vmem, ⟨7, _⟩ => ⟨S256x424, .f32⟩
  | .local _ .vmem, ⟨8, _⟩ => ⟨S256x424, .f32⟩
  | .local _ .vmem, ⟨9, _⟩ => ⟨S256x424, .f32⟩
  | .local _ .vmem, ⟨10, _⟩ => ⟨S256x424, .f32⟩
  | .local _ .vmem, ⟨11, _⟩ => ⟨S256x424, .f32⟩
  | .local _ .vmem, ⟨12, _⟩ => ⟨S256x424, .f32⟩
  | .local _ .vmem, ⟨13, _⟩ => ⟨S256x424, .f32⟩
  | _, _ => ⟨S2x1024x424, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x424 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x424 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x424 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x424 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x424 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x424 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x424 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel8Ideal.lean ====
abbrev S2x1024x424 : Shape := ⟨3, ![2, 1024, 424]⟩
abbrev S2048x424 : Shape := ⟨2, ![2048, 424]⟩
abbrev S256x424 : Shape := ⟨2, ![256, 424]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x424, .f32⟩
  | .hbm, ⟨1, _⟩ => ⟨S2x1024x424, .f32⟩
  | .hbm, ⟨2, _⟩ => ⟨S2x1024x424, .f32⟩
  | .hbm, ⟨3, _⟩ => ⟨S2x1024x424, .f32⟩
  | .hbm, ⟨4, _⟩ => ⟨S2048x424, .f32⟩
  | .hbm, ⟨5, _⟩ => ⟨S2048x424, .f32⟩
  | .hbm, ⟨6, _⟩ => ⟨S2048x424, .f32⟩
  | .hbm, ⟨7, _⟩ => ⟨S2048x424, .f32⟩
  | .hbm, ⟨8, _⟩ => ⟨S2048x424, .f32⟩
  | .hbm, ⟨9, _⟩ => ⟨S2048x424, .f32⟩
  | .hbm, ⟨10, _⟩ => ⟨S2048x424, .f32⟩
  | .local _ .vmem, ⟨0, _⟩ => ⟨S256x424, .f32⟩
  | .local _ .vmem, ⟨1, _⟩ => ⟨S256x424, .f32⟩
  | .local _ .vmem, ⟨2, _⟩ => ⟨S256x424, .f32⟩
  | .local _ .vmem, ⟨3, _⟩ => ⟨S256x424, .f32⟩
  | .local _ .vmem, ⟨4, _⟩ => ⟨S256x424, .f32⟩
  | .local _ .vmem, ⟨5, _⟩ => ⟨S256x424, .f32⟩
  | .local _ .vmem, ⟨6, _⟩ => ⟨S256x424, .f32⟩
  | .local _ .vmem, ⟨7, _⟩ => ⟨S256x424, .f32⟩
  | .local _ .vmem, ⟨8, _⟩ => ⟨S256x424, .f32⟩
  | .local _ .vmem, ⟨9, _⟩ => ⟨S256x424, .f32⟩
  | .local _ .vmem, ⟨10, _⟩ => ⟨S256x424, .f32⟩
  | .local _ .vmem, ⟨11, _⟩ => ⟨S256x424, .f32⟩
  | .local _ .vmem, ⟨12, _⟩ => ⟨S256x424, .f32⟩
  | .local _ .vmem, ⟨13, _⟩ => ⟨S256x424, .f32⟩
  | _, _ => ⟨S2x1024x424, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x424 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x424 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x424 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x424 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x424 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x424 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x424 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference8Ideal.lean ====
abbrev S2x1024x424 : Shape := ⟨3, ![2, 1024, 424]⟩
abbrev S_ : Shape := ⟨0, ![]⟩
abbrev S2048x424 : Shape := ⟨2, ![2048, 424]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x424, .f32⟩
  | .hbm, ⟨1, _⟩ => ⟨S2x1024x424, .f32⟩
  | .hbm, ⟨2, _⟩ => ⟨S2x1024x424, .f32⟩
  | .hbm, ⟨3, _⟩ => ⟨S2x1024x424, .f32⟩
  | .hbm, ⟨4, _⟩ => ⟨S_, .f32⟩
  | .hbm, ⟨5, _⟩ => ⟨S2x1024x424, .f32⟩
  | .hbm, ⟨6, _⟩ => ⟨S2x1024x424, .f32⟩
  | .hbm, ⟨7, _⟩ => ⟨S_, .f32⟩
  | .hbm, ⟨8, _⟩ => ⟨S2x1024x424, .f32⟩
  | .hbm, ⟨9, _⟩ => ⟨S2x1024x424, .f32⟩
  | .hbm, ⟨10, _⟩ => ⟨S2x1024x424, .f32⟩
  | .hbm, ⟨11, _⟩ => ⟨S_, .f32⟩
  | .hbm, ⟨12, _⟩ => ⟨S2x1024x424, .f32⟩
  | .hbm, ⟨13, _⟩ => ⟨S2x1024x424, .f32⟩
  | .hbm, ⟨14, _⟩ => ⟨S2x1024x424, .f32⟩
  | .hbm, ⟨15, _⟩ => ⟨S_, .f32⟩
  | .hbm, ⟨16, _⟩ => ⟨S2x1024x424, .f32⟩
  | .hbm, ⟨17, _⟩ => ⟨S2x1024x424, .f32⟩
  | .hbm, ⟨18, _⟩ => ⟨S2x1024x424, .f32⟩
  | .hbm, ⟨19, _⟩ => ⟨S_, .f32⟩
  | .hbm, ⟨20, _⟩ => ⟨S2x1024x424, .f32⟩
  | .hbm, ⟨21, _⟩ => ⟨S2x1024x424, .f32⟩
  | .hbm, ⟨22, _⟩ => ⟨S_, .f32⟩
  | .hbm, ⟨23, _⟩ => ⟨S2x1024x424, .f32⟩
  | .hbm, ⟨24, _⟩ => ⟨S2x1024x424, .f32⟩
  | .hbm, ⟨25, _⟩ => ⟨S2x1024x424, .f32⟩
  | .hbm, ⟨26, _⟩ => ⟨S_, .f32⟩
  | .hbm, ⟨27, _⟩ => ⟨S2x1024x424, .f32⟩
  | .hbm, ⟨28, _⟩ => ⟨S2x1024x424, .f32⟩
  | .hbm, ⟨29, _⟩ => ⟨S2x1024x424, .f32⟩
  | .hbm, ⟨30, _⟩ => ⟨S_, .f32⟩
  | .hbm, ⟨31, _⟩ => ⟨S2x1024x424, .f32⟩
  | .hbm, ⟨32, _⟩ => ⟨S2x1024x424, .f32⟩
  | .hbm, ⟨33, _⟩ => ⟨S2x1024x424, .f32⟩
  | .hbm, ⟨34, _⟩ => ⟨S_, .f32⟩
  | .hbm, ⟨35, _⟩ => ⟨S2x1024x424, .f32⟩
  | .hbm, ⟨36, _⟩ => ⟨S2x1024x424, .f32⟩
  | .hbm, ⟨37, _⟩ => ⟨S2048x424, .f32⟩
  | .hbm, ⟨38, _⟩ => ⟨S2048x424, .f32⟩
  | .hbm, ⟨39, _⟩ => ⟨S2048x424, .f32⟩
  | _, _ => ⟨S2x1024x424, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel9.lean ====
abbrev S2x384 : Shape := ⟨2, ![2, 384]⟩

abbrev nBuf : Space → Nat
  | .hbm => 7
  | .vmem => 7
  | .smem => 0
  | _ => 0

abbrev bufTy : (tb : Table) → Fin (tcTables nBuf tb) → BufTy
  | .hbm, ⟨0, _⟩ => ⟨S2x384, .f32⟩
  | .hbm, ⟨1, _⟩ => ⟨S2x384, .f32⟩
  | .hbm, ⟨2, _⟩ => ⟨S2x384, .f32⟩
  | .hbm, ⟨3, _⟩ => ⟨S2x384, .f32⟩
  | .hbm, ⟨4, _⟩ => ⟨S2x384, .f32⟩
  | .hbm, ⟨5, _⟩ => ⟨S2x384, .f32⟩
  | .hbm, ⟨6, _⟩ => ⟨S2x384, .f32⟩
  | .local _ .vmem, ⟨0, _⟩ => ⟨S2x384, .f32⟩
  | .local _ .vmem, ⟨1, _⟩ => ⟨S2x384, .f32⟩
  | .local _ .vmem, ⟨2, _⟩ => ⟨S2x384, .f32⟩
  | .local _ .vmem, ⟨3, _⟩ => ⟨S2x384, .f32⟩
  | .local _ .vmem, ⟨4, _⟩ => ⟨S2x384, .f32⟩
  | .local _ .vmem, ⟨5, _⟩ => ⟨S2x384, .f32⟩
  | .local _ .vmem, ⟨6, _⟩ => ⟨S2x384, .f32⟩
  | _, _ => ⟨S2x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel9Ideal.lean ====
abbrev S2x384 : Shape := ⟨2, ![2, 384]⟩

abbrev nBuf : Space → Nat
  | .hbm => 7
  | .vmem => 7
  | .smem => 0
  | _ => 0

abbrev bufTy : (tb : Table) → Fin (tcTables nBuf tb) → BufTy
  | .hbm, ⟨0, _⟩ => ⟨S2x384, .f32⟩
  | .hbm, ⟨1, _⟩ => ⟨S2x384, .f32⟩
  | .hbm, ⟨2, _⟩ => ⟨S2x384, .f32⟩
  | .hbm, ⟨3, _⟩ => ⟨S2x384, .f32⟩
  | .hbm, ⟨4, _⟩ => ⟨S2x384, .f32⟩
  | .hbm, ⟨5, _⟩ => ⟨S2x384, .f32⟩
  | .hbm, ⟨6, _⟩ => ⟨S2x384, .f32⟩
  | .local _ .vmem, ⟨0, _⟩ => ⟨S2x384, .f32⟩
  | .local _ .vmem, ⟨1, _⟩ => ⟨S2x384, .f32⟩
  | .local _ .vmem, ⟨2, _⟩ => ⟨S2x384, .f32⟩
  | .local _ .vmem, ⟨3, _⟩ => ⟨S2x384, .f32⟩
  | .local _ .vmem, ⟨4, _⟩ => ⟨S2x384, .f32⟩
  | .local _ .vmem, ⟨5, _⟩ => ⟨S2x384, .f32⟩
  | .local _ .vmem, ⟨6, _⟩ => ⟨S2x384, .f32⟩
  | _, _ => ⟨S2x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference9Ideal.lean ====
abbrev S2x384 : Shape := ⟨2, ![2, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x384, .f32⟩
  | .hbm, ⟨1, _⟩ => ⟨S2x384, .f32⟩
  | .hbm, ⟨2, _⟩ => ⟨S2x384, .f32⟩
  | .hbm, ⟨3, _⟩ => ⟨S2x384, .f32⟩
  | .hbm, ⟨4, _⟩ => ⟨S_, .f32⟩
  | .hbm, ⟨5, _⟩ => ⟨S2x384, .f32⟩
  | .hbm, ⟨6, _⟩ => ⟨S2x384, .f32⟩
  | .hbm, ⟨7, _⟩ => ⟨S_, .f32⟩
  | .hbm, ⟨8, _⟩ => ⟨S2x384, .f32⟩
  | .hbm, ⟨9, _⟩ => ⟨S2x384, .f32⟩
  | .hbm, ⟨10, _⟩ => ⟨S2x384, .f32⟩
  | .hbm, ⟨11, _⟩ => ⟨S_, .f32⟩
  | .hbm, ⟨12, _⟩ => ⟨S2x384, .f32⟩
  | .hbm, ⟨13, _⟩ => ⟨S2x384, .f32⟩
  | .hbm, ⟨14, _⟩ => ⟨S2x384, .f32⟩
  | .hbm, ⟨15, _⟩ => ⟨S_, .f32⟩
  | .hbm, ⟨16, _⟩ => ⟨S2x384, .f32⟩
  | .hbm, ⟨17, _⟩ => ⟨S2x384, .f32⟩
  | .hbm, ⟨18, _⟩ => ⟨S2x384, .f32⟩
  | .hbm, ⟨19, _⟩ => ⟨S_, .f32⟩
  | .hbm, ⟨20, _⟩ => ⟨S2x384, .f32⟩
  | .hbm, ⟨21, _⟩ => ⟨S2x384, .f32⟩
  | .hbm, ⟨22, _⟩ => ⟨S_, .f32⟩
  | .hbm, ⟨23, _⟩ => ⟨S2x384, .f32⟩
  | .hbm, ⟨24, _⟩ => ⟨S2x384, .f32⟩
  | .hbm, ⟨25, _⟩ => ⟨S2x384, .f32⟩
  | .hbm, ⟨26, _⟩ => ⟨S_, .f32⟩
  | .hbm, ⟨27, _⟩ => ⟨S2x384, .f32⟩
  | .hbm, ⟨28, _⟩ => ⟨S2x384, .f32⟩
  | .hbm, ⟨29, _⟩ => ⟨S2x384, .f32⟩
  | .hbm, ⟨30, _⟩ => ⟨S_, .f32⟩
  | .hbm, ⟨31, _⟩ => ⟨S2x384, .f32⟩
  | .hbm, ⟨32, _⟩ => ⟨S2x384, .f32⟩
  | .hbm, ⟨33, _⟩ => ⟨S2x384, .f32⟩
  | .hbm, ⟨34, _⟩ => ⟨S_, .f32⟩
  | .hbm, ⟨35, _⟩ => ⟨S2x384, .f32⟩
  | .hbm, ⟨36, _⟩ => ⟨S2x384, .f32⟩
  | _, _ => ⟨S2x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel10.lean ====
abbrev S2x384x192 : Shape := ⟨3, ![2, 384, 192]⟩
abbrev S768x192 : Shape := ⟨2, ![768, 192]⟩
abbrev S256x192 : Shape := ⟨2, ![256, 192]⟩

abbrev nBuf : Space → Nat
  | .hbm => 11
  | .vmem => 14
  | .smem => 0
  | _ => 0

abbrev bufTy : (tb : Table) → Fin (tcTables nBuf tb) → BufTy
  | .hbm, ⟨0, _⟩ => ⟨S2x384x192, .f32⟩
  | .hbm, ⟨1, _⟩ => ⟨S2x384x192, .f32⟩
  | .hbm, ⟨2, _⟩ => ⟨S2x384x192, .f32⟩
  | .hbm, ⟨3, _⟩ => ⟨S2x384x192, .f32⟩
  | .hbm, ⟨4, _⟩ => ⟨S768x192, .f32⟩
  | .hbm, ⟨5, _⟩ => ⟨S768x192, .f32⟩
  | .hbm, ⟨6, _⟩ => ⟨S768x192, .f32⟩
  | .hbm, ⟨7, _⟩ => ⟨S768x192, .f32⟩
  | .hbm, ⟨8, _⟩ => ⟨S768x192, .f32⟩
  | .hbm, ⟨9, _⟩ => ⟨S768x192, .f32⟩
  | .hbm, ⟨10, _⟩ => ⟨S768x192, .f32⟩
  | .local _ .vmem, ⟨0, _⟩ => ⟨S256x192, .f32⟩
  | .local _ .vmem, ⟨1, _⟩ => ⟨S256x192, .f32⟩
  | .local _ .vmem, ⟨2, _⟩ => ⟨S256x192, .f32⟩
  | .local _ .vmem, ⟨3, _⟩ => ⟨S256x192, .f32⟩
  | .local _ .vmem, ⟨4, _⟩ => ⟨S256x192, .f32⟩
  | .local _ .vmem, ⟨5, _⟩ => ⟨S256x192, .f32⟩
  | .local _ .vmem, ⟨6, _⟩ => ⟨S256x192, .f32⟩
  | .local _ .vmem, ⟨7, _⟩ => ⟨S256x192, .f32⟩
  | .local _ .vmem, ⟨8, _⟩ => ⟨S256x192, .f32⟩
  | .local _ .vmem, ⟨9, _⟩ => ⟨S256x192, .f32⟩
  | .local _ .vmem, ⟨10, _⟩ => ⟨S256x192, .f32⟩
  | .local _ .vmem, ⟨11, _⟩ => ⟨S256x192, .f32⟩
  | .local _ .vmem, ⟨12, _⟩ => ⟨S256x192, .f32⟩
  | .local _ .vmem, ⟨13, _⟩ => ⟨S256x192, .f32⟩
  | _, _ => ⟨S2x384x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel10Ideal.lean ====
abbrev S2x384x192 : Shape := ⟨3, ![2, 384, 192]⟩
abbrev S768x192 : Shape := ⟨2, ![768, 192]⟩
abbrev S256x192 : Shape := ⟨2, ![256, 192]⟩

abbrev nBuf : Space → Nat
  | .hbm => 11
  | .vmem => 14
  | .smem => 0
  | _ => 0

abbrev bufTy : (tb : Table) → Fin (tcTables nBuf tb) → BufTy
  | .hbm, ⟨0, _⟩ => ⟨S2x384x192, .f32⟩
  | .hbm, ⟨1, _⟩ => ⟨S2x384x192, .f32⟩
  | .hbm, ⟨2, _⟩ => ⟨S2x384x192, .f32⟩
  | .hbm, ⟨3, _⟩ => ⟨S2x384x192, .f32⟩
  | .hbm, ⟨4, _⟩ => ⟨S768x192, .f32⟩
  | .hbm, ⟨5, _⟩ => ⟨S768x192, .f32⟩
  | .hbm, ⟨6, _⟩ => ⟨S768x192, .f32⟩
  | .hbm, ⟨7, _⟩ => ⟨S768x192, .f32⟩
  | .hbm, ⟨8, _⟩ => ⟨S768x192, .f32⟩
  | .hbm, ⟨9, _⟩ => ⟨S768x192, .f32⟩
  | .hbm, ⟨10, _⟩ => ⟨S768x192, .f32⟩
  | .local _ .vmem, ⟨0, _⟩ => ⟨S256x192, .f32⟩
  | .local _ .vmem, ⟨1, _⟩ => ⟨S256x192, .f32⟩
  | .local _ .vmem, ⟨2, _⟩ => ⟨S256x192, .f32⟩
  | .local _ .vmem, ⟨3, _⟩ => ⟨S256x192, .f32⟩
  | .local _ .vmem, ⟨4, _⟩ => ⟨S256x192, .f32⟩
  | .local _ .vmem, ⟨5, _⟩ => ⟨S256x192, .f32⟩
  | .local _ .vmem, ⟨6, _⟩ => ⟨S256x192, .f32⟩
  | .local _ .vmem, ⟨7, _⟩ => ⟨S256x192, .f32⟩
  | .local _ .vmem, ⟨8, _⟩ => ⟨S256x192, .f32⟩
  | .local _ .vmem, ⟨9, _⟩ => ⟨S256x192, .f32⟩
  | .local _ .vmem, ⟨10, _⟩ => ⟨S256x192, .f32⟩
  | .local _ .vmem, ⟨11, _⟩ => ⟨S256x192, .f32⟩
  | .local _ .vmem, ⟨12, _⟩ => ⟨S256x192, .f32⟩
  | .local _ .vmem, ⟨13, _⟩ => ⟨S256x192, .f32⟩
  | _, _ => ⟨S2x384x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference10Ideal.lean ====
abbrev S2x384x192 : Shape := ⟨3, ![2, 384, 192]⟩
abbrev S_ : Shape := ⟨0, ![]⟩
abbrev S768x192 : Shape := ⟨2, ![768, 192]⟩

abbrev nBuf : Space → Nat
  | .hbm => 40
  | .vmem => 0
  | .smem => 0
  | _ => 0

abbrev bufTy : (tb : Table) → Fin (tcTables nBuf tb) → BufTy
  | .hbm, ⟨0, _⟩ => ⟨S2x384x192, .f32⟩
  | .hbm, ⟨1, _⟩ => ⟨S2x384x192, .f32⟩
  | .hbm, ⟨2, _⟩ => ⟨S2x384x192, .f32⟩
  | .hbm, ⟨3, _⟩ => ⟨S2x384x192, .f32⟩
  | .hbm, ⟨4, _⟩ => ⟨S_, .f32⟩
  | .hbm, ⟨5, _⟩ => ⟨S2x384x192, .f32⟩
  | .hbm, ⟨6, _⟩ => ⟨S2x384x192, .f32⟩
  | .hbm, ⟨7, _⟩ => ⟨S_, .f32⟩
  | .hbm, ⟨8, _⟩ => ⟨S2x384x192, .f32⟩
  | .hbm, ⟨9, _⟩ => ⟨S2x384x192, .f32⟩
  | .hbm, ⟨10, _⟩ => ⟨S2x384x192, .f32⟩
  | .hbm, ⟨11, _⟩ => ⟨S_, .f32⟩
  | .hbm, ⟨12, _⟩ => ⟨S2x384x192, .f32⟩
  | .hbm, ⟨13, _⟩ => ⟨S2x384x192, .f32⟩
  | .hbm, ⟨14, _⟩ => ⟨S2x384x192, .f32⟩
  | .hbm, ⟨15, _⟩ => ⟨S_, .f32⟩
  | .hbm, ⟨16, _⟩ => ⟨S2x384x192, .f32⟩
  | .hbm, ⟨17, _⟩ => ⟨S2x384x192, .f32⟩
  | .hbm, ⟨18, _⟩ => ⟨S2x384x192, .f32⟩
  | .hbm, ⟨19, _⟩ => ⟨S_, .f32⟩
  | .hbm, ⟨20, _⟩ => ⟨S2x384x192, .f32⟩
  | .hbm, ⟨21, _⟩ => ⟨S2x384x192, .f32⟩
  | .hbm, ⟨22, _⟩ => ⟨S_, .f32⟩
  | .hbm, ⟨23, _⟩ => ⟨S2x384x192, .f32⟩
  | .hbm, ⟨24, _⟩ => ⟨S2x384x192, .f32⟩
  | .hbm, ⟨25, _⟩ => ⟨S2x384x192, .f32⟩
  | .hbm, ⟨26, _⟩ => ⟨S_, .f32⟩
  | .hbm, ⟨27, _⟩ => ⟨S2x384x192, .f32⟩
  | .hbm, ⟨28, _⟩ => ⟨S2x384x192, .f32⟩
  | .hbm, ⟨29, _⟩ => ⟨S2x384x192, .f32⟩
  | .hbm, ⟨30, _⟩ => ⟨S_, .f32⟩
  | .hbm, ⟨31, _⟩ => ⟨S2x384x192, .f32⟩
  | .hbm, ⟨32, _⟩ => ⟨S2x384x192, .f32⟩
  | .hbm, ⟨33, _⟩ => ⟨S2x384x192, .f32⟩
  | .hbm, ⟨34, _⟩ => ⟨S_, .f32⟩
  | .hbm, ⟨35, _⟩ => ⟨S2x384x192, .f32⟩
  | .hbm, ⟨36, _⟩ => ⟨S2x384x192, .f32⟩
  | .hbm, ⟨37, _⟩ => ⟨S768x192, .f32⟩
  | .hbm, ⟨38, _⟩ => ⟨S768x192, .f32⟩
  | .hbm, ⟨39, _⟩ => ⟨S768x192, .f32⟩
  | _, _ => ⟨S2x384x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel11.lean ====
abbrev S2x256 : Shape := ⟨2, ![2, 256]⟩

abbrev nBuf : Space → Nat
  | .hbm => 7
  | .vmem => 7
  | .smem => 0
  | _ => 0

abbrev bufTy : (tb : Table) → Fin (tcTables nBuf tb) → BufTy
  | .hbm, ⟨0, _⟩ => ⟨S2x256, .f32⟩
  | .hbm, ⟨1, _⟩ => ⟨S2x256, .f32⟩
  | .hbm, ⟨2, _⟩ => ⟨S2x256, .f32⟩
  | .hbm, ⟨3, _⟩ => ⟨S2x256, .f32⟩
  | .hbm, ⟨4, _⟩ => ⟨S2x256, .f32⟩
  | .hbm, ⟨5, _⟩ => ⟨S2x256, .f32⟩
  | .hbm, ⟨6, _⟩ => ⟨S2x256, .f32⟩
  | .local _ .vmem, ⟨0, _⟩ => ⟨S2x256, .f32⟩
  | .local _ .vmem, ⟨1, _⟩ => ⟨S2x256, .f32⟩
  | .local _ .vmem, ⟨2, _⟩ => ⟨S2x256, .f32⟩
  | .local _ .vmem, ⟨3, _⟩ => ⟨S2x256, .f32⟩
  | .local _ .vmem, ⟨4, _⟩ => ⟨S2x256, .f32⟩
  | .local _ .vmem, ⟨5, _⟩ => ⟨S2x256, .f32⟩
  | .local _ .vmem, ⟨6, _⟩ => ⟨S2x256, .f32⟩
  | _, _ => ⟨S2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel11Ideal.lean ====
abbrev S2x256 : Shape := ⟨2, ![2, 256]⟩

abbrev nBuf : Space → Nat
  | .hbm => 7
  | .vmem => 7
  | .smem => 0
  | _ => 0

abbrev bufTy : (tb : Table) → Fin (tcTables nBuf tb) → BufTy
  | .hbm, ⟨0, _⟩ => ⟨S2x256, .f32⟩
  | .hbm, ⟨1, _⟩ => ⟨S2x256, .f32⟩
  | .hbm, ⟨2, _⟩ => ⟨S2x256, .f32⟩
  | .hbm, ⟨3, _⟩ => ⟨S2x256, .f32⟩
  | .hbm, ⟨4, _⟩ => ⟨S2x256, .f32⟩
  | .hbm, ⟨5, _⟩ => ⟨S2x256, .f32⟩
  | .hbm, ⟨6, _⟩ => ⟨S2x256, .f32⟩
  | .local _ .vmem, ⟨0, _⟩ => ⟨S2x256, .f32⟩
  | .local _ .vmem, ⟨1, _⟩ => ⟨S2x256, .f32⟩
  | .local _ .vmem, ⟨2, _⟩ => ⟨S2x256, .f32⟩
  | .local _ .vmem, ⟨3, _⟩ => ⟨S2x256, .f32⟩
  | .local _ .vmem, ⟨4, _⟩ => ⟨S2x256, .f32⟩
  | .local _ .vmem, ⟨5, _⟩ => ⟨S2x256, .f32⟩
  | .local _ .vmem, ⟨6, _⟩ => ⟨S2x256, .f32⟩
  | _, _ => ⟨S2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference11Ideal.lean ====
abbrev S2x256 : Shape := ⟨2, ![2, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256, .f32⟩
  | .hbm, ⟨1, _⟩ => ⟨S2x256, .f32⟩
  | .hbm, ⟨2, _⟩ => ⟨S2x256, .f32⟩
  | .hbm, ⟨3, _⟩ => ⟨S2x256, .f32⟩
  | .hbm, ⟨4, _⟩ => ⟨S_, .f32⟩
  | .hbm, ⟨5, _⟩ => ⟨S2x256, .f32⟩
  | .hbm, ⟨6, _⟩ => ⟨S2x256, .f32⟩
  | .hbm, ⟨7, _⟩ => ⟨S_, .f32⟩
  | .hbm, ⟨8, _⟩ => ⟨S2x256, .f32⟩
  | .hbm, ⟨9, _⟩ => ⟨S2x256, .f32⟩
  | .hbm, ⟨10, _⟩ => ⟨S2x256, .f32⟩
  | .hbm, ⟨11, _⟩ => ⟨S_, .f32⟩
  | .hbm, ⟨12, _⟩ => ⟨S2x256, .f32⟩
  | .hbm, ⟨13, _⟩ => ⟨S2x256, .f32⟩
  | .hbm, ⟨14, _⟩ => ⟨S2x256, .f32⟩
  | .hbm, ⟨15, _⟩ => ⟨S_, .f32⟩
  | .hbm, ⟨16, _⟩ => ⟨S2x256, .f32⟩
  | .hbm, ⟨17, _⟩ => ⟨S2x256, .f32⟩
  | .hbm, ⟨18, _⟩ => ⟨S2x256, .f32⟩
  | .hbm, ⟨19, _⟩ => ⟨S_, .f32⟩
  | .hbm, ⟨20, _⟩ => ⟨S2x256, .f32⟩
  | .hbm, ⟨21, _⟩ => ⟨S2x256, .f32⟩
  | .hbm, ⟨22, _⟩ => ⟨S_, .f32⟩
  | .hbm, ⟨23, _⟩ => ⟨S2x256, .f32⟩
  | .hbm, ⟨24, _⟩ => ⟨S2x256, .f32⟩
  | .hbm, ⟨25, _⟩ => ⟨S2x256, .f32⟩
  | .hbm, ⟨26, _⟩ => ⟨S_, .f32⟩
  | .hbm, ⟨27, _⟩ => ⟨S2x256, .f32⟩
  | .hbm, ⟨28, _⟩ => ⟨S2x256, .f32⟩
  | .hbm, ⟨29, _⟩ => ⟨S2x256, .f32⟩
  | .hbm, ⟨30, _⟩ => ⟨S_, .f32⟩
  | .hbm, ⟨31, _⟩ => ⟨S2x256, .f32⟩
  | .hbm, ⟨32, _⟩ => ⟨S2x256, .f32⟩
  | .hbm, ⟨33, _⟩ => ⟨S2x256, .f32⟩
  | .hbm, ⟨34, _⟩ => ⟨S_, .f32⟩
  | .hbm, ⟨35, _⟩ => ⟨S2x256, .f32⟩
  | .hbm, ⟨36, _⟩ => ⟨S2x256, .f32⟩
  | _, _ => ⟨S2x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel12.lean ====
abbrev S2x256x256 : Shape := ⟨3, ![2, 256, 256]⟩
abbrev S512x256 : Shape := ⟨2, ![512, 256]⟩
abbrev S256x256 : Shape := ⟨2, ![256, 256]⟩

abbrev nBuf : Space → Nat
  | .hbm => 11
  | .vmem => 14
  | .smem => 0
  | _ => 0

abbrev bufTy : (tb : Table) → Fin (tcTables nBuf tb) → BufTy
  | .hbm, ⟨0, _⟩ => ⟨S2x256x256, .f32⟩
  | .hbm, ⟨1, _⟩ => ⟨S2x256x256, .f32⟩
  | .hbm, ⟨2, _⟩ => ⟨S2x256x256, .f32⟩
  | .hbm, ⟨3, _⟩ => ⟨S2x256x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S512x256, .f32⟩
  | .hbm, ⟨9, _⟩ => ⟨S512x256, .f32⟩
  | .hbm, ⟨10, _⟩ => ⟨S512x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S2x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel12Ideal.lean ====
abbrev S2x256x256 : Shape := ⟨3, ![2, 256, 256]⟩
abbrev S512x256 : Shape := ⟨2, ![512, 256]⟩
abbrev S256x256 : Shape := ⟨2, ![256, 256]⟩

abbrev nBuf : Space → Nat
  | .hbm => 11
  | .vmem => 14
  | .smem => 0
  | _ => 0

abbrev bufTy : (tb : Table) → Fin (tcTables nBuf tb) → BufTy
  | .hbm, ⟨0, _⟩ => ⟨S2x256x256, .f32⟩
  | .hbm, ⟨1, _⟩ => ⟨S2x256x256, .f32⟩
  | .hbm, ⟨2, _⟩ => ⟨S2x256x256, .f32⟩
  | .hbm, ⟨3, _⟩ => ⟨S2x256x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S512x256, .f32⟩
  | .hbm, ⟨9, _⟩ => ⟨S512x256, .f32⟩
  | .hbm, ⟨10, _⟩ => ⟨S512x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S2x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference12Ideal.lean ====
abbrev S2x256x256 : Shape := ⟨3, ![2, 256, 256]⟩
abbrev S_ : Shape := ⟨0, ![]⟩
abbrev S512x256 : Shape := ⟨2, ![512, 256]⟩

abbrev nBuf : Space → Nat
  | .hbm => 40
  | .vmem => 0
  | .smem => 0
  | _ => 0

abbrev bufTy : (tb : Table) → Fin (tcTables nBuf tb) → BufTy
  | .hbm, ⟨0, _⟩ => ⟨S2x256x256, .f32⟩
  | .hbm, ⟨1, _⟩ => ⟨S2x256x256, .f32⟩
  | .hbm, ⟨2, _⟩ => ⟨S2x256x256, .f32⟩
  | .hbm, ⟨3, _⟩ => ⟨S2x256x256, .f32⟩
  | .hbm, ⟨4, _⟩ => ⟨S_, .f32⟩
  | .hbm, ⟨5, _⟩ => ⟨S2x256x256, .f32⟩
  | .hbm, ⟨6, _⟩ => ⟨S2x256x256, .f32⟩
  | .hbm, ⟨7, _⟩ => ⟨S_, .f32⟩
  | .hbm, ⟨8, _⟩ => ⟨S2x256x256, .f32⟩
  | .hbm, ⟨9, _⟩ => ⟨S2x256x256, .f32⟩
  | .hbm, ⟨10, _⟩ => ⟨S2x256x256, .f32⟩
  | .hbm, ⟨11, _⟩ => ⟨S_, .f32⟩
  | .hbm, ⟨12, _⟩ => ⟨S2x256x256, .f32⟩
  | .hbm, ⟨13, _⟩ => ⟨S2x256x256, .f32⟩
  | .hbm, ⟨14, _⟩ => ⟨S2x256x256, .f32⟩
  | .hbm, ⟨15, _⟩ => ⟨S_, .f32⟩
  | .hbm, ⟨16, _⟩ => ⟨S2x256x256, .f32⟩
  | .hbm, ⟨17, _⟩ => ⟨S2x256x256, .f32⟩
  | .hbm, ⟨18, _⟩ => ⟨S2x256x256, .f32⟩
  | .hbm, ⟨19, _⟩ => ⟨S_, .f32⟩
  | .hbm, ⟨20, _⟩ => ⟨S2x256x256, .f32⟩
  | .hbm, ⟨21, _⟩ => ⟨S2x256x256, .f32⟩
  | .hbm, ⟨22, _⟩ => ⟨S_, .f32⟩
  | .hbm, ⟨23, _⟩ => ⟨S2x256x256, .f32⟩
  | .hbm, ⟨24, _⟩ => ⟨S2x256x256, .f32⟩
  | .hbm, ⟨25, _⟩ => ⟨S2x256x256, .f32⟩
  | .hbm, ⟨26, _⟩ => ⟨S_, .f32⟩
  | .hbm, ⟨27, _⟩ => ⟨S2x256x256, .f32⟩
  | .hbm, ⟨28, _⟩ => ⟨S2x256x256, .f32⟩
  | .hbm, ⟨29, _⟩ => ⟨S2x256x256, .f32⟩
  | .hbm, ⟨30, _⟩ => ⟨S_, .f32⟩
  | .hbm, ⟨31, _⟩ => ⟨S2x256x256, .f32⟩
  | .hbm, ⟨32, _⟩ => ⟨S2x256x256, .f32⟩
  | .hbm, ⟨33, _⟩ => ⟨S2x256x256, .f32⟩
  | .hbm, ⟨34, _⟩ => ⟨S_, .f32⟩
  | .hbm, ⟨35, _⟩ => ⟨S2x256x256, .f32⟩
  | .hbm, ⟨36, _⟩ => ⟨S2x256x256, .f32⟩
  | .hbm, ⟨37, _⟩ => ⟨S512x256, .f32⟩
  | .hbm, ⟨38, _⟩ => ⟨S512x256, .f32⟩
  | .hbm, ⟨39, _⟩ => ⟨S512x256, .f32⟩
  | _, _ => ⟨S2x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel13.lean ====
abbrev S2x512 : Shape := ⟨2, ![2, 512]⟩

abbrev nBuf : Space → Nat
  | .hbm => 7
  | .vmem => 7
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S2x512, .f32⟩
  | .hbm, ⟨5, _⟩ => ⟨S2x512, .f32⟩
  | .hbm, ⟨6, _⟩ => ⟨S2x512, .f32⟩
  | .local _ .vmem, ⟨0, _⟩ => ⟨S2x512, .f32⟩
  | .local _ .vmem, ⟨1, _⟩ => ⟨S2x512, .f32⟩
  | .local _ .vmem, ⟨2, _⟩ => ⟨S2x512, .f32⟩
  | .local _ .vmem, ⟨3, _⟩ => ⟨S2x512, .f32⟩
  | .local _ .vmem, ⟨4, _⟩ => ⟨S2x512, .f32⟩
  | .local _ .vmem, ⟨5, _⟩ => ⟨S2x512, .f32⟩
  | .local _ .vmem, ⟨6, _⟩ => ⟨S2x512, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel13Ideal.lean ====
abbrev S2x512 : Shape := ⟨2, ![2, 512]⟩

abbrev nBuf : Space → Nat
  | .hbm => 7
  | .vmem => 7
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S2x512, .f32⟩
  | .hbm, ⟨5, _⟩ => ⟨S2x512, .f32⟩
  | .hbm, ⟨6, _⟩ => ⟨S2x512, .f32⟩
  | .local _ .vmem, ⟨0, _⟩ => ⟨S2x512, .f32⟩
  | .local _ .vmem, ⟨1, _⟩ => ⟨S2x512, .f32⟩
  | .local _ .vmem, ⟨2, _⟩ => ⟨S2x512, .f32⟩
  | .local _ .vmem, ⟨3, _⟩ => ⟨S2x512, .f32⟩
  | .local _ .vmem, ⟨4, _⟩ => ⟨S2x512, .f32⟩
  | .local _ .vmem, ⟨5, _⟩ => ⟨S2x512, .f32⟩
  | .local _ .vmem, ⟨6, _⟩ => ⟨S2x512, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference13Ideal.lean ====
abbrev S2x512 : Shape := ⟨2, ![2, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S_, .f32⟩
  | .hbm, ⟨5, _⟩ => ⟨S2x512, .f32⟩
  | .hbm, ⟨6, _⟩ => ⟨S2x512, .f32⟩
  | .hbm, ⟨7, _⟩ => ⟨S_, .f32⟩
  | .hbm, ⟨8, _⟩ => ⟨S2x512, .f32⟩
  | .hbm, ⟨9, _⟩ => ⟨S2x512, .f32⟩
  | .hbm, ⟨10, _⟩ => ⟨S2x512, .f32⟩
  | .hbm, ⟨11, _⟩ => ⟨S_, .f32⟩
  | .hbm, ⟨12, _⟩ => ⟨S2x512, .f32⟩
  | .hbm, ⟨13, _⟩ => ⟨S2x512, .f32⟩
  | .hbm, ⟨14, _⟩ => ⟨S2x512, .f32⟩
  | .hbm, ⟨15, _⟩ => ⟨S_, .f32⟩
  | .hbm, ⟨16, _⟩ => ⟨S2x512, .f32⟩
  | .hbm, ⟨17, _⟩ => ⟨S2x512, .f32⟩
  | .hbm, ⟨18, _⟩ => ⟨S2x512, .f32⟩
  | .hbm, ⟨19, _⟩ => ⟨S_, .f32⟩
  | .hbm, ⟨20, _⟩ => ⟨S2x512, .f32⟩
  | .hbm, ⟨21, _⟩ => ⟨S2x512, .f32⟩
  | .hbm, ⟨22, _⟩ => ⟨S_, .f32⟩
  | .hbm, ⟨23, _⟩ => ⟨S2x512, .f32⟩
  | .hbm, ⟨24, _⟩ => ⟨S2x512, .f32⟩
  | .hbm, ⟨25, _⟩ => ⟨S2x512, .f32⟩
  | .hbm, ⟨26, _⟩ => ⟨S_, .f32⟩
  | .hbm, ⟨27, _⟩ => ⟨S2x512, .f32⟩
  | .hbm, ⟨28, _⟩ => ⟨S2x512, .f32⟩
  | .hbm, ⟨29, _⟩ => ⟨S2x512, .f32⟩
  | .hbm, ⟨30, _⟩ => ⟨S_, .f32⟩
  | .hbm, ⟨31, _⟩ => ⟨S2x512, .f32⟩
  | .hbm, ⟨32, _⟩ => ⟨S2x512, .f32⟩
  | .hbm, ⟨33, _⟩ => ⟨S2x512, .f32⟩
  | .hbm, ⟨34, _⟩ => ⟨S_, .f32⟩
  | .hbm, ⟨35, _⟩ => ⟨S2x512, .f32⟩
  | .hbm, ⟨36, _⟩ => ⟨S2x512, .f32⟩
  | _, _ => ⟨S2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel14.lean ====
abbrev S2x8x128x128 : Shape := ⟨4, ![2, 8, 128, 128]⟩
abbrev S2048x128 : Shape := ⟨2, ![2048, 128]⟩
abbrev S256x128 : Shape := ⟨2, ![256, 128]⟩

abbrev nBuf : Space → Nat
  | .hbm => 11
  | .vmem => 14
  | .smem => 0
  | _ => 0

abbrev bufTy : (tb : Table) → Fin (tcTables nBuf tb) → BufTy
  | .hbm, ⟨0, _⟩ => ⟨S2x8x128x128, .f32⟩
  | .hbm, ⟨1, _⟩ => ⟨S2x8x128x128, .f32⟩
  | .hbm, ⟨2, _⟩ => ⟨S2x8x128x128, .f32⟩
  | .hbm, ⟨3, _⟩ => ⟨S2x8x128x128, .f32⟩
  | .hbm, ⟨4, _⟩ => ⟨S2048x128, .f32⟩
  | .hbm, ⟨5, _⟩ => ⟨S2048x128, .f32⟩
  | .hbm, ⟨6, _⟩ => ⟨S2048x128, .f32⟩
  | .hbm, ⟨7, _⟩ => ⟨S2048x128, .f32⟩
  | .hbm, ⟨8, _⟩ => ⟨S2048x128, .f32⟩
  | .hbm, ⟨9, _⟩ => ⟨S2048x128, .f32⟩
  | .hbm, ⟨10, _⟩ => ⟨S2048x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S2x8x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel14Ideal.lean ====
abbrev S2x8x128x128 : Shape := ⟨4, ![2, 8, 128, 128]⟩
abbrev S2048x128 : Shape := ⟨2, ![2048, 128]⟩
abbrev S256x128 : Shape := ⟨2, ![256, 128]⟩

abbrev nBuf : Space → Nat
  | .hbm => 11
  | .vmem => 14
  | .smem => 0
  | _ => 0

abbrev bufTy : (tb : Table) → Fin (tcTables nBuf tb) → BufTy
  | .hbm, ⟨0, _⟩ => ⟨S2x8x128x128, .f32⟩
  | .hbm, ⟨1, _⟩ => ⟨S2x8x128x128, .f32⟩
  | .hbm, ⟨2, _⟩ => ⟨S2x8x128x128, .f32⟩
  | .hbm, ⟨3, _⟩ => ⟨S2x8x128x128, .f32⟩
  | .hbm, ⟨4, _⟩ => ⟨S2048x128, .f32⟩
  | .hbm, ⟨5, _⟩ => ⟨S2048x128, .f32⟩
  | .hbm, ⟨6, _⟩ => ⟨S2048x128, .f32⟩
  | .hbm, ⟨7, _⟩ => ⟨S2048x128, .f32⟩
  | .hbm, ⟨8, _⟩ => ⟨S2048x128, .f32⟩
  | .hbm, ⟨9, _⟩ => ⟨S2048x128, .f32⟩
  | .hbm, ⟨10, _⟩ => ⟨S2048x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S2x8x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference14Ideal.lean ====
abbrev S2x8x128x128 : Shape := ⟨4, ![2, 8, 128, 128]⟩
abbrev S_ : Shape := ⟨0, ![]⟩
abbrev S2048x128 : Shape := ⟨2, ![2048, 128]⟩

abbrev nBuf : Space → Nat
  | .hbm => 40
  | .vmem => 0
  | .smem => 0
  | _ => 0

abbrev bufTy : (tb : Table) → Fin (tcTables nBuf tb) → BufTy
  | .hbm, ⟨0, _⟩ => ⟨S2x8x128x128, .f32⟩
  | .hbm, ⟨1, _⟩ => ⟨S2x8x128x128, .f32⟩
  | .hbm, ⟨2, _⟩ => ⟨S2x8x128x128, .f32⟩
  | .hbm, ⟨3, _⟩ => ⟨S2x8x128x128, .f32⟩
  | .hbm, ⟨4, _⟩ => ⟨S_, .f32⟩
  | .hbm, ⟨5, _⟩ => ⟨S2x8x128x128, .f32⟩
  | .hbm, ⟨6, _⟩ => ⟨S2x8x128x128, .f32⟩
  | .hbm, ⟨7, _⟩ => ⟨S_, .f32⟩
  | .hbm, ⟨8, _⟩ => ⟨S2x8x128x128, .f32⟩
  | .hbm, ⟨9, _⟩ => ⟨S2x8x128x128, .f32⟩
  | .hbm, ⟨10, _⟩ => ⟨S2x8x128x128, .f32⟩
  | .hbm, ⟨11, _⟩ => ⟨S_, .f32⟩
  | .hbm, ⟨12, _⟩ => ⟨S2x8x128x128, .f32⟩
  | .hbm, ⟨13, _⟩ => ⟨S2x8x128x128, .f32⟩
  | .hbm, ⟨14, _⟩ => ⟨S2x8x128x128, .f32⟩
  | .hbm, ⟨15, _⟩ => ⟨S_, .f32⟩
  | .hbm, ⟨16, _⟩ => ⟨S2x8x128x128, .f32⟩
  | .hbm, ⟨17, _⟩ => ⟨S2x8x128x128, .f32⟩
  | .hbm, ⟨18, _⟩ => ⟨S2x8x128x128, .f32⟩
  | .hbm, ⟨19, _⟩ => ⟨S_, .f32⟩
  | .hbm, ⟨20, _⟩ => ⟨S2x8x128x128, .f32⟩
  | .hbm, ⟨21, _⟩ => ⟨S2x8x128x128, .f32⟩
  | .hbm, ⟨22, _⟩ => ⟨S_, .f32⟩
  | .hbm, ⟨23, _⟩ => ⟨S2x8x128x128, .f32⟩
  | .hbm, ⟨24, _⟩ => ⟨S2x8x128x128, .f32⟩
  | .hbm, ⟨25, _⟩ => ⟨S2x8x128x128, .f32⟩
  | .hbm, ⟨26, _⟩ => ⟨S_, .f32⟩
  | .hbm, ⟨27, _⟩ => ⟨S2x8x128x128, .f32⟩
  | .hbm, ⟨28, _⟩ => ⟨S2x8x128x128, .f32⟩
  | .hbm, ⟨29, _⟩ => ⟨S2x8x128x128, .f32⟩
  | .hbm, ⟨30, _⟩ => ⟨S_, .f32⟩
  | .hbm, ⟨31, _⟩ => ⟨S2x8x128x128, .f32⟩
  | .hbm, ⟨32, _⟩ => ⟨S2x8x128x128, .f32⟩
  | .hbm, ⟨33, _⟩ => ⟨S2x8x128x128, .f32⟩
  | .hbm, ⟨34, _⟩ => ⟨S_, .f32⟩
  | .hbm, ⟨35, _⟩ => ⟨S2x8x128x128, .f32⟩
  | .hbm, ⟨36, _⟩ => ⟨S2x8x128x128, .f32⟩
  | .hbm, ⟨37, _⟩ => ⟨S2048x128, .f32⟩
  | .hbm, ⟨38, _⟩ => ⟨S2048x128, .f32⟩
  | .hbm, ⟨39, _⟩ => ⟨S2048x128, .f32⟩
  | _, _ => ⟨S2x8x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel15.lean ====
abbrev S2x8x128 : Shape := ⟨3, ![2, 8, 128]⟩
abbrev S16x128 : Shape := ⟨2, ![16, 128]⟩

abbrev nBuf : Space → Nat
  | .hbm => 11
  | .vmem => 7
  | .smem => 0
  | _ => 0

abbrev bufTy : (tb : Table) → Fin (tcTables nBuf tb) → BufTy
  | .hbm, ⟨0, _⟩ => ⟨S2x8x128, .f32⟩
  | .hbm, ⟨1, _⟩ => ⟨S2x8x128, .f32⟩
  | .hbm, ⟨2, _⟩ => ⟨S2x8x128, .f32⟩
  | .hbm, ⟨3, _⟩ => ⟨S2x8x128, .f32⟩
  | .hbm, ⟨4, _⟩ => ⟨S16x128, .f32⟩
  | .hbm, ⟨5, _⟩ => ⟨S16x128, .f32⟩
  | .hbm, ⟨6, _⟩ => ⟨S16x128, .f32⟩
  | .hbm, ⟨7, _⟩ => ⟨S16x128, .f32⟩
  | .hbm, ⟨8, _⟩ => ⟨S16x128, .f32⟩
  | .hbm, ⟨9, _⟩ => ⟨S16x128, .f32⟩
  | .hbm, ⟨10, _⟩ => ⟨S16x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | _, _ => ⟨S2x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel15Ideal.lean ====
abbrev S2x8x128 : Shape := ⟨3, ![2, 8, 128]⟩
abbrev S16x128 : Shape := ⟨2, ![16, 128]⟩

abbrev nBuf : Space → Nat
  | .hbm => 11
  | .vmem => 7
  | .smem => 0
  | _ => 0

abbrev bufTy : (tb : Table) → Fin (tcTables nBuf tb) → BufTy
  | .hbm, ⟨0, _⟩ => ⟨S2x8x128, .f32⟩
  | .hbm, ⟨1, _⟩ => ⟨S2x8x128, .f32⟩
  | .hbm, ⟨2, _⟩ => ⟨S2x8x128, .f32⟩
  | .hbm, ⟨3, _⟩ => ⟨S2x8x128, .f32⟩
  | .hbm, ⟨4, _⟩ => ⟨S16x128, .f32⟩
  | .hbm, ⟨5, _⟩ => ⟨S16x128, .f32⟩
  | .hbm, ⟨6, _⟩ => ⟨S16x128, .f32⟩
  | .hbm, ⟨7, _⟩ => ⟨S16x128, .f32⟩
  | .hbm, ⟨8, _⟩ => ⟨S16x128, .f32⟩
  | .hbm, ⟨9, _⟩ => ⟨S16x128, .f32⟩
  | .hbm, ⟨10, _⟩ => ⟨S16x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | _, _ => ⟨S2x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference15Ideal.lean ====
abbrev S2x8x128 : Shape := ⟨3, ![2, 8, 128]⟩
abbrev S_ : Shape := ⟨0, ![]⟩
abbrev S16x128 : Shape := ⟨2, ![16, 128]⟩

abbrev nBuf : Space → Nat
  | .hbm => 40
  | .vmem => 0
  | .smem => 0
  | _ => 0

abbrev bufTy : (tb : Table) → Fin (tcTables nBuf tb) → BufTy
  | .hbm, ⟨0, _⟩ => ⟨S2x8x128, .f32⟩
  | .hbm, ⟨1, _⟩ => ⟨S2x8x128, .f32⟩
  | .hbm, ⟨2, _⟩ => ⟨S2x8x128, .f32⟩
  | .hbm, ⟨3, _⟩ => ⟨S2x8x128, .f32⟩
  | .hbm, ⟨4, _⟩ => ⟨S_, .f32⟩
  | .hbm, ⟨5, _⟩ => ⟨S2x8x128, .f32⟩
  | .hbm, ⟨6, _⟩ => ⟨S2x8x128, .f32⟩
  | .hbm, ⟨7, _⟩ => ⟨S_, .f32⟩
  | .hbm, ⟨8, _⟩ => ⟨S2x8x128, .f32⟩
  | .hbm, ⟨9, _⟩ => ⟨S2x8x128, .f32⟩
  | .hbm, ⟨10, _⟩ => ⟨S2x8x128, .f32⟩
  | .hbm, ⟨11, _⟩ => ⟨S_, .f32⟩
  | .hbm, ⟨12, _⟩ => ⟨S2x8x128, .f32⟩
  | .hbm, ⟨13, _⟩ => ⟨S2x8x128, .f32⟩
  | .hbm, ⟨14, _⟩ => ⟨S2x8x128, .f32⟩
  | .hbm, ⟨15, _⟩ => ⟨S_, .f32⟩
  | .hbm, ⟨16, _⟩ => ⟨S2x8x128, .f32⟩
  | .hbm, ⟨17, _⟩ => ⟨S2x8x128, .f32⟩
  | .hbm, ⟨18, _⟩ => ⟨S2x8x128, .f32⟩
  | .hbm, ⟨19, _⟩ => ⟨S_, .f32⟩
  | .hbm, ⟨20, _⟩ => ⟨S2x8x128, .f32⟩
  | .hbm, ⟨21, _⟩ => ⟨S2x8x128, .f32⟩
  | .hbm, ⟨22, _⟩ => ⟨S_, .f32⟩
  | .hbm, ⟨23, _⟩ => ⟨S2x8x128, .f32⟩
  | .hbm, ⟨24, _⟩ => ⟨S2x8x128, .f32⟩
  | .hbm, ⟨25, _⟩ => ⟨S2x8x128, .f32⟩
  | .hbm, ⟨26, _⟩ => ⟨S_, .f32⟩
  | .hbm, ⟨27, _⟩ => ⟨S2x8x128, .f32⟩
  | .hbm, ⟨28, _⟩ => ⟨S2x8x128, .f32⟩
  | .hbm, ⟨29, _⟩ => ⟨S2x8x128, .f32⟩
  | .hbm, ⟨30, _⟩ => ⟨S_, .f32⟩
  | .hbm, ⟨31, _⟩ => ⟨S2x8x128, .f32⟩
  | .hbm, ⟨32, _⟩ => ⟨S2x8x128, .f32⟩
  | .hbm, ⟨33, _⟩ => ⟨S2x8x128, .f32⟩
  | .hbm, ⟨34, _⟩ => ⟨S_, .f32⟩
  | .hbm, ⟨35, _⟩ => ⟨S2x8x128, .f32⟩
  | .hbm, ⟨36, _⟩ => ⟨S2x8x128, .f32⟩
  | .hbm, ⟨37, _⟩ => ⟨S16x128, .f32⟩
  | .hbm, ⟨38, _⟩ => ⟨S16x128, .f32⟩
  | .hbm, ⟨39, _⟩ => ⟨S16x128, .f32⟩
  | _, _ => ⟨S2x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel16.lean ====
abbrev S2x256x1024 : Shape := ⟨3, ![2, 256, 1024]⟩
abbrev S512x1024 : Shape := ⟨2, ![512, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel16Ideal.lean ====
abbrev S2x256x1024 : Shape := ⟨3, ![2, 256, 1024]⟩
abbrev S512x1024 : Shape := ⟨2, ![512, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference16Ideal.lean ====
abbrev S2x256x1024 : Shape := ⟨3, ![2, 256, 1024]⟩
abbrev S_ : Shape := ⟨0, ![]⟩
abbrev S512x1024 : Shape := ⟨2, ![512, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | .hbm, ⟨37, _⟩ => ⟨S512x1024, .f32⟩
  | .hbm, ⟨38, _⟩ => ⟨S512x1024, .f32⟩
  | .hbm, ⟨39, _⟩ => ⟨S512x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel17.lean ====
abbrev S2x1024x768 : Shape := ⟨3, ![2, 1024, 768]⟩
abbrev S2048x768 : Shape := ⟨2, ![2048, 768]⟩
abbrev S256x768 : Shape := ⟨2, ![256, 768]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S2x1024x768, .f32⟩
  | .hbm, ⟨4, _⟩ => ⟨S2048x768, .f32⟩
  | .hbm, ⟨5, _⟩ => ⟨S2048x768, .f32⟩
  | .hbm, ⟨6, _⟩ => ⟨S2048x768, .f32⟩
  | .hbm, ⟨7, _⟩ => ⟨S2048x768, .f32⟩
  | .hbm, ⟨8, _⟩ => ⟨S2048x768, .f32⟩
  | .hbm, ⟨9, _⟩ => ⟨S2048x768, .f32⟩
  | .hbm, ⟨10, _⟩ => ⟨S2048x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | _, _ => ⟨S2x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel17Ideal.lean ====
abbrev S2x1024x768 : Shape := ⟨3, ![2, 1024, 768]⟩
abbrev S2048x768 : Shape := ⟨2, ![2048, 768]⟩
abbrev S256x768 : Shape := ⟨2, ![256, 768]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S2x1024x768, .f32⟩
  | .hbm, ⟨4, _⟩ => ⟨S2048x768, .f32⟩
  | .hbm, ⟨5, _⟩ => ⟨S2048x768, .f32⟩
  | .hbm, ⟨6, _⟩ => ⟨S2048x768, .f32⟩
  | .hbm, ⟨7, _⟩ => ⟨S2048x768, .f32⟩
  | .hbm, ⟨8, _⟩ => ⟨S2048x768, .f32⟩
  | .hbm, ⟨9, _⟩ => ⟨S2048x768, .f32⟩
  | .hbm, ⟨10, _⟩ => ⟨S2048x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | _, _ => ⟨S2x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference17Ideal.lean ====
abbrev S2x1024x768 : Shape := ⟨3, ![2, 1024, 768]⟩
abbrev S_ : Shape := ⟨0, ![]⟩
abbrev S2048x768 : Shape := ⟨2, ![2048, 768]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S2x1024x768, .f32⟩
  | .hbm, ⟨4, _⟩ => ⟨S_, .f32⟩
  | .hbm, ⟨5, _⟩ => ⟨S2x1024x768, .f32⟩
  | .hbm, ⟨6, _⟩ => ⟨S2x1024x768, .f32⟩
  | .hbm, ⟨7, _⟩ => ⟨S_, .f32⟩
  | .hbm, ⟨8, _⟩ => ⟨S2x1024x768, .f32⟩
  | .hbm, ⟨9, _⟩ => ⟨S2x1024x768, .f32⟩
  | .hbm, ⟨10, _⟩ => ⟨S2x1024x768, .f32⟩
  | .hbm, ⟨11, _⟩ => ⟨S_, .f32⟩
  | .hbm, ⟨12, _⟩ => ⟨S2x1024x768, .f32⟩
  | .hbm, ⟨13, _⟩ => ⟨S2x1024x768, .f32⟩
  | .hbm, ⟨14, _⟩ => ⟨S2x1024x768, .f32⟩
  | .hbm, ⟨15, _⟩ => ⟨S_, .f32⟩
  | .hbm, ⟨16, _⟩ => ⟨S2x1024x768, .f32⟩
  | .hbm, ⟨17, _⟩ => ⟨S2x1024x768, .f32⟩
  | .hbm, ⟨18, _⟩ => ⟨S2x1024x768, .f32⟩
  | .hbm, ⟨19, _⟩ => ⟨S_, .f32⟩
  | .hbm, ⟨20, _⟩ => ⟨S2x1024x768, .f32⟩
  | .hbm, ⟨21, _⟩ => ⟨S2x1024x768, .f32⟩
  | .hbm, ⟨22, _⟩ => ⟨S_, .f32⟩
  | .hbm, ⟨23, _⟩ => ⟨S2x1024x768, .f32⟩
  | .hbm, ⟨24, _⟩ => ⟨S2x1024x768, .f32⟩
  | .hbm, ⟨25, _⟩ => ⟨S2x1024x768, .f32⟩
  | .hbm, ⟨26, _⟩ => ⟨S_, .f32⟩
  | .hbm, ⟨27, _⟩ => ⟨S2x1024x768, .f32⟩
  | .hbm, ⟨28, _⟩ => ⟨S2x1024x768, .f32⟩
  | .hbm, ⟨29, _⟩ => ⟨S2x1024x768, .f32⟩
  | .hbm, ⟨30, _⟩ => ⟨S_, .f32⟩
  | .hbm, ⟨31, _⟩ => ⟨S2x1024x768, .f32⟩
  | .hbm, ⟨32, _⟩ => ⟨S2x1024x768, .f32⟩
  | .hbm, ⟨33, _⟩ => ⟨S2x1024x768, .f32⟩
  | .hbm, ⟨34, _⟩ => ⟨S_, .f32⟩
  | .hbm, ⟨35, _⟩ => ⟨S2x1024x768, .f32⟩
  | .hbm, ⟨36, _⟩ => ⟨S2x1024x768, .f32⟩
  | .hbm, ⟨37, _⟩ => ⟨S2048x768, .f32⟩
  | .hbm, ⟨38, _⟩ => ⟨S2048x768, .f32⟩
  | .hbm, ⟨39, _⟩ => ⟨S2048x768, .f32⟩
  | _, _ => ⟨S2x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel18.lean ====
abbrev S2x3x256 : Shape := ⟨3, ![2, 3, 256]⟩
abbrev S6x256 : Shape := ⟨2, ![6, 256]⟩

abbrev nBuf : Space → Nat
  | .hbm => 11
  | .vmem => 7
  | .smem => 0
  | _ => 0

abbrev bufTy : (tb : Table) → Fin (tcTables nBuf tb) → BufTy
  | .hbm, ⟨0, _⟩ => ⟨S2x3x256, .f32⟩
  | .hbm, ⟨1, _⟩ => ⟨S2x3x256, .f32⟩
  | .hbm, ⟨2, _⟩ => ⟨S2x3x256, .f32⟩
  | .hbm, ⟨3, _⟩ => ⟨S2x3x256, .f32⟩
  | .hbm, ⟨4, _⟩ => ⟨S6x256, .f32⟩
  | .hbm, ⟨5, _⟩ => ⟨S6x256, .f32⟩
  | .hbm, ⟨6, _⟩ => ⟨S6x256, .f32⟩
  | .hbm, ⟨7, _⟩ => ⟨S6x256, .f32⟩
  | .hbm, ⟨8, _⟩ => ⟨S6x256, .f32⟩
  | .hbm, ⟨9, _⟩ => ⟨S6x256, .f32⟩
  | .hbm, ⟨10, _⟩ => ⟨S6x256, .f32⟩
  | .local _ .vmem, ⟨0, _⟩ => ⟨S6x256, .f32⟩
  | .local _ .vmem, ⟨1, _⟩ => ⟨S6x256, .f32⟩
  | .local _ .vmem, ⟨2, _⟩ => ⟨S6x256, .f32⟩
  | .local _ .vmem, ⟨3, _⟩ => ⟨S6x256, .f32⟩
  | .local _ .vmem, ⟨4, _⟩ => ⟨S6x256, .f32⟩
  | .local _ .vmem, ⟨5, _⟩ => ⟨S6x256, .f32⟩
  | .local _ .vmem, ⟨6, _⟩ => ⟨S6x256, .f32⟩
  | _, _ => ⟨S2x3x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S6x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S6x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S6x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S6x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S6x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S6x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S6x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel18Ideal.lean ====
abbrev S2x3x256 : Shape := ⟨3, ![2, 3, 256]⟩
abbrev S6x256 : Shape := ⟨2, ![6, 256]⟩

abbrev nBuf : Space → Nat
  | .hbm => 11
  | .vmem => 7
  | .smem => 0
  | _ => 0

abbrev bufTy : (tb : Table) → Fin (tcTables nBuf tb) → BufTy
  | .hbm, ⟨0, _⟩ => ⟨S2x3x256, .f32⟩
  | .hbm, ⟨1, _⟩ => ⟨S2x3x256, .f32⟩
  | .hbm, ⟨2, _⟩ => ⟨S2x3x256, .f32⟩
  | .hbm, ⟨3, _⟩ => ⟨S2x3x256, .f32⟩
  | .hbm, ⟨4, _⟩ => ⟨S6x256, .f32⟩
  | .hbm, ⟨5, _⟩ => ⟨S6x256, .f32⟩
  | .hbm, ⟨6, _⟩ => ⟨S6x256, .f32⟩
  | .hbm, ⟨7, _⟩ => ⟨S6x256, .f32⟩
  | .hbm, ⟨8, _⟩ => ⟨S6x256, .f32⟩
  | .hbm, ⟨9, _⟩ => ⟨S6x256, .f32⟩
  | .hbm, ⟨10, _⟩ => ⟨S6x256, .f32⟩
  | .local _ .vmem, ⟨0, _⟩ => ⟨S6x256, .f32⟩
  | .local _ .vmem, ⟨1, _⟩ => ⟨S6x256, .f32⟩
  | .local _ .vmem, ⟨2, _⟩ => ⟨S6x256, .f32⟩
  | .local _ .vmem, ⟨3, _⟩ => ⟨S6x256, .f32⟩
  | .local _ .vmem, ⟨4, _⟩ => ⟨S6x256, .f32⟩
  | .local _ .vmem, ⟨5, _⟩ => ⟨S6x256, .f32⟩
  | .local _ .vmem, ⟨6, _⟩ => ⟨S6x256, .f32⟩
  | _, _ => ⟨S2x3x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S6x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S6x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S6x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S6x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S6x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S6x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S6x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference18Ideal.lean ====
abbrev S2x3x256 : Shape := ⟨3, ![2, 3, 256]⟩
abbrev S_ : Shape := ⟨0, ![]⟩
abbrev S6x256 : Shape := ⟨2, ![6, 256]⟩

abbrev nBuf : Space → Nat
  | .hbm => 40
  | .vmem => 0
  | .smem => 0
  | _ => 0

abbrev bufTy : (tb : Table) → Fin (tcTables nBuf tb) → BufTy
  | .hbm, ⟨0, _⟩ => ⟨S2x3x256, .f32⟩
  | .hbm, ⟨1, _⟩ => ⟨S2x3x256, .f32⟩
  | .hbm, ⟨2, _⟩ => ⟨S2x3x256, .f32⟩
  | .hbm, ⟨3, _⟩ => ⟨S2x3x256, .f32⟩
  | .hbm, ⟨4, _⟩ => ⟨S_, .f32⟩
  | .hbm, ⟨5, _⟩ => ⟨S2x3x256, .f32⟩
  | .hbm, ⟨6, _⟩ => ⟨S2x3x256, .f32⟩
  | .hbm, ⟨7, _⟩ => ⟨S_, .f32⟩
  | .hbm, ⟨8, _⟩ => ⟨S2x3x256, .f32⟩
  | .hbm, ⟨9, _⟩ => ⟨S2x3x256, .f32⟩
  | .hbm, ⟨10, _⟩ => ⟨S2x3x256, .f32⟩
  | .hbm, ⟨11, _⟩ => ⟨S_, .f32⟩
  | .hbm, ⟨12, _⟩ => ⟨S2x3x256, .f32⟩
  | .hbm, ⟨13, _⟩ => ⟨S2x3x256, .f32⟩
  | .hbm, ⟨14, _⟩ => ⟨S2x3x256, .f32⟩
  | .hbm, ⟨15, _⟩ => ⟨S_, .f32⟩
  | .hbm, ⟨16, _⟩ => ⟨S2x3x256, .f32⟩
  | .hbm, ⟨17, _⟩ => ⟨S2x3x256, .f32⟩
  | .hbm, ⟨18, _⟩ => ⟨S2x3x256, .f32⟩
  | .hbm, ⟨19, _⟩ => ⟨S_, .f32⟩
  | .hbm, ⟨20, _⟩ => ⟨S2x3x256, .f32⟩
  | .hbm, ⟨21, _⟩ => ⟨S2x3x256, .f32⟩
  | .hbm, ⟨22, _⟩ => ⟨S_, .f32⟩
  | .hbm, ⟨23, _⟩ => ⟨S2x3x256, .f32⟩
  | .hbm, ⟨24, _⟩ => ⟨S2x3x256, .f32⟩
  | .hbm, ⟨25, _⟩ => ⟨S2x3x256, .f32⟩
  | .hbm, ⟨26, _⟩ => ⟨S_, .f32⟩
  | .hbm, ⟨27, _⟩ => ⟨S2x3x256, .f32⟩
  | .hbm, ⟨28, _⟩ => ⟨S2x3x256, .f32⟩
  | .hbm, ⟨29, _⟩ => ⟨S2x3x256, .f32⟩
  | .hbm, ⟨30, _⟩ => ⟨S_, .f32⟩
  | .hbm, ⟨31, _⟩ => ⟨S2x3x256, .f32⟩
  | .hbm, ⟨32, _⟩ => ⟨S2x3x256, .f32⟩
  | .hbm, ⟨33, _⟩ => ⟨S2x3x256, .f32⟩
  | .hbm, ⟨34, _⟩ => ⟨S_, .f32⟩
  | .hbm, ⟨35, _⟩ => ⟨S2x3x256, .f32⟩
  | .hbm, ⟨36, _⟩ => ⟨S2x3x256, .f32⟩
  | .hbm, ⟨37, _⟩ => ⟨S6x256, .f32⟩
  | .hbm, ⟨38, _⟩ => ⟨S6x256, .f32⟩
  | .hbm, ⟨39, _⟩ => ⟨S6x256, .f32⟩
  | _, _ => ⟨S2x3x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel19.lean ====
abbrev S1024 : Shape := ⟨1, ![1024]⟩
abbrev S1x1024 : Shape := ⟨2, ![1, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference19Ideal.lean ====
abbrev S1024 : Shape := ⟨1, ![1024]⟩
abbrev S_ : Shape := ⟨0, ![]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S1x1024, .f32⟩
  | .hbm, ⟨38, _⟩ => ⟨S1x1024, .f32⟩
  | .hbm, ⟨39, _⟩ => ⟨S1x1024, .f32⟩
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel20.lean ====
abbrev S16384x1024 : Shape := ⟨2, ![16384, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S1 : Shape := ⟨1, ![1]⟩
abbrev S1x1 : Shape := ⟨2, ![1, 1]⟩

abbrev nBuf : Space → Nat
  | .hbm => 7
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S16384x1024, .f32⟩
  | .hbm, ⟨4, _⟩ => ⟨S16384x1024, .bf16⟩
  | .hbm, ⟨5, _⟩ => ⟨S1x1024, .f32⟩
  | .hbm, ⟨6, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S1x1024, .f32⟩
  | .local _ .vmem, ⟨10, _⟩ => ⟨S1x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v57 : BitVec 1 := Scalar.cmpi .eq arg0 c0_i32
  let v58 : BitVec 32 := Scalar.extui v57
  let c0_i32_22 : BitVec 32 := 0#32
  let v59 : BitVec 1 := Scalar.cmpi .ne v58 c0_i32_22
  v59

def k0_cond2 (i : grid0.Coords) : BitVec 1 :=
  let arg0 : BitVec 32 := BitVec.ofNat 32 (i 0).val
  let c0_i32_23 : BitVec 32 := 0#32
  let v60 : BitVec 1 := Scalar.cmpi .ne arg0 c0_i32_23
  let v61 : BitVec 32 := Scalar.extui v60
  let c0_i32_24 : BitVec 32 := 0#32
  let v62 : BitVec 1 := Scalar.cmpi .ne v61 c0_i32_24
  v62

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference20Ideal.lean ====
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x128 : Shape := ⟨2, ![1, 128]⟩

abbrev nBuf : Space → Nat
  | .hbm => 70
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384, .f32⟩
  | .hbm, ⟨29, _⟩ => ⟨S_, .f32⟩
  | .hbm, ⟨30, _⟩ => ⟨S16384, .f32⟩
  | .hbm, ⟨31, _⟩ => ⟨S16384, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S16384, .f32⟩
  | .hbm, ⟨40, _⟩ => ⟨S_, .f32⟩
  | .hbm, ⟨41, _⟩ => ⟨S16384, .f32⟩
  | .hbm, ⟨42, _⟩ => ⟨S16384, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S16384, .f32⟩
  | .hbm, ⟨54, _⟩ => ⟨S16384x1, .f32⟩
  | .hbm, ⟨55, _⟩ => ⟨S16384x1024, .f32⟩
  | .hbm, ⟨56, _⟩ => ⟨S16384x1024, .f32⟩
  | .hbm, ⟨57, _⟩ => ⟨S16384x1, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S_, .f32⟩
  | .hbm, ⟨62, _⟩ => ⟨S16384, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S16384x1024, .bf16⟩
  | .hbm, ⟨69, _⟩ => ⟨S1x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== Proof.DownKernel.lean ====
/-
  The kernel of the gradient of `w_down` (`Kernel2Ideal`): one point of its grid adds, into the scratch it carries, the
  product of a block of rows of the gated activations with the block of the cotangent in the same rows; the last of the
  eight points of a run writes half of the scratch back. Here: what each case of the body leaves, in closed form; then
  the scratch after eight points as one sum; then the result array, index by index.
-/
module

public import proofs.«01_k».proof.Proof.Gen.Kernel2Ideal.Value
public import Idealize.ShloMosaic.Lib.Pointwise
public import Idealize.ShloMosaic.Lib.StableHlo.ReadAt
public import Idealize.ShloMosaic.Lib.Tactic

@[expose] public section

noncomputable section

open Idealize.ShloMosaic Idealize.ShloMosaic.TcCoe Idealize.SL.Sem
open Idealize.ShloMosaic.Pipeline (Dat)

namespace Cert.Kernel2Ideal.Hand

open Cert.Kernel2Ideal Cert.Kernel2Ideal.Gen

variable {F : FTy → Type} [FloatOps F]

/-- The two-axis and three-axis zero offsets, as constant functions. -/
theorem off2 : (![0, 0] : Fin 2 → Nat) = fun _ => 0 := funext fun a => by fin_cases a <;> rfl
theorem off3 : (![0, 0, 0] : Fin 3 → Nat) = fun _ => 0 := funext fun a => by fin_cases a <;> rfl

/-- The first point of a run stores the block product in the scratch. -/
theorem scratch_first (c : Dev nD) (i : grid0.Coords) (arg2 : Memref sig .tc .vmem S1x2048x704 .bf16) (harg2 : arg2.IsWhole)
    (arg3 : Memref sig .tc .vmem S2048x1024 .bf16) (harg3 : arg3.IsWhole) (arg4 : Memref sig .tc .vmem S1x704x1024 .bf16)
    (harg4 : arg4.IsWhole) (arg5 : Memref sig .tc .vmem S704x1024 .f32) (harg5 : arg5.IsWhole)
    (hc0 : cond0_0 i) (hc1 : ¬cond0_1 i) (hc2 : ¬cond0_2 i) (x0 : Vec F S1x2048x704 .bf16) (x1 : Vec F S2048x1024 .bf16) :
    sout0_A_0 c i arg2 harg2 arg3 harg3 arg4 harg4 arg5 harg5 hc0 hc1 hc2 x0 x1 = k0_pay1 x0 x1 := by
  unfold sout0_A_0
  rw [View.read_writes_eq_canon _ _ _ (scover0_A_0 c i arg2 harg2 arg3 harg3 arg4 harg4 arg5 harg5 hc0 hc1 hc2 x0 x1)]
  unfold kernelRun0_A
  dsimp only
  sl_unfold_words
  rw [View.canon_unit_zero off2]
  unfold k0_pay2
  simp only [View.readAt_eq_ld, harg2.read_unread, harg3.read_unread, View.ld_unit_zero (S := S704x1024) off2,
    View.ld_unit_zero (S := S2048x1024) off2, View.ld_unit_zero (S := S1x2048x704) off3, shapeCast_self]

/-- A later point adds the block product to what the scratch held. -/
theorem scratch_next (c : Dev nD) (i : grid0.Coords) (arg2 : Memref sig .tc .vmem S1x2048x704 .bf16) (harg2 : arg2.IsWhole)
    (arg3 : Memref sig .tc .vmem S2048x1024 .bf16) (harg3 : arg3.IsWhole) (arg4 : Memref sig .tc .vmem S1x704x1024 .bf16)
    (harg4 : arg4.IsWhole) (arg5 : Memref sig .tc .vmem S704x1024 .f32) (harg5 : arg5.IsWhole)
    (hc0 : ¬cond0_0 i) (hc1 : cond0_1 i) (hc2 : ¬cond0_2 i) (x0 : Vec F S1x2048x704 .bf16) (x1 : Vec F S2048x1024 .bf16)
    (xs : Vec F S704x1024 .f32) :
    sout0_B_0 c i arg2 harg2 arg3 harg3 arg4 harg4 arg5 harg5 hc0 hc1 hc2 x0 x1 xs = addf xs (k0_pay1 x0 x1) := by
  unfold sout0_B_0
  rw [View.read_writes_eq_canon _ _ _ (scover0_B_0 c i arg2 harg2 arg3 harg3 arg4 harg4 arg5 harg5 hc0 hc1 hc2 x0 x1 xs)]
  unfold kernelRun0_B
  dsimp only
  sl_unfold_words
  rw [View.canon_unit_zero off2]
  unfold k0_pay3
  simp only [View.readAt_eq_ld, harg2.read_unread, harg3.read_unread, harg5.read_unread, View.ld_unit_zero (S := S704x1024) off2,
    View.ld_unit_zero (S := S2048x1024) off2, View.ld_unit_zero (S := S1x2048x704) off3, shapeCast_self]

/-- The last point of a run writes back half of the scratch with its own block product added. -/
theorem result_last (c : Dev nD) (i : grid0.Coords) (arg2 : Memref sig .tc .vmem S1x2048x704 .bf16) (harg2 : arg2.IsWhole)
    (arg3 : Memref sig .tc .vmem S2048x1024 .bf16) (harg3 : arg3.IsWhole) (arg4 : Memref sig .tc .vmem S1x704x1024 .bf16)
    (harg4 : arg4.IsWhole) (arg5 : Memref sig .tc .vmem S704x1024 .f32) (harg5 : arg5.IsWhole)
    (hc0 : ¬cond0_0 i) (hc1 : cond0_1 i) (hc2 : cond0_2 i) (x0 : Vec F S1x2048x704 .bf16) (x1 : Vec F S2048x1024 .bf16)
    (xs : Vec F S704x1024 .f32) :
    out0_C_2 c i arg2 harg2 arg3 harg3 arg4 harg4 arg5 harg5 hc0 hc1 hc2 x0 x1 xs = k0_pay4 (addf xs (k0_pay1 x0 x1)) := by
  unfold out0_C_2
  rw [View.read_writes_eq_canon _ _ _ (cover0_C_2 c i arg2 harg2 arg3 harg3 arg4 harg4 arg5 harg5 hc0 hc1 hc2 x0 x1 xs)]
  unfold kernelRun0_C
  dsimp only
  sl_unfold_words
  rw [View.canon_unit_zero off3, View.readCov_unit_zero (S := S704x1024) _ off2]
  unfold k0_pay3
  simp only [View.readAt_eq_ld, harg2.read_unread, harg3.read_unread, harg5.read_unread, View.ld_unit_zero (S := S704x1024) off2,
    View.ld_unit_zero (S := S2048x1024) off2, View.ld_unit_zero (S := S1x2048x704) off3, shapeCast_self]

end Cert.Kernel2Ideal.Hand
-- ==== Proof.Sums.lean ====
/-
  Finite sums over the extended reals: a sum over an axis cut into equal blocks, and what may be taken out of a sum.
-/
module

public import Idealize.ShloMosaic.PureOps.Ideal.Laws
public import Mathlib.Algebra.BigOperators.Fin
public import Mathlib.Data.EReal.Operations
public import Mathlib.Data.EReal.Inv

@[expose] public section

namespace Cert.Sums

/-- A sum over `A · B` rows, taken `B` rows at a time. -/
theorem sum_blocks {N : ℕ} (A B : ℕ) (h : A * B = N) (F : Fin N → EReal) :
    ∑ r : Fin N, F r = ∑ s : Fin A, ∑ k : Fin B, F ⟨B * s.val + k.val, by
      have hs := s.isLt; have hk := k.isLt
      calc B * s.val + k.val < B * s.val + B := by omega
        _ = B * (s.val + 1) := by ring
        _ ≤ B * A := Nat.mul_le_mul_left _ hs
        _ = N := by rw [Nat.mul_comm]; exact h⟩ := by
  subst h
  rw [← Equiv.sum_comp finProdFinEquiv, Fintype.sum_prod_type]
  refine Finset.sum_congr rfl fun s _ => Finset.sum_congr rfl fun k _ => congrArg F (Fin.ext ?_)
  simp [finProdFinEquiv, Nat.add_comm]

/-- A non-negative real factor is taken out of a sum, whatever the terms are. -/
theorem mul_sum_real {ι : Type*} (s : Finset ι) (a : ℝ) (ha : 0 ≤ a) (F : ι → EReal) :
    (a : EReal) * ∑ i ∈ s, F i = ∑ i ∈ s, (a : EReal) * F i := by
  classical
  induction s using Finset.induction_on with
  | empty => simp
  | insert i s hi ih =>
    rw [Finset.sum_insert hi, Finset.sum_insert hi, ← ih]
    exact EReal.left_distrib_of_nonneg_of_ne_top (EReal.coe_nonneg.mpr ha) (EReal.coe_ne_top a) _ _

/-- The word of `0.5` is one half. -/
theorem ofBits_half : Idealize.ShloMosaic.Ideal.ofBits .f32 0x3F000000#32 = (((1 : ℝ) / 2 : ℝ) : EReal) := by
  simp [Idealize.ShloMosaic.Ideal.ofBits, Idealize.ShloMosaic.Ideal.ieee, -EReal.coe_mul]
  norm_num

end Cert.Sums
-- ==== Proof.DownFold.lean ====
/-
  The scratch of the `w_down` gradient's kernel after the eight points of a run, and the result array, at an index: one
  sum over the eight blocks of rows of the sums over the rows of a block, at the extended reals.
-/
module

public import proofs.«01_k».proof.Proof.DownKernel
public import proofs.«01_k».proof.Proof.Sums

@[expose] public section

set_option maxRecDepth 16384

noncomputable section

open Idealize.ShloMosaic Idealize.ShloMosaic.TcCoe Idealize.SL.Sem
open Idealize.ShloMosaic.Pipeline (Dat)

namespace Cert.Kernel2Ideal.Hand

open Cert.Kernel2Ideal Cert.Kernel2Ideal.Gen Cert.Kernel2Ideal.Value

/-- The block product at an index: the sum over the 2048 rows of the block. -/
theorem product_apply (x0 : Vec Ideal S1x2048x704 .bf16) (x1 : Vec Ideal S2048x1024 .bf16) (f : Fin 704) (d : Fin 1024) :
    k0_pay1 (F := Ideal) x0 x1 (ix2 f d) = ∑ k : Fin 2048, x0 (ix3 0 k f) * x1 (ix2 k d) := by
  pointwise [k0_pay1]

/-- What is written back, at an index: the word `0.5` times the scratch. -/
theorem half_apply (v : Vec Ideal S704x1024 .f32) (f : Fin 704) (d : Fin 1024) :
    k0_pay4 (F := Ideal) v (ix3 0 f d) = Ideal.ofBits .f32 0x3F000000#32 * v (ix2 f d) := by
  pointwise [k0_pay4]

variable (m : (ℓ : Loc nD τ sig) → Buf (Elt Ideal) ℓ)

/-- The two arrays the region reads: the gated activations as a stack of four blocks of columns, and the cotangent. -/
abbrev sArr (c : Dev nD) : Vec Ideal S4x16384x704 .bf16 := V m c main_v25
abbrev gArr (c : Dev nD) : Vec Ideal S16384x1024 .bf16 := V m c main_v26

/-- Where the two operand windows stand at point `t`. -/
theorem index_s : ∀ t : Fin grid0.N, win0_0.index t 0 = t.val / 8 ∧ win0_0.index t 1 = t.val % 8 ∧ win0_0.index t 2 = 0 := by
  decide +kernel
theorem index_g : ∀ t : Fin grid0.N, win0_1.index t 0 = t.val % 8 ∧ win0_1.index t 1 = 0 := by
  decide +kernel

/-- The block of gated activations at point `t`, at an index. -/
theorem block_s (c : Dev nD) (t : Fin cfg0.N) (k : Fin 2048) (f : Fin 704) (n : Fin 4) (r : Fin 16384)
    (hn : n.val = t.val / 8) (hr : r.val = 2048 * (t.val % 8) + k.val) :
    iblk m c 0 t (ix3 0 k f) = V m c main_v25 (ix3 n r f) := by
  have hi := index_s t
  unfold iblk
  rw [View.read_apply]
  refine congrArg (V m c main_v25) ?_
  funext a
  apply Fin.ext
  match a with
  | ⟨0, _⟩ => show win0_0.index t 0 * 1 + 1 * 0 = n.val; omega
  | ⟨1, _⟩ => show win0_0.index t 1 * 2048 + 1 * k.val = r.val; omega
  | ⟨2, _⟩ => show win0_0.index t 2 * 704 + 1 * f.val = f.val; omega

/-- The block of the cotangent at point `t`, at an index. -/
theorem block_g (c : Dev nD) (t : Fin cfg0.N) (k : Fin 2048) (d : Fin 1024) (r : Fin 16384)
    (hr : r.val = 2048 * (t.val % 8) + k.val) :
    iblk m c 1 t (ix2 k d) = V m c main_v26 (ix2 r d) := by
  have hi := index_g t
  unfold iblk
  rw [View.read_apply]
  refine congrArg (V m c main_v26) ?_
  funext a
  apply Fin.ext
  match a with
  | ⟨0, _⟩ => show win0_1.index t 0 * 2048 + 1 * k.val = r.val; omega
  | ⟨1, _⟩ => show win0_1.index t 1 * 1024 + 1 * d.val = d.val; omega

/-- What point `n` of the grid adds to the scratch (nothing past the grid). -/
def addend (c : Dev nD) (n : ℕ) : S704x1024.Idx → EReal := fun i =>
  if h : n < cfg0.N then k0_pay1 (F := Ideal) (iblk m c 0 ⟨n, h⟩) (iblk m c 1 ⟨n, h⟩) i else 0

/-- The scratch after point `j` of a run (the last point of the run aside): the sum of the addends so far. -/
theorem scratch_sum (c : Dev nD) (b j : ℕ) (hb : b % 8 = 0) (hj : j < 7) (h : b + j < cfg0.N) (i : S704x1024.Idx) :
    (outsAt0 m c (b + j) h).2 i = ∑ s ∈ Finset.range (j + 1), addend m c (b + s) i := by
  have e := soutsAt0_0_eq m c ⟨b + j, h⟩
  have hd : 8 * ((b + j) / 8) = b := by omega
  have hm : (b + j) % 8 = j := by omega
  dsimp only at e
  simp only [hd, hm] at e
  rw [e, Pipeline.accAt_add_apply _ _ (fun _ => (0 : EReal)) (addend m c) b 6 ?_ ?_ j (by omega) h i, zero_add]
  · intro hb' i
    rw [zero_add]
    unfold scAt0_0 addend
    rw [dif_pos hb, dif_neg (by omega), dif_neg (by omega), dif_pos hb', scratch_first]
  · intro n hn acc i h1 h2
    unfold scAt0_0 addend
    rw [dif_neg (by omega), dif_pos (by omega), dif_neg (by omega), dif_pos hn, scratch_next]
    rfl

/-- The kernel's result at an index: half of the sum, over the eight blocks of rows, of the block products. -/
theorem result_apply (c : Dev nD) (n : Fin 4) (f : Fin 704) (d : Fin 1024) :
    G2 m c (ix3 n f d) = Ideal.ofBits .f32 0x3F000000#32 * ∑ s ∈ Finset.range 8, addend m c (8 * n.val + s) (ix2 f d) := by
  have hN : cfg0.N = 32 := N_0
  have hp : pt2Of (ix3 n f d) = 8 * n.val + 7 := by
    show 8 * (1 * (n.val / 1 - 0) + 1 * (f.val / 704 - 0) + 1 * (d.val / 1024 - 0)) + 7 = _
    omega
  have hl : loc2Of (ix3 n f d) = ix3 0 f d := by
    funext a
    apply Fin.ext
    match a with
    | ⟨0, _⟩ => show n.val % 1 = 0; omega
    | ⟨1, _⟩ => show f.val % 704 = f.val; omega
    | ⟨2, _⟩ => show d.val % 1024 = d.val; omega
  have hb : pt2Of (ix3 n f d) < cfg0.N := by rw [hp]; omega
  have hb' : 8 * n.val + 7 < cfg0.N := by omega
  unfold G2
  rw [dif_pos hb, ← outsAt0_sweep m c _ hb, hl]
  simp only [hp]
  rw [outsAt0_C m c ⟨8 * n.val + 7, hb'⟩ (by dsimp only; omega) (by dsimp only; omega) (by dsimp only; omega), result_last]
  show k0_pay4 (F := Ideal) _ (ix3 0 f d) = _
  rw [half_apply]
  refine congrArg _ ?_
  rw [Finset.sum_range_succ]
  refine congrArg₂ (· + ·) (scratch_sum m c (8 * n.val) 6 (by omega) (by omega) _ _) ?_
  unfold addend
  rw [dif_pos hb']

/-- The addend of point `s` of run `n`, over the two arrays the region reads. -/
theorem addend_apply (c : Dev nD) (n : Fin 4) (s : Fin 8) (f : Fin 704) (d : Fin 1024) :
    addend m c (8 * n.val + s.val) (ix2 f d) = ∑ k : Fin 2048,
      sArr m c (ix3 n ⟨2048 * s.val + k.val, by omega⟩ f) * gArr m c (ix2 ⟨2048 * s.val + k.val, by omega⟩ d) := by
  have hN : cfg0.N = 32 := N_0
  unfold addend
  rw [dif_pos (by omega), product_apply]
  refine Finset.sum_congr rfl fun k _ => ?_
  rw [block_s m c _ k f n ⟨2048 * s.val + k.val, by omega⟩ (by dsimp only; omega) (by dsimp only; omega),
    block_g m c _ k d ⟨2048 * s.val + k.val, by omega⟩ (by dsimp only; omega)]

/-- The kernel's result at an index, over the two arrays the region reads: half of one sum over all the rows. -/
theorem result_rows (c : Dev nD) (n : Fin 4) (f : Fin 704) (d : Fin 1024) :
    G2 m c (ix3 n f d) = Ideal.ofBits .f32 0x3F000000#32 * ∑ r : Fin 16384,
      sArr m c (ix3 n r f) * gArr m c (ix2 r d) := by
  rw [result_apply, Finset.sum_range]
  refine congrArg _ ?_
  rw [Cert.Sums.sum_blocks 8 2048 rfl]
  exact Finset.sum_congr rfl fun s _ => addend_apply m c n s f d

end Cert.Kernel2Ideal.Hand
-- ==== Proof.DownHost.lean ====
/-
  The two arrays that the host prepares for the `w_down` gradient's kernel, at an index: the stack of column blocks of
  the gated activations is the reference's own array of them, and the cotangent is the argument.
-/
module

public import proofs.«01_k».proof.Proof.DownFold
public import proofs.«01_k».proof.Proof.Gen.Reference2Ideal.Read

@[expose] public section

set_option maxRecDepth 16384

noncomputable section

open Idealize.ShloMosaic Idealize.ShloMosaic.TcCoe Idealize.SL.Sem

namespace Cert.Kernel2Ideal.Hand

open Cert.Kernel2Ideal Cert.Kernel2Ideal.Gen

variable (m : (ℓ : Loc nD τ sig) → Buf (Elt Ideal) ℓ)

/-- The gated activations before they are cut into blocks: what the reference computes from the same arguments. -/
theorem gated_eq (c : Dev nD) : V m c main_v15 = Cert.Reference2Ideal.Read.val_main_v15 (F := Ideal)
    (m (c.tc.loc main_arg0)) (m (c.tc.loc main_arg1)) (m (c.tc.loc main_arg2)) (m (c.tc.loc main_arg3)) := by
  unfold V
  simp only [List.flatten_cons, List.flatten_nil, List.append_nil]
  after_reads_simp
  rfl

/-- Four arrays, stacked. -/
def stackOf (a b c d : Vec Ideal S1x16384x704 .f32) : Vec Ideal S4x16384x704 .f32 :=
  concatenate S4x16384x704 0 [⟨S1x16384x704, a⟩, ⟨S1x16384x704, b⟩, ⟨S1x16384x704, c⟩, ⟨S1x16384x704, d⟩]
    concatenates_S1x16384x704_S1x16384x704_S1x16384x704_S1x16384x704_S4x16384x704_d0

/-- Four blocks of 704 columns of an array, stacked. -/
def stack (y : Vec Ideal S16384x2816 .f32) : Vec Ideal S4x16384x704 .f32 := stackOf
  (broadcastInDim S1x16384x704 ![1, 2] bcast_S16384x704_S1x16384x704_1_2 (extractStridedSlice S16384x704 ![0, 0] y slices_S16384x2816_S16384x704_0_0))
  (broadcastInDim S1x16384x704 ![1, 2] bcast_S16384x704_S1x16384x704_1_2 (extractStridedSlice S16384x704 ![0, 704] y slices_S16384x2816_S16384x704_0_704))
  (broadcastInDim S1x16384x704 ![1, 2] bcast_S16384x704_S1x16384x704_1_2 (extractStridedSlice S16384x704 ![0, 1408] y slices_S16384x2816_S16384x704_0_1408))
  (broadcastInDim S1x16384x704 ![1, 2] bcast_S16384x704_S1x16384x704_1_2 (extractStridedSlice S16384x704 ![0, 2112] y slices_S16384x2816_S16384x704_0_2112))

/-- The stack at an index: block `n` holds columns `704 n` to `704 n + 703`. -/
theorem stack_apply (y : Vec Ideal S16384x2816 .f32) (n : Fin 4) (r : Fin 16384) (f : Fin 704) :
    stack y (ix3 n r f) = y (ix2 r ⟨704 * n.val + f.val, by omega⟩) := by
  unfold stack stackOf
  pointwise
  fin_vals n with hn
  all_goals simp only [hn, Nat.reduceSub, Nat.reduceLT, ↓reduceDIte, ↓reduceIte, Nat.mul_zero, Nat.mul_one, Nat.zero_add, Nat.reduceMul]

/-- The contents at the region: the last stretch of host operations after the stretches before it. -/
theorem entry_split (c : Dev nD) (b : Ref sig .tc) : V m c b
    = StableHlo.after hostOps0_2 (StableHlo.after (hostOps0 ++ hostOps0_1) fun b => m (c, b)) b := by
  unfold V
  simp only [List.flatten_cons, List.flatten_nil, List.append_nil]
  rw [← List.append_assoc, StableHlo.after_append]

/-- The stack the region reads is that of the gated activations. -/
theorem sArr_eq (c : Dev nD) : sArr m c = stack (V m c main_v15) := by
  unfold sArr
  rw [entry_split, entry_split]
  generalize StableHlo.after (hostOps0 (F := Ideal) ++ hostOps0_1) _ = W
  unfold stack
  after_reads_simp
  show stackOf (StableHlo.upto hostOps0_2 W 9 (Proc.devRef .tc main_v20)) (StableHlo.upto hostOps0_2 W 9 (Proc.devRef .tc main_v21))
    (StableHlo.upto hostOps0_2 W 9 (Proc.devRef .tc main_v22)) (StableHlo.upto hostOps0_2 W 9 (Proc.devRef .tc main_v23)) = _
  after_reads_simp

/-- The cotangent at an index. -/
theorem gArr_apply (c : Dev nD) (r : Fin 16384) (d : Fin 1024) :
    gArr m c (ix2 r d) = m (c.tc.loc main_arg5) (ix2 r d) := by
  unfold gArr V
  after_reads_simp
  rfl

/-- The reference's result at an index: the sum over all the rows of half the cotangent times the gated activations. -/
theorem ref_apply (x0 : Vec Ideal S16384x1024 .f32) (x1 : Vec Ideal S1x1024 .f32) (x2 x3 : Vec Ideal S1024x2816 .f32)
    (x5 : Vec Ideal S16384x1024 .f32) (n : Fin 4) (f : Fin 704) (d : Fin 1024) :
    Cert.Reference2Ideal.Read.val_main_v25 (F := Ideal) x0 x1 x2 x3 x5 (ix3 n f d)
      = ∑ r : Fin 16384, (Ideal.ofBits .f32 0x3F000000#32 * x5 (ix2 r d))
          * Cert.Reference2Ideal.Read.val_main_v15 (F := Ideal) x0 x1 x2 x3 (ix2 r ⟨704 * n.val + f.val, by omega⟩) := by
  unfold Cert.Reference2Ideal.Read.val_main_v25 Cert.Reference2Ideal.Read.val_main_v24 Cert.Reference2Ideal.Read.val_main_v23
    Cert.Reference2Ideal.Read.val_main_v22 Cert.Reference2Ideal.Read.val_main_v21 Cert.Reference2Ideal.Read.val_main_v20
    Cert.Reference2Ideal.Read.val_main_cst_3
  generalize Cert.Reference2Ideal.Read.val_main_v15 (F := Ideal) x0 x1 x2 x3 = y
  pointwise
  simp only [Nat.mul_comm (n : ℕ) 704]

end Cert.Kernel2Ideal.Hand
-- ==== Proof.DownEq.lean ====
/-
  The gradient of `w_down`: the kernel and the reference end with equal results. The kernel halves one sum of products
  over the rows; the reference sums the products of half the cotangent. Half is a non-negative real, so it moves through
  the sum whatever the terms are, and no hypothesis on the arguments is needed.
-/
module

public import proofs.«01_k».proof.Proof.DownHost
public import proofs.«01_k».proof.Defs

@[expose] public section

set_option maxRecDepth 16384

noncomputable section

open Idealize.ShloMosaic Idealize.ShloMosaic.TcCoe Idealize.SL.Sem

namespace Cert.Kernel2Ideal.Hand

open Cert.Kernel2Ideal Cert.Kernel2Ideal.Gen

/-- Half of the sum over the rows, over the arrays the host prepared, is the reference's sum. -/
theorem sum_eq (m : (ℓ : Loc nD τ sig) → Buf (Elt Ideal) ℓ) (c : Dev nD) (n : Fin 4) (f : Fin 704) (d : Fin 1024) :
    (Ideal.ofBits .f32 0x3F000000#32 * ∑ r : Fin 16384, sArr m c (ix3 n r f) * gArr m c (ix2 r d) : EReal)
      = ∑ r : Fin 16384, (Ideal.ofBits .f32 0x3F000000#32 * (m (c.tc.loc main_arg5) (ix2 r d) : EReal))
          * Cert.Reference2Ideal.Read.val_main_v15 (F := Ideal) (m (c.tc.loc main_arg0)) (m (c.tc.loc main_arg1))
              (m (c.tc.loc main_arg2)) (m (c.tc.loc main_arg3)) (ix2 r ⟨704 * n.val + f.val, by omega⟩) := by
  rw [Cert.Sums.ofBits_half, Cert.Sums.mul_sum_real _ _ (by norm_num)]
  refine Finset.sum_congr rfl fun r _ => ?_
  rw [sArr_eq, stack_apply, gated_eq, gArr_apply, mul_assoc]
  exact congrArg _ (mul_comm _ _)

/-- The kernel's result is the reference's function of the same arguments. -/
theorem result_eq (m : (ℓ : Loc nD τ sig) → Buf (Elt Ideal) ℓ) (c : Dev nD) :
    Cert.Kernel2Ideal.Value.G2 m c = Cert.Reference2Ideal.Read.val_main_v25 (F := Ideal)
      (m (c.tc.loc main_arg0)) (m (c.tc.loc main_arg1)) (m (c.tc.loc main_arg2)) (m (c.tc.loc main_arg3)) (m (c.tc.loc main_arg5)) := by
  funext i
  obtain ⟨n, f, d, rfl⟩ : ∃ (n : Fin 4) (f : Fin 704) (d : Fin 1024), i = ix3 n f d := ⟨i 0, i 1, i 2, eq_ix3 i⟩
  exact (result_rows m c n f d).trans ((sum_eq m c n f d).trans (ref_apply _ _ _ _ _ n f d).symm)

/-- The claim for the gradient of `w_down`. -/
theorem algebraic : Cert.algebraic_Kernel2Ideal_Reference2Ideal := by
  intro m g m' g' _ hagree
  refine ⟨fun c => Cert.Kernel2Ideal.Value.G2 m c, Cert.Kernel2Ideal.Value.run (F := Ideal) m g, ?_⟩
  refine (θ_run Cert.Reference2Ideal.defs _ _).mono (fun _ h c => ?_) (Cert.Reference2Ideal.Value.run (F := Ideal) m' g')
  obtain ⟨h0, h1, h2, h3, h4, h5⟩ := hagree c
  refine ⟨((h c).1.trans (Cert.Reference2Ideal.Read.val_main_v25_eq ..)).trans ?_, (h c).2⟩
  rw [h0, h1, h2, h3, h5]
  exact (result_eq m c).symm

end Cert.Kernel2Ideal.Hand
-- ==== Proof.GateUpKernel.lean ====
/-
  The kernel of the gradients of `w_gate` and `w_up` (`Kernel3Ideal`): one point of its grid adds, into the two scratches
  it carries, the products of a block of rows of the hidden activations with the blocks of the two branch cotangents in
  the same rows; the last of the eight points of a run writes the scratches back. Here: what each case of the body leaves.
-/
module

public import proofs.«01_k».proof.Proof.Gen.Kernel3Ideal.Value
public import Idealize.ShloMosaic.Lib.Pointwise
public import Idealize.ShloMosaic.Lib.StableHlo.ReadAt
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Kernel3Ideal.Hand

open Cert.Kernel3Ideal Cert.Kernel3Ideal.Gen Cert.Kernel3Ideal.Value

variable {F : FTy → Type} [FloatOps F]

/-- The two-axis and three-axis zero offsets, as constant functions. -/
theorem off2 : (![0, 0] : Fin 2 → Nat) = fun _ => 0 := funext fun a => by fin_cases a <;> rfl
theorem off3 : (![0, 0, 0] : Fin 3 → Nat) = fun _ => 0 := funext fun a => by fin_cases a <;> rfl

variable (c : Dev nD) (i : grid0.Coords) (arg2 : Memref sig .tc .vmem S2048x1024 .bf16) (harg2 : arg2.IsWhole)
  (arg3 : Memref sig .tc .vmem S1x2048x704 .bf16) (harg3 : arg3.IsWhole) (arg4 : Memref sig .tc .vmem S1x2048x704 .bf16)
  (harg4 : arg4.IsWhole) (arg5 : Memref sig .tc .vmem S1x1024x704 .bf16) (harg5 : arg5.IsWhole)
  (arg6 : Memref sig .tc .vmem S1x1024x704 .bf16) (harg6 : arg6.IsWhole) (arg7 : Memref sig .tc .vmem S1024x704 .f32)
  (harg7 : arg7.IsWhole) (arg8 : Memref sig .tc .vmem S1024x704 .f32) (harg8 : arg8.IsWhole)
  (x0 : Vec F S2048x1024 .bf16) (x1 x2 : Vec F S1x2048x704 .bf16) (xs0 xs1 : Vec F S1024x704 .f32)

/-- The first point of a run stores the `gate` block product in its scratch. -/
theorem gate_first (hc0 : cond0_0 i) (hc1 : ¬cond0_1 i) (hc2 : ¬cond0_2 i) :
    sout0_A_0 c i arg2 harg2 arg3 harg3 arg4 harg4 arg5 harg5 arg6 harg6 arg7 harg7 arg8 harg8 hc0 hc1 hc2 x0 x1 x2 = k0_pay2 x0 x1 := by
  unfold sout0_A_0
  rw [View.read_writes_eq_canon _ _ _ (scover0_A_0 c i arg2 harg2 arg3 harg3 arg4 harg4 arg5 harg5 arg6 harg6 arg7 harg7 arg8 harg8 hc0 hc1 hc2 x0 x1 x2)]
  unfold kernelRun0_A
  dsimp only
  sl_unfold_words
  rw [View.canon_unit_zero off2]
  unfold k0_pay4
  simp only [View.readAt_eq_ld, harg2.read_unread, harg3.read_unread, harg4.read_unread, harg7.read_unread, harg8.read_unread,
    View.ld_unit_zero (S := S1024x704) off2, View.ld_unit_zero (S := S2048x1024) off2,
    View.ld_unit_zero (S := S1x2048x704) off3, shapeCast_self]

/-- A later point adds the `gate` block product to what its scratch held. -/
theorem gate_next (hc0 : ¬cond0_0 i) (hc1 : cond0_1 i) (hc2 : ¬cond0_2 i) :
    sout0_B_0 c i arg2 harg2 arg3 harg3 arg4 harg4 arg5 harg5 arg6 harg6 arg7 harg7 arg8 harg8 hc0 hc1 hc2 x0 x1 x2 xs0 xs1 = addf xs0 (k0_pay2 x0 x1) := by
  unfold sout0_B_0
  rw [View.read_writes_eq_canon _ _ _ (scover0_B_0 c i arg2 harg2 arg3 harg3 arg4 harg4 arg5 harg5 arg6 harg6 arg7 harg7 arg8 harg8 hc0 hc1 hc2 x0 x1 x2 xs0 xs1)]
  unfold kernelRun0_B
  dsimp only
  sl_unfold_words
  rw [View.canon_unit_zero off2]
  unfold k0_pay6
  simp only [View.readAt_eq_ld, harg2.read_unread, harg3.read_unread, harg4.read_unread, harg7.read_unread, harg8.read_unread,
    View.ld_unit_zero (S := S1024x704) off2, View.ld_unit_zero (S := S2048x1024) off2,
    View.ld_unit_zero (S := S1x2048x704) off3, shapeCast_self]

/-- The last point of a run writes back the `gate` scratch with its own block product added. -/
theorem gate_last (hc0 : ¬cond0_0 i) (hc1 : cond0_1 i) (hc2 : cond0_2 i) :
    out0_C_3 c i arg2 harg2 arg3 harg3 arg4 harg4 arg5 harg5 arg6 harg6 arg7 harg7 arg8 harg8 hc0 hc1 hc2 x0 x1 x2 xs0 xs1 = k0_pay8 (addf xs0 (k0_pay2 x0 x1)) := by
  unfold out0_C_3
  rw [View.read_writes_eq_canon _ _ _ (cover0_C_3 c i arg2 harg2 arg3 harg3 arg4 harg4 arg5 harg5 arg6 harg6 arg7 harg7 arg8 harg8 hc0 hc1 hc2 x0 x1 x2 xs0 xs1)]
  unfold kernelRun0_C
  dsimp only
  sl_unfold_words
  rw [View.canon_unit_zero off3, View.readCov_unit_zero (S := S1024x704) _ off2]
  unfold k0_pay6
  simp only [View.readAt_eq_ld, harg2.read_unread, harg3.read_unread, harg4.read_unread, harg7.read_unread, harg8.read_unread,
    View.ld_unit_zero (S := S1024x704) off2, View.ld_unit_zero (S := S2048x1024) off2,
    View.ld_unit_zero (S := S1x2048x704) off3, shapeCast_self]

/-- The first point of a run stores the `up` block product in its scratch. -/
theorem up_first (hc0 : cond0_0 i) (hc1 : ¬cond0_1 i) (hc2 : ¬cond0_2 i) :
    sout0_A_1 c i arg2 harg2 arg3 harg3 arg4 harg4 arg5 harg5 arg6 harg6 arg7 harg7 arg8 harg8 hc0 hc1 hc2 x0 x1 x2 = k0_pay3 x0 x2 := by
  unfold sout0_A_1
  rw [View.read_writes_eq_canon _ _ _ (scover0_A_1 c i arg2 harg2 arg3 harg3 arg4 harg4 arg5 harg5 arg6 harg6 arg7 harg7 arg8 harg8 hc0 hc1 hc2 x0 x1 x2)]
  unfold kernelRun0_A
  dsimp only
  sl_unfold_words
  rw [View.canon_unit_zero off2]
  unfold k0_pay5
  simp only [View.readAt_eq_ld, harg2.read_unread, harg3.read_unread, harg4.read_unread, harg7.read_unread, harg8.read_unread,
    View.ld_unit_zero (S := S1024x704) off2, View.ld_unit_zero (S := S2048x1024) off2,
    View.ld_unit_zero (S := S1x2048x704) off3, shapeCast_self]

/-- A later point adds the `up` block product to what its scratch held. -/
theorem up_next (hc0 : ¬cond0_0 i) (hc1 : cond0_1 i) (hc2 : ¬cond0_2 i) :
    sout0_B_1 c i arg2 harg2 arg3 harg3 arg4 harg4 arg5 harg5 arg6 harg6 arg7 harg7 arg8 harg8 hc0 hc1 hc2 x0 x1 x2 xs0 xs1 = addf xs1 (k0_pay3 x0 x2) := by
  unfold sout0_B_1
  rw [View.read_writes_eq_canon _ _ _ (scover0_B_1 c i arg2 harg2 arg3 harg3 arg4 harg4 arg5 harg5 arg6 harg6 arg7 harg7 arg8 harg8 hc0 hc1 hc2 x0 x1 x2 xs0 xs1)]
  unfold kernelRun0_B
  dsimp only
  sl_unfold_words
  rw [View.canon_unit_zero off2]
  unfold k0_pay7
  simp only [View.readAt_eq_ld, harg2.read_unread, harg3.read_unread, harg4.read_unread, harg7.read_unread, harg8.read_unread,
    View.ld_unit_zero (S := S1024x704) off2, View.ld_unit_zero (S := S2048x1024) off2,
    View.ld_unit_zero (S := S1x2048x704) off3, shapeCast_self]

/-- The last point of a run writes back the `up` scratch with its own block product added. -/
theorem up_last (hc0 : ¬cond0_0 i) (hc1 : cond0_1 i) (hc2 : cond0_2 i) :
    out0_C_4 c i arg2 harg2 arg3 harg3 arg4 harg4 arg5 harg5 arg6 harg6 arg7 harg7 arg8 harg8 hc0 hc1 hc2 x0 x1 x2 xs0 xs1 = k0_pay9 (addf xs1 (k0_pay3 x0 x2)) := by
  unfold out0_C_4
  rw [View.read_writes_eq_canon _ _ _ (cover0_C_4 c i arg2 harg2 arg3 harg3 arg4 harg4 arg5 harg5 arg6 harg6 arg7 harg7 arg8 harg8 hc0 hc1 hc2 x0 x1 x2 xs0 xs1)]
  unfold kernelRun0_C
  dsimp only
  sl_unfold_words
  rw [View.canon_unit_zero off3, View.readCov_unit_zero (S := S1024x704) _ off2]
  unfold k0_pay7
  simp only [View.readAt_eq_ld, harg2.read_unread, harg3.read_unread, harg4.read_unread, harg7.read_unread, harg8.read_unread,
    View.ld_unit_zero (S := S1024x704) off2, View.ld_unit_zero (S := S2048x1024) off2,
    View.ld_unit_zero (S := S1x2048x704) off3, shapeCast_self]

end Cert.Kernel3Ideal.Hand
-- ==== Proof.GateUpFold.lean ====
/-
  The two scratches of the `w_gate` and `w_up` gradients' kernel after the eight points of a run, and the two result
  arrays, at an index: one sum over the rows, at the extended reals.
-/
module

public import proofs.«01_k».proof.Proof.GateUpKernel
public import proofs.«01_k».proof.Proof.Sums

@[expose] public section

set_option maxRecDepth 16384

noncomputable section

open Idealize.ShloMosaic Idealize.ShloMosaic.TcCoe Idealize.SL.Sem
open Idealize.ShloMosaic.Pipeline (Dat)

namespace Cert.Kernel3Ideal.Hand

open Cert.Kernel3Ideal Cert.Kernel3Ideal.Gen Cert.Kernel3Ideal.Value

/-- A block product at an index: the sum over the 2048 rows of the block. -/
theorem gate_apply (x0 : Vec Ideal S2048x1024 .bf16) (x1 : Vec Ideal S1x2048x704 .bf16) (d : Fin 1024) (f : Fin 704) :
    k0_pay2 (F := Ideal) x0 x1 (ix2 d f) = ∑ k : Fin 2048, x0 (ix2 k d) * x1 (ix3 0 k f) := by
  pointwise [k0_pay2, k0_pay1]
theorem up_apply (x0 : Vec Ideal S2048x1024 .bf16) (x1 : Vec Ideal S1x2048x704 .bf16) (d : Fin 1024) (f : Fin 704) :
    k0_pay3 (F := Ideal) x0 x1 (ix2 d f) = ∑ k : Fin 2048, x0 (ix2 k d) * x1 (ix3 0 k f) := by
  pointwise [k0_pay3, k0_pay1]

/-- What is written back, at an index: the scratch. -/
theorem gate_store_apply (v : Vec Ideal S1024x704 .f32) (d : Fin 1024) (f : Fin 704) :
    k0_pay8 (F := Ideal) v (ix3 0 d f) = v (ix2 d f) := by
  pointwise [k0_pay8]
theorem up_store_apply (v : Vec Ideal S1024x704 .f32) (d : Fin 1024) (f : Fin 704) :
    k0_pay9 (F := Ideal) v (ix3 0 d f) = v (ix2 d f) := by
  pointwise [k0_pay9]

variable (m : (ℓ : Loc nD τ sig) → Buf (Elt Ideal) ℓ)

/-- The three arrays the region reads: the hidden activations, and the two branch cotangents, each as a stack of four
    blocks of columns. -/
abbrev hArr (c : Dev nD) : Vec Ideal S16384x1024 .bf16 := V m c main_v37
abbrev gateArr (c : Dev nD) : Vec Ideal S4x16384x704 .bf16 := V m c main_v47
abbrev upArr (c : Dev nD) : Vec Ideal S4x16384x704 .bf16 := V m c main_v57

/-- Where the operand windows stand at point `t`. -/
theorem index_h : ∀ t : Fin grid0.N, win0_0.index t 0 = t.val % 8 ∧ win0_0.index t 1 = 0 := by
  decide +kernel
theorem index_gate : ∀ t : Fin grid0.N, win0_1.index t 0 = t.val / 8 ∧ win0_1.index t 1 = t.val % 8 ∧ win0_1.index t 2 = 0 := by
  decide +kernel
theorem index_up : ∀ t : Fin grid0.N, win0_2.index t 0 = t.val / 8 ∧ win0_2.index t 1 = t.val % 8 ∧ win0_2.index t 2 = 0 := by
  decide +kernel

/-- The block of hidden activations at point `t`, at an index. -/
theorem block_h (c : Dev nD) (t : Fin cfg0.N) (k : Fin 2048) (d : Fin 1024) (r : Fin 16384)
    (hr : r.val = 2048 * (t.val % 8) + k.val) :
    iblk m c 0 t (ix2 k d) = V m c main_v37 (ix2 r d) := by
  have hi := index_h t
  unfold iblk
  rw [View.read_apply]
  refine congrArg (V m c main_v37) ?_
  funext a
  apply Fin.ext
  match a with
  | ⟨0, _⟩ => show win0_0.index t 0 * 2048 + 1 * k.val = r.val; omega
  | ⟨1, _⟩ => show win0_0.index t 1 * 1024 + 1 * d.val = d.val; omega

/-- The block of the `gate` cotangent at point `t`, at an index. -/
theorem block_gate (c : Dev nD) (t : Fin cfg0.N) (k : Fin 2048) (f : Fin 704) (n : Fin 4) (r : Fin 16384)
    (hn : n.val = t.val / 8) (hr : r.val = 2048 * (t.val % 8) + k.val) :
    iblk m c 1 t (ix3 0 k f) = V m c main_v47 (ix3 n r f) := by
  have hi := index_gate t
  unfold iblk
  rw [View.read_apply]
  refine congrArg (V m c main_v47) ?_
  funext a
  apply Fin.ext
  match a with
  | ⟨0, _⟩ => show win0_1.index t 0 * 1 + 1 * 0 = n.val; omega
  | ⟨1, _⟩ => show win0_1.index t 1 * 2048 + 1 * k.val = r.val; omega
  | ⟨2, _⟩ => show win0_1.index t 2 * 704 + 1 * f.val = f.val; omega

/-- The block of the `up` cotangent at point `t`, at an index. -/
theorem block_up (c : Dev nD) (t : Fin cfg0.N) (k : Fin 2048) (f : Fin 704) (n : Fin 4) (r : Fin 16384)
    (hn : n.val = t.val / 8) (hr : r.val = 2048 * (t.val % 8) + k.val) :
    iblk m c 2 t (ix3 0 k f) = V m c main_v57 (ix3 n r f) := by
  have hi := index_up t
  unfold iblk
  rw [View.read_apply]
  refine congrArg (V m c main_v57) ?_
  funext a
  apply Fin.ext
  match a with
  | ⟨0, _⟩ => show win0_2.index t 0 * 1 + 1 * 0 = n.val; omega
  | ⟨1, _⟩ => show win0_2.index t 1 * 2048 + 1 * k.val = r.val; omega
  | ⟨2, _⟩ => show win0_2.index t 2 * 704 + 1 * f.val = f.val; omega

/-- What point `n` of the grid adds to the `gate` scratch (nothing past the grid). -/
def gateAddend (c : Dev nD) (n : ℕ) : S1024x704.Idx → EReal := fun i =>
  if h : n < cfg0.N then k0_pay2 (F := Ideal) (iblk m c 0 ⟨n, h⟩) (iblk m c 1 ⟨n, h⟩) i else 0

/-- The `gate` scratch after point `j` of a run (the last point of the run aside): the sum of the addends so far. -/
theorem gate_sum (c : Dev nD) (b j : ℕ) (hb : b % 8 = 0) (hj : j < 7) (h : b + j < cfg0.N) (i : S1024x704.Idx) :
    (outsAt0 m c (b + j) h).2.2.1 i = ∑ s ∈ Finset.range (j + 1), gateAddend m c (b + s) i := by
  have e := soutsAt0_0_eq m c ⟨b + j, h⟩
  have hd : 8 * ((b + j) / 8) = b := by omega
  have hm : (b + j) % 8 = j := by omega
  dsimp only at e
  simp only [hd, hm] at e
  rw [e, Pipeline.accAt_add_apply _ _ (fun _ => (0 : EReal)) (gateAddend m c) b 6 ?_ ?_ j (by omega) h i, zero_add]
  · intro hb' i
    rw [zero_add]
    unfold scAt0_0 gateAddend
    rw [dif_pos hb, dif_neg (by omega), dif_neg (by omega), dif_pos hb', gate_first]
  · intro n hn acc i h1 h2
    unfold scAt0_0 gateAddend
    rw [dif_neg (by omega), dif_pos (by omega), dif_neg (by omega), dif_pos hn, gate_next]
    rfl

/-- The `gate` result at an index: the sum, over the eight blocks of rows, of the block products. -/
theorem gate_result_apply (c : Dev nD) (n : Fin 4) (d : Fin 1024) (f : Fin 704) :
    G3 m c (ix3 n d f) = (∑ s ∈ Finset.range 8, gateAddend m c (8 * n.val + s) (ix2 d f) : EReal) := by
  have hN : cfg0.N = 32 := N_0
  have hp : pt3Of (ix3 n d f) = 8 * n.val + 7 := by
    show 8 * (1 * (n.val / 1 - 0) + 1 * (d.val / 1024 - 0) + 1 * (f.val / 704 - 0)) + 7 = _
    omega
  have hl : loc3Of (ix3 n d f) = ix3 0 d f := by
    funext a
    apply Fin.ext
    match a with
    | ⟨0, _⟩ => show n.val % 1 = 0; omega
    | ⟨1, _⟩ => show d.val % 1024 = d.val; omega
    | ⟨2, _⟩ => show f.val % 704 = f.val; omega
  have hb : pt3Of (ix3 n d f) < cfg0.N := by rw [hp]; omega
  have hb' : 8 * n.val + 7 < cfg0.N := by omega
  unfold G3
  rw [dif_pos hb, ← outsAt0_sweep m c _ hb, hl]
  simp only [hp]
  rw [outsAt0_C m c ⟨8 * n.val + 7, hb'⟩ (by dsimp only; omega) (by dsimp only; omega) (by dsimp only; omega)]
  dsimp only
  rw [gate_last]
  show k0_pay8 (F := Ideal) _ (ix3 0 d f) = _
  refine (gate_store_apply _ d f).trans (Eq.trans ?_
    (Finset.sum_range_succ (fun s => gateAddend m c (8 * n.val + s) (ix2 d f)) 7).symm)
  refine congrArg₂ (· + ·) (gate_sum m c (8 * n.val) 6 (by omega) (by omega) _ _) ?_
  unfold gateAddend
  rw [dif_pos hb']

/-- The `gate` addend of point `s` of run `n`, over the arrays the region reads. -/
theorem gateAddend_apply (c : Dev nD) (n : Fin 4) (s : Fin 8) (d : Fin 1024) (f : Fin 704) :
    gateAddend m c (8 * n.val + s.val) (ix2 d f) = ∑ k : Fin 2048,
      hArr m c (ix2 ⟨2048 * s.val + k.val, by omega⟩ d) * gateArr m c (ix3 n ⟨2048 * s.val + k.val, by omega⟩ f) := by
  have hN : cfg0.N = 32 := N_0
  unfold gateAddend
  rw [dif_pos (by omega), gate_apply]
  refine Finset.sum_congr rfl fun k _ => ?_
  rw [block_h m c _ k d ⟨2048 * s.val + k.val, by omega⟩ (by dsimp only; omega),
    block_gate m c _ k f n ⟨2048 * s.val + k.val, by omega⟩ (by dsimp only; omega) (by dsimp only; omega)]

/-- The `gate` result at an index, over the arrays the region reads: one sum over all the rows. -/
theorem gate_rows (c : Dev nD) (n : Fin 4) (d : Fin 1024) (f : Fin 704) :
    G3 m c (ix3 n d f) = (∑ r : Fin 16384, hArr m c (ix2 r d) * gateArr m c (ix3 n r f) : EReal) := by
  refine (gate_result_apply m c n d f).trans ((Finset.sum_range fun s => gateAddend m c (8 * n.val + s) (ix2 d f)).trans
    (Eq.trans ?_ (Cert.Sums.sum_blocks 8 2048 rfl fun r => hArr m c (ix2 r d) * gateArr m c (ix3 n r f)).symm))
  exact Finset.sum_congr rfl fun s _ => gateAddend_apply m c n s d f

/-- What point `n` of the grid adds to the `up` scratch (nothing past the grid). -/
def upAddend (c : Dev nD) (n : ℕ) : S1024x704.Idx → EReal := fun i =>
  if h : n < cfg0.N then k0_pay3 (F := Ideal) (iblk m c 0 ⟨n, h⟩) (iblk m c 2 ⟨n, h⟩) i else 0

/-- The `up` scratch after point `j` of a run (the last point of the run aside): the sum of the addends so far. -/
theorem up_sum (c : Dev nD) (b j : ℕ) (hb : b % 8 = 0) (hj : j < 7) (h : b + j < cfg0.N) (i : S1024x704.Idx) :
    (outsAt0 m c (b + j) h).2.2.2 i = ∑ s ∈ Finset.range (j + 1), upAddend m c (b + s) i := by
  have e := soutsAt0_1_eq m c ⟨b + j, h⟩
  have hd : 8 * ((b + j) / 8) = b := by omega
  have hm : (b + j) % 8 = j := by omega
  dsimp only at e
  simp only [hd, hm] at e
  rw [e, Pipeline.accAt_add_apply _ _ (fun _ => (0 : EReal)) (upAddend m c) b 6 ?_ ?_ j (by omega) h i, zero_add]
  · intro hb' i
    rw [zero_add]
    unfold scAt0_1 upAddend
    rw [dif_pos hb, dif_neg (by omega), dif_neg (by omega), dif_pos hb', up_first]
  · intro n hn acc i h1 h2
    unfold scAt0_1 upAddend
    rw [dif_neg (by omega), dif_pos (by omega), dif_neg (by omega), dif_pos hn, up_next]
    rfl

/-- The `up` result at an index: the sum, over the eight blocks of rows, of the block products. -/
theorem up_result_apply (c : Dev nD) (n : Fin 4) (d : Fin 1024) (f : Fin 704) :
    G4 m c (ix3 n d f) = (∑ s ∈ Finset.range 8, upAddend m c (8 * n.val + s) (ix2 d f) : EReal) := by
  have hN : cfg0.N = 32 := N_0
  have hp : pt4Of (ix3 n d f) = 8 * n.val + 7 := by
    show 8 * (1 * (n.val / 1 - 0) + 1 * (d.val / 1024 - 0) + 1 * (f.val / 704 - 0)) + 7 = _
    omega
  have hl : loc4Of (ix3 n d f) = ix3 0 d f := by
    funext a
    apply Fin.ext
    match a with
    | ⟨0, _⟩ => show n.val % 1 = 0; omega
    | ⟨1, _⟩ => show d.val % 1024 = d.val; omega
    | ⟨2, _⟩ => show f.val % 704 = f.val; omega
  have hb : pt4Of (ix3 n d f) < cfg0.N := by rw [hp]; omega
  have hb' : 8 * n.val + 7 < cfg0.N := by omega
  unfold G4
  rw [dif_pos hb, ← outsAt0_sweep m c _ hb, hl]
  simp only [hp]
  rw [outsAt0_C m c ⟨8 * n.val + 7, hb'⟩ (by dsimp only; omega) (by dsimp only; omega) (by dsimp only; omega)]
  dsimp only
  rw [up_last]
  show k0_pay9 (F := Ideal) _ (ix3 0 d f) = _
  refine (up_store_apply _ d f).trans (Eq.trans ?_
    (Finset.sum_range_succ (fun s => upAddend m c (8 * n.val + s) (ix2 d f)) 7).symm)
  refine congrArg₂ (· + ·) (up_sum m c (8 * n.val) 6 (by omega) (by omega) _ _) ?_
  unfold upAddend
  rw [dif_pos hb']

/-- The `up` addend of point `s` of run `n`, over the arrays the region reads. -/
theorem upAddend_apply (c : Dev nD) (n : Fin 4) (s : Fin 8) (d : Fin 1024) (f : Fin 704) :
    upAddend m c (8 * n.val + s.val) (ix2 d f) = ∑ k : Fin 2048,
      hArr m c (ix2 ⟨2048 * s.val + k.val, by omega⟩ d) * upArr m c (ix3 n ⟨2048 * s.val + k.val, by omega⟩ f) := by
  have hN : cfg0.N = 32 := N_0
  unfold upAddend
  rw [dif_pos (by omega), up_apply]
  refine Finset.sum_congr rfl fun k _ => ?_
  rw [block_h m c _ k d ⟨2048 * s.val + k.val, by omega⟩ (by dsimp only; omega),
    block_up m c _ k f n ⟨2048 * s.val + k.val, by omega⟩ (by dsimp only; omega) (by dsimp only; omega)]

/-- The `up` result at an index, over the arrays the region reads: one sum over all the rows. -/
theorem up_rows (c : Dev nD) (n : Fin 4) (d : Fin 1024) (f : Fin 704) :
    G4 m c (ix3 n d f) = (∑ r : Fin 16384, hArr m c (ix2 r d) * upArr m c (ix3 n r f) : EReal) := by
  refine (up_result_apply m c n d f).trans ((Finset.sum_range fun s => upAddend m c (8 * n.val + s) (ix2 d f)).trans
    (Eq.trans ?_ (Cert.Sums.sum_blocks 8 2048 rfl fun r => hArr m c (ix2 r d) * upArr m c (ix3 n r f)).symm))
  exact Finset.sum_congr rfl fun s _ => upAddend_apply m c n s d f

end Cert.Kernel3Ideal.Hand
-- ==== Proof.GateUpHost.lean ====
/-
  The three arrays that the host prepares for the kernel of the gradients of `w_gate` and `w_up`, at an index: they are
  the reference's own arrays of hidden activations and branch cotangents, the latter cut into blocks of columns.
-/
module

public import proofs.«01_k».proof.Proof.GateUpFold
public import proofs.«01_k».proof.Proof.Gen.Reference3Ideal.Read

@[expose] public section

set_option maxRecDepth 16384

noncomputable section

open Idealize.ShloMosaic Idealize.ShloMosaic.TcCoe Idealize.SL.Sem

namespace Cert.Kernel3Ideal.Hand

open Cert.Kernel3Ideal Cert.Kernel3Ideal.Gen Cert.Kernel3Ideal.Value

variable (m : (ℓ : Loc nD τ sig) → Buf (Elt Ideal) ℓ)

/-- The contents at the region: the last stretch of host operations after the stretches before it. -/
theorem entry_split (c : Dev nD) (b : Ref sig .tc) : V m c b
    = StableHlo.after hostOps0_4 (StableHlo.after (hostOps0 ++ (hostOps0_1 ++ (hostOps0_2 ++ hostOps0_3))) fun b => m (c, b)) b := by
  unfold V
  simp only [List.flatten_cons, List.flatten_nil, List.append_nil]
  rw [← StableHlo.after_append]
  simp only [List.append_assoc]

/-- The hidden activations, and the two branch cotangents before they are cut into blocks: what the reference computes
    from the same arguments. -/
theorem hidden_eq (c : Dev nD) : hArr m c = Cert.Reference3Ideal.Read.val_main_v11 (F := Ideal) (m (c.tc.loc main_arg0)) (m (c.tc.loc main_arg1)) := by
  unfold hArr V
  simp only [List.flatten_cons, List.flatten_nil, List.append_nil]
  after_reads_simp
  rfl
theorem gate_eq (c : Dev nD) : V m c main_v24 = Cert.Reference3Ideal.Read.val_main_v27 (F := Ideal) (m (c.tc.loc main_arg0)) (m (c.tc.loc main_arg1)) (m (c.tc.loc main_arg2)) (m (c.tc.loc main_arg3)) (m (c.tc.loc main_arg4)) (m (c.tc.loc main_arg5)) := by
  unfold V
  simp only [List.flatten_cons, List.flatten_nil, List.append_nil]
  after_reads_simp
  rfl
theorem up_eq (c : Dev nD) : V m c main_v22 = Cert.Reference3Ideal.Read.val_main_v23 (F := Ideal) (m (c.tc.loc main_arg0)) (m (c.tc.loc main_arg1)) (m (c.tc.loc main_arg2)) (m (c.tc.loc main_arg4)) (m (c.tc.loc main_arg5)) := by
  unfold V
  simp only [List.flatten_cons, List.flatten_nil, List.append_nil]
  after_reads_simp
  rfl

/-- Four arrays, stacked. -/
def stackOf (a b c d : Vec Ideal S1x16384x704 .f32) : Vec Ideal S4x16384x704 .f32 :=
  concatenate S4x16384x704 0 [⟨S1x16384x704, a⟩, ⟨S1x16384x704, b⟩, ⟨S1x16384x704, c⟩, ⟨S1x16384x704, d⟩]
    concatenates_S1x16384x704_S1x16384x704_S1x16384x704_S1x16384x704_S4x16384x704_d0

/-- Four blocks of 704 columns of an array, stacked. -/
def stack (y : Vec Ideal S16384x2816 .f32) : Vec Ideal S4x16384x704 .f32 := stackOf
  (broadcastInDim S1x16384x704 ![1, 2] bcast_S16384x704_S1x16384x704_1_2 (extractStridedSlice S16384x704 ![0, 0] y slices_S16384x2816_S16384x704_0_0))
  (broadcastInDim S1x16384x704 ![1, 2] bcast_S16384x704_S1x16384x704_1_2 (extractStridedSlice S16384x704 ![0, 704] y slices_S16384x2816_S16384x704_0_704))
  (broadcastInDim S1x16384x704 ![1, 2] bcast_S16384x704_S1x16384x704_1_2 (extractStridedSlice S16384x704 ![0, 1408] y slices_S16384x2816_S16384x704_0_1408))
  (broadcastInDim S1x16384x704 ![1, 2] bcast_S16384x704_S1x16384x704_1_2 (extractStridedSlice S16384x704 ![0, 2112] y slices_S16384x2816_S16384x704_0_2112))

/-- The stack at an index: block `n` holds columns `704 n` to `704 n + 703`. -/
theorem stack_apply (y : Vec Ideal S16384x2816 .f32) (n : Fin 4) (r : Fin 16384) (f : Fin 704) :
    stack y (ix3 n r f) = y (ix2 r ⟨704 * n.val + f.val, by omega⟩) := by
  unfold stack stackOf
  pointwise
  fin_vals n with hn
  all_goals simp only [hn, Nat.reduceSub, Nat.reduceLT, ↓reduceDIte, ↓reduceIte, Nat.mul_zero, Nat.mul_one, Nat.zero_add, Nat.reduceMul]

/-- The `gate` stack the region reads is that of the `gate` cotangent. -/
theorem gateArr_eq (c : Dev nD) : gateArr m c = stack (V m c main_v24) := by
  unfold gateArr
  rw [entry_split, entry_split]
  generalize StableHlo.after (hostOps0 (F := Ideal) ++ (hostOps0_1 ++ (hostOps0_2 ++ hostOps0_3))) _ = W
  unfold stack
  after_reads_simp
  show stackOf (StableHlo.upto hostOps0_4 W 24 (Proc.devRef .tc main_v42)) (StableHlo.upto hostOps0_4 W 24 (Proc.devRef .tc main_v43))
    (StableHlo.upto hostOps0_4 W 24 (Proc.devRef .tc main_v44)) (StableHlo.upto hostOps0_4 W 24 (Proc.devRef .tc main_v45)) = _
  after_reads_simp

/-- The `up` stack the region reads is that of the `up` cotangent. -/
theorem upArr_eq (c : Dev nD) : upArr m c = stack (V m c main_v22) := by
  unfold upArr
  rw [entry_split, entry_split]
  generalize StableHlo.after (hostOps0 (F := Ideal) ++ (hostOps0_1 ++ (hostOps0_2 ++ hostOps0_3))) _ = W
  unfold stack
  after_reads_simp
  show stackOf (StableHlo.upto hostOps0_4 W 34 (Proc.devRef .tc main_v52)) (StableHlo.upto hostOps0_4 W 34 (Proc.devRef .tc main_v53))
    (StableHlo.upto hostOps0_4 W 34 (Proc.devRef .tc main_v54)) (StableHlo.upto hostOps0_4 W 34 (Proc.devRef .tc main_v55)) = _
  after_reads_simp

/-- The reference's `gate` result at an index: the sum over all the rows of the `gate` cotangent times the hidden activations. -/
theorem gate_ref_apply (x0 : Vec Ideal S16384x1024 .f32) (x1 : Vec Ideal S1x1024 .f32) (x2 x3 : Vec Ideal S1024x2816 .f32)
    (x4 : Vec Ideal S2816x1024 .f32) (x5 : Vec Ideal S16384x1024 .f32)
    (n : Fin 4) (d : Fin 1024) (f : Fin 704) :
    Cert.Reference3Ideal.Read.val_main_v32 (F := Ideal) x0 x1 x2 x3 x4 x5 (ix3 n d f)
      = ∑ r : Fin 16384, Cert.Reference3Ideal.Read.val_main_v27 (F := Ideal) x0 x1 x2 x3 x4 x5 (ix2 r ⟨704 * n.val + f.val, by omega⟩)
          * Cert.Reference3Ideal.Read.val_main_v11 (F := Ideal) x0 x1 (ix2 r d) := by
  unfold Cert.Reference3Ideal.Read.val_main_v32 Cert.Reference3Ideal.Read.val_main_v31 Cert.Reference3Ideal.Read.val_main_v30 Cert.Reference3Ideal.Read.val_main_v29 Cert.Reference3Ideal.Read.val_main_v28
  generalize Cert.Reference3Ideal.Read.val_main_v27 (F := Ideal) x0 x1 x2 x3 x4 x5 = y
  generalize Cert.Reference3Ideal.Read.val_main_v11 (F := Ideal) x0 x1 = h
  pointwise
  simp only [Nat.mul_comm (n : ℕ) 704]

/-- The reference's `up` result at an index: the sum over all the rows of the `up` cotangent times the hidden activations. -/
theorem up_ref_apply (x0 : Vec Ideal S16384x1024 .f32) (x1 : Vec Ideal S1x1024 .f32) (x2 : Vec Ideal S1024x2816 .f32)
    (x4 : Vec Ideal S2816x1024 .f32) (x5 : Vec Ideal S16384x1024 .f32)
    (n : Fin 4) (d : Fin 1024) (f : Fin 704) :
    Cert.Reference3Ideal.Read.val_main_v35 (F := Ideal) x0 x1 x2 x4 x5 (ix3 n d f)
      = ∑ r : Fin 16384, Cert.Reference3Ideal.Read.val_main_v23 (F := Ideal) x0 x1 x2 x4 x5 (ix2 r ⟨704 * n.val + f.val, by omega⟩)
          * Cert.Reference3Ideal.Read.val_main_v11 (F := Ideal) x0 x1 (ix2 r d) := by
  unfold Cert.Reference3Ideal.Read.val_main_v35 Cert.Reference3Ideal.Read.val_main_v34 Cert.Reference3Ideal.Read.val_main_v33 Cert.Reference3Ideal.Read.val_main_v26 Cert.Reference3Ideal.Read.val_main_v25
  generalize Cert.Reference3Ideal.Read.val_main_v23 (F := Ideal) x0 x1 x2 x4 x5 = y
  generalize Cert.Reference3Ideal.Read.val_main_v11 (F := Ideal) x0 x1 = h
  pointwise
  simp only [Nat.mul_comm (n : ℕ) 704]

end Cert.Kernel3Ideal.Hand
-- ==== Proof.GateUpEq.lean ====
/-
  The gradients of `w_gate` and `w_up`: the kernel and the reference end with equal results. Both are sums, over the
  rows, of products of a branch cotangent with the hidden activations; no hypothesis on the arguments is needed.
-/
module

public import proofs.«01_k».proof.Proof.GateUpHost
public import proofs.«01_k».proof.Defs

@[expose] public section

set_option maxRecDepth 16384

noncomputable section

open Idealize.ShloMosaic Idealize.ShloMosaic.TcCoe Idealize.SL.Sem

namespace Cert.Kernel3Ideal.Hand

open Cert.Kernel3Ideal Cert.Kernel3Ideal.Gen Cert.Kernel3Ideal.Value

/-- The kernel's `gate` sum over the rows is the reference's. -/
theorem gate_sum_eq (m : (ℓ : Loc nD τ sig) → Buf (Elt Ideal) ℓ) (c : Dev nD) (n : Fin 4) (d : Fin 1024) (f : Fin 704) :
    (∑ r : Fin 16384, hArr m c (ix2 r d) * gateArr m c (ix3 n r f) : EReal)
      = ∑ r : Fin 16384, Cert.Reference3Ideal.Read.val_main_v27 (F := Ideal) (m (c.tc.loc main_arg0)) (m (c.tc.loc main_arg1)) (m (c.tc.loc main_arg2)) (m (c.tc.loc main_arg3)) (m (c.tc.loc main_arg4)) (m (c.tc.loc main_arg5)) (ix2 r ⟨704 * n.val + f.val, by omega⟩)
          * Cert.Reference3Ideal.Read.val_main_v11 (F := Ideal) (m (c.tc.loc main_arg0)) (m (c.tc.loc main_arg1)) (ix2 r d) := by
  refine Finset.sum_congr rfl fun r _ => ?_
  rw [gateArr_eq, stack_apply, gate_eq, hidden_eq]
  exact mul_comm _ _

/-- The kernel's `gate` result is the reference's function of the same arguments. -/
theorem gate_result_eq (m : (ℓ : Loc nD τ sig) → Buf (Elt Ideal) ℓ) (c : Dev nD) :
    G3 m c = Cert.Reference3Ideal.Read.val_main_v32 (F := Ideal) (m (c.tc.loc main_arg0)) (m (c.tc.loc main_arg1)) (m (c.tc.loc main_arg2)) (m (c.tc.loc main_arg3)) (m (c.tc.loc main_arg4)) (m (c.tc.loc main_arg5)) := by
  funext i
  obtain ⟨n, d, f, rfl⟩ : ∃ (n : Fin 4) (d : Fin 1024) (f : Fin 704), i = ix3 n d f := ⟨i 0, i 1, i 2, eq_ix3 i⟩
  exact (gate_rows m c n d f).trans ((gate_sum_eq m c n d f).trans (gate_ref_apply _ _ _ _ _ _ n d f).symm)

/-- The kernel's `up` sum over the rows is the reference's. -/
theorem up_sum_eq (m : (ℓ : Loc nD τ sig) → Buf (Elt Ideal) ℓ) (c : Dev nD) (n : Fin 4) (d : Fin 1024) (f : Fin 704) :
    (∑ r : Fin 16384, hArr m c (ix2 r d) * upArr m c (ix3 n r f) : EReal)
      = ∑ r : Fin 16384, Cert.Reference3Ideal.Read.val_main_v23 (F := Ideal) (m (c.tc.loc main_arg0)) (m (c.tc.loc main_arg1)) (m (c.tc.loc main_arg2)) (m (c.tc.loc main_arg4)) (m (c.tc.loc main_arg5)) (ix2 r ⟨704 * n.val + f.val, by omega⟩)
          * Cert.Reference3Ideal.Read.val_main_v11 (F := Ideal) (m (c.tc.loc main_arg0)) (m (c.tc.loc main_arg1)) (ix2 r d) := by
  refine Finset.sum_congr rfl fun r _ => ?_
  rw [upArr_eq, stack_apply, up_eq, hidden_eq]
  exact mul_comm _ _

/-- The kernel's `up` result is the reference's function of the same arguments. -/
theorem up_result_eq (m : (ℓ : Loc nD τ sig) → Buf (Elt Ideal) ℓ) (c : Dev nD) :
    G4 m c = Cert.Reference3Ideal.Read.val_main_v35 (F := Ideal) (m (c.tc.loc main_arg0)) (m (c.tc.loc main_arg1)) (m (c.tc.loc main_arg2)) (m (c.tc.loc main_arg4)) (m (c.tc.loc main_arg5)) := by
  funext i
  obtain ⟨n, d, f, rfl⟩ : ∃ (n : Fin 4) (d : Fin 1024) (f : Fin 704), i = ix3 n d f := ⟨i 0, i 1, i 2, eq_ix3 i⟩
  exact (up_rows m c n d f).trans ((up_sum_eq m c n d f).trans (up_ref_apply _ _ _ _ _ n d f).symm)

/-- The claim for the gradients of `w_gate` and `w_up`. -/
theorem algebraic : Cert.algebraic_Kernel3Ideal_Reference3Ideal := by
  intro m g m' g' _ hagree
  refine ⟨fun c => G3 m c, fun c => G4 m c, Cert.Kernel3Ideal.Value.run (F := Ideal) m g, ?_⟩
  refine (θ_run Cert.Reference3Ideal.defs _ _).mono (fun _ h c => ?_) (Cert.Reference3Ideal.Value.run (F := Ideal) m' g')
  obtain ⟨h0, h1, h2, h3, h4, h5⟩ := hagree c
  refine ⟨((h c).1.trans (Cert.Reference3Ideal.Read.val_main_v32_eq m' c)).trans ?_,
    ((h c).2.1.trans (Cert.Reference3Ideal.Read.val_main_v35_eq ..)).trans ?_, (h c).2.2⟩
  · rw [h0, h1, h2, h3, h4, h5]
    exact (gate_result_eq m c).symm
  · rw [h0, h1, h2, h4, h5]
    exact (up_result_eq m c).symm

end Cert.Kernel3Ideal.Hand
-- ==== Proof.DxKernel.lean ====
/-
  The kernel of the gradients of the half-block's input and of its norm's gain (`Kernel4Ideal`): the first point of its
  grid copies the two stacks of weights into the scratches it carries; every point multiplies its rows of the two branch
  cotangents by them, sends the result back through the norm, and adds its rows' part to the gain's gradient. Here: what
  each case of the body leaves.
-/
module

public import proofs.«01_k».proof.Proof.Gen.Kernel4Ideal.Value
public import Idealize.ShloMosaic.Lib.Pointwise
public import Idealize.ShloMosaic.Lib.StableHlo.ReadAt
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Kernel4Ideal.Hand

open Cert.Kernel4Ideal Cert.Kernel4Ideal.Gen Cert.Kernel4Ideal.Value

variable {F : FTy → Type} [FloatOps F]

/-- The two-axis zero offset, as a constant function. -/
theorem off2 : (![0, 0] : Fin 2 → Nat) = fun _ => 0 := funext fun a => by fin_cases a <;> rfl

/-- One store of a whole array leaves the array stored. -/
theorem canon_whole {S : Shape} {e : EltTy} (w : Vec F S e) :
    View.canon (Val := Elt F) (s := S) (e := e) [⟨Rect.whole S, w⟩] = w := by
  funext x
  refine Eq.trans (congrArg _ ?_) (View.canon_cons_emb (Val := Elt F) (Rect.whole S) w [] x)
  exact (Rect.emb_whole_apply S x).symm

/-- A load from a buffer after one store of the whole of it reads what was stored. -/
theorem load_whole {S : Shape} {e : EltTy} {sp : Space} (v : View sig .tc sp S e) (w : Vec F S e) (r : Rect S) :
    v.readCov (Val := Elt F) [⟨Rect.whole S, w⟩] r.toLoadRect = View.ld w r := by
  refine (View.readCov_eq_canon_ld v _ r fun y => ⟨_, List.mem_singleton_self _, ?_⟩).trans
    (congrArg (fun z => View.ld z r) (canon_whole w))
  exact (Rect.whole S).mem_set.mpr fun a => ⟨(y a).val, (y a).isLt, by simp [Rect.whole]⟩

/-- The stacks of weights that the first point copies: the upper and the lower half of the second axis. -/
def gateW {c : Dev nD} (fh : HbBuf0 (F := F) c hbM0_0) : Vec F S4x1024x704 .bf16 :=
  View.read (Elt F) ((View.whole main_v45).slice (Rect.unit ![0, 0, 0] ![4, 1024, 704] inb_S4x2048x704_S4x1024x704_0_0_0)) fh
def upW {c : Dev nD} (fh : HbBuf0 (F := F) c hbM0_1) : Vec F S4x1024x704 .bf16 :=
  View.read (Elt F) ((View.whole main_v66).slice (Rect.unit ![0, 1024, 0] ![4, 1024, 704] inb_S4x2048x704_S4x1024x704_0_1024_0)) fh

/-- The cotangent of the norm's output on a block of rows: the two branch cotangents' four blocks of columns times the
    weights', added up. -/
def dhBlock (x0 x1 : Vec F S4x512x704 .bf16) (w0 w1 : Vec F S4x1024x704 .bf16) : FVec F S512x1024 .f32 :=
  k0_pay8 (k0_pay7
    (View.ld x0 (Rect.unit ![0, 0, 0] ![1, 512, 704] inb_S4x512x704_S1x512x704_0_0_0)) (View.ld w0 (Rect.unit ![0, 0, 0] ![1, 1024, 704] inb_S4x1024x704_S1x1024x704_0_0_0))
    (View.ld x1 (Rect.unit ![0, 0, 0] ![1, 512, 704] inb_S4x512x704_S1x512x704_0_0_0)) (View.ld w1 (Rect.unit ![0, 0, 0] ![1, 1024, 704] inb_S4x1024x704_S1x1024x704_0_0_0))
    (View.ld x0 (Rect.unit ![1, 0, 0] ![1, 512, 704] inb_S4x512x704_S1x512x704_1_0_0)) (View.ld w0 (Rect.unit ![1, 0, 0] ![1, 1024, 704] inb_S4x1024x704_S1x1024x704_1_0_0))
    (View.ld x1 (Rect.unit ![1, 0, 0] ![1, 512, 704] inb_S4x512x704_S1x512x704_1_0_0)) (View.ld w1 (Rect.unit ![1, 0, 0] ![1, 1024, 704] inb_S4x1024x704_S1x1024x704_1_0_0)))
    (View.ld x0 (Rect.unit ![2, 0, 0] ![1, 512, 704] inb_S4x512x704_S1x512x704_2_0_0)) (View.ld w0 (Rect.unit ![2, 0, 0] ![1, 1024, 704] inb_S4x1024x704_S1x1024x704_2_0_0))
    (View.ld x1 (Rect.unit ![2, 0, 0] ![1, 512, 704] inb_S4x512x704_S1x512x704_2_0_0)) (View.ld w1 (Rect.unit ![2, 0, 0] ![1, 1024, 704] inb_S4x1024x704_S1x1024x704_2_0_0))
    (View.ld x0 (Rect.unit ![3, 0, 0] ![1, 512, 704] inb_S4x512x704_S1x512x704_3_0_0)) (View.ld w0 (Rect.unit ![3, 0, 0] ![1, 1024, 704] inb_S4x1024x704_S1x1024x704_3_0_0))
    (View.ld x1 (Rect.unit ![3, 0, 0] ![1, 512, 704] inb_S4x512x704_S1x512x704_3_0_0)) (View.ld w1 (Rect.unit ![3, 0, 0] ![1, 1024, 704] inb_S4x1024x704_S1x1024x704_3_0_0))

variable (c : Dev nD) (i : grid0.Coords) (arg1 : Memref sig .tc .vmem S4x512x704 .bf16) (harg1 : arg1.IsWhole)
  (arg2 : Memref sig .tc .vmem S4x512x704 .bf16) (harg2 : arg2.IsWhole) (arg5 : Memref sig .tc .vmem S512x1024 .f32)
  (harg5 : arg5.IsWhole) (arg6 : Memref sig .tc .vmem S512x1024 .f32) (harg6 : arg6.IsWhole)
  (arg7 : Memref sig .tc .vmem S1x1024 .f32) (harg7 : arg7.IsWhole) (arg8 : Memref sig .tc .vmem S512x1024 .f32)
  (harg8 : arg8.IsWhole) (arg9 : Memref sig .tc .vmem S512x1024 .bf16) (harg9 : arg9.IsWhole)
  (arg10 : Memref sig .tc .vmem S1x1024 .f32) (harg10 : arg10.IsWhole) (arg11 : Memref sig .tc .vmem S4x1024x704 .bf16)
  (harg11 : arg11.IsWhole) (arg12 : Memref sig .tc .vmem S4x1024x704 .bf16) (harg12 : arg12.IsWhole)
  (x0 x1 : Vec F S4x512x704 .bf16) (x2 x3 : Vec F S512x1024 .f32) (x4 xo7 : Vec F S1x1024 .f32)
  (xs0 xs1 : Vec F S4x1024x704 .bf16) (fh0 : HbBuf0 (F := F) c hbM0_0) (fh1 : HbBuf0 (F := F) c hbM0_1)

/-- What a first point leaves in the output `dx`. -/
theorem dx_first (hc0 : cond0_0 i) (hc1 : cond0_1 i) (hc2 : ¬cond0_2 i) :
    out0_A_5 c i arg1 harg1 arg2 harg2 arg5 harg5 arg6 harg6 arg7 harg7 arg8 harg8 arg9 harg9 arg10 harg10 arg11 harg11 arg12 harg12 hc0 hc1 hc2 x0 x1 x2 x3 x4 fh0 fh1 = k0_pay3 (dhBlock x0 x1 (gateW fh0) (upW fh1)) x2 x4 (k0_pay9 x2) x3 := by
  unfold out0_A_5
  rw [View.read_writes_eq_canon _ _ _ (cover0_A_5 c i arg1 harg1 arg2 harg2 arg5 harg5 arg6 harg6 arg7 harg7 arg8 harg8 arg9 harg9 arg10 harg10 arg11 harg11 arg12 harg12 hc0 hc1 hc2 x0 x1 x2 x3 x4 fh0 fh1)]
  unfold kernelRun0_A
  dsimp only
  sl_unfold_words
  rw [View.canon_unit_zero off2]
  simp only [View.readAt_eq_ld, load_whole, harg1.read_unread, harg2.read_unread, harg5.read_unread,
    harg6.read_unread, harg7.read_unread, harg10.read_unread, harg11.read_unread, harg12.read_unread,
    View.ld_unit_zero (S := S512x1024) off2, View.ld_unit_zero (S := S1x1024) off2]
  unfold dhBlock gateW upW; rfl

/-- What a first point leaves in the output `dxb`. -/
theorem dxb_first (hc0 : cond0_0 i) (hc1 : cond0_1 i) (hc2 : ¬cond0_2 i) :
    out0_A_6 c i arg1 harg1 arg2 harg2 arg5 harg5 arg6 harg6 arg7 harg7 arg8 harg8 arg9 harg9 arg10 harg10 arg11 harg11 arg12 harg12 hc0 hc1 hc2 x0 x1 x2 x3 x4 fh0 fh1 = k0_pay4 (dhBlock x0 x1 (gateW fh0) (upW fh1)) x2 x4 (k0_pay9 x2) x3 := by
  unfold out0_A_6
  rw [View.read_writes_eq_canon _ _ _ (cover0_A_6 c i arg1 harg1 arg2 harg2 arg5 harg5 arg6 harg6 arg7 harg7 arg8 harg8 arg9 harg9 arg10 harg10 arg11 harg11 arg12 harg12 hc0 hc1 hc2 x0 x1 x2 x3 x4 fh0 fh1)]
  unfold kernelRun0_A
  dsimp only
  sl_unfold_words
  rw [View.canon_unit_zero off2]
  simp only [View.readAt_eq_ld, load_whole, harg1.read_unread, harg2.read_unread, harg5.read_unread,
    harg6.read_unread, harg7.read_unread, harg10.read_unread, harg11.read_unread, harg12.read_unread,
    View.ld_unit_zero (S := S512x1024) off2, View.ld_unit_zero (S := S1x1024) off2]
  unfold dhBlock gateW upW; rfl

/-- What a first point leaves in the output `dgain`. -/
theorem dgain_first (hc0 : cond0_0 i) (hc1 : cond0_1 i) (hc2 : ¬cond0_2 i) :
    out0_A_7 c i arg1 harg1 arg2 harg2 arg5 harg5 arg6 harg6 arg7 harg7 arg8 harg8 arg9 harg9 arg10 harg10 arg11 harg11 arg12 harg12 hc0 hc1 hc2 x0 x1 x2 x3 x4 fh0 fh1 = k0_pay5 (dhBlock x0 x1 (gateW fh0) (upW fh1)) x2 (k0_pay9 x2) := by
  unfold out0_A_7
  rw [View.read_writes_eq_canon _ _ _ (cover0_A_7 c i arg1 harg1 arg2 harg2 arg5 harg5 arg6 harg6 arg7 harg7 arg8 harg8 arg9 harg9 arg10 harg10 arg11 harg11 arg12 harg12 hc0 hc1 hc2 x0 x1 x2 x3 x4 fh0 fh1)]
  unfold kernelRun0_A
  dsimp only
  sl_unfold_words
  rw [View.canon_unit_zero off2]
  simp only [View.readAt_eq_ld, load_whole, harg1.read_unread, harg2.read_unread, harg5.read_unread,
    harg6.read_unread, harg7.read_unread, harg10.read_unread, harg11.read_unread, harg12.read_unread,
    View.ld_unit_zero (S := S512x1024) off2, View.ld_unit_zero (S := S1x1024) off2]
  unfold dhBlock gateW upW; rfl

/-- What the first point leaves in a scratch: the copied weights. -/
theorem scratch0_first (hc0 : cond0_0 i) (hc1 : cond0_1 i) (hc2 : ¬cond0_2 i) : sout0_A_0 c i arg1 harg1 arg2 harg2 arg5 harg5 arg6 harg6 arg7 harg7 arg8 harg8 arg9 harg9 arg10 harg10 arg11 harg11 arg12 harg12 hc0 hc1 hc2 x0 x1 x2 x3 x4 fh0 fh1 = gateW fh0 := by
  unfold sout0_A_0
  rw [View.read_writes_eq_canon _ _ _ (scover0_A_0 c i arg1 harg1 arg2 harg2 arg5 harg5 arg6 harg6 arg7 harg7 arg8 harg8 arg9 harg9 arg10 harg10 arg11 harg11 arg12 harg12 hc0 hc1 hc2 x0 x1 x2 x3 x4 fh0 fh1)]
  unfold kernelRun0_A
  dsimp only
  sl_unfold_words
  rw [canon_whole]
  rfl

/-- What the first point leaves in a scratch: the copied weights. -/
theorem scratch1_first (hc0 : cond0_0 i) (hc1 : cond0_1 i) (hc2 : ¬cond0_2 i) : sout0_A_1 c i arg1 harg1 arg2 harg2 arg5 harg5 arg6 harg6 arg7 harg7 arg8 harg8 arg9 harg9 arg10 harg10 arg11 harg11 arg12 harg12 hc0 hc1 hc2 x0 x1 x2 x3 x4 fh0 fh1 = upW fh1 := by
  unfold sout0_A_1
  rw [View.read_writes_eq_canon _ _ _ (scover0_A_1 c i arg1 harg1 arg2 harg2 arg5 harg5 arg6 harg6 arg7 harg7 arg8 harg8 arg9 harg9 arg10 harg10 arg11 harg11 arg12 harg12 hc0 hc1 hc2 x0 x1 x2 x3 x4 fh0 fh1)]
  unfold kernelRun0_A
  dsimp only
  sl_unfold_words
  rw [canon_whole]
  rfl

/-- What a later point leaves in the output `dx`. -/
theorem dx_later (hc0 : ¬cond0_0 i) (hc1 : ¬cond0_1 i) (hc2 : cond0_2 i) :
    out0_B_5 c i arg1 harg1 arg2 harg2 arg5 harg5 arg6 harg6 arg7 harg7 arg8 harg8 arg9 harg9 arg10 harg10 arg11 harg11 arg12 harg12 hc0 hc1 hc2 x0 x1 x2 x3 x4 xo7 xs0 xs1 fh0 fh1 = k0_pay3 (dhBlock x0 x1 xs0 xs1) x2 x4 (k0_pay9 x2) x3 := by
  unfold out0_B_5
  rw [View.read_writes_eq_canon _ _ _ (cover0_B_5 c i arg1 harg1 arg2 harg2 arg5 harg5 arg6 harg6 arg7 harg7 arg8 harg8 arg9 harg9 arg10 harg10 arg11 harg11 arg12 harg12 hc0 hc1 hc2 x0 x1 x2 x3 x4 xo7 xs0 xs1 fh0 fh1)]
  unfold kernelRun0_B
  dsimp only
  sl_unfold_words
  rw [View.canon_unit_zero off2]
  simp only [View.readAt_eq_ld, load_whole, harg1.read_unread, harg2.read_unread, harg5.read_unread,
    harg6.read_unread, harg7.read_unread, harg10.read_unread, harg11.read_unread, harg12.read_unread,
    View.ld_unit_zero (S := S512x1024) off2, View.ld_unit_zero (S := S1x1024) off2]
  rfl

/-- What a later point leaves in the output `dxb`. -/
theorem dxb_later (hc0 : ¬cond0_0 i) (hc1 : ¬cond0_1 i) (hc2 : cond0_2 i) :
    out0_B_6 c i arg1 harg1 arg2 harg2 arg5 harg5 arg6 harg6 arg7 harg7 arg8 harg8 arg9 harg9 arg10 harg10 arg11 harg11 arg12 harg12 hc0 hc1 hc2 x0 x1 x2 x3 x4 xo7 xs0 xs1 fh0 fh1 = k0_pay4 (dhBlock x0 x1 xs0 xs1) x2 x4 (k0_pay9 x2) x3 := by
  unfold out0_B_6
  rw [View.read_writes_eq_canon _ _ _ (cover0_B_6 c i arg1 harg1 arg2 harg2 arg5 harg5 arg6 harg6 arg7 harg7 arg8 harg8 arg9 harg9 arg10 harg10 arg11 harg11 arg12 harg12 hc0 hc1 hc2 x0 x1 x2 x3 x4 xo7 xs0 xs1 fh0 fh1)]
  unfold kernelRun0_B
  dsimp only
  sl_unfold_words
  rw [View.canon_unit_zero off2]
  simp only [View.readAt_eq_ld, load_whole, harg1.read_unread, harg2.read_unread, harg5.read_unread,
    harg6.read_unread, harg7.read_unread, harg10.read_unread, harg11.read_unread, harg12.read_unread,
    View.ld_unit_zero (S := S512x1024) off2, View.ld_unit_zero (S := S1x1024) off2]
  rfl

/-- What a later point leaves in the output `dgain`. -/
theorem dgain_later (hc0 : ¬cond0_0 i) (hc1 : ¬cond0_1 i) (hc2 : cond0_2 i) :
    out0_B_7 c i arg1 harg1 arg2 harg2 arg5 harg5 arg6 harg6 arg7 harg7 arg8 harg8 arg9 harg9 arg10 harg10 arg11 harg11 arg12 harg12 hc0 hc1 hc2 x0 x1 x2 x3 x4 xo7 xs0 xs1 fh0 fh1 = k0_pay6 (dhBlock x0 x1 xs0 xs1) x2 (k0_pay9 x2) xo7 := by
  unfold out0_B_7
  rw [View.read_writes_eq_canon _ _ _ (cover0_B_7 c i arg1 harg1 arg2 harg2 arg5 harg5 arg6 harg6 arg7 harg7 arg8 harg8 arg9 harg9 arg10 harg10 arg11 harg11 arg12 harg12 hc0 hc1 hc2 x0 x1 x2 x3 x4 xo7 xs0 xs1 fh0 fh1)]
  unfold kernelRun0_B
  dsimp only
  sl_unfold_words
  rw [View.canon_unit_zero off2]
  simp only [View.readAt_eq_ld, load_whole, harg1.read_unread, harg2.read_unread, harg5.read_unread,
    harg6.read_unread, harg7.read_unread, harg10.read_unread, harg11.read_unread, harg12.read_unread,
    View.ld_unit_zero (S := S512x1024) off2, View.ld_unit_zero (S := S1x1024) off2]
  rfl

end Cert.Kernel4Ideal.Hand
-- ==== Proof.Norm.lean ====
/-
  The root-mean-square norm of a row of 1024 entries and its backward step, at the extended reals; which entries are real
  numbers; and the equation between two ways of writing the backward step on rows of real numbers.
-/
module

public import Idealize.ShloMosaic.PureOps
public import Idealize.ShloMosaic.PureOps.Ideal
public import Idealize.ShloMosaic.Lib.Pointwise

@[expose] public section

set_option maxRecDepth 16384

noncomputable section

open Idealize.ShloMosaic

namespace Cert.Norm

/-- The reciprocal root of the mean of the squares and the small constant. -/
def rstd (x : Fin 1024 → EReal) : EReal :=
  Ideal.rsqrt (Ideal.div (∑ k, x k * x k) (Ideal.ofBits .f32 0x44800000#32) + Ideal.ofBits .f32 0x358637BD#32)

/-- The backward step of the norm: `x` is the row, `y` the gain times the cotangent. -/
def back (x y : Fin 1024 → EReal) (d : Fin 1024) : EReal :=
  rstd x * (y d - x d * rstd x * Ideal.div (∑ k, y k * (x k * rstd x)) (Ideal.ofBits .f32 0x44800000#32))

/-- A real number. -/
def IsReal (a : EReal) : Prop := ∃ r : ℝ, a = (r : EReal)

theorem IsReal.coe (r : ℝ) : IsReal (r : EReal) := ⟨r, rfl⟩

theorem IsReal.add {a b : EReal} : IsReal a → IsReal b → IsReal (a + b) := by
  rintro ⟨r, rfl⟩ ⟨s, rfl⟩; exact ⟨r + s, (EReal.coe_add r s).symm⟩

theorem IsReal.sub {a b : EReal} : IsReal a → IsReal b → IsReal (a - b) := by
  rintro ⟨r, rfl⟩ ⟨s, rfl⟩; exact ⟨r - s, (EReal.coe_sub r s).symm⟩

theorem IsReal.neg {a : EReal} : IsReal a → IsReal (-a) := by
  rintro ⟨r, rfl⟩; exact ⟨-r, (EReal.coe_neg r).symm⟩

theorem IsReal.mul {a b : EReal} : IsReal a → IsReal b → IsReal (a * b) := by
  rintro ⟨r, rfl⟩ ⟨s, rfl⟩; exact ⟨r * s, (EReal.coe_mul r s).symm⟩

theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem IsReal.sum {ι : Type*} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩

theorem thousand : Ideal.ofBits .f32 0x44800000#32 = ((1024 : ℝ) : EReal) := by
  simp [Ideal.ofBits, Ideal.ieee, -EReal.coe_mul]
  norm_num

theorem one : Ideal.ofBits .f32 0x3F800000#32 = ((1 : ℝ) : EReal) := by
  simp [Ideal.ofBits, Ideal.ieee, -EReal.coe_mul]
  norm_num

theorem half : Ideal.ofBits .f32 0x3F000000#32 = ((1 / 2 : ℝ) : EReal) := by
  simp [Ideal.ofBits, Ideal.ieee, -EReal.coe_mul]
  norm_num

theorem neg_half : Ideal.ofBits .f32 0xBF000000#32 = ((-(1 / 2) : ℝ) : EReal) := by
  simp [Ideal.ofBits, Ideal.ieee, -EReal.coe_mul]
  norm_num

theorem infinity : Ideal.ofBits .f32 0x7F800000#32 = ⊤ := by
  simp [Ideal.ofBits, Ideal.ieee]

/-- A comparison that says that a number's size is below infinity says that the number is real. -/
theorem isReal_of_finite (a : EReal) (h : Ideal.cmp .olt (max a (-a)) (Ideal.ofBits .f32 0x7F800000#32) = 1#1) : IsReal a := by
  rw [infinity] at h
  induction a with
  | bot => simp [Ideal.cmp] at h
  | top => simp [Ideal.cmp] at h
  | coe r => exact ⟨r, rfl⟩

/-- The small constant is a positive real number. -/
theorem eps : ∃ e : ℝ, 0 < e ∧ Ideal.ofBits .f32 0x358637BD#32 = (e : EReal) := by
  refine ⟨8796093 * (2 ^ 43)⁻¹, by norm_num, ?_⟩
  simp [Ideal.ofBits, Ideal.ieee, -EReal.coe_mul]

theorem div_real (a : ℝ) {b : ℝ} (h : b ≠ 0) : Ideal.div (a : EReal) (b : EReal) = ((a / b : ℝ) : EReal) := by
  rw [Ideal.div_coe h, ← EReal.coe_mul, mul_one_div]

/-- The logistic factor `1 / (1 + exp (-a))` of a real number. -/
theorem sigmoid_real (a : ℝ) : Ideal.div ((1 : ℝ) : EReal) (((1 : ℝ) : EReal) + Ideal.exp (-(a : EReal)))
    = ((1 / (1 + Real.exp (-a)) : ℝ) : EReal) := by
  have h : (0 : ℝ) < 1 + Real.exp (-a) := by positivity
  rw [← EReal.coe_neg, Ideal.exp_coe, ← EReal.coe_add, div_real _ h.ne']

/-- On a row of real numbers: the mean of the squares with the small constant, positive, and its reciprocal root. -/
theorem rstd_real (x : Fin 1024 → ℝ) : ∃ v : ℝ, 0 < v
    ∧ Ideal.div (∑ k, (x k : EReal) * (x k : EReal)) (Ideal.ofBits .f32 0x44800000#32) + Ideal.ofBits .f32 0x358637BD#32 = (v : EReal)
    ∧ rstd (fun k => (x k : EReal)) = (((Real.sqrt v)⁻¹ : ℝ) : EReal) := by
  obtain ⟨e, he, hb⟩ := eps
  have hs : (∑ k, (x k : EReal) * (x k : EReal)) = ((∑ k, x k * x k : ℝ) : EReal) := by
    rw [coe_sum]; exact Finset.sum_congr rfl fun k _ => (EReal.coe_mul _ _).symm
  have hp : 0 ≤ ∑ k, x k * x k := Finset.sum_nonneg fun k _ => mul_self_nonneg (x k)
  have hv : 0 < (∑ k, x k * x k) / 1024 + e := by positivity
  have h1 : Ideal.div (∑ k, (x k : EReal) * (x k : EReal)) (Ideal.ofBits .f32 0x44800000#32) + Ideal.ofBits .f32 0x358637BD#32
      = (((∑ k, x k * x k) / 1024 + e : ℝ) : EReal) := by
    rw [hs, thousand, div_real _ (by norm_num), hb, ← EReal.coe_add]
  refine ⟨_, hv, h1, ?_⟩
  unfold rstd
  rw [h1, Ideal.rsqrt_coe, if_neg (not_lt.mpr hv.le), if_neg hv.ne']

theorem isReal_rstd {x : Fin 1024 → EReal} (h : ∀ k, IsReal (x k)) : IsReal (rstd x) := by
  choose g hg using h
  obtain ⟨v, _, _, e⟩ := rstd_real g
  rw [show x = fun k => (g k : EReal) from funext hg, e]
  exact ⟨_, rfl⟩

/-- The backward step as the derivative of the norm's formula writes it: `c` is the cotangent that comes in besides, `q`
    the derivative of the reciprocal root, `s` the cotangent of the mean of the squares, which enters twice. On rows of
    real numbers it is the step above. -/
theorem back_eq (x y : Fin 1024 → EReal) (hx : ∀ k, IsReal (x k)) (hy : ∀ k, IsReal (y k)) (c : EReal) (hc : IsReal c) (d : Fin 1024)
    (v : EReal) (hv : v = Ideal.div (∑ k, x k * x k) (Ideal.ofBits .f32 0x44800000#32) + Ideal.ofBits .f32 0x358637BD#32)
    (s : EReal) (hs : s = Ideal.div ((∑ k, x k * y k) * (Ideal.ofBits .f32 0xBF000000#32 * Ideal.div (rstd x) v)) (Ideal.ofBits .f32 0x44800000#32)) :
    c + y d * rstd x + x d * s + s * x d = c + back x y d := by
  choose g hg using hx
  choose h hh using hy
  obtain ⟨cr, rfl⟩ := hc
  obtain rfl : x = fun k => (g k : EReal) := funext hg
  obtain rfl : y = fun k => (h k : EReal) := funext hh
  obtain ⟨w, hw, e1, e2⟩ := rstd_real g
  have hr : 0 < (Real.sqrt w)⁻¹ := inv_pos.mpr (Real.sqrt_pos.mpr hw)
  have hq : (Real.sqrt w)⁻¹ * (Real.sqrt w)⁻¹ = 1 / w := by
    rw [← mul_inv, Real.mul_self_sqrt hw.le, one_div]
  have t1 : (∑ k, (g k : EReal) * (h k : EReal)) = ((∑ k, g k * h k : ℝ) : EReal) := by
    rw [coe_sum]; exact Finset.sum_congr rfl fun k _ => (EReal.coe_mul _ _).symm
  generalize hR : (Real.sqrt w)⁻¹ = R at e2 hr hq
  have t2 : (∑ k, (h k : EReal) * ((g k : EReal) * (R : EReal))) = (((∑ k, g k * h k) * R : ℝ) : EReal) := by
    rw [Finset.sum_mul, coe_sum]
    refine Finset.sum_congr rfl fun k _ => ?_
    rw [← EReal.coe_mul, ← EReal.coe_mul]
    congr 1; ring
  subst hv hs
  unfold back
  simp only [e2]
  rw [e1, t1, t2, neg_half, thousand, div_real _ hw.ne', ← EReal.coe_mul, ← EReal.coe_mul, ← EReal.coe_mul, div_real _ (by norm_num), div_real _ (by norm_num)]
  simp only [← EReal.coe_mul, ← EReal.coe_add, ← EReal.coe_sub]
  congr 1
  have : R / w = R * (R * R) := by rw [hq]; ring
  rw [this]
  ring

end Cert.Norm
-- ==== Proof.DxBlock.lean ====
/-
  The kernel of the gradients of the half-block's input and of its norm's gain (`Kernel4Ideal`), one block of rows at an
  index, at the extended reals.
-/
module

public import proofs.«01_k».proof.Proof.DxKernel
public import proofs.«01_k».proof.Proof.Norm

@[expose] public section

set_option maxRecDepth 16384

noncomputable section

open Idealize.ShloMosaic Idealize.ShloMosaic.TcCoe Idealize.SL.Sem

namespace Cert.Kernel4Ideal.Hand

open Cert.Kernel4Ideal Cert.Kernel4Ideal.Gen Cert.Kernel4Ideal.Value

/-- The cotangent of the norm's output at an index: over the four blocks of columns, the two branch cotangents' row times
    the weights' row. -/
theorem dhBlock_apply (x0 x1 : Vec Ideal S4x512x704 .bf16) (w0 w1 : Vec Ideal S4x1024x704 .bf16) (r : Fin 512) (d : Fin 1024) :
    dhBlock (F := Ideal) x0 x1 w0 w1 (ix2 r d) = (∑ b : Fin 4, (∑ f : Fin 704, x0 (ix3 b r f) * w0 (ix3 b d f)
      + ∑ f : Fin 704, x1 (ix3 b r f) * w1 (ix3 b d f)) : EReal) := by
  rw [Fin.sum_univ_four]
  unfold dhBlock
  simp only [View.ld_unit]
  pointwise [k0_pay8, k0_pay7]

/-- What a point stores in `dx`, at an index: the row's cotangent sent back through the norm, added to what comes in. -/
theorem dx_apply (dh x2 x3 : Vec Ideal S512x1024 .f32) (x4 : Vec Ideal S1x1024 .f32) (r : Fin 512) (d : Fin 1024) :
    k0_pay3 (F := Ideal) dh x2 x4 (k0_pay9 x2) x3 (ix2 r d)
      = x3 (ix2 r d) + Cert.Norm.back (fun k => x2 (ix2 r k)) (fun k => x4 (ix2 0 k) * dh (ix2 r k)) d := by
  unfold Cert.Norm.back Cert.Norm.rstd
  pointwise [k0_pay3, k0_pay2, k0_pay1, k0_pay9]

/-- The second copy of it, in the narrower format, is the same. -/
theorem dxb_apply (dh x2 x3 : Vec Ideal S512x1024 .f32) (x4 : Vec Ideal S1x1024 .f32) (r : Fin 512) (d : Fin 1024) :
    k0_pay4 (F := Ideal) dh x2 x4 (k0_pay9 x2) x3 (ix2 r d)
      = x3 (ix2 r d) + Cert.Norm.back (fun k => x2 (ix2 r k)) (fun k => x4 (ix2 0 k) * dh (ix2 r k)) d := by
  unfold Cert.Norm.back Cert.Norm.rstd
  pointwise [k0_pay4, k0_pay3, k0_pay2, k0_pay1, k0_pay9]

/-- What a block of rows adds to the gain's gradient. -/
theorem dgain_apply (dh x2 : Vec Ideal S512x1024 .f32) (d : Fin 1024) :
    k0_pay5 (F := Ideal) dh x2 (k0_pay9 x2) (ix2 0 d)
      = ∑ r : Fin 512, dh (ix2 r d) * (x2 (ix2 r d) * Cert.Norm.rstd (fun k => x2 (ix2 r k))) := by
  unfold Cert.Norm.rstd
  pointwise [k0_pay5, k0_pay2, k0_pay1, k0_pay9]

theorem dgain_next_apply (dh x2 : Vec Ideal S512x1024 .f32) (o : Vec Ideal S1x1024 .f32) (d : Fin 1024) :
    k0_pay6 (F := Ideal) dh x2 (k0_pay9 x2) o (ix2 0 d)
      = o (ix2 0 d) + ∑ r : Fin 512, dh (ix2 r d) * (x2 (ix2 r d) * Cert.Norm.rstd (fun k => x2 (ix2 r k))) := by
  unfold Cert.Norm.rstd
  pointwise [k0_pay6, k0_pay5, k0_pay2, k0_pay1, k0_pay9]

/-- The copied weights at an index. -/
theorem gateW_apply {c : Dev nD} (w : Vec Ideal S4x2048x704 .bf16) (b : Fin 4) (d : Fin 1024) (f : Fin 704) :
    gateW (F := Ideal) (c := c) w (ix3 b d f) = w (ix3 b ⟨d.val, by omega⟩ f) := by
  unfold gateW
  rw [View.read_apply]
  refine congrArg w ?_
  funext a
  apply Fin.ext
  match a with
  | ⟨0, _⟩ => show 0 + 1 * b.val = b.val; omega
  | ⟨1, _⟩ => show 0 + 1 * d.val = d.val; omega
  | ⟨2, _⟩ => show 0 + 1 * f.val = f.val; omega
theorem upW_apply {c : Dev nD} (w : Vec Ideal S4x2048x704 .bf16) (b : Fin 4) (d : Fin 1024) (f : Fin 704) :
    upW (F := Ideal) (c := c) w (ix3 b d f) = w (ix3 b ⟨1024 + d.val, by omega⟩ f) := by
  unfold upW
  rw [View.read_apply]
  refine congrArg w ?_
  funext a
  apply Fin.ext
  match a with
  | ⟨0, _⟩ => show 0 + 1 * b.val = b.val; omega
  | ⟨1, _⟩ => show 1024 + 1 * d.val = 1024 + d.val; omega
  | ⟨2, _⟩ => show 0 + 1 * f.val = f.val; omega

end Cert.Kernel4Ideal.Hand
-- ==== Proof.DxFold.lean ====
/-
  The three result arrays of the kernel of the gradients of the half-block's input and of its norm's gain, at an index, over
  the arrays that the region reads, at the extended reals.
-/
module

public import proofs.«01_k».proof.Proof.DxBlock
public import proofs.«01_k».proof.Proof.Sums

@[expose] public section

set_option maxRecDepth 16384

noncomputable section

open Idealize.ShloMosaic Idealize.ShloMosaic.TcCoe Idealize.SL.Sem
open Idealize.ShloMosaic.Pipeline (Dat)

namespace Cert.Kernel4Ideal.Hand

open Cert.Kernel4Ideal Cert.Kernel4Ideal.Gen Cert.Kernel4Ideal.Value

variable (m : (ℓ : Loc nD τ sig) → Buf (Elt Ideal) ℓ)

/-- The arrays the region reads: the two branch cotangents, each as a stack of four blocks of columns; the weights, the
    gate's above the up branch's in each block; the rows, their cotangent and the gain. -/
abbrev daArr (c : Dev nD) : Vec Ideal S4x16384x704 .bf16 := V m c main_v76
abbrev duArr (c : Dev nD) : Vec Ideal S4x16384x704 .bf16 := V m c main_v86
abbrev wgArr (c : Dev nD) : Vec Ideal S4x2048x704 .bf16 := V m c main_v45
abbrev wuArr (c : Dev nD) : Vec Ideal S4x2048x704 .bf16 := V m c main_v66
abbrev xArr (c : Dev nD) : Vec Ideal S16384x1024 .f32 := V m c main_arg0
abbrev ctArr (c : Dev nD) : Vec Ideal S16384x1024 .f32 := V m c main_arg5
abbrev gainArr (c : Dev nD) : Vec Ideal S1x1024 .f32 := V m c main_arg1

/-- The cotangent of the norm's output, at an index. -/
def dh (c : Dev nD) (r : Fin 16384) (d : Fin 1024) : EReal :=
  ∑ b : Fin 4, (∑ f : Fin 704, daArr m c (ix3 b r f) * wgArr m c (ix3 b ⟨d.val, by omega⟩ f)
    + ∑ f : Fin 704, duArr m c (ix3 b r f) * wuArr m c (ix3 b ⟨1024 + d.val, by omega⟩ f) : EReal)

/-- Where the windows stand at point `t`. -/
theorem index_da : ∀ t : Fin grid0.N, win0_0.index t 0 = 0 ∧ win0_0.index t 1 = t.val ∧ win0_0.index t 2 = 0 := by
  decide +kernel
theorem index_du : ∀ t : Fin grid0.N, win0_1.index t 0 = 0 ∧ win0_1.index t 1 = t.val ∧ win0_1.index t 2 = 0 := by
  decide +kernel
theorem index_x : ∀ t : Fin grid0.N, win0_2.index t 0 = t.val ∧ win0_2.index t 1 = 0 := by
  decide +kernel
theorem index_ct : ∀ t : Fin grid0.N, win0_3.index t 0 = t.val ∧ win0_3.index t 1 = 0 := by
  decide +kernel
theorem index_gain : ∀ t : Fin grid0.N, win0_4.index t 0 = 0 ∧ win0_4.index t 1 = 0 := by
  decide +kernel
theorem index_dx : ∀ t : Fin grid0.N, win0_5.index t 0 = t.val ∧ win0_5.index t 1 = 0 := by
  decide +kernel
theorem index_dxb : ∀ t : Fin grid0.N, win0_6.index t 0 = t.val ∧ win0_6.index t 1 = 0 := by
  decide +kernel
theorem index_dgain : ∀ t : Fin grid0.N, win0_7.index t 0 = 0 ∧ win0_7.index t 1 = 0 := by
  decide +kernel

/-- The blocks the kernel reads at point `t`, at an index. -/
theorem block_da (c : Dev nD) (t : Fin cfg0.N) (b : Fin 4) (k : Fin 512) (f : Fin 704) (r : Fin 16384)
    (hr : r.val = 512 * t.val + k.val) : iblk m c 0 t (ix3 b k f) = V m c main_v76 (ix3 b r f) := by
  have hi := index_da t
  unfold iblk
  rw [View.read_apply]
  refine congrArg (V m c main_v76) ?_
  funext a
  apply Fin.ext
  match a with
  | ⟨0, _⟩ => show win0_0.index t 0 * 4 + 1 * b.val = b.val; omega
  | ⟨1, _⟩ => show win0_0.index t 1 * 512 + 1 * k.val = r.val; omega
  | ⟨2, _⟩ => show win0_0.index t 2 * 704 + 1 * f.val = f.val; omega
theorem block_du (c : Dev nD) (t : Fin cfg0.N) (b : Fin 4) (k : Fin 512) (f : Fin 704) (r : Fin 16384)
    (hr : r.val = 512 * t.val + k.val) : iblk m c 1 t (ix3 b k f) = V m c main_v86 (ix3 b r f) := by
  have hi := index_du t
  unfold iblk
  rw [View.read_apply]
  refine congrArg (V m c main_v86) ?_
  funext a
  apply Fin.ext
  match a with
  | ⟨0, _⟩ => show win0_1.index t 0 * 4 + 1 * b.val = b.val; omega
  | ⟨1, _⟩ => show win0_1.index t 1 * 512 + 1 * k.val = r.val; omega
  | ⟨2, _⟩ => show win0_1.index t 2 * 704 + 1 * f.val = f.val; omega
theorem block_x (c : Dev nD) (t : Fin cfg0.N) (k : Fin 512) (d : Fin 1024) (r : Fin 16384)
    (hr : r.val = 512 * t.val + k.val) : iblk m c 2 t (ix2 k d) = V m c main_arg0 (ix2 r d) := by
  have hi := index_x t
  unfold iblk
  rw [View.read_apply]
  refine congrArg (V m c main_arg0) ?_
  funext a
  apply Fin.ext
  match a with
  | ⟨0, _⟩ => show win0_2.index t 0 * 512 + 1 * k.val = r.val; omega
  | ⟨1, _⟩ => show win0_2.index t 1 * 1024 + 1 * d.val = d.val; omega
theorem block_ct (c : Dev nD) (t : Fin cfg0.N) (k : Fin 512) (d : Fin 1024) (r : Fin 16384)
    (hr : r.val = 512 * t.val + k.val) : iblk m c 3 t (ix2 k d) = V m c main_arg5 (ix2 r d) := by
  have hi := index_ct t
  unfold iblk
  rw [View.read_apply]
  refine congrArg (V m c main_arg5) ?_
  funext a
  apply Fin.ext
  match a with
  | ⟨0, _⟩ => show win0_3.index t 0 * 512 + 1 * k.val = r.val; omega
  | ⟨1, _⟩ => show win0_3.index t 1 * 1024 + 1 * d.val = d.val; omega
theorem block_gain (c : Dev nD) (t : Fin cfg0.N) (d : Fin 1024) : iblk m c 4 t (ix2 0 d) = V m c main_arg1 (ix2 0 d) := by
  have hi := index_gain t
  unfold iblk
  rw [View.read_apply]
  refine congrArg (V m c main_arg1) ?_
  funext a
  apply Fin.ext
  match a with
  | ⟨0, _⟩ => show win0_4.index t 0 * 1 + 1 * 0 = 0; omega
  | ⟨1, _⟩ => show win0_4.index t 1 * 1024 + 1 * d.val = d.val; omega

/-- The cotangent of the norm's output on the rows of point `t`. -/
abbrev dhAt (c : Dev nD) (t : Fin cfg0.N) : FVec Ideal S512x1024 .f32 :=
  dhBlock (F := Ideal) (iblk m c 0 t) (iblk m c 1 t) (gateW (c := c) (V m c main_v45)) (upW (c := c) (V m c main_v66))

theorem dhAt_apply (c : Dev nD) (t : Fin cfg0.N) (k : Fin 512) (d : Fin 1024) (r : Fin 16384)
    (hr : r.val = 512 * t.val + k.val) : dhAt m c t (ix2 k d) = dh m c r d := by
  unfold dhAt dh
  rw [dhBlock_apply]
  refine Finset.sum_congr rfl fun b _ => congrArg₂ (· + ·) ?_ ?_
  · refine Finset.sum_congr rfl fun f _ => ?_
    rw [block_da m c t b k f r hr, gateW_apply]
  · refine Finset.sum_congr rfl fun f _ => ?_
    rw [block_du m c t b k f r hr, upW_apply]

/-- What point `n` of the grid adds to the gain's gradient (nothing past the grid). -/
def addend (c : Dev nD) (n : ℕ) (d : Fin 1024) : EReal :=
  if h : n < cfg0.N then k0_pay5 (F := Ideal) (dhAt m c ⟨n, h⟩) (iblk m c 2 ⟨n, h⟩) (k0_pay9 (iblk m c 2 ⟨n, h⟩)) (ix2 0 d) else 0

set_option maxHeartbeats 4000000 in
/-- What every point leaves: the scratches keep the copied weights, the two row results are those of its rows, and the
    gain's gradient is the sum of what the points so far add. -/
theorem outs (c : Dev nD) : ∀ (n : ℕ) (h : n < cfg0.N),
    (outsAt0 m c n h).1 = k0_pay3 (F := Ideal) (dhAt m c ⟨n, h⟩) (iblk m c 2 ⟨n, h⟩) (iblk m c 4 ⟨n, h⟩) (k0_pay9 (iblk m c 2 ⟨n, h⟩)) (iblk m c 3 ⟨n, h⟩)
    ∧ (outsAt0 m c n h).2.1 = k0_pay4 (F := Ideal) (dhAt m c ⟨n, h⟩) (iblk m c 2 ⟨n, h⟩) (iblk m c 4 ⟨n, h⟩) (k0_pay9 (iblk m c 2 ⟨n, h⟩)) (iblk m c 3 ⟨n, h⟩)
    ∧ (∀ d : Fin 1024, (outsAt0 m c n h).2.2.1 (ix2 0 d) = ∑ s ∈ Finset.range (n + 1), addend m c s d)
    ∧ (outsAt0 m c n h).2.2.2.1 = gateW (c := c) (V m c main_v45)
    ∧ (outsAt0 m c n h).2.2.2.2 = upW (c := c) (V m c main_v66)
  | 0, h => by
    rw [outsAt0_A m c ⟨0, h⟩ (Nat.zero_mod _) (Nat.zero_mod _) (by dsimp only; omega)]
    dsimp only
    rw [dx_first, dxb_first, dgain_first, scratch0_first, scratch1_first]
    refine ⟨rfl, rfl, fun d => ?_, rfl, rfl⟩
    rw [Finset.sum_range_one]
    unfold addend
    rw [dif_pos h]
  | n + 1, h => by
    have hN : cfg0.N = 32 := N_0
    obtain ⟨-, -, i3, i4, i5⟩ := outs c n (by omega)
    rw [outsAt0_B m c ⟨n + 1, h⟩ (by dsimp only; omega) (by dsimp only; omega) (by dsimp only; omega)]
    dsimp only
    rw [dx_later, dxb_later, dgain_later]
    simp only [Nat.add_sub_cancel]
    refine ⟨?_, ?_, fun d => ?_, ?_, ?_⟩
    · rw [i4, i5]
    · rw [i4, i5]
    · rw [i4, i5, dgain_next_apply, i3 d]
      refine (congrArg _ ?_).trans (Finset.sum_range_succ (fun s => addend m c s d) (n + 1)).symm
      unfold addend
      rw [dif_pos h, dgain_apply]
    · exact i4
    · exact i5

/-- The grid point that holds row `r`. -/
abbrev pt (r : Fin 16384) : Fin cfg0.N := ⟨r.val / 512, by have hN : cfg0.N = 32 := N_0; omega⟩

/-- The first result at an index. -/
theorem dx_result (c : Dev nD) (r : Fin 16384) (d : Fin 1024) : (dats m 0 c).arrAt 5 cfg0.N (ix2 r d)
    = (ctArr m c (ix2 r d) + Cert.Norm.back (fun k => xArr m c (ix2 r k)) (fun k => gainArr m c (ix2 0 k) * dh m c r k) d : EReal) := by
  have hi := index_dx (pt r)
  have e : ((cfg0.win 5).blk (pt r)).view.emb (ix2 (⟨r.val % 512, by omega⟩ : Fin 512) d) = ix2 r d := by
    funext a
    apply Fin.ext
    match a with
    | ⟨0, _⟩ => show win0_5.index (pt r) 0 * 512 + 1 * (r.val % 512) = r.val; rw [hi.1]; show r.val / 512 * 512 + _ = _; omega
    | ⟨1, _⟩ => show win0_5.index (pt r) 1 * 1024 + 1 * d.val = d.val; omega
  have h := (dats m 0 c).arrAt_emb_eq_flushed 5 disjoint5 (pt r) (flush0_5 (pt r)) (ix2 (⟨r.val % 512, by omega⟩ : Fin 512) d)
  rw [e] at h
  refine h.trans ?_
  show (dats m 0 c).flushed 5 (pt r) (ix2 (⟨r.val % 512, by omega⟩ : Fin 512) d) = _
  rw [flushed5]
  show (outsAt0 m c (pt r).val (pt r).isLt).1 (ix2 (⟨r.val % 512, by omega⟩ : Fin 512) d) = _
  have hr : r.val = 512 * (pt r).val + (⟨r.val % 512, by omega⟩ : Fin 512).val := by dsimp only; omega
  rw [(outs m c _ _).1, dx_apply, block_ct m c _ _ d r hr]
  simp only [block_x m c _ _ _ r hr, block_gain, dhAt_apply m c _ _ _ r hr]

/-- The second result at an index. -/
theorem dxb_result (c : Dev nD) (r : Fin 16384) (d : Fin 1024) : (dats m 0 c).arrAt 6 cfg0.N (ix2 r d)
    = (ctArr m c (ix2 r d) + Cert.Norm.back (fun k => xArr m c (ix2 r k)) (fun k => gainArr m c (ix2 0 k) * dh m c r k) d : EReal) := by
  have hi := index_dxb (pt r)
  have e : ((cfg0.win 6).blk (pt r)).view.emb (ix2 (⟨r.val % 512, by omega⟩ : Fin 512) d) = ix2 r d := by
    funext a
    apply Fin.ext
    match a with
    | ⟨0, _⟩ => show win0_6.index (pt r) 0 * 512 + 1 * (r.val % 512) = r.val; rw [hi.1]; show r.val / 512 * 512 + _ = _; omega
    | ⟨1, _⟩ => show win0_6.index (pt r) 1 * 1024 + 1 * d.val = d.val; omega
  have h := (dats m 0 c).arrAt_emb_eq_flushed 6 disjoint6 (pt r) (flush0_6 (pt r)) (ix2 (⟨r.val % 512, by omega⟩ : Fin 512) d)
  rw [e] at h
  refine h.trans ?_
  show (dats m 0 c).flushed 6 (pt r) (ix2 (⟨r.val % 512, by omega⟩ : Fin 512) d) = _
  rw [flushed6]
  show (outsAt0 m c (pt r).val (pt r).isLt).2.1 (ix2 (⟨r.val % 512, by omega⟩ : Fin 512) d) = _
  have hr : r.val = 512 * (pt r).val + (⟨r.val % 512, by omega⟩ : Fin 512).val := by dsimp only; omega
  rw [(outs m c _ _).2.1, dxb_apply, block_ct m c _ _ d r hr]
  simp only [block_x m c _ _ _ r hr, block_gain, dhAt_apply m c _ _ _ r hr]

/-- Only the last point writes the gain's gradient back. -/
theorem disjoint7 : ∀ t t' : Fin cfg0.N, (cfg0.win 7).flush t = true → (cfg0.win 7).flush t' = true → t ≠ t' →
    Disjoint ((cfg0.win 7).blk t).view.set ((cfg0.win 7).blk t').view.set := fun t t' h h' hne => by
  have hN : cfg0.N = 32 := N_0
  have e := (flush0_7 t).mp h
  have e' := (flush0_7 t').mp h'
  exact absurd (Fin.ext (by have := t.isLt; have := t'.isLt; omega)) hne

/-- The gain's gradient at an index: one sum over all the rows. -/
theorem dgain_result (c : Dev nD) (d : Fin 1024) : (dats m 0 c).arrAt 7 cfg0.N (ix2 0 d)
    = (∑ r : Fin 16384, dh m c r d * (xArr m c (ix2 r d) * Cert.Norm.rstd (fun k => xArr m c (ix2 r k))) : EReal) := by
  have hN : cfg0.N = 32 := N_0
  have hl : 31 < cfg0.N := by omega
  have hi := index_dgain ⟨31, hl⟩
  have e : ((cfg0.win 7).blk ⟨31, hl⟩).view.emb (ix2 (0 : Fin 1) d) = ix2 0 d := by
    funext a
    apply Fin.ext
    match a with
    | ⟨0, _⟩ => show win0_7.index ⟨31, hl⟩ 0 * 1 + 1 * 0 = 0; omega
    | ⟨1, _⟩ => show win0_7.index ⟨31, hl⟩ 1 * 1024 + 1 * d.val = d.val; omega
  have h := (dats m 0 c).arrAt_emb_eq_flushed 7 disjoint7 ⟨31, hl⟩ ((flush0_7 _).mpr (by rfl)) (ix2 (0 : Fin 1) d)
  rw [e] at h
  refine h.trans ?_
  show (dats m 0 c).flushed 7 ⟨31, hl⟩ (ix2 (0 : Fin 1) d) = _
  rw [flushed7]
  show (outsAt0 m c 31 hl).2.2.1 (ix2 (0 : Fin 1) d) = _
  rw [(outs m c 31 hl).2.2.1 d, Finset.sum_range, Cert.Sums.sum_blocks 32 512 rfl]
  refine Finset.sum_congr rfl fun s _ => ?_
  unfold addend
  rw [dif_pos (by omega), dgain_apply]
  refine Finset.sum_congr rfl fun k _ => ?_
  have hr : (⟨512 * s.val + k.val, by omega⟩ : Fin 16384).val = 512 * (⟨s.val, by omega⟩ : Fin cfg0.N).val + k.val := rfl
  rw [dhAt_apply m c _ k d _ hr]
  simp only [block_x m c _ k _ _ hr]

end Cert.Kernel4Ideal.Hand
-- ==== Proof.DxHost.lean ====
/-
  The arrays that the host prepares for the kernel of the gradients of the half-block's input and of its norm's gain, at an
  index: the reference's own branch cotangents, and the two weights, each cut into blocks of columns. The reference's
  results at an index follow.
-/
module

public import proofs.«01_k».proof.Proof.DxFold
public import proofs.«01_k».proof.Proof.Gen.Reference4Ideal.Read

@[expose] public section

set_option maxRecDepth 16384

noncomputable section

open Idealize.ShloMosaic Idealize.ShloMosaic.TcCoe Idealize.SL.Sem

namespace Cert.Kernel4Ideal.Hand

open Cert.Kernel4Ideal Cert.Kernel4Ideal.Gen Cert.Kernel4Ideal.Value

variable (m : (ℓ : Loc nD τ sig) → Buf (Elt Ideal) ℓ)

/-- The contents at the region: the last stretch of host operations after the stretches before it. -/
theorem entry_split (c : Dev nD) (b : Ref sig .tc) : V m c b
    = StableHlo.after hostOps0_4 (StableHlo.after (hostOps0 ++ (hostOps0_1 ++ (hostOps0_2 ++ hostOps0_3))) fun b => m (c, b)) b := by
  unfold V
  simp only [List.flatten_cons, List.flatten_nil, List.append_nil]
  rw [← StableHlo.after_append]
  simp only [List.append_assoc]

/-- The two branch cotangents before they are cut into blocks: what the reference computes from the same arguments. -/
theorem gate_eq (c : Dev nD) : V m c main_v24 = Cert.Reference4Ideal.Read.val_main_v30 (F := Ideal) (m (c.tc.loc main_arg0)) (m (c.tc.loc main_arg1)) (m (c.tc.loc main_arg2)) (m (c.tc.loc main_arg3)) (m (c.tc.loc main_arg4)) (m (c.tc.loc main_arg5)) := by
  unfold V
  simp only [List.flatten_cons, List.flatten_nil, List.append_nil]
  after_reads_simp
  unfold Cert.Reference4Ideal.Read.val_main_v30 Cert.Reference4Ideal.Read.val_main_call1_v2 Cert.Reference4Ideal.Read.val_main_call1_v1 Cert.Reference4Ideal.Read.val_main_call1_v0
    Cert.Reference4Ideal.Read.val_main_v28 Cert.Reference4Ideal.Read.val_main_v26 Cert.Reference4Ideal.Read.val_main_v25 Cert.Reference4Ideal.Read.val_main_v23
  simp only [shapeCast_id]
  rfl
theorem up_eq (c : Dev nD) : V m c main_v22 = Cert.Reference4Ideal.Read.val_main_v27 (F := Ideal) (m (c.tc.loc main_arg0)) (m (c.tc.loc main_arg1)) (m (c.tc.loc main_arg2)) (m (c.tc.loc main_arg4)) (m (c.tc.loc main_arg5)) := by
  unfold V
  simp only [List.flatten_cons, List.flatten_nil, List.append_nil]
  after_reads_simp
  unfold Cert.Reference4Ideal.Read.val_main_v27 Cert.Reference4Ideal.Read.val_main_v26 Cert.Reference4Ideal.Read.val_main_v25 Cert.Reference4Ideal.Read.val_main_v23
  simp only [shapeCast_id]
  rfl

/-- The arguments the region reads as they come. -/
theorem x_eq (c : Dev nD) : xArr m c = m (c.tc.loc main_arg0) := by
  unfold xArr V
  simp only [List.flatten_cons, List.flatten_nil, List.append_nil]
  after_reads_simp
theorem gain_eq (c : Dev nD) : gainArr m c = m (c.tc.loc main_arg1) := by
  unfold gainArr V
  simp only [List.flatten_cons, List.flatten_nil, List.append_nil]
  after_reads_simp
theorem ct_eq (c : Dev nD) : ctArr m c = m (c.tc.loc main_arg5) := by
  unfold ctArr V
  simp only [List.flatten_cons, List.flatten_nil, List.append_nil]
  after_reads_simp

/-- Four arrays, stacked, in the narrower format. -/
def stackOf (a b c d : Vec Ideal S1x16384x704 .f32) : Vec Ideal S4x16384x704 .bf16 :=
  truncf (F := Ideal) .bf16 (concatenate S4x16384x704 0 [⟨S1x16384x704, a⟩, ⟨S1x16384x704, b⟩, ⟨S1x16384x704, c⟩, ⟨S1x16384x704, d⟩]
    concatenates_S1x16384x704_S1x16384x704_S1x16384x704_S1x16384x704_S4x16384x704_d0) bitsLt_bf16_f32

/-- Four blocks of 704 columns of an array, stacked. -/
def stack (y : Vec Ideal S16384x2816 .f32) : Vec Ideal S4x16384x704 .bf16 := stackOf
  (broadcastInDim S1x16384x704 ![1, 2] bcast_S16384x704_S1x16384x704_1_2 (extractStridedSlice S16384x704 ![0, 0] y slices_S16384x2816_S16384x704_0_0))
  (broadcastInDim S1x16384x704 ![1, 2] bcast_S16384x704_S1x16384x704_1_2 (extractStridedSlice S16384x704 ![0, 704] y slices_S16384x2816_S16384x704_0_704))
  (broadcastInDim S1x16384x704 ![1, 2] bcast_S16384x704_S1x16384x704_1_2 (extractStridedSlice S16384x704 ![0, 1408] y slices_S16384x2816_S16384x704_0_1408))
  (broadcastInDim S1x16384x704 ![1, 2] bcast_S16384x704_S1x16384x704_1_2 (extractStridedSlice S16384x704 ![0, 2112] y slices_S16384x2816_S16384x704_0_2112))

/-- The stack at an index: block `n` holds columns `704 n` to `704 n + 703`. -/
theorem stack_apply (y : Vec Ideal S16384x2816 .f32) (n : Fin 4) (r : Fin 16384) (f : Fin 704) :
    stack y (ix3 n r f) = y (ix2 r ⟨704 * n.val + f.val, by omega⟩) := by
  unfold stack stackOf
  pointwise
  fin_vals n with hn
  all_goals simp only [hn, Nat.reduceSub, Nat.reduceLT, ↓reduceDIte, ↓reduceIte, Nat.mul_zero, Nat.mul_one, Nat.zero_add, Nat.reduceMul]

/-- The stack of the `gate` cotangent. -/
theorem daArr_eq (c : Dev nD) : daArr m c = stack (V m c main_v24) := by
  unfold daArr
  rw [entry_split, entry_split]
  generalize StableHlo.after (hostOps0 (F := Ideal) ++ (hostOps0_1 ++ (hostOps0_2 ++ hostOps0_3))) _ = W
  unfold stack
  after_reads_simp
  show stackOf (StableHlo.upto hostOps0_4 W 50 (Proc.devRef .tc main_v71)) (StableHlo.upto hostOps0_4 W 50 (Proc.devRef .tc main_v72))
    (StableHlo.upto hostOps0_4 W 50 (Proc.devRef .tc main_v73)) (StableHlo.upto hostOps0_4 W 50 (Proc.devRef .tc main_v74)) = _
  after_reads_simp

/-- The stack of the `up` cotangent. -/
theorem duArr_eq (c : Dev nD) : duArr m c = stack (V m c main_v22) := by
  unfold duArr
  rw [entry_split, entry_split]
  generalize StableHlo.after (hostOps0 (F := Ideal) ++ (hostOps0_1 ++ (hostOps0_2 ++ hostOps0_3))) _ = W
  unfold stack
  after_reads_simp
  show stackOf (StableHlo.upto hostOps0_4 W 60 (Proc.devRef .tc main_v81)) (StableHlo.upto hostOps0_4 W 60 (Proc.devRef .tc main_v82))
    (StableHlo.upto hostOps0_4 W 60 (Proc.devRef .tc main_v83)) (StableHlo.upto hostOps0_4 W 60 (Proc.devRef .tc main_v84)) = _
  after_reads_simp

/-- Four blocks of a weight, stacked, in the narrower format. -/
def wstackOf (a b c d : Vec Ideal S1x1024x704 .f32) : Vec Ideal S4x1024x704 .bf16 :=
  truncf (F := Ideal) .bf16 (concatenate S4x1024x704 0 [⟨S1x1024x704, a⟩, ⟨S1x1024x704, b⟩, ⟨S1x1024x704, c⟩, ⟨S1x1024x704, d⟩]
    concatenates_S1x1024x704_S1x1024x704_S1x1024x704_S1x1024x704_S4x1024x704_d0) bitsLt_bf16_f32

/-- Four blocks of 704 columns of a weight, stacked. -/
def wstack (y : Vec Ideal S1024x2816 .f32) : Vec Ideal S4x1024x704 .bf16 := wstackOf
  (broadcastInDim S1x1024x704 ![1, 2] bcast_S1024x704_S1x1024x704_1_2 (extractStridedSlice S1024x704 ![0, 0] y slices_S1024x2816_S1024x704_0_0))
  (broadcastInDim S1x1024x704 ![1, 2] bcast_S1024x704_S1x1024x704_1_2 (extractStridedSlice S1024x704 ![0, 704] y slices_S1024x2816_S1024x704_0_704))
  (broadcastInDim S1x1024x704 ![1, 2] bcast_S1024x704_S1x1024x704_1_2 (extractStridedSlice S1024x704 ![0, 1408] y slices_S1024x2816_S1024x704_0_1408))
  (broadcastInDim S1x1024x704 ![1, 2] bcast_S1024x704_S1x1024x704_1_2 (extractStridedSlice S1024x704 ![0, 2112] y slices_S1024x2816_S1024x704_0_2112))

theorem wstack_apply (y : Vec Ideal S1024x2816 .f32) (n : Fin 4) (d : Fin 1024) (f : Fin 704) :
    wstack y (ix3 n d f) = y (ix2 d ⟨704 * n.val + f.val, by omega⟩) := by
  unfold wstack wstackOf
  pointwise
  fin_vals n with hn
  all_goals simp only [hn, Nat.reduceSub, Nat.reduceLT, ↓reduceDIte, ↓reduceIte, Nat.mul_zero, Nat.mul_one, Nat.zero_add, Nat.reduceMul]

/-- Two stacks, one above the other in every block. -/
def pair (a b : Vec Ideal S4x1024x704 .bf16) : Vec Ideal S4x2048x704 .bf16 :=
  concatenate S4x2048x704 1 [⟨S4x1024x704, a⟩, ⟨S4x1024x704, b⟩] concatenates_S4x1024x704_S4x1024x704_S4x2048x704_d1

theorem pair_upper (a b : Vec Ideal S4x1024x704 .bf16) (n : Fin 4) (d : Fin 1024) (f : Fin 704) :
    pair a b (ix3 n ⟨d.val, by omega⟩ f) = a (ix3 n d f) := by
  unfold pair
  pointwise
theorem pair_lower (a b : Vec Ideal S4x1024x704 .bf16) (n : Fin 4) (d : Fin 1024) (f : Fin 704) :
    pair a b (ix3 n ⟨1024 + d.val, by omega⟩ f) = b (ix3 n d f) := by
  unfold pair
  pointwise

/-- The two copies of the weights the region reads. -/
theorem wgArr_eq (c : Dev nD) : wgArr m c = pair (wstack (m (c.tc.loc main_arg2))) (wstack (m (c.tc.loc main_arg3))) := by
  have e2 : V m c main_arg2 = m (c.tc.loc main_arg2) := by
    unfold V
    simp only [List.flatten_cons, List.flatten_nil, List.append_nil]
    after_reads_simp
  have e3 : V m c main_arg3 = m (c.tc.loc main_arg3) := by
    unfold V
    simp only [List.flatten_cons, List.flatten_nil, List.append_nil]
    after_reads_simp
  rw [← e2, ← e3]
  unfold wgArr
  rw [entry_split, entry_split, entry_split]
  generalize StableHlo.after (hostOps0 (F := Ideal) ++ (hostOps0_1 ++ (hostOps0_2 ++ hostOps0_3))) _ = W
  unfold wstack
  after_reads_simp
  show pair (StableHlo.upto hostOps0_4 W 20 (Proc.devRef .tc main_v34)) (StableHlo.upto hostOps0_4 W 20 (Proc.devRef .tc main_v44)) = _
  after_reads_simp
  show pair (wstackOf (StableHlo.upto hostOps0_4 W 8 (Proc.devRef .tc main_v29)) (StableHlo.upto hostOps0_4 W 8 (Proc.devRef .tc main_v30))
    (StableHlo.upto hostOps0_4 W 8 (Proc.devRef .tc main_v31)) (StableHlo.upto hostOps0_4 W 8 (Proc.devRef .tc main_v32)))
    (wstackOf (StableHlo.upto hostOps0_4 W 18 (Proc.devRef .tc main_v39)) (StableHlo.upto hostOps0_4 W 18 (Proc.devRef .tc main_v40))
    (StableHlo.upto hostOps0_4 W 18 (Proc.devRef .tc main_v41)) (StableHlo.upto hostOps0_4 W 18 (Proc.devRef .tc main_v42))) = _
  after_reads_simp
theorem wuArr_eq (c : Dev nD) : wuArr m c = pair (wstack (m (c.tc.loc main_arg2))) (wstack (m (c.tc.loc main_arg3))) := by
  have e2 : V m c main_arg2 = m (c.tc.loc main_arg2) := by
    unfold V
    simp only [List.flatten_cons, List.flatten_nil, List.append_nil]
    after_reads_simp
  have e3 : V m c main_arg3 = m (c.tc.loc main_arg3) := by
    unfold V
    simp only [List.flatten_cons, List.flatten_nil, List.append_nil]
    after_reads_simp
  rw [← e2, ← e3]
  unfold wuArr
  rw [entry_split, entry_split, entry_split]
  generalize StableHlo.after (hostOps0 (F := Ideal) ++ (hostOps0_1 ++ (hostOps0_2 ++ hostOps0_3))) _ = W
  unfold wstack
  after_reads_simp
  show pair (StableHlo.upto hostOps0_4 W 41 (Proc.devRef .tc main_v55)) (StableHlo.upto hostOps0_4 W 41 (Proc.devRef .tc main_v65)) = _
  after_reads_simp
  show pair (wstackOf (StableHlo.upto hostOps0_4 W 29 (Proc.devRef .tc main_v50)) (StableHlo.upto hostOps0_4 W 29 (Proc.devRef .tc main_v51))
    (StableHlo.upto hostOps0_4 W 29 (Proc.devRef .tc main_v52)) (StableHlo.upto hostOps0_4 W 29 (Proc.devRef .tc main_v53)))
    (wstackOf (StableHlo.upto hostOps0_4 W 39 (Proc.devRef .tc main_v60)) (StableHlo.upto hostOps0_4 W 39 (Proc.devRef .tc main_v61))
    (StableHlo.upto hostOps0_4 W 39 (Proc.devRef .tc main_v62)) (StableHlo.upto hostOps0_4 W 39 (Proc.devRef .tc main_v63))) = _
  after_reads_simp

end Cert.Kernel4Ideal.Hand
-- ==== Proof.DxRef.lean ====
/-
  The reference's gradients of the half-block's input and of its norm's gain, at an index, over its cotangent of the
  norm's output; and that this cotangent is a real number when the arguments are.
-/
module

public import proofs.«01_k».proof.Proof.Norm
public import proofs.«01_k».proof.Proof.Gen.Reference4Ideal.Read

@[expose] public section

set_option maxRecDepth 16384

noncomputable section

open Idealize.ShloMosaic Idealize.ShloMosaic.TcCoe Idealize.SL.Sem

namespace Cert.Reference4Ideal.Hand

open Cert.Reference4Ideal Cert.Reference4Ideal.Read Cert.Norm

variable (x0 : Vec Ideal S16384x1024 .f32) (x1 : Vec Ideal S1x1024 .f32) (x2 x3 : Vec Ideal S1024x2816 .f32)
  (x4 : Vec Ideal S2816x1024 .f32) (x5 : Vec Ideal S16384x1024 .f32)

/-- The cotangent of the norm's output, at an index: the sums of the two branches. -/
theorem hidden_ct_apply (r : Fin 16384) (d : Fin 1024) : val_main_v32 (F := Ideal) x0 x1 x2 x3 x4 x5 (ix2 r d)
    = (∑ f : Fin 2816, val_main_v27 (F := Ideal) x0 x1 x2 x4 x5 (ix2 r f) * x3 (ix2 d f)
      + ∑ f : Fin 2816, val_main_v30 (F := Ideal) x0 x1 x2 x3 x4 x5 (ix2 r f) * x2 (ix2 d f) : EReal) := by
  unfold val_main_v32 val_main_v29 val_main_v31
  generalize val_main_v27 (F := Ideal) x0 x1 x2 x4 x5 = u
  generalize val_main_v30 (F := Ideal) x0 x1 x2 x3 x4 x5 = a
  pointwise

/-- The cotangent of a row's mean of squares, divided by the row's length. -/
def squares (x y : Fin 1024 → EReal) : EReal :=
  Ideal.div ((∑ k, x k * y k) * (Ideal.ofBits .f32 0xBF000000#32
    * Ideal.div (rstd x) (Ideal.div (∑ k, x k * x k) (Ideal.ofBits .f32 0x44800000#32) + Ideal.ofBits .f32 0x358637BD#32)))
    (Ideal.ofBits .f32 0x44800000#32)

/-- The gradient of the input, at an index. -/
theorem dx_ref_apply (r : Fin 16384) (d : Fin 1024) : val_main_v52 (F := Ideal) x0 x1 x2 x3 x4 x5 (ix2 r d)
    = (x5 (ix2 r d) + (val_main_v32 (F := Ideal) x0 x1 x2 x3 x4 x5 (ix2 r d) * x1 (ix2 0 d)) * rstd (fun k => x0 (ix2 r k))
      + x0 (ix2 r d) * squares (fun k => x0 (ix2 r k)) (fun k => val_main_v32 (F := Ideal) x0 x1 x2 x3 x4 x5 (ix2 r k) * x1 (ix2 0 k))
      + squares (fun k => x0 (ix2 r k)) (fun k => val_main_v32 (F := Ideal) x0 x1 x2 x3 x4 x5 (ix2 r k) * x1 (ix2 0 k)) * x0 (ix2 r d) : EReal) := by
  unfold val_main_v52 val_main_v51 val_main_v50 val_main_v49 val_main_v48 val_main_v47 val_main_v46 val_main_v45 val_main_v44
    val_main_v43 val_main_v42 val_main_v41 val_main_v40 val_main_v39 val_main_v38 val_main_v37 val_main_v36 squares rstd
  generalize val_main_v32 (F := Ideal) x0 x1 x2 x3 x4 x5 = h
  pointwise [val_main_v10, val_main_v9, val_main_v8, val_main_v7, val_main_v6, val_main_v5, val_main_v4, val_main_v3, val_main_v2, val_main_v1, val_main_v0,
    val_main_cst, val_main_cst_0, val_main_cst_1, val_main_cst_2, val_main_cst_6, val_main_cst_7, val_main_cst_8]
  simp only [Finset.univ_unique, Finset.sum_singleton]

/-- The gradient of the gain, at an index. -/
theorem dgain_ref_apply (d : Fin 1024) : val_main_v35 (F := Ideal) x0 x1 x2 x3 x4 x5 (ix2 0 d)
    = (∑ r : Fin 16384, (x0 (ix2 r d) * rstd (fun k => x0 (ix2 r k))) * val_main_v32 (F := Ideal) x0 x1 x2 x3 x4 x5 (ix2 r d) : EReal) := by
  unfold val_main_v35 val_main_v34 val_main_v33 rstd
  generalize val_main_v32 (F := Ideal) x0 x1 x2 x3 x4 x5 = h
  pointwise [val_main_v12, val_main_v11, val_main_v7, val_main_v6, val_main_v5, val_main_v4, val_main_v3, val_main_v2, val_main_v1, val_main_v0,
    val_main_cst, val_main_cst_0, val_main_cst_1, val_main_cst_5]

section Real

variable (h0 : ∀ i, IsReal (x0 i)) (h1 : ∀ i, IsReal (x1 i)) (h2 : ∀ i, IsReal (x2 i)) (h3 : ∀ i, IsReal (x3 i))
  (h4 : ∀ i, IsReal (x4 i)) (h5 : ∀ i, IsReal (x5 i))

include h0 h1 in
theorem isReal_hidden (r : Fin 16384) (d : Fin 1024) : IsReal (val_main_v14 (F := Ideal) x0 x1 (ix2 r d)) := by
  have e : val_main_v14 (F := Ideal) x0 x1 (ix2 r d) = (x0 (ix2 r d) * rstd (fun k => x0 (ix2 r k)) * x1 (ix2 0 d) : EReal) := by
    unfold rstd
    pointwise [val_main_v14, val_main_v13, val_main_v12, val_main_v11, val_main_v7, val_main_v6, val_main_v5, val_main_v4, val_main_v3,
      val_main_v2, val_main_v1, val_main_v0, val_main_cst, val_main_cst_0, val_main_cst_1]
  rw [e]
  exact ((h0 _).mul (isReal_rstd fun k => h0 _)).mul (h1 _)

include h0 h1 h2 in
theorem isReal_gate (r : Fin 16384) (f : Fin 2816) : IsReal (val_main_v15 (F := Ideal) x0 x1 x2 (ix2 r f)) := by
  have e : val_main_v15 (F := Ideal) x0 x1 x2 (ix2 r f) = (∑ k : Fin 1024, val_main_v14 (F := Ideal) x0 x1 (ix2 r k) * x2 (ix2 k f) : EReal) := by
    unfold val_main_v15
    generalize val_main_v14 (F := Ideal) x0 x1 = h
    pointwise
  rw [e]
  exact IsReal.sum _ fun k => (isReal_hidden x0 x1 h0 h1 r k).mul (h2 _)

include h0 h1 h3 in
theorem isReal_up (r : Fin 16384) (f : Fin 2816) : IsReal (val_main_v17 (F := Ideal) x0 x1 x3 (ix2 r f)) := by
  have e : val_main_v17 (F := Ideal) x0 x1 x3 (ix2 r f) = (∑ k : Fin 1024, val_main_v14 (F := Ideal) x0 x1 (ix2 r k) * x3 (ix2 k f) : EReal) := by
    unfold val_main_v17
    generalize val_main_v14 (F := Ideal) x0 x1 = h
    pointwise
  rw [e]
  exact IsReal.sum _ fun k => (isReal_hidden x0 x1 h0 h1 r k).mul (h3 _)

include h0 h1 h2 in
/-- The logistic factor of the `gate` branch. -/
theorem isReal_logistic (r : Fin 16384) (f : Fin 2816) : IsReal (val_main_v16_2 (F := Ideal) x0 x1 x2 (ix2 r f)) := by
  obtain ⟨a, ha⟩ := isReal_gate x0 x1 x2 h0 h1 h2 r f
  have e : val_main_v16_2 (F := Ideal) x0 x1 x2 (ix2 r f)
      = Ideal.div (Ideal.ofBits .f32 0x3F800000#32) (Ideal.ofBits .f32 0x3F800000#32 + Ideal.exp (-(val_main_v15 (F := Ideal) x0 x1 x2 (ix2 r f) : EReal))) := by
    unfold val_main_v16_2 val_main_call0_v3 val_main_call0_v1 val_main_call0_v0
    generalize val_main_v15 (F := Ideal) x0 x1 x2 = h
    pointwise [val_main_call0_v4, val_main_call0_v2, val_main_call0_cst, val_main_call0_cst_0]
  rw [e, ha, one, sigmoid_real]
  exact ⟨_, rfl⟩

include h4 h5 in
/-- The cotangent of the product of the branches. -/
theorem isReal_product (r : Fin 16384) (f : Fin 2816) : IsReal (val_main_v26 (F := Ideal) x4 x5 (ix2 r f)) := by
  have e : val_main_v26 (F := Ideal) x4 x5 (ix2 r f)
      = (∑ k : Fin 1024, (Ideal.ofBits .f32 0x3F000000#32 * x5 (ix2 r k)) * x4 (ix2 f k) : EReal) := by
    pointwise [val_main_v26, val_main_v25, val_main_v24, val_main_v23, val_main_cst_4]
  rw [e]
  exact IsReal.sum _ fun k => (IsReal.mul ⟨_, half⟩ (h5 _)).mul (h4 _)

include h0 h1 h2 h4 h5 in
theorem isReal_up_ct (r : Fin 16384) (f : Fin 2816) : IsReal (val_main_v27 (F := Ideal) x0 x1 x2 x4 x5 (ix2 r f)) :=
  ((isReal_gate x0 x1 x2 h0 h1 h2 r f).mul (isReal_logistic x0 x1 x2 h0 h1 h2 r f)).mul (isReal_product x4 x5 h4 h5 r f)

include h0 h1 h2 h3 h4 h5 in
theorem isReal_gate_ct (r : Fin 16384) (f : Fin 2816) : IsReal (val_main_v30 (F := Ideal) x0 x1 x2 x3 x4 x5 (ix2 r f)) := by
  have hs := isReal_logistic x0 x1 x2 h0 h1 h2 r f
  have hp := (isReal_product x4 x5 h4 h5 r f).mul (isReal_up x0 x1 x3 h0 h1 h3 r f)
  have e : val_main_call0_v7 (F := Ideal) x0 x1 x2 (ix2 r f)
      = (Ideal.ofBits .f32 0x3F800000#32 - val_main_v16_2 (F := Ideal) x0 x1 x2 (ix2 r f) : EReal) := by
    unfold val_main_call0_v7
    generalize val_main_v16_2 (F := Ideal) x0 x1 x2 = h
    pointwise [val_main_call0_v6, val_main_call0_cst_1]
  have hc : IsReal (val_main_call0_v7 (F := Ideal) x0 x1 x2 (ix2 r f)) := by
    rw [e]
    exact IsReal.sub ⟨_, one⟩ hs
  exact (hp.mul hs).add (((isReal_gate x0 x1 x2 h0 h1 h2 r f).mul hp).mul (hs.mul hc))

include h0 h1 h2 h3 h4 h5 in
/-- The cotangent of the norm's output is a real number when the arguments are. -/
theorem isReal_hidden_ct (r : Fin 16384) (d : Fin 1024) : IsReal (val_main_v32 (F := Ideal) x0 x1 x2 x3 x4 x5 (ix2 r d)) := by
  rw [hidden_ct_apply]
  exact (IsReal.sum _ fun f => (isReal_up_ct x0 x1 x2 x4 x5 h0 h1 h2 h4 h5 r f).mul (h3 _)).add
    (IsReal.sum _ fun f => (isReal_gate_ct x0 x1 x2 x3 x4 x5 h0 h1 h2 h3 h4 h5 r f).mul (h2 _))

include h0 h1 h2 h3 h4 h5 in
/-- The gradient of the input, at an index, on real arguments: the cotangent that comes in and the norm's backward step. -/
theorem dx_ref_real (r : Fin 16384) (d : Fin 1024) : val_main_v52 (F := Ideal) x0 x1 x2 x3 x4 x5 (ix2 r d)
    = (x5 (ix2 r d) + back (fun k => x0 (ix2 r k)) (fun k => val_main_v32 (F := Ideal) x0 x1 x2 x3 x4 x5 (ix2 r k) * x1 (ix2 0 k)) d : EReal) :=
  (dx_ref_apply x0 x1 x2 x3 x4 x5 r d).trans (back_eq (fun k => x0 (ix2 r k))
    (fun k => val_main_v32 (F := Ideal) x0 x1 x2 x3 x4 x5 (ix2 r k) * x1 (ix2 0 k)) (fun k => h0 _)
    (fun k => (isReal_hidden_ct x0 x1 x2 x3 x4 x5 h0 h1 h2 h3 h4 h5 r k).mul (h1 _)) (x5 (ix2 r d)) (h5 _) d _ rfl _ rfl)

end Real

end Cert.Reference4Ideal.Hand
-- ==== Proof.DxEq.lean ====
/-
  The gradients of the half-block's input and of its norm's gain: the kernel and the reference end with equal results when
  the arguments are real numbers. The kernel writes the norm's backward step in one formula, the reference the derivative
  of the forward formula term by term, which cannot be told apart on real numbers only.
-/
module

public import proofs.«01_k».proof.Proof.DxHost
public import proofs.«01_k».proof.Proof.DxRef
public import proofs.«01_k».proof.Proof.Gen.Pre_finite_dx
public import Idealize.ShloMosaic.Lib.ReduceAll
public import proofs.«01_k».proof.Defs

@[expose] public section

set_option maxRecDepth 16384

noncomputable section

open Idealize.ShloMosaic Idealize.ShloMosaic.TcCoe Idealize.SL.Sem

namespace Cert.Kernel4Ideal.Hand

open Cert.Kernel4Ideal Cert.Kernel4Ideal.Gen Cert.Kernel4Ideal.Value

/-- What the precondition says: every element of every argument is a real number. -/
theorem finite_args (x0 : FVec Ideal S16384x1024 .f32) (x1 : FVec Ideal S1x1024 .f32) (x2 x3 : FVec Ideal S1024x2816 .f32)
    (x4 : FVec Ideal S2816x1024 .f32) (x5 : FVec Ideal S16384x1024 .f32)
    (h : Cert.Pre_finite_dx.fn (F := Ideal) x0 x1 x2 x3 x4 x5 = fun _ => 1#1) :
    (∀ i, Cert.Norm.IsReal (x0 i)) ∧ (∀ i, Cert.Norm.IsReal (x1 i)) ∧ (∀ i, Cert.Norm.IsReal (x2 i)) ∧ (∀ i, Cert.Norm.IsReal (x3 i))
      ∧ (∀ i, Cert.Norm.IsReal (x4 i)) ∧ (∀ i, Cert.Norm.IsReal (x5 i)) := by
  have hsub : Subsingleton Cert.Pre_finite_dx.S_.Idx := ⟨fun a b => funext fun i => i.elim0⟩
  have e := congrFun h (fun a => a.elim0)
  unfold Cert.Pre_finite_dx.fn Cert.Pre_finite_dx.fn_part1 at e
  dsimp only at e
  obtain ⟨e, e5⟩ := IntOp.andi_eq_one.mp e
  obtain ⟨e, e4⟩ := IntOp.andi_eq_one.mp e
  obtain ⟨e, e3⟩ := IntOp.andi_eq_one.mp e
  obtain ⟨e, e2⟩ := IntOp.andi_eq_one.mp e
  obtain ⟨e0, e1⟩ := IntOp.andi_eq_one.mp e
  exact ⟨fun i => Cert.Norm.isReal_of_finite _ (Host.reduce_andi_all _ _ _ _ _ e0 i),
    fun i => Cert.Norm.isReal_of_finite _ (Host.reduce_andi_all _ _ _ _ _ e1 i),
    fun i => Cert.Norm.isReal_of_finite _ (Host.reduce_andi_all _ _ _ _ _ e2 i),
    fun i => Cert.Norm.isReal_of_finite _ (Host.reduce_andi_all _ _ _ _ _ e3 i),
    fun i => Cert.Norm.isReal_of_finite _ (Host.reduce_andi_all _ _ _ _ _ e4 i),
    fun i => Cert.Norm.isReal_of_finite _ (Host.reduce_andi_all _ _ _ _ _ e5 i)⟩

variable (m : (ℓ : Loc nD τ sig) → Buf (Elt Ideal) ℓ)

/-- The reference's cotangent of the norm's output, of the same arguments. -/
abbrev refDh (c : Dev nD) : Vec Ideal S16384x1024 .f32 :=
  Cert.Reference4Ideal.Read.val_main_v32 (F := Ideal) (m (c.tc.loc main_arg0)) (m (c.tc.loc main_arg1)) (m (c.tc.loc main_arg2)) (m (c.tc.loc main_arg3)) (m (c.tc.loc main_arg4)) (m (c.tc.loc main_arg5))

/-- The kernel's cotangent of the norm's output is the reference's: a sum over the columns, in four blocks. -/
theorem dh_eq (c : Dev nD) (r : Fin 16384) (d : Fin 1024) : dh m c r d = refDh m c (ix2 r d) := by
  refine Eq.trans ?_ (Cert.Reference4Ideal.Hand.hidden_ct_apply (m (c.tc.loc main_arg0)) (m (c.tc.loc main_arg1)) (m (c.tc.loc main_arg2)) (m (c.tc.loc main_arg3)) (m (c.tc.loc main_arg4)) (m (c.tc.loc main_arg5)) r d).symm
  unfold dh
  rw [Finset.sum_add_distrib, Cert.Sums.sum_blocks 4 704 rfl, Cert.Sums.sum_blocks 4 704 rfl, add_comm]
  rw [daArr_eq, duArr_eq, wgArr_eq, wuArr_eq, gate_eq, up_eq]
  simp only [stack_apply, pair_upper, pair_lower, wstack_apply]

/-- The step of a row, over equal cotangents; the order of the factors does not matter. -/
theorem step_congr (g : Vec Ideal S1x1024 .f32) (x ct : Vec Ideal S16384x1024 .f32) (h : Fin 16384 → Fin 1024 → EReal)
    (h' : Vec Ideal S16384x1024 .f32) (e : ∀ r d, h r d = h' (ix2 r d)) (r : Fin 16384) (d : Fin 1024) :
    (ct (ix2 r d) + Cert.Norm.back (fun k => x (ix2 r k)) (fun k => g (ix2 0 k) * h r k) d : EReal)
      = ct (ix2 r d) + Cert.Norm.back (fun k => x (ix2 r k)) (fun k => h' (ix2 r k) * g (ix2 0 k)) d := by
  have : (fun k => (g (ix2 0 k) * h r k : EReal)) = fun k => (h' (ix2 r k) * g (ix2 0 k) : EReal) := by
    funext k
    rw [e]
    exact mul_comm _ _
  rw [this]

/-- The first two results, at an index, on real arguments. -/
theorem dx_eq (c : Dev nD) (hm : Cert.Pre_Kernel4Ideal_finite_dx m) (r : Fin 16384) (d : Fin 1024) :
    (ctArr m c (ix2 r d) + Cert.Norm.back (fun k => xArr m c (ix2 r k)) (fun k => gainArr m c (ix2 0 k) * dh m c r k) d : EReal)
      = Cert.Reference4Ideal.Read.val_main_v52 (F := Ideal) (m (c.tc.loc main_arg0)) (m (c.tc.loc main_arg1)) (m (c.tc.loc main_arg2)) (m (c.tc.loc main_arg3)) (m (c.tc.loc main_arg4)) (m (c.tc.loc main_arg5)) (ix2 r d) := by
  obtain ⟨h0, h1, h2, h3, h4, h5⟩ := finite_args _ _ _ _ _ _ (hm c)
  refine Eq.trans ?_ (Cert.Reference4Ideal.Hand.dx_ref_real _ _ _ _ _ _ h0 h1 h2 h3 h4 h5 r d).symm
  rw [ct_eq, x_eq, gain_eq]
  exact step_congr (m (c.tc.loc main_arg1)) (m (c.tc.loc main_arg0)) (m (c.tc.loc main_arg5)) (dh m c) (refDh m c) (dh_eq m c) r d

/-- The gain's gradient, at an index. -/
theorem dgain_eq (c : Dev nD) (d : Fin 1024) :
    (∑ r : Fin 16384, dh m c r d * (xArr m c (ix2 r d) * Cert.Norm.rstd (fun k => xArr m c (ix2 r k))) : EReal)
      = Cert.Reference4Ideal.Read.val_main_v35 (F := Ideal) (m (c.tc.loc main_arg0)) (m (c.tc.loc main_arg1)) (m (c.tc.loc main_arg2)) (m (c.tc.loc main_arg3)) (m (c.tc.loc main_arg4)) (m (c.tc.loc main_arg5)) (ix2 0 d) := by
  refine Eq.trans ?_ (Cert.Reference4Ideal.Hand.dgain_ref_apply _ _ _ _ _ _ d).symm
  rw [x_eq]
  refine Finset.sum_congr rfl fun r _ => ?_
  rw [dh_eq]
  exact mul_comm _ _

theorem result5_eq (c : Dev nD) (hm : Cert.Pre_Kernel4Ideal_finite_dx m) : (dats m 0 c).arrAt 5 cfg0.N
    = Cert.Reference4Ideal.Read.val_main_v52 (F := Ideal) (m (c.tc.loc main_arg0)) (m (c.tc.loc main_arg1)) (m (c.tc.loc main_arg2)) (m (c.tc.loc main_arg3)) (m (c.tc.loc main_arg4)) (m (c.tc.loc main_arg5)) := by
  funext i
  obtain ⟨r, d, rfl⟩ : ∃ (r : Fin 16384) (d : Fin 1024), i = ix2 r d := ⟨i 0, i 1, eq_ix2 i⟩
  exact (dx_result m c r d).trans (dx_eq m c hm r d)
theorem result6_eq (c : Dev nD) (hm : Cert.Pre_Kernel4Ideal_finite_dx m) : (dats m 0 c).arrAt 6 cfg0.N
    = Cert.Reference4Ideal.Read.val_main_v53 (F := Ideal) (m (c.tc.loc main_arg0)) (m (c.tc.loc main_arg1)) (m (c.tc.loc main_arg2)) (m (c.tc.loc main_arg3)) (m (c.tc.loc main_arg4)) (m (c.tc.loc main_arg5)) := by
  funext i
  obtain ⟨r, d, rfl⟩ : ∃ (r : Fin 16384) (d : Fin 1024), i = ix2 r d := ⟨i 0, i 1, eq_ix2 i⟩
  exact (dxb_result m c r d).trans (dx_eq m c hm r d)
theorem result7_eq (c : Dev nD) : (dats m 0 c).arrAt 7 cfg0.N
    = Cert.Reference4Ideal.Read.val_main_v35 (F := Ideal) (m (c.tc.loc main_arg0)) (m (c.tc.loc main_arg1)) (m (c.tc.loc main_arg2)) (m (c.tc.loc main_arg3)) (m (c.tc.loc main_arg4)) (m (c.tc.loc main_arg5)) := by
  funext i
  obtain ⟨z, d, rfl⟩ : ∃ (z : Fin 1) (d : Fin 1024), i = ix2 z d := ⟨i 0, i 1, eq_ix2 i⟩
  obtain rfl : z = 0 := Subsingleton.elim _ _
  exact (dgain_result m c d).trans (dgain_eq m c d)

set_option maxHeartbeats 4000000 in
/-- The claim for the gradients of the half-block's input and of its norm's gain. -/
theorem algebraic : Cert.algebraic_Kernel4Ideal_Reference4Ideal_pre_finite_dx := by
  intro m g m' g' hm hagree
  refine ⟨fun c => (dats m 0 c).arrAt 5 cfg0.N, fun c => (dats m 0 c).arrAt 6 cfg0.N, fun c => (dats m 0 c).arrAt 7 cfg0.N,
    Cert.Kernel4Ideal.Value.run_blocks (F := Ideal) m g, ?_⟩
  refine (θ_run Cert.Reference4Ideal.defs _ _).mono (fun _ h c => ?_) (Cert.Reference4Ideal.Value.run (F := Ideal) m' g')
  obtain ⟨h0, h1, h2, h3, h4, h5⟩ := hagree c
  refine ⟨((h c).1.trans (Cert.Reference4Ideal.Read.val_main_v52_eq m' c)).trans ?_,
    ((h c).2.1.trans (Cert.Reference4Ideal.Read.val_main_v53_eq m' c)).trans ?_,
    ((h c).2.2.1.trans (Cert.Reference4Ideal.Read.val_main_v35_eq m' c)).trans ?_, (h c).2.2.2⟩
  · rw [h0, h1, h2, h3, h4, h5]
    exact (result5_eq m c hm).symm
  · rw [h0, h1, h2, h3, h4, h5]
    exact (result6_eq m c hm).symm
  · rw [h0, h1, h2, h3, h4, h5]
    exact (result7_eq m c).symm

end Cert.Kernel4Ideal.Hand
-- ==== Proof.FwdRun.lean ====
/-
  The run of the half-block's kernel (`KernelIdeal`): its three regions one after the other end with the four result arrays
  at what the regions leave in them, and with the arguments as they came.
-/
module

public import proofs.«01_k».proof.Proof.Gen.KernelIdeal.Frame

@[expose] public section

set_option maxRecDepth 16384

noncomputable section

open Idealize.ShloMosaic Idealize.ShloMosaic.TcCoe Idealize.SL.Sem

namespace Cert.KernelIdeal.Hand

open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Cert.KernelIdeal Cert.KernelIdeal.Gen
open Idealize.ShloMosaic.Pipeline (Dat Cfg Window BodyObligation cellOf)

variable {F : FTy → Type} [FloatOps F]
variable (m : (ℓ : Loc nD τ sig) → Buf (Elt F) ℓ) (ρ : Dev nD → PrngReg)

set_option backward.isDefEq.respectTransparency.types false in
/-- From any memory, every execution ends, and every buffer outside the regions' own scopes then holds what the host
    operations and the regions, in their order, leave in it. -/
theorem run_contents : θ_run defs (onTc (τ := τ) (main (F := F))) ⟨m, fun _ => 0, ρ⟩
    (fun r => ∀ c : Dev nD, ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ
        (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c => h c)

/-- The same, read at the four results and the arguments. -/
theorem run_results : θ_run defs (onTc (τ := τ) (main (F := F))) ⟨m, fun _ => 0, ρ⟩ (fun r => ∀ c : Dev nD,
      r.2.mem ((c.tc : Thread nD τ).loc main_v45_0) = W5 m ρ c (Proc.devRef .tc main_v45_0)
      ∧ r.2.mem ((c.tc : Thread nD τ).loc main_v45_1) = W5 m ρ c (Proc.devRef .tc main_v45_1)
      ∧ r.2.mem ((c.tc : Thread nD τ).loc main_v47_0) = W5 m ρ c (Proc.devRef .tc main_v47_0)
      ∧ r.2.mem ((c.tc : Thread nD τ).loc main_v47_1) = W5 m ρ c (Proc.devRef .tc main_v47_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨h c _ (mem_uc main_v45_0 (by decide)), h c _ (mem_uc main_v45_1 (by decide)), h c _ (mem_uc main_v47_0 (by decide)),
      h c _ (mem_uc main_v47_1 (by decide)),
      (h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c),
      (h c _ (mem_uc main_arg4 (by decide))).trans (W5_main_arg4 m ρ c),
      (h c _ (mem_uc main_arg5 (by decide))).trans (W5_main_arg5 m ρ c),
      (h c _ (mem_uc main_arg6 (by decide))).trans (W5_main_arg6 m ρ c)⟩) (run_contents m ρ)

end Cert.KernelIdeal.Hand
-- ==== Proof.FwdBlock.lean ====
/-
  The three kernels of the half-block (`KernelIdeal`), one block of rows at an index, at the extended reals: the two
  products into the hidden columns with the gating, the product back with the norm that follows, and the cotangents of the
  two products.
-/
module

public import proofs.«01_k».proof.Proof.Gen.KernelIdeal.Frame
public import proofs.«01_k».proof.Proof.Norm
public import Idealize.ShloMosaic.Lib.Pipeline.Value

@[expose] public section

set_option maxRecDepth 16384

noncomputable section

open Idealize.ShloMosaic Idealize.ShloMosaic.TcCoe Idealize.SL.Sem

namespace Cert.Norm

/-- The logistic factor. -/
def gateLogistic (a : EReal) : EReal :=
  Ideal.div (Ideal.ofBits .f32 0x3F800000#32) (Ideal.ofBits .f32 0x3F800000#32 + Ideal.exp (-a))

/-- The gated product's derivative by the gate, without the other branch: as the kernel factors it. -/
def gateSlope (a : EReal) : EReal :=
  gateLogistic a * (Ideal.ofBits .f32 0x3F800000#32 + a * (Ideal.ofBits .f32 0x3F800000#32 - gateLogistic a))

end Cert.Norm

namespace Cert.KernelIdeal.Hand

open Cert.KernelIdeal Cert.KernelIdeal.Gen

/-- The zero offsets, as constant functions. -/
theorem off2 : (![0, 0] : Fin 2 → Nat) = fun _ => 0 := funext fun a => by fin_cases a <;> rfl
theorem off3 : (![0, 0, 0] : Fin 3 → Nat) = fun _ => 0 := funext fun a => by fin_cases a <;> rfl

/-- The product with a block of the gate's columns, and of the up branch's, at an index. -/
theorem gate_apply (x0 : Vec Ideal S1024x1024 .bf16) (x1 : Vec Ideal S1x1024x704 .bf16) (r : Fin 1024) (f : Fin 704) :
    k0_pay3 (F := Ideal) x0 x1 (ix2 r f) = (∑ k : Fin 1024, x0 (ix2 r k) * x1 (ix3 0 k f) : EReal) := by
  pointwise [k0_pay3, k0_pay2]
theorem up_apply (x0 : Vec Ideal S1024x1024 .bf16) (x1 : Vec Ideal S1x1024x704 .bf16) (r : Fin 1024) (f : Fin 704) :
    k0_pay4 (F := Ideal) x0 x1 (ix2 r f) = (∑ k : Fin 1024, x0 (ix2 r k) * x1 (ix3 0 k f) : EReal) := by
  pointwise [k0_pay4, k0_pay2]

/-- The logistic factor of the gate, at an index. -/
theorem logistic_apply (x0 : Vec Ideal S1024x1024 .bf16) (x1 : Vec Ideal S1x1024x704 .bf16) (r : Fin 1024) (f : Fin 704) :
    k0_pay5 (F := Ideal) x0 x1 (ix2 r f) = Cert.Norm.gateLogistic (k0_pay3 (F := Ideal) x0 x1 (ix2 r f)) := by
  unfold k0_pay5 Cert.Norm.gateLogistic
  generalize k0_pay3 (F := Ideal) x0 x1 = a
  pointwise
  rw [zero_sub]

/-- What a point stores: the other branch times the gate's slope, -/
theorem out0_3_apply (x0 : Vec Ideal S1024x1024 .bf16) (x1 x2 : Vec Ideal S1x1024x704 .bf16) (r : Fin 1024) (f : Fin 704) :
    out0_3 (F := Ideal) x0 x1 x2 (ix3 0 r f)
      = (k0_pay4 (F := Ideal) x0 x2 (ix2 r f) * Cert.Norm.gateSlope (k0_pay3 (F := Ideal) x0 x1 (ix2 r f)) : EReal) := by
  unfold out0_3 Cert.Norm.gateSlope
  rw [View.canon_unit_zero off3, View.ld_unit_zero (S := S1024x1024) off2, View.ld_unit_zero (S := S1x1024x704) off3,
    View.ld_unit_zero (S := S1x1024x704) off3, ← logistic_apply]
  unfold k0_pay7
  generalize k0_pay3 (F := Ideal) x0 x1 = a
  generalize k0_pay4 (F := Ideal) x0 x2 = u
  generalize k0_pay5 (F := Ideal) x0 x1 = s
  pointwise

/-- the gate times its logistic factor, -/
theorem out0_4_apply (x0 : Vec Ideal S1024x1024 .bf16) (x1 x2 : Vec Ideal S1x1024x704 .bf16) (r : Fin 1024) (f : Fin 704) :
    out0_4 (F := Ideal) x0 x1 x2 (ix3 0 r f)
      = (k0_pay3 (F := Ideal) x0 x1 (ix2 r f) * Cert.Norm.gateLogistic (k0_pay3 (F := Ideal) x0 x1 (ix2 r f)) : EReal) := by
  unfold out0_4
  rw [View.canon_unit_zero off3, View.ld_unit_zero (S := S1024x1024) off2, View.ld_unit_zero (S := S1x1024x704) off3, ← logistic_apply]
  unfold k0_pay8 k0_pay6
  generalize k0_pay3 (F := Ideal) x0 x1 = a
  generalize k0_pay5 (F := Ideal) x0 x1 = s
  pointwise

/-- and the product of the two branches. -/
theorem out0_5_apply (x0 : Vec Ideal S1024x1024 .bf16) (x1 x2 : Vec Ideal S1x1024x704 .bf16) (r : Fin 1024) (f : Fin 704) :
    out0_5 (F := Ideal) x0 x1 x2 (ix3 0 r f)
      = (k0_pay3 (F := Ideal) x0 x1 (ix2 r f) * Cert.Norm.gateLogistic (k0_pay3 (F := Ideal) x0 x1 (ix2 r f))
          * k0_pay4 (F := Ideal) x0 x2 (ix2 r f) : EReal) := by
  unfold out0_5
  rw [View.canon_unit_zero off3, View.ld_unit_zero (S := S1024x1024) off2, View.ld_unit_zero (S := S1x1024x704) off3,
    View.ld_unit_zero (S := S1x1024x704) off3, ← logistic_apply]
  unfold k0_pay1 k0_pay9 k0_pay6
  generalize k0_pay3 (F := Ideal) x0 x1 = a
  generalize k0_pay4 (F := Ideal) x0 x2 = u
  generalize k0_pay5 (F := Ideal) x0 x1 = s
  pointwise

/-- The rows after the half-block, at an index: the rows before it and half of the product back, a sum over four blocks. -/
theorem rows_apply (x0 : Vec Ideal S4x512x704 .bf16) (x1 : Vec Ideal S4x704x1024 .bf16) (x2 : Vec Ideal S512x1024 .f32)
    (x3 : Vec Ideal S1x1024 .f32) (r : Fin 512) (d : Fin 1024) : k1_pay3 (F := Ideal) x0 x1 x2 x3 (ix2 r d)
      = (x2 (ix2 r d) + Ideal.ofBits .f32 0x3F000000#32 * ∑ b : Fin 4, ∑ f : Fin 704, x0 (ix3 b r f) * x1 (ix3 b f d) : EReal) := by
  rw [Fin.sum_univ_four]
  unfold k1_pay3
  rw [View.ld_unit_zero (S := S512x1024) off2]
  simp only [View.ld_unit]
  pointwise [k1_pay2]

theorem out1_4_apply (x0 : Vec Ideal S4x512x704 .bf16) (x1 : Vec Ideal S4x704x1024 .bf16) (x2 : Vec Ideal S512x1024 .f32)
    (x3 : Vec Ideal S1x1024 .f32) : out1_4 (F := Ideal) x0 x1 x2 x3 = k1_pay3 (F := Ideal) x0 x1 x2 x3 := by
  unfold out1_4
  rw [View.canon_unit_zero off2]

/-- The norm of these rows, times the gain. -/
theorem out1_5_apply (x0 : Vec Ideal S4x512x704 .bf16) (x1 : Vec Ideal S4x704x1024 .bf16) (x2 : Vec Ideal S512x1024 .f32)
    (x3 : Vec Ideal S1x1024 .f32) (r : Fin 512) (d : Fin 1024) : out1_5 (F := Ideal) x0 x1 x2 x3 (ix2 r d)
      = (k1_pay3 (F := Ideal) x0 x1 x2 x3 (ix2 r d) * Cert.Norm.rstd (fun k => k1_pay3 (F := Ideal) x0 x1 x2 x3 (ix2 r k)) * x3 (ix2 0 d) : EReal) := by
  unfold out1_5 Cert.Norm.rstd
  rw [View.canon_unit_zero off2, View.ld_unit_zero (S := S1x1024) off2]
  generalize k1_pay3 (F := Ideal) x0 x1 x2 x3 = y
  pointwise [k1_pay1]

/-- The cotangent of the branches' product, at an index. -/
theorem product_apply (x0 : Vec Ideal S1024x1024 .bf16) (x1 : Vec Ideal S1x704x1024 .bf16) (r : Fin 1024) (f : Fin 704) :
    k2_pay1 (F := Ideal) x0 x1 (ix2 r f)
      = (Ideal.ofBits .f32 0x3F000000#32 * ∑ k : Fin 1024, x0 (ix2 r k) * x1 (ix3 0 f k) : EReal) := by
  pointwise [k2_pay1]

/-- What a point stores: this cotangent times each of the two stored factors. -/
theorem out2_4_apply (x0 : Vec Ideal S1024x1024 .bf16) (x1 : Vec Ideal S1x704x1024 .bf16) (x2 x3 : Vec Ideal S1x1024x704 .bf16)
    (r : Fin 1024) (f : Fin 704) :
    out2_4 (F := Ideal) x0 x1 x2 x3 (ix3 0 r f) = (k2_pay1 (F := Ideal) x0 x1 (ix2 r f) * x2 (ix3 0 r f) : EReal) := by
  unfold out2_4
  rw [View.canon_unit_zero off3, View.ld_unit_zero (S := S1024x1024) off2, View.ld_unit_zero (S := S1x704x1024) off3,
    View.ld_unit_zero (S := S1x1024x704) off3]
  unfold k2_pay2
  generalize k2_pay1 (F := Ideal) x0 x1 = p
  pointwise
theorem out2_5_apply (x0 : Vec Ideal S1024x1024 .bf16) (x1 : Vec Ideal S1x704x1024 .bf16) (x2 x3 : Vec Ideal S1x1024x704 .bf16)
    (r : Fin 1024) (f : Fin 704) :
    out2_5 (F := Ideal) x0 x1 x2 x3 (ix3 0 r f) = (k2_pay1 (F := Ideal) x0 x1 (ix2 r f) * x3 (ix3 0 r f) : EReal) := by
  unfold out2_5
  rw [View.canon_unit_zero off3, View.ld_unit_zero (S := S1024x1024) off2, View.ld_unit_zero (S := S1x704x1024) off3,
    View.ld_unit_zero (S := S1x1024x704) off3]
  unfold k2_pay3
  generalize k2_pay1 (F := Ideal) x0 x1 = p
  pointwise

end Cert.KernelIdeal.Hand
-- ==== Proof.FwdFold.lean ====
/-
  The arrays that the three kernels of the half-block leave, at an index, each over the arrays that its region reads, at the
  extended reals.
-/
module

public import proofs.«01_k».proof.Proof.FwdBlock

@[expose] public section

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen

-- What the buffers hold when a region starts.
variable (V : (c : Dev nD) → (b : Ref sig .tc) → Buf (Elt Ideal) ((c : Thread nD τ).loc b))

/-- The arrays the first region reads: the hidden activations, and the weights of both branches, the gate's above the up
    branch's in each block of columns. -/
abbrev hArr (c : Dev nD) : Vec Ideal S16384x1024 .bf16 := V c main_v12
abbrev wArr (c : Dev nD) : Vec Ideal S4x2048x704 .bf16 := V c main_v33

/-- The two branches at an index. -/
def gateAt (c : Dev nD) (n : Fin 4) (r : Fin 16384) (f : Fin 704) : EReal :=
  ∑ k : Fin 1024, hArr V c (ix2 r k) * wArr V c (ix3 n ⟨k.val, by omega⟩ f)
def upAt (c : Dev nD) (n : Fin 4) (r : Fin 16384) (f : Fin 704) : EReal :=
  ∑ k : Fin 1024, hArr V c (ix2 r k) * wArr V c (ix3 n ⟨1024 + k.val, by omega⟩ f)

/-- The arrays the second region reads: the product of the branches, the weights back, the rows and the next gain. -/
abbrev sArr (c : Dev nD) : Vec Ideal S4x16384x704 .bf16 := V c main_v44_2
abbrev wdArr (c : Dev nD) : Vec Ideal S4x704x1024 .bf16 := V c main_v43
abbrev xArr (c : Dev nD) : Vec Ideal S16384x1024 .f32 := V c main_arg0
abbrev gainArr (c : Dev nD) : Vec Ideal S1x1024 .f32 := V c main_arg5

/-- The rows after the half-block, at an index. -/
def rowsAt (c : Dev nD) (r : Fin 16384) (d : Fin 1024) : EReal :=
  xArr V c (ix2 r d) + Ideal.ofBits .f32 0x3F000000#32 * ∑ b : Fin 4, ∑ f : Fin 704, sArr V c (ix3 b r f) * wdArr V c (ix3 b f d)

/-- The arrays the third region reads, besides the weights back: the cotangent and the two factors the first region stored. -/
abbrev ctArr (c : Dev nD) : Vec Ideal S16384x1024 .bf16 := V c main_v46
abbrev aArr (c : Dev nD) : Vec Ideal S4x16384x704 .bf16 := V c main_v44_0
abbrev uArr (c : Dev nD) : Vec Ideal S4x16384x704 .bf16 := V c main_v44_1

/-- The cotangent of the branches' product, at an index. -/
def productAt (c : Dev nD) (n : Fin 4) (r : Fin 16384) (f : Fin 704) : EReal :=
  Ideal.ofBits .f32 0x3F000000#32 * ∑ k : Fin 1024, ctArr V c (ix2 r k) * wdArr V c (ix3 n f k)

/-- Where the windows stand at point `t`. -/
theorem index0_0 : ∀ t : Fin grid0.N, win0_0.index t 0 = t.val % 16 ∧ win0_0.index t 1 = 0 := by
  decide +kernel
theorem index0_1 : ∀ t : Fin grid0.N, win0_1.index t 0 = t.val / 16 ∧ win0_1.index t 1 = 0 ∧ win0_1.index t 2 = 0 := by
  decide +kernel
theorem index0_2 : ∀ t : Fin grid0.N, win0_2.index t 0 = t.val / 16 ∧ win0_2.index t 1 = 1 ∧ win0_2.index t 2 = 0 := by
  decide +kernel
theorem index0_3 : ∀ t : Fin grid0.N, win0_3.index t 0 = t.val / 16 ∧ win0_3.index t 1 = t.val % 16 ∧ win0_3.index t 2 = 0 := by
  decide +kernel
theorem index0_4 : ∀ t : Fin grid0.N, win0_4.index t 0 = t.val / 16 ∧ win0_4.index t 1 = t.val % 16 ∧ win0_4.index t 2 = 0 := by
  decide +kernel
theorem index0_5 : ∀ t : Fin grid0.N, win0_5.index t 0 = t.val / 16 ∧ win0_5.index t 1 = t.val % 16 ∧ win0_5.index t 2 = 0 := by
  decide +kernel
theorem index1_0 : ∀ t : Fin grid1.N, win1_0.index t 0 = 0 ∧ win1_0.index t 1 = t.val ∧ win1_0.index t 2 = 0 := by
  decide +kernel
theorem index1_1 : ∀ t : Fin grid1.N, win1_1.index t 0 = 0 ∧ win1_1.index t 1 = 0 ∧ win1_1.index t 2 = 0 := by
  decide +kernel
theorem index1_2 : ∀ t : Fin grid1.N, win1_2.index t 0 = t.val ∧ win1_2.index t 1 = 0 := by
  decide +kernel
theorem index1_3 : ∀ t : Fin grid1.N, win1_3.index t 0 = 0 ∧ win1_3.index t 1 = 0 := by
  decide +kernel
theorem index1_4 : ∀ t : Fin grid1.N, win1_4.index t 0 = t.val ∧ win1_4.index t 1 = 0 := by
  decide +kernel
theorem index1_5 : ∀ t : Fin grid1.N, win1_5.index t 0 = t.val ∧ win1_5.index t 1 = 0 := by
  decide +kernel
theorem index2_0 : ∀ t : Fin grid2.N, win2_0.index t 0 = t.val % 16 ∧ win2_0.index t 1 = 0 := by
  decide +kernel
theorem index2_1 : ∀ t : Fin grid2.N, win2_1.index t 0 = t.val / 16 ∧ win2_1.index t 1 = 0 ∧ win2_1.index t 2 = 0 := by
  decide +kernel
theorem index2_2 : ∀ t : Fin grid2.N, win2_2.index t 0 = t.val / 16 ∧ win2_2.index t 1 = t.val % 16 ∧ win2_2.index t 2 = 0 := by
  decide +kernel
theorem index2_3 : ∀ t : Fin grid2.N, win2_3.index t 0 = t.val / 16 ∧ win2_3.index t 1 = t.val % 16 ∧ win2_3.index t 2 = 0 := by
  decide +kernel
theorem index2_4 : ∀ t : Fin grid2.N, win2_4.index t 0 = t.val / 16 ∧ win2_4.index t 1 = t.val % 16 ∧ win2_4.index t 2 = 0 := by
  decide +kernel
theorem index2_5 : ∀ t : Fin grid2.N, win2_5.index t 0 = t.val / 16 ∧ win2_5.index t 1 = t.val % 16 ∧ win2_5.index t 2 = 0 := by
  decide +kernel

/-- No two points write one block. -/
theorem disjoint0_3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h =>
    hne ((by decide +kernel : ∀ t t' : Fin grid0.N, win0_3.index t = win0_3.index t' → t = t') t t' h)
theorem disjoint0_4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h =>
    hne ((by decide +kernel : ∀ t t' : Fin grid0.N, win0_4.index t = win0_4.index t' → t = t') t t' h)
theorem disjoint0_5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h =>
    hne ((by decide +kernel : ∀ t t' : Fin grid0.N, win0_5.index t = win0_5.index t' → t = t') t t' h)
theorem disjoint1_4 : ∀ t t' : Fin cfg1.N, (cfg1.win 4).flush t = true → (cfg1.win 4).flush t' = true → t ≠ t' →
    Disjoint ((cfg1.win 4).blk t).view.set ((cfg1.win 4).blk t').view.set :=
  fun t t' _ _ hne => (cfg1.win 4).disjoint_blk fun h =>
    hne ((by decide +kernel : ∀ t t' : Fin grid1.N, win1_4.index t = win1_4.index t' → t = t') t t' h)
theorem disjoint1_5 : ∀ t t' : Fin cfg1.N, (cfg1.win 5).flush t = true → (cfg1.win 5).flush t' = true → t ≠ t' →
    Disjoint ((cfg1.win 5).blk t).view.set ((cfg1.win 5).blk t').view.set :=
  fun t t' _ _ hne => (cfg1.win 5).disjoint_blk fun h =>
    hne ((by decide +kernel : ∀ t t' : Fin grid1.N, win1_5.index t = win1_5.index t' → t = t') t t' h)
theorem disjoint2_4 : ∀ t t' : Fin cfg2.N, (cfg2.win 4).flush t = true → (cfg2.win 4).flush t' = true → t ≠ t' →
    Disjoint ((cfg2.win 4).blk t).view.set ((cfg2.win 4).blk t').view.set :=
  fun t t' _ _ hne => (cfg2.win 4).disjoint_blk fun h =>
    hne ((by decide +kernel : ∀ t t' : Fin grid2.N, win2_4.index t = win2_4.index t' → t = t') t t' h)
theorem disjoint2_5 : ∀ t t' : Fin cfg2.N, (cfg2.win 5).flush t = true → (cfg2.win 5).flush t' = true → t ≠ t' →
    Disjoint ((cfg2.win 5).blk t).view.set ((cfg2.win 5).blk t').view.set :=
  fun t t' _ _ hne => (cfg2.win 5).disjoint_blk fun h =>
    hne ((by decide +kernel : ∀ t t' : Fin grid2.N, win2_5.index t = win2_5.index t' → t = t') t t' h)

/-- The blocks the regions read at point `t`, at an index. -/
theorem block0_0 (c : Dev nD) (t : Fin cfg0.N) (k : Fin 1024) (d : Fin 1024) (r : Fin 16384)
    (hr : r.val = 1024 * (t.val % 16) + k.val) :
    iblk0 V c 0 t (ix2 k d) = V c main_v12 (ix2 r d) := by
  have hi := index0_0 t
  unfold iblk0
  rw [View.read_apply]
  refine congrArg (V c main_v12) ?_
  funext a
  apply Fin.ext
  match a with
  | ⟨0, _⟩ => show win0_0.index t 0 * 1024 + 1 * k.val = r.val; omega
  | ⟨1, _⟩ => show win0_0.index t 1 * 1024 + 1 * d.val = d.val; omega
theorem block0_1 (c : Dev nD) (t : Fin cfg0.N) (n : Fin 4) (k : Fin 1024) (f : Fin 704)
    (hn : n.val = t.val / 16) :
    iblk0 V c 1 t (ix3 0 k f) = V c main_v33 (ix3 n ⟨k.val, by omega⟩ f) := by
  have hi := index0_1 t
  unfold iblk0
  rw [View.read_apply]
  refine congrArg (V c main_v33) ?_
  funext a
  apply Fin.ext
  match a with
  | ⟨0, _⟩ => show win0_1.index t 0 * 1 + 1 * 0 = n.val; omega
  | ⟨1, _⟩ => show win0_1.index t 1 * 1024 + 1 * k.val = k.val; omega
  | ⟨2, _⟩ => show win0_1.index t 2 * 704 + 1 * f.val = f.val; omega
theorem block0_2 (c : Dev nD) (t : Fin cfg0.N) (n : Fin 4) (k : Fin 1024) (f : Fin 704)
    (hn : n.val = t.val / 16) :
    iblk0 V c 2 t (ix3 0 k f) = V c main_v33 (ix3 n ⟨1024 + k.val, by omega⟩ f) := by
  have hi := index0_2 t
  unfold iblk0
  rw [View.read_apply]
  refine congrArg (V c main_v33) ?_
  funext a
  apply Fin.ext
  match a with
  | ⟨0, _⟩ => show win0_2.index t 0 * 1 + 1 * 0 = n.val; omega
  | ⟨1, _⟩ => show win0_2.index t 1 * 1024 + 1 * k.val = 1024 + k.val; omega
  | ⟨2, _⟩ => show win0_2.index t 2 * 704 + 1 * f.val = f.val; omega
theorem block1_0 (c : Dev nD) (t : Fin cfg1.N) (b : Fin 4) (k : Fin 512) (f : Fin 704) (r : Fin 16384)
    (hr : r.val = 512 * t.val + k.val) :
    iblk1 V c 0 t (ix3 b k f) = V c main_v44_2 (ix3 b r f) := by
  have hi := index1_0 t
  unfold iblk1
  rw [View.read_apply]
  refine congrArg (V c main_v44_2) ?_
  funext a
  apply Fin.ext
  match a with
  | ⟨0, _⟩ => show win1_0.index t 0 * 4 + 1 * b.val = b.val; omega
  | ⟨1, _⟩ => show win1_0.index t 1 * 512 + 1 * k.val = r.val; omega
  | ⟨2, _⟩ => show win1_0.index t 2 * 704 + 1 * f.val = f.val; omega
theorem block1_1 (c : Dev nD) (t : Fin cfg1.N) (b : Fin 4) (f : Fin 704) (d : Fin 1024) :
    iblk1 V c 1 t (ix3 b f d) = V c main_v43 (ix3 b f d) := by
  have hi := index1_1 t
  unfold iblk1
  rw [View.read_apply]
  refine congrArg (V c main_v43) ?_
  funext a
  apply Fin.ext
  match a with
  | ⟨0, _⟩ => show win1_1.index t 0 * 4 + 1 * b.val = b.val; omega
  | ⟨1, _⟩ => show win1_1.index t 1 * 704 + 1 * f.val = f.val; omega
  | ⟨2, _⟩ => show win1_1.index t 2 * 1024 + 1 * d.val = d.val; omega
theorem block1_2 (c : Dev nD) (t : Fin cfg1.N) (k : Fin 512) (d : Fin 1024) (r : Fin 16384)
    (hr : r.val = 512 * t.val + k.val) :
    iblk1 V c 2 t (ix2 k d) = V c main_arg0 (ix2 r d) := by
  have hi := index1_2 t
  unfold iblk1
  rw [View.read_apply]
  refine congrArg (V c main_arg0) ?_
  funext a
  apply Fin.ext
  match a with
  | ⟨0, _⟩ => show win1_2.index t 0 * 512 + 1 * k.val = r.val; omega
  | ⟨1, _⟩ => show win1_2.index t 1 * 1024 + 1 * d.val = d.val; omega
theorem block1_3 (c : Dev nD) (t : Fin cfg1.N) (d : Fin 1024) :
    iblk1 V c 3 t (ix2 0 d) = V c main_arg5 (ix2 0 d) := by
  have hi := index1_3 t
  unfold iblk1
  rw [View.read_apply]
  refine congrArg (V c main_arg5) ?_
  funext a
  apply Fin.ext
  match a with
  | ⟨0, _⟩ => show win1_3.index t 0 * 1 + 1 * 0 = 0; omega
  | ⟨1, _⟩ => show win1_3.index t 1 * 1024 + 1 * d.val = d.val; omega
theorem block2_0 (c : Dev nD) (t : Fin cfg2.N) (k : Fin 1024) (d : Fin 1024) (r : Fin 16384)
    (hr : r.val = 1024 * (t.val % 16) + k.val) :
    iblk2 V c 0 t (ix2 k d) = V c main_v46 (ix2 r d) := by
  have hi := index2_0 t
  unfold iblk2
  rw [View.read_apply]
  refine congrArg (V c main_v46) ?_
  funext a
  apply Fin.ext
  match a with
  | ⟨0, _⟩ => show win2_0.index t 0 * 1024 + 1 * k.val = r.val; omega
  | ⟨1, _⟩ => show win2_0.index t 1 * 1024 + 1 * d.val = d.val; omega
theorem block2_1 (c : Dev nD) (t : Fin cfg2.N) (n : Fin 4) (f : Fin 704) (d : Fin 1024)
    (hn : n.val = t.val / 16) :
    iblk2 V c 1 t (ix3 0 f d) = V c main_v43 (ix3 n f d) := by
  have hi := index2_1 t
  unfold iblk2
  rw [View.read_apply]
  refine congrArg (V c main_v43) ?_
  funext a
  apply Fin.ext
  match a with
  | ⟨0, _⟩ => show win2_1.index t 0 * 1 + 1 * 0 = n.val; omega
  | ⟨1, _⟩ => show win2_1.index t 1 * 704 + 1 * f.val = f.val; omega
  | ⟨2, _⟩ => show win2_1.index t 2 * 1024 + 1 * d.val = d.val; omega
theorem block2_2 (c : Dev nD) (t : Fin cfg2.N) (n : Fin 4) (k : Fin 1024) (f : Fin 704) (r : Fin 16384)
    (hn : n.val = t.val / 16) (hr : r.val = 1024 * (t.val % 16) + k.val) :
    iblk2 V c 2 t (ix3 0 k f) = V c main_v44_0 (ix3 n r f) := by
  have hi := index2_2 t
  unfold iblk2
  rw [View.read_apply]
  refine congrArg (V c main_v44_0) ?_
  funext a
  apply Fin.ext
  match a with
  | ⟨0, _⟩ => show win2_2.index t 0 * 1 + 1 * 0 = n.val; omega
  | ⟨1, _⟩ => show win2_2.index t 1 * 1024 + 1 * k.val = r.val; omega
  | ⟨2, _⟩ => show win2_2.index t 2 * 704 + 1 * f.val = f.val; omega
theorem block2_3 (c : Dev nD) (t : Fin cfg2.N) (n : Fin 4) (k : Fin 1024) (f : Fin 704) (r : Fin 16384)
    (hn : n.val = t.val / 16) (hr : r.val = 1024 * (t.val % 16) + k.val) :
    iblk2 V c 3 t (ix3 0 k f) = V c main_v44_1 (ix3 n r f) := by
  have hi := index2_3 t
  unfold iblk2
  rw [View.read_apply]
  refine congrArg (V c main_v44_1) ?_
  funext a
  apply Fin.ext
  match a with
  | ⟨0, _⟩ => show win2_3.index t 0 * 1 + 1 * 0 = n.val; omega
  | ⟨1, _⟩ => show win2_3.index t 1 * 1024 + 1 * k.val = r.val; omega
  | ⟨2, _⟩ => show win2_3.index t 2 * 704 + 1 * f.val = f.val; omega

/-- The two branches on the rows of point `t`. -/
theorem gate_block (c : Dev nD) (t : Fin cfg0.N) (n : Fin 4) (k : Fin 1024) (f : Fin 704) (r : Fin 16384)
    (hn : n.val = t.val / 16) (hr : r.val = 1024 * (t.val % 16) + k.val) :
    k0_pay3 (F := Ideal) (iblk0 V c 0 t) (iblk0 V c 1 t) (ix2 k f) = gateAt V c n r f := by
  unfold gateAt
  rw [gate_apply]
  refine Finset.sum_congr rfl fun d _ => ?_
  rw [block0_0 V c t k d r hr, block0_1 V c t n d f hn]
theorem up_block (c : Dev nD) (t : Fin cfg0.N) (n : Fin 4) (k : Fin 1024) (f : Fin 704) (r : Fin 16384)
    (hn : n.val = t.val / 16) (hr : r.val = 1024 * (t.val % 16) + k.val) :
    k0_pay4 (F := Ideal) (iblk0 V c 0 t) (iblk0 V c 2 t) (ix2 k f) = upAt V c n r f := by
  unfold upAt
  rw [up_apply]
  refine Finset.sum_congr rfl fun d _ => ?_
  rw [block0_0 V c t k d r hr, block0_2 V c t n d f hn]

/-- The rows after the half-block, on the rows of point `t`. -/
theorem rows_block (c : Dev nD) (t : Fin cfg1.N) (k : Fin 512) (d : Fin 1024) (r : Fin 16384) (hr : r.val = 512 * t.val + k.val) :
    k1_pay3 (F := Ideal) (iblk1 V c 0 t) (iblk1 V c 1 t) (iblk1 V c 2 t) (iblk1 V c 3 t) (ix2 k d) = rowsAt V c r d := by
  unfold rowsAt
  rw [rows_apply, block1_2 V c t k d r hr]
  refine congrArg (fun z : EReal => (xArr V c (ix2 r d) + Ideal.ofBits .f32 0x3F000000#32 * z : EReal)) ?_
  refine Finset.sum_congr rfl fun b _ => Finset.sum_congr rfl fun f _ => ?_
  rw [block1_0 V c t b k f r hr, block1_1]

/-- The cotangent of the branches' product, on the rows of point `t`. -/
theorem product_block (c : Dev nD) (t : Fin cfg2.N) (n : Fin 4) (k : Fin 1024) (f : Fin 704) (r : Fin 16384)
    (hn : n.val = t.val / 16) (hr : r.val = 1024 * (t.val % 16) + k.val) :
    k2_pay1 (F := Ideal) (iblk2 V c 0 t) (iblk2 V c 1 t) (ix2 k f) = productAt V c n r f := by
  unfold productAt
  rw [product_apply]
  refine congrArg (fun z : EReal => (Ideal.ofBits .f32 0x3F000000#32 * z : EReal)) (Finset.sum_congr rfl fun d _ => ?_)
  rw [block2_0 V c t k d r hr, block2_1 V c t n f d hn]

/-- The point of a region that holds block `n` and row `r`. -/
abbrev pt0 (n : Fin 4) (r : Fin 16384) : Fin cfg0.N := ⟨16 * n.val + r.val / 1024, by have hN : cfg0.N = 64 := N_0; omega⟩
abbrev pt1 (r : Fin 16384) : Fin cfg1.N := ⟨r.val / 512, by have hN : cfg1.N = 32 := N_1; omega⟩
abbrev pt2 (n : Fin 4) (r : Fin 16384) : Fin cfg2.N := ⟨16 * n.val + r.val / 1024, by have hN : cfg2.N = 64 := N_2; omega⟩

/-- The first region's results at an index: the other branch times the gate's slope, -/
theorem result0_3 (c : Dev nD) (n : Fin 4) (r : Fin 16384) (f : Fin 704) : (dat0 V c).arrAt 3 cfg0.N (ix3 n r f)
    = (upAt V c n r f * Cert.Norm.gateSlope (gateAt V c n r f) : EReal) := by
  have hn : n.val = (pt0 n r).val / 16 := by dsimp only; omega
  have hr : r.val = 1024 * ((pt0 n r).val % 16) + (⟨r.val % 1024, by omega⟩ : Fin 1024).val := by dsimp only; omega
  have hi := index0_3 (pt0 n r)
  have e : ((cfg0.win 3).blk (pt0 n r)).view.emb (ix3 (0 : Fin 1) (⟨r.val % 1024, by omega⟩ : Fin 1024) f) = ix3 n r f := by
    funext a
    apply Fin.ext
    match a with
    | ⟨0, _⟩ => show win0_3.index (pt0 n r) 0 * 1 + 1 * 0 = n.val; rw [hi.1]; omega
    | ⟨1, _⟩ => show win0_3.index (pt0 n r) 1 * 1024 + 1 * (r.val % 1024) = r.val; rw [hi.2.1]; show (16 * n.val + r.val / 1024) % 16 * 1024 + _ = _; omega
    | ⟨2, _⟩ => show win0_3.index (pt0 n r) 2 * 704 + 1 * f.val = f.val; omega
  have h := (dat0 V c).arrAt_emb_eq_flushed 3 disjoint0_3 (pt0 n r) (flush0_3 (pt0 n r)) (ix3 (0 : Fin 1) (⟨r.val % 1024, by omega⟩ : Fin 1024) f)
  rw [e] at h
  refine h.trans ?_
  show (dat0 V c).after 3 (pt0 n r) (ix3 (0 : Fin 1) (⟨r.val % 1024, by omega⟩ : Fin 1024) f) = _
  rw [after0_3, out0_3_apply]
  rw [gate_block V c _ n _ f r hn hr, up_block V c _ n _ f r hn hr]

/-- the gate times its logistic factor, -/
theorem result0_4 (c : Dev nD) (n : Fin 4) (r : Fin 16384) (f : Fin 704) : (dat0 V c).arrAt 4 cfg0.N (ix3 n r f)
    = (gateAt V c n r f * Cert.Norm.gateLogistic (gateAt V c n r f) : EReal) := by
  have hn : n.val = (pt0 n r).val / 16 := by dsimp only; omega
  have hr : r.val = 1024 * ((pt0 n r).val % 16) + (⟨r.val % 1024, by omega⟩ : Fin 1024).val := by dsimp only; omega
  have hi := index0_4 (pt0 n r)
  have e : ((cfg0.win 4).blk (pt0 n r)).view.emb (ix3 (0 : Fin 1) (⟨r.val % 1024, by omega⟩ : Fin 1024) f) = ix3 n r f := by
    funext a
    apply Fin.ext
    match a with
    | ⟨0, _⟩ => show win0_4.index (pt0 n r) 0 * 1 + 1 * 0 = n.val; rw [hi.1]; omega
    | ⟨1, _⟩ => show win0_4.index (pt0 n r) 1 * 1024 + 1 * (r.val % 1024) = r.val; rw [hi.2.1]; show (16 * n.val + r.val / 1024) % 16 * 1024 + _ = _; omega
    | ⟨2, _⟩ => show win0_4.index (pt0 n r) 2 * 704 + 1 * f.val = f.val; omega
  have h := (dat0 V c).arrAt_emb_eq_flushed 4 disjoint0_4 (pt0 n r) (flush0_4 (pt0 n r)) (ix3 (0 : Fin 1) (⟨r.val % 1024, by omega⟩ : Fin 1024) f)
  rw [e] at h
  refine h.trans ?_
  show (dat0 V c).after 4 (pt0 n r) (ix3 (0 : Fin 1) (⟨r.val % 1024, by omega⟩ : Fin 1024) f) = _
  rw [after0_4, out0_4_apply]
  rw [gate_block V c _ n _ f r hn hr]

/-- and the product of the two branches. -/
theorem result0_5 (c : Dev nD) (n : Fin 4) (r : Fin 16384) (f : Fin 704) : (dat0 V c).arrAt 5 cfg0.N (ix3 n r f)
    = (gateAt V c n r f * Cert.Norm.gateLogistic (gateAt V c n r f) * upAt V c n r f : EReal) := by
  have hn : n.val = (pt0 n r).val / 16 := by dsimp only; omega
  have hr : r.val = 1024 * ((pt0 n r).val % 16) + (⟨r.val % 1024, by omega⟩ : Fin 1024).val := by dsimp only; omega
  have hi := index0_5 (pt0 n r)
  have e : ((cfg0.win 5).blk (pt0 n r)).view.emb (ix3 (0 : Fin 1) (⟨r.val % 1024, by omega⟩ : Fin 1024) f) = ix3 n r f := by
    funext a
    apply Fin.ext
    match a with
    | ⟨0, _⟩ => show win0_5.index (pt0 n r) 0 * 1 + 1 * 0 = n.val; rw [hi.1]; omega
    | ⟨1, _⟩ => show win0_5.index (pt0 n r) 1 * 1024 + 1 * (r.val % 1024) = r.val; rw [hi.2.1]; show (16 * n.val + r.val / 1024) % 16 * 1024 + _ = _; omega
    | ⟨2, _⟩ => show win0_5.index (pt0 n r) 2 * 704 + 1 * f.val = f.val; omega
  have h := (dat0 V c).arrAt_emb_eq_flushed 5 disjoint0_5 (pt0 n r) (flush0_5 (pt0 n r)) (ix3 (0 : Fin 1) (⟨r.val % 1024, by omega⟩ : Fin 1024) f)
  rw [e] at h
  refine h.trans ?_
  show (dat0 V c).after 5 (pt0 n r) (ix3 (0 : Fin 1) (⟨r.val % 1024, by omega⟩ : Fin 1024) f) = _
  rw [after0_5, out0_5_apply]
  rw [gate_block V c _ n _ f r hn hr, up_block V c _ n _ f r hn hr]

/-- The third region's results at an index. -/
theorem result2_4 (c : Dev nD) (n : Fin 4) (r : Fin 16384) (f : Fin 704) : (dat2 V c).arrAt 4 cfg2.N (ix3 n r f)
    = (productAt V c n r f * aArr V c (ix3 n r f) : EReal) := by
  have hn : n.val = (pt2 n r).val / 16 := by dsimp only; omega
  have hr : r.val = 1024 * ((pt2 n r).val % 16) + (⟨r.val % 1024, by omega⟩ : Fin 1024).val := by dsimp only; omega
  have hi := index2_4 (pt2 n r)
  have e : ((cfg2.win 4).blk (pt2 n r)).view.emb (ix3 (0 : Fin 1) (⟨r.val % 1024, by omega⟩ : Fin 1024) f) = ix3 n r f := by
    funext a
    apply Fin.ext
    match a with
    | ⟨0, _⟩ => show win2_4.index (pt2 n r) 0 * 1 + 1 * 0 = n.val; rw [hi.1]; omega
    | ⟨1, _⟩ => show win2_4.index (pt2 n r) 1 * 1024 + 1 * (r.val % 1024) = r.val; rw [hi.2.1]; show (16 * n.val + r.val / 1024) % 16 * 1024 + _ = _; omega
    | ⟨2, _⟩ => show win2_4.index (pt2 n r) 2 * 704 + 1 * f.val = f.val; omega
  have h := (dat2 V c).arrAt_emb_eq_flushed 4 disjoint2_4 (pt2 n r) (flush2_4 (pt2 n r)) (ix3 (0 : Fin 1) (⟨r.val % 1024, by omega⟩ : Fin 1024) f)
  rw [e] at h
  refine h.trans ?_
  show (dat2 V c).after 4 (pt2 n r) (ix3 (0 : Fin 1) (⟨r.val % 1024, by omega⟩ : Fin 1024) f) = _
  rw [after2_4, out2_4_apply]
  rw [product_block V c _ n _ f r hn hr, block2_2 V c _ n _ f r hn hr]

/-- The second of them. -/
theorem result2_5 (c : Dev nD) (n : Fin 4) (r : Fin 16384) (f : Fin 704) : (dat2 V c).arrAt 5 cfg2.N (ix3 n r f)
    = (productAt V c n r f * uArr V c (ix3 n r f) : EReal) := by
  have hn : n.val = (pt2 n r).val / 16 := by dsimp only; omega
  have hr : r.val = 1024 * ((pt2 n r).val % 16) + (⟨r.val % 1024, by omega⟩ : Fin 1024).val := by dsimp only; omega
  have hi := index2_5 (pt2 n r)
  have e : ((cfg2.win 5).blk (pt2 n r)).view.emb (ix3 (0 : Fin 1) (⟨r.val % 1024, by omega⟩ : Fin 1024) f) = ix3 n r f := by
    funext a
    apply Fin.ext
    match a with
    | ⟨0, _⟩ => show win2_5.index (pt2 n r) 0 * 1 + 1 * 0 = n.val; rw [hi.1]; omega
    | ⟨1, _⟩ => show win2_5.index (pt2 n r) 1 * 1024 + 1 * (r.val % 1024) = r.val; rw [hi.2.1]; show (16 * n.val + r.val / 1024) % 16 * 1024 + _ = _; omega
    | ⟨2, _⟩ => show win2_5.index (pt2 n r) 2 * 704 + 1 * f.val = f.val; omega
  have h := (dat2 V c).arrAt_emb_eq_flushed 5 disjoint2_5 (pt2 n r) (flush2_5 (pt2 n r)) (ix3 (0 : Fin 1) (⟨r.val % 1024, by omega⟩ : Fin 1024) f)
  rw [e] at h
  refine h.trans ?_
  show (dat2 V c).after 5 (pt2 n r) (ix3 (0 : Fin 1) (⟨r.val % 1024, by omega⟩ : Fin 1024) f) = _
  rw [after2_5, out2_5_apply]
  rw [product_block V c _ n _ f r hn hr, block2_3 V c _ n _ f r hn hr]

/-- The second region's results at an index: the rows after the half-block, -/
theorem result1_4 (c : Dev nD) (r : Fin 16384) (d : Fin 1024) : (dat1 V c).arrAt 4 cfg1.N (ix2 r d)
    = (rowsAt V c r d : EReal) := by
  have hr : r.val = 512 * (pt1 r).val + (⟨r.val % 512, by omega⟩ : Fin 512).val := by dsimp only; omega
  have hi := index1_4 (pt1 r)
  have e : ((cfg1.win 4).blk (pt1 r)).view.emb (ix2 (⟨r.val % 512, by omega⟩ : Fin 512) d) = ix2 r d := by
    funext a
    apply Fin.ext
    match a with
    | ⟨0, _⟩ => show win1_4.index (pt1 r) 0 * 512 + 1 * (r.val % 512) = r.val; rw [hi.1]; show r.val / 512 * 512 + _ = _; omega
    | ⟨1, _⟩ => show win1_4.index (pt1 r) 1 * 1024 + 1 * d.val = d.val; omega
  have h := (dat1 V c).arrAt_emb_eq_flushed 4 disjoint1_4 (pt1 r) (flush1_4 (pt1 r)) (ix2 (⟨r.val % 512, by omega⟩ : Fin 512) d)
  rw [e] at h
  refine h.trans ?_
  show (dat1 V c).after 4 (pt1 r) (ix2 (⟨r.val % 512, by omega⟩ : Fin 512) d) = _
  rw [after1_4, out1_4_apply, rows_block V c _ _ d r hr]

/-- and their norm times the gain. -/
theorem result1_5 (c : Dev nD) (r : Fin 16384) (d : Fin 1024) : (dat1 V c).arrAt 5 cfg1.N (ix2 r d)
    = (rowsAt V c r d * Cert.Norm.rstd (fun k => rowsAt V c r k) * gainArr V c (ix2 0 d) : EReal) := by
  have hr : r.val = 512 * (pt1 r).val + (⟨r.val % 512, by omega⟩ : Fin 512).val := by dsimp only; omega
  have hi := index1_5 (pt1 r)
  have e : ((cfg1.win 5).blk (pt1 r)).view.emb (ix2 (⟨r.val % 512, by omega⟩ : Fin 512) d) = ix2 r d := by
    funext a
    apply Fin.ext
    match a with
    | ⟨0, _⟩ => show win1_5.index (pt1 r) 0 * 512 + 1 * (r.val % 512) = r.val; rw [hi.1]; show r.val / 512 * 512 + _ = _; omega
    | ⟨1, _⟩ => show win1_5.index (pt1 r) 1 * 1024 + 1 * d.val = d.val; omega
  have h := (dat1 V c).arrAt_emb_eq_flushed 5 disjoint1_5 (pt1 r) (flush1_5 (pt1 r)) (ix2 (⟨r.val % 512, by omega⟩ : Fin 512) d)
  rw [e] at h
  refine h.trans ?_
  show (dat1 V c).after 5 (pt1 r) (ix2 (⟨r.val % 512, by omega⟩ : Fin 512) d) = _
  rw [after1_5, out1_5_apply, block1_3]
  simp only [rows_block V c _ _ _ r hr]

end Cert.KernelIdeal.Hand
-- ==== Proof.FwdHost.lean ====
/-
  The arrays that the host prepares for the three kernels of the half-block, at an index: the hidden activations, which are
  the reference's, and the three weights, each cut into four blocks of columns; and which of the arrays the regions pass on
  to one another.
-/
module

public import proofs.«01_k».proof.Proof.FwdFold
public import proofs.«01_k».proof.Proof.Gen.ReferenceIdeal.Read
public import Idealize.ShloMosaic.Lib.StableHlo.RunRead

@[expose] public section

set_option maxRecDepth 16384

noncomputable section

open Idealize.ShloMosaic Idealize.ShloMosaic.TcCoe Idealize.SL.Sem

namespace Cert.KernelIdeal.Hand

open Cert.KernelIdeal Cert.KernelIdeal.Gen

variable (m : (ℓ : Loc nD τ sig) → Buf (Elt Ideal) ℓ) (ρ : Dev nD → PrngReg)

/-- The hidden activations are the reference's. -/
theorem hArr_eq (c : Dev nD) (r : Fin 16384) (d : Fin 1024) : hArr (V1 m ρ) c (ix2 r d)
    = Cert.ReferenceIdeal.Read.val_main_v11 (F := Ideal) (m (c.tc.loc main_arg0)) (m (c.tc.loc main_arg1)) (ix2 r d) := by
  refine congrFun (?_ : StableHlo.after hostOps0 (fun b => m (c, b)) main_v12 = _) (ix2 r d)
  after_reads_simp
  rfl

/-- Four blocks of a weight, stacked, in the narrower format. -/
def wstackOf (a b c d : Vec Ideal S1x1024x704 .f32) : Vec Ideal S4x1024x704 .bf16 :=
  truncf (F := Ideal) .bf16 (concatenate S4x1024x704 0 [⟨S1x1024x704, a⟩, ⟨S1x1024x704, b⟩, ⟨S1x1024x704, c⟩, ⟨S1x1024x704, d⟩]
    concatenates_S1x1024x704_S1x1024x704_S1x1024x704_S1x1024x704_S4x1024x704_d0) bitsLt_bf16_f32
def rstackOf (a b c d : Vec Ideal S1x704x1024 .f32) : Vec Ideal S4x704x1024 .bf16 :=
  truncf (F := Ideal) .bf16 (concatenate S4x704x1024 0 [⟨S1x704x1024, a⟩, ⟨S1x704x1024, b⟩, ⟨S1x704x1024, c⟩, ⟨S1x704x1024, d⟩]
    concatenates_S1x704x1024_S1x704x1024_S1x704x1024_S1x704x1024_S4x704x1024_d0) bitsLt_bf16_f32

/-- Four blocks of 704 columns of a weight, stacked; and of 704 rows. -/
def wstack (y : Vec Ideal S1024x2816 .f32) : Vec Ideal S4x1024x704 .bf16 := wstackOf
  (broadcastInDim S1x1024x704 ![1, 2] bcast_S1024x704_S1x1024x704_1_2 (extractStridedSlice S1024x704 ![0, 0] y slices_S1024x2816_S1024x704_0_0))
  (broadcastInDim S1x1024x704 ![1, 2] bcast_S1024x704_S1x1024x704_1_2 (extractStridedSlice S1024x704 ![0, 704] y slices_S1024x2816_S1024x704_0_704))
  (broadcastInDim S1x1024x704 ![1, 2] bcast_S1024x704_S1x1024x704_1_2 (extractStridedSlice S1024x704 ![0, 1408] y slices_S1024x2816_S1024x704_0_1408))
  (broadcastInDim S1x1024x704 ![1, 2] bcast_S1024x704_S1x1024x704_1_2 (extractStridedSlice S1024x704 ![0, 2112] y slices_S1024x2816_S1024x704_0_2112))
def rstack (y : Vec Ideal S2816x1024 .f32) : Vec Ideal S4x704x1024 .bf16 := rstackOf
  (broadcastInDim S1x704x1024 ![1, 2] bcast_S704x1024_S1x704x1024_1_2 (extractStridedSlice S704x1024 ![0, 0] y slices_S2816x1024_S704x1024_0_0))
  (broadcastInDim S1x704x1024 ![1, 2] bcast_S704x1024_S1x704x1024_1_2 (extractStridedSlice S704x1024 ![704, 0] y slices_S2816x1024_S704x1024_704_0))
  (broadcastInDim S1x704x1024 ![1, 2] bcast_S704x1024_S1x704x1024_1_2 (extractStridedSlice S704x1024 ![1408, 0] y slices_S2816x1024_S704x1024_1408_0))
  (broadcastInDim S1x704x1024 ![1, 2] bcast_S704x1024_S1x704x1024_1_2 (extractStridedSlice S704x1024 ![2112, 0] y slices_S2816x1024_S704x1024_2112_0))

theorem wstack_apply (y : Vec Ideal S1024x2816 .f32) (n : Fin 4) (d : Fin 1024) (f : Fin 704) :
    wstack y (ix3 n d f) = y (ix2 d ⟨704 * n.val + f.val, by omega⟩) := by
  unfold wstack wstackOf
  pointwise
  fin_vals n with hn
  all_goals simp only [hn, Nat.reduceSub, Nat.reduceLT, ↓reduceDIte, ↓reduceIte, Nat.mul_zero, Nat.mul_one, Nat.zero_add, Nat.reduceMul]
theorem rstack_apply (y : Vec Ideal S2816x1024 .f32) (n : Fin 4) (f : Fin 704) (d : Fin 1024) :
    rstack y (ix3 n f d) = y (ix2 ⟨704 * n.val + f.val, by omega⟩ d) := by
  unfold rstack rstackOf
  pointwise
  fin_vals n with hn
  all_goals simp only [hn, Nat.reduceSub, Nat.reduceLT, ↓reduceDIte, ↓reduceIte, Nat.mul_zero, Nat.mul_one, Nat.zero_add, Nat.reduceMul]

/-- Two stacks, one above the other in every block. -/
def pair (a b : Vec Ideal S4x1024x704 .bf16) : Vec Ideal S4x2048x704 .bf16 :=
  concatenate S4x2048x704 1 [⟨S4x1024x704, a⟩, ⟨S4x1024x704, b⟩] concatenates_S4x1024x704_S4x1024x704_S4x2048x704_d1

theorem pair_upper (a b : Vec Ideal S4x1024x704 .bf16) (n : Fin 4) (d : Fin 1024) (f : Fin 704) :
    pair a b (ix3 n ⟨d.val, by omega⟩ f) = a (ix3 n d f) := by
  unfold pair
  pointwise
theorem pair_lower (a b : Vec Ideal S4x1024x704 .bf16) (n : Fin 4) (d : Fin 1024) (f : Fin 704) :
    pair a b (ix3 n ⟨1024 + d.val, by omega⟩ f) = b (ix3 n d f) := by
  unfold pair
  pointwise

/-- The weights of the first region. -/
theorem wArr_eq (c : Dev nD) : wArr (V1 m ρ) c = pair (wstack (m (c.tc.loc main_arg2))) (wstack (m (c.tc.loc main_arg3))) := by
  show StableHlo.after hostOps0 (fun b => m (c, b)) main_v33 = pair (wstack ((fun b => m (c, b)) (Proc.devRef .tc main_arg2))) (wstack ((fun b => m (c, b)) (Proc.devRef .tc main_arg3)))
  generalize (fun b => m (c, b)) = W
  unfold wstack
  after_reads_simp
  show pair (StableHlo.upto hostOps0 W 36 (Proc.devRef .tc main_v22)) (StableHlo.upto hostOps0 W 36 (Proc.devRef .tc main_v32)) = _
  after_reads_simp
  show pair (wstackOf (StableHlo.upto hostOps0 W 24 (Proc.devRef .tc main_v17)) (StableHlo.upto hostOps0 W 24 (Proc.devRef .tc main_v18))
    (StableHlo.upto hostOps0 W 24 (Proc.devRef .tc main_v19)) (StableHlo.upto hostOps0 W 24 (Proc.devRef .tc main_v20)))
    (wstackOf (StableHlo.upto hostOps0 W 34 (Proc.devRef .tc main_v27)) (StableHlo.upto hostOps0 W 34 (Proc.devRef .tc main_v28))
    (StableHlo.upto hostOps0 W 34 (Proc.devRef .tc main_v29)) (StableHlo.upto hostOps0 W 34 (Proc.devRef .tc main_v30))) = _
  after_reads_simp

/-- The weights back, when the first region starts. -/
theorem wdArr_eq (c : Dev nD) : wdArr (V1 m ρ) c = rstack (m (c.tc.loc main_arg4)) := by
  show StableHlo.after hostOps0 (fun b => m (c, b)) main_v43 = rstack ((fun b => m (c, b)) (Proc.devRef .tc main_arg4))
  generalize (fun b => m (c, b)) = W
  unfold rstack
  after_reads_simp
  show rstackOf (StableHlo.upto hostOps0 W 45 (Proc.devRef .tc main_v38)) (StableHlo.upto hostOps0 W 45 (Proc.devRef .tc main_v39))
    (StableHlo.upto hostOps0 W 45 (Proc.devRef .tc main_v40)) (StableHlo.upto hostOps0 W 45 (Proc.devRef .tc main_v41)) = _
  after_reads_simp

/-! What the second and the third region read: the first region's results, and what neither region changes. -/

theorem sArr_eq (c : Dev nD) : sArr (V2 m ρ) c = (dat0 (V1 m ρ) c).arrAt 5 cfg0.N := W2_arr m ρ c 5
theorem wdArr_second (c : Dev nD) : wdArr (V2 m ρ) c = wdArr (V1 m ρ) c := W2_of_ne m ρ c main_v43 (by decide)
theorem xArr_eq (c : Dev nD) : xArr (V2 m ρ) c = m (c.tc.loc main_arg0) := W2_args m ρ c main_arg0 (by decide)
theorem gainArr_eq (c : Dev nD) : gainArr (V2 m ρ) c = m (c.tc.loc main_arg5) := W2_args m ρ c main_arg5 (by decide)

theorem aArr_eq (c : Dev nD) : aArr (V4 m ρ) c = (dat0 (V1 m ρ) c).arrAt 3 cfg0.N :=
  ((W4_of m ρ c main_v44_0 (by decide)).trans (W3_of_ne m ρ c main_v44_0 (by decide))).trans (W2_arr m ρ c 3)
theorem uArr_eq (c : Dev nD) : uArr (V4 m ρ) c = (dat0 (V1 m ρ) c).arrAt 4 cfg0.N :=
  ((W4_of m ρ c main_v44_1 (by decide)).trans (W3_of_ne m ρ c main_v44_1 (by decide))).trans (W2_arr m ρ c 4)
theorem wdArr_third (c : Dev nD) : wdArr (V4 m ρ) c = wdArr (V1 m ρ) c :=
  ((W4_of m ρ c main_v43 (by decide)).trans (W3_of m ρ c main_v43 (by decide))).trans (wdArr_second m ρ c)
theorem ctArr_eq (c : Dev nD) (r : Fin 16384) (d : Fin 1024) : ctArr (V4 m ρ) c (ix2 r d) = m (c.tc.loc main_arg6) (ix2 r d) := by
  have e : ctArr (V4 m ρ) c = truncf (F := Ideal) .bf16 (W3 m ρ c (Proc.devRef .tc main_arg6)) bitsLt_bf16_f32 := by
    show StableHlo.after hostOps2 (W3 m ρ c) main_v46 = _
    after_reads_simp
  rw [e, W3_args m ρ c main_arg6 (by decide)]
  rfl

/-- The four results after the third region. -/
theorem end_rows (c : Dev nD) : W5 m ρ c (Proc.devRef .tc main_v45_0) = (dat1 (V2 m ρ) c).arrAt 4 cfg1.N :=
  ((W5_of_ne m ρ c main_v45_0 (by decide)).trans (W4_of m ρ c main_v45_0 (by decide))).trans (W3_arr m ρ c 4)
theorem end_next (c : Dev nD) : W5 m ρ c (Proc.devRef .tc main_v45_1) = (dat1 (V2 m ρ) c).arrAt 5 cfg1.N :=
  ((W5_of_ne m ρ c main_v45_1 (by decide)).trans (W4_of m ρ c main_v45_1 (by decide))).trans (W3_arr m ρ c 5)
theorem end_gate (c : Dev nD) : W5 m ρ c (Proc.devRef .tc main_v47_0) = (dat2 (V4 m ρ) c).arrAt 4 cfg2.N := W5_arr m ρ c 4
theorem end_up (c : Dev nD) : W5 m ρ c (Proc.devRef .tc main_v47_1) = (dat2 (V4 m ρ) c).arrAt 5 cfg2.N := W5_arr m ρ c 5

end Cert.KernelIdeal.Hand
-- ==== Proof.FwdRef.lean ====
/-
  The reference's results for the half-block, at an index, over its own arrays of hidden activations; and the gate's
  cotangent, on real arguments, in the factored form.
-/
module

public import proofs.«01_k».proof.Proof.FwdBlock
public import proofs.«01_k».proof.Proof.Gen.ReferenceIdeal.Read

@[expose] public section

set_option maxRecDepth 16384

noncomputable section

open Idealize.ShloMosaic Idealize.ShloMosaic.TcCoe Idealize.SL.Sem

namespace Cert.ReferenceIdeal.Hand

open Cert.ReferenceIdeal Cert.ReferenceIdeal.Read Cert.Norm

variable (x0 : Vec Ideal S16384x1024 .f32) (x1 : Vec Ideal S1x1024 .f32) (x2 x3 : Vec Ideal S1024x2816 .f32)
  (x4 : Vec Ideal S2816x1024 .f32) (x5 : Vec Ideal S1x1024 .f32) (x6 : Vec Ideal S16384x1024 .f32)

/-- The two branches, at an index. -/
def gate (r : Fin 16384) (f : Fin 2816) : EReal := ∑ k : Fin 1024, val_main_v11 (F := Ideal) x0 x1 (ix2 r k) * x2 (ix2 k f)

theorem gate_apply (r : Fin 16384) (f : Fin 2816) : val_main_v12 (F := Ideal) x0 x1 x2 (ix2 r f) = gate x0 x1 x2 r f := by
  unfold val_main_v12 gate
  generalize val_main_v11 (F := Ideal) x0 x1 = h
  pointwise
theorem up_apply (r : Fin 16384) (f : Fin 2816) : val_main_v14 (F := Ideal) x0 x1 x3 (ix2 r f) = gate x0 x1 x3 r f := by
  unfold val_main_v14 gate
  generalize val_main_v11 (F := Ideal) x0 x1 = h
  pointwise

/-- The derivative is taken of a second copy of the forward pass. -/
theorem gate_copy (r : Fin 16384) (f : Fin 2816) : val_main_v32 (F := Ideal) x0 x1 x2 (ix2 r f) = gate x0 x1 x2 r f :=
  gate_apply x0 x1 x2 r f
theorem up_copy (r : Fin 16384) (f : Fin 2816) : val_main_v33 (F := Ideal) x0 x1 x3 (ix2 r f) = gate x0 x1 x3 r f :=
  up_apply x0 x1 x3 r f

/-- The logistic factor of the gate, in both copies. -/
theorem logistic_apply (r : Fin 16384) (f : Fin 2816) : val_main_call0_v5 (F := Ideal) x0 x1 x2 (ix2 r f) = gateLogistic (gate x0 x1 x2 r f) := by
  rw [← gate_apply]
  unfold val_main_call0_v5 val_main_call0_v3 val_main_call0_v1 val_main_call0_v0 gateLogistic
  generalize val_main_v12 (F := Ideal) x0 x1 x2 = a
  pointwise [val_main_call0_v4, val_main_call0_v2, val_main_call0_cst, val_main_call0_cst_0]
theorem logistic_copy (r : Fin 16384) (f : Fin 2816) : val_main_v34_2 (F := Ideal) x0 x1 x2 (ix2 r f) = gateLogistic (gate x0 x1 x2 r f) :=
  logistic_apply x0 x1 x2 r f

/-- The product of the branches, at an index. -/
theorem hidden_apply (r : Fin 16384) (f : Fin 2816) : val_main_v15 (F := Ideal) x0 x1 x2 x3 (ix2 r f)
    = (gate x0 x1 x2 r f * gateLogistic (gate x0 x1 x2 r f) * gate x0 x1 x3 r f : EReal) := by
  rw [← logistic_apply, ← gate_apply, ← up_apply]
  unfold val_main_v15 val_main_v13
  generalize val_main_v12 (F := Ideal) x0 x1 x2 = a
  generalize val_main_v14 (F := Ideal) x0 x1 x3 = u
  generalize val_main_call0_v5 (F := Ideal) x0 x1 x2 = s
  pointwise

/-- The rows after the half-block, at an index. -/
theorem rows_apply (r : Fin 16384) (d : Fin 1024) : val_main_v19 (F := Ideal) x0 x1 x2 x3 x4 (ix2 r d)
    = (x0 (ix2 r d) + Ideal.ofBits .f32 0x3F000000#32 * ∑ f : Fin 2816, val_main_v15 (F := Ideal) x0 x1 x2 x3 (ix2 r f) * x4 (ix2 f d) : EReal) := by
  unfold val_main_v19 val_main_v18 val_main_v16
  generalize val_main_v15 (F := Ideal) x0 x1 x2 x3 = s
  pointwise [val_main_v17, val_main_cst_2]

/-- Their norm times the next gain. -/
theorem next_apply (r : Fin 16384) (d : Fin 1024) : val_main_v57 (F := Ideal) x0 x1 x2 x3 x4 x5 (ix2 r d)
    = (val_main_v19 (F := Ideal) x0 x1 x2 x3 x4 (ix2 r d) * rstd (fun k => val_main_v19 (F := Ideal) x0 x1 x2 x3 x4 (ix2 r k)) * x5 (ix2 0 d) : EReal) := by
  unfold val_main_v57 val_main_v56 val_main_v55 val_main_v54 val_main_v53 val_main_v52 val_main_v51 val_main_v49 val_main_v47 val_main_v46 val_main_v45 rstd
  generalize val_main_v19 (F := Ideal) x0 x1 x2 x3 x4 = y
  pointwise [val_main_v50, val_main_v48, val_main_cst_8, val_main_cst_9, val_main_cst_10]

/-- The cotangent of the branches' product, at an index. -/
theorem product_apply (r : Fin 16384) (f : Fin 2816) : val_main_v41 (F := Ideal) x4 x6 (ix2 r f)
    = (∑ k : Fin 1024, (Ideal.ofBits .f32 0x3F000000#32 * x6 (ix2 r k)) * x4 (ix2 f k) : EReal) := by
  pointwise [val_main_v41, val_main_v40, val_main_v39, val_main_cst_7]

/-- The up branch's cotangent, cut into blocks of columns, at an index. -/
theorem up_ct_apply (n : Fin 4) (r : Fin 16384) (f : Fin 704) : val_main_v63 (F := Ideal) x0 x1 x2 x4 x6 (ix3 n r f)
    = (gate x0 x1 x2 r ⟨704 * n.val + f.val, by omega⟩ * gateLogistic (gate x0 x1 x2 r ⟨704 * n.val + f.val, by omega⟩)
        * val_main_v41 (F := Ideal) x4 x6 (ix2 r ⟨704 * n.val + f.val, by omega⟩) : EReal) := by
  rw [← logistic_copy, ← gate_copy]
  unfold val_main_v63 val_main_v62 val_main_v61 val_main_v42 val_main_v34_0
  generalize val_main_v32 (F := Ideal) x0 x1 x2 = a
  generalize val_main_v34_2 (F := Ideal) x0 x1 x2 = s
  generalize val_main_v41 (F := Ideal) x4 x6 = p
  pointwise
  simp only [Nat.mul_comm (n : ℕ) 704]

/-- The gate's cotangent, cut into blocks of columns, at an index. -/
theorem gate_ct_apply (n : Fin 4) (r : Fin 16384) (f : Fin 704) : val_main_v60 (F := Ideal) x0 x1 x2 x3 x4 x6 (ix3 n r f)
    = (val_main_v41 (F := Ideal) x4 x6 (ix2 r ⟨704 * n.val + f.val, by omega⟩) * gate x0 x1 x3 r ⟨704 * n.val + f.val, by omega⟩
          * gateLogistic (gate x0 x1 x2 r ⟨704 * n.val + f.val, by omega⟩)
        + gate x0 x1 x2 r ⟨704 * n.val + f.val, by omega⟩
          * (val_main_v41 (F := Ideal) x4 x6 (ix2 r ⟨704 * n.val + f.val, by omega⟩) * gate x0 x1 x3 r ⟨704 * n.val + f.val, by omega⟩)
          * (gateLogistic (gate x0 x1 x2 r ⟨704 * n.val + f.val, by omega⟩)
            * (Ideal.ofBits .f32 0x3F800000#32 - gateLogistic (gate x0 x1 x2 r ⟨704 * n.val + f.val, by omega⟩))) : EReal) := by
  rw [← logistic_copy x0 x1 x2, ← gate_copy x0 x1 x2, ← up_copy x0 x1 x3]
  unfold val_main_v60 val_main_v59 val_main_v58 val_main_v44 val_main_call2_v2 val_main_call2_v1 val_main_call2_v0 val_main_v43
    val_main_v34_1 val_main_call1_v7
  generalize val_main_v32 (F := Ideal) x0 x1 x2 = a
  generalize val_main_v33 (F := Ideal) x0 x1 x3 = u
  generalize val_main_v34_2 (F := Ideal) x0 x1 x2 = s
  generalize val_main_v41 (F := Ideal) x4 x6 = p
  pointwise [val_main_call1_v6, val_main_call1_cst_1]
  simp only [Nat.mul_comm (n : ℕ) 704]

/-- On real numbers the gate's cotangent is the factored product. -/
theorem slope_eq (p a u : EReal) (hp : IsReal p) (ha : IsReal a) (hu : IsReal u) :
    (p * u * gateLogistic a + a * (p * u) * (gateLogistic a * (Ideal.ofBits .f32 0x3F800000#32 - gateLogistic a)) : EReal)
      = p * (u * gateSlope a) := by
  obtain ⟨p, rfl⟩ := hp
  obtain ⟨a, rfl⟩ := ha
  obtain ⟨u, rfl⟩ := hu
  unfold gateSlope gateLogistic
  rw [one, sigmoid_real]
  generalize (1 / (1 + Real.exp (-a)) : ℝ) = s
  simp only [← EReal.coe_mul, ← EReal.coe_add, ← EReal.coe_sub]
  congr 1
  ring

section Real

variable (h0 : ∀ i, IsReal (x0 i)) (h1 : ∀ i, IsReal (x1 i)) (h2 : ∀ i, IsReal (x2 i)) (h3 : ∀ i, IsReal (x3 i))
  (h4 : ∀ i, IsReal (x4 i)) (h6 : ∀ i, IsReal (x6 i))

include h0 h1 in
theorem isReal_normed (r : Fin 16384) (d : Fin 1024) : IsReal (val_main_v11 (F := Ideal) x0 x1 (ix2 r d)) := by
  have e : val_main_v11 (F := Ideal) x0 x1 (ix2 r d) = (x0 (ix2 r d) * rstd (fun k => x0 (ix2 r k)) * x1 (ix2 0 d) : EReal) := by
    unfold rstd
    pointwise [val_main_v11, val_main_v10, val_main_v9, val_main_v8, val_main_v7, val_main_v6, val_main_v5, val_main_v4, val_main_v3,
      val_main_v2, val_main_v1, val_main_v0, val_main_cst, val_main_cst_0, val_main_cst_1]
  rw [e]
  exact ((h0 _).mul (isReal_rstd fun k => h0 _)).mul (h1 _)

include h0 h1 h2 in
theorem isReal_gate (r : Fin 16384) (f : Fin 2816) : IsReal (gate x0 x1 x2 r f) :=
  IsReal.sum _ fun k => (isReal_normed x0 x1 h0 h1 r k).mul (h2 _)

include h4 h6 in
theorem isReal_product (r : Fin 16384) (f : Fin 2816) : IsReal (val_main_v41 (F := Ideal) x4 x6 (ix2 r f)) := by
  rw [product_apply]
  exact IsReal.sum _ fun k => (IsReal.mul ⟨_, half⟩ (h6 _)).mul (h4 _)

include h0 h1 h2 h3 h4 h6 in
/-- The gate's cotangent, at an index, on real arguments. -/
theorem gate_ct_real (n : Fin 4) (r : Fin 16384) (f : Fin 704) : val_main_v60 (F := Ideal) x0 x1 x2 x3 x4 x6 (ix3 n r f)
    = (val_main_v41 (F := Ideal) x4 x6 (ix2 r ⟨704 * n.val + f.val, by omega⟩) * (gate x0 x1 x3 r ⟨704 * n.val + f.val, by omega⟩
        * gateSlope (gate x0 x1 x2 r ⟨704 * n.val + f.val, by omega⟩)) : EReal) :=
  (gate_ct_apply x0 x1 x2 x3 x4 x6 n r f).trans (slope_eq _ _ _ (isReal_product x4 x6 h4 h6 _ _)
    (isReal_gate x0 x1 x2 h0 h1 h2 _ _) (isReal_gate x0 x1 x3 h0 h1 h3 _ _))

end Real

end Cert.ReferenceIdeal.Hand
-- ==== Proof.FwdEq.lean ====
/-
  The half-block's forward pass and the cotangents of its two branches: the kernel and the reference end with equal results
  when the arguments are real numbers. The kernel writes the gate's derivative as a product, the reference as the sum of two
  terms, which cannot be told apart on real numbers only.
-/
module

public import proofs.«01_k».proof.Proof.FwdRun
public import proofs.«01_k».proof.Proof.FwdHost
public import proofs.«01_k».proof.Proof.FwdRef
public import proofs.«01_k».proof.Proof.Sums
public import proofs.«01_k».proof.Proof.Gen.ReferenceIdeal.Run
public import proofs.«01_k».proof.Proof.Gen.Pre_finite
public import Idealize.ShloMosaic.Lib.ReduceAll
public import proofs.«01_k».proof.Defs

@[expose] public section

set_option maxRecDepth 16384

noncomputable section

open Idealize.ShloMosaic Idealize.ShloMosaic.TcCoe Idealize.SL.Sem

namespace Cert.KernelIdeal.Hand

open Cert.KernelIdeal Cert.KernelIdeal.Gen

/-- What the precondition says: every element of every argument is a real number. -/
theorem finite_args (x0 : FVec Ideal S16384x1024 .f32) (x1 : FVec Ideal S1x1024 .f32) (x2 x3 : FVec Ideal S1024x2816 .f32)
    (x4 : FVec Ideal S2816x1024 .f32) (x5 : FVec Ideal S1x1024 .f32) (x6 : FVec Ideal S16384x1024 .f32)
    (h : Cert.Pre_finite.fn (F := Ideal) x0 x1 x2 x3 x4 x5 x6 = fun _ => 1#1) :
    (∀ i, Cert.Norm.IsReal (x0 i)) ∧ (∀ i, Cert.Norm.IsReal (x1 i)) ∧ (∀ i, Cert.Norm.IsReal (x2 i)) ∧ (∀ i, Cert.Norm.IsReal (x3 i))
      ∧ (∀ i, Cert.Norm.IsReal (x4 i)) ∧ (∀ i, Cert.Norm.IsReal (x6 i)) := by
  have hsub : Subsingleton Cert.Pre_finite.S_.Idx := ⟨fun a b => funext fun i => i.elim0⟩
  have e := congrFun h (fun a => a.elim0)
  unfold Cert.Pre_finite.fn Cert.Pre_finite.fn_part1 at e
  dsimp only at e
  obtain ⟨e, e6⟩ := IntOp.andi_eq_one.mp e
  obtain ⟨e, e5⟩ := IntOp.andi_eq_one.mp e
  obtain ⟨e, e4⟩ := IntOp.andi_eq_one.mp e
  obtain ⟨e, e3⟩ := IntOp.andi_eq_one.mp e
  obtain ⟨e, e2⟩ := IntOp.andi_eq_one.mp e
  obtain ⟨e0, e1⟩ := IntOp.andi_eq_one.mp e
  exact ⟨fun i => Cert.Norm.isReal_of_finite _ (Host.reduce_andi_all _ _ _ _ _ e0 i),
    fun i => Cert.Norm.isReal_of_finite _ (Host.reduce_andi_all _ _ _ _ _ e1 i),
    fun i => Cert.Norm.isReal_of_finite _ (Host.reduce_andi_all _ _ _ _ _ e2 i),
    fun i => Cert.Norm.isReal_of_finite _ (Host.reduce_andi_all _ _ _ _ _ e3 i),
    fun i => Cert.Norm.isReal_of_finite _ (Host.reduce_andi_all _ _ _ _ _ e4 i),
    fun i => Cert.Norm.isReal_of_finite _ (Host.reduce_andi_all _ _ _ _ _ e6 i)⟩

variable (m : (ℓ : Loc nD τ sig) → Buf (Elt Ideal) ℓ) (ρ : Dev nD → PrngReg)

/-- The arguments of a device. -/
abbrev arg0 (c : Dev nD) : Vec Ideal S16384x1024 .f32 := m (c.tc.loc main_arg0)
abbrev arg1 (c : Dev nD) : Vec Ideal S1x1024 .f32 := m (c.tc.loc main_arg1)
abbrev arg2 (c : Dev nD) : Vec Ideal S1024x2816 .f32 := m (c.tc.loc main_arg2)
abbrev arg3 (c : Dev nD) : Vec Ideal S1024x2816 .f32 := m (c.tc.loc main_arg3)
abbrev arg4 (c : Dev nD) : Vec Ideal S2816x1024 .f32 := m (c.tc.loc main_arg4)
abbrev arg5 (c : Dev nD) : Vec Ideal S1x1024 .f32 := m (c.tc.loc main_arg5)
abbrev arg6 (c : Dev nD) : Vec Ideal S16384x1024 .f32 := m (c.tc.loc main_arg6)

/-- The two branches are the reference's, block by block. -/
theorem gateAt_eq (c : Dev nD) (n : Fin 4) (r : Fin 16384) (f : Fin 704) : gateAt (V1 m ρ) c n r f
    = Cert.ReferenceIdeal.Hand.gate (arg0 m c) (arg1 m c) (arg2 m c) r ⟨704 * n.val + f.val, by omega⟩ := by
  unfold gateAt Cert.ReferenceIdeal.Hand.gate
  rw [wArr_eq]
  refine Finset.sum_congr rfl fun k _ => ?_
  rw [hArr_eq, pair_upper, wstack_apply]
theorem upAt_eq (c : Dev nD) (n : Fin 4) (r : Fin 16384) (f : Fin 704) : upAt (V1 m ρ) c n r f
    = Cert.ReferenceIdeal.Hand.gate (arg0 m c) (arg1 m c) (arg3 m c) r ⟨704 * n.val + f.val, by omega⟩ := by
  unfold upAt Cert.ReferenceIdeal.Hand.gate
  rw [wArr_eq]
  refine Finset.sum_congr rfl fun k _ => ?_
  rw [hArr_eq, pair_lower, wstack_apply]

/-- The rows after the half-block: one sum over all the hidden columns. -/
theorem rowsAt_eq (c : Dev nD) (r : Fin 16384) (d : Fin 1024) : rowsAt (V2 m ρ) c r d
    = Cert.ReferenceIdeal.Read.val_main_v19 (F := Ideal) (arg0 m c) (arg1 m c) (arg2 m c) (arg3 m c) (arg4 m c) (ix2 r d) := by
  refine Eq.trans ?_ (Cert.ReferenceIdeal.Hand.rows_apply (arg0 m c) (arg1 m c) (arg2 m c) (arg3 m c) (arg4 m c) r d).symm
  unfold rowsAt
  rw [Cert.Sums.sum_blocks 4 704 rfl, xArr_eq]
  refine congrArg (fun z : EReal => (arg0 m c (ix2 r d) + Ideal.ofBits .f32 0x3F000000#32 * z : EReal)) ?_
  refine Finset.sum_congr rfl fun b _ => Finset.sum_congr rfl fun f _ => ?_
  rw [sArr_eq, result0_5, wdArr_second, wdArr_eq, rstack_apply, Cert.ReferenceIdeal.Hand.hidden_apply, gateAt_eq, upAt_eq]

/-- The cotangent of the branches' product: a half is taken out of the sum. -/
theorem productAt_eq (c : Dev nD) (n : Fin 4) (r : Fin 16384) (f : Fin 704) : productAt (V4 m ρ) c n r f
    = Cert.ReferenceIdeal.Read.val_main_v41 (F := Ideal) (arg4 m c) (arg6 m c) (ix2 r ⟨704 * n.val + f.val, by omega⟩) := by
  refine Eq.trans ?_ (Cert.ReferenceIdeal.Hand.product_apply (arg4 m c) (arg6 m c) r ⟨704 * n.val + f.val, by omega⟩).symm
  unfold productAt
  rw [Cert.Norm.half, Cert.Sums.mul_sum_real _ _ (by norm_num), wdArr_third, wdArr_eq]
  refine Finset.sum_congr rfl fun k _ => ?_
  rw [ctArr_eq, rstack_apply]
  exact (mul_assoc _ _ _).symm

set_option maxHeartbeats 4000000 in
/-- The four results. -/
theorem rows_eq (c : Dev nD) : (dat1 (V2 m ρ) c).arrAt 4 cfg1.N
    = Cert.ReferenceIdeal.Read.val_main_v19 (F := Ideal) (arg0 m c) (arg1 m c) (arg2 m c) (arg3 m c) (arg4 m c) := by
  funext i
  obtain ⟨r, d, rfl⟩ : ∃ (r : Fin 16384) (d : Fin 1024), i = ix2 r d := ⟨i 0, i 1, eq_ix2 i⟩
  exact (result1_4 (V2 m ρ) c r d).trans (rowsAt_eq m ρ c r d)
set_option maxHeartbeats 4000000 in
theorem next_eq (c : Dev nD) : (dat1 (V2 m ρ) c).arrAt 5 cfg1.N
    = Cert.ReferenceIdeal.Read.val_main_v57 (F := Ideal) (arg0 m c) (arg1 m c) (arg2 m c) (arg3 m c) (arg4 m c) (arg5 m c) := by
  funext i
  obtain ⟨r, d, rfl⟩ : ∃ (r : Fin 16384) (d : Fin 1024), i = ix2 r d := ⟨i 0, i 1, eq_ix2 i⟩
  refine (result1_5 (V2 m ρ) c r d).trans (Eq.trans ?_
    (Cert.ReferenceIdeal.Hand.next_apply (arg0 m c) (arg1 m c) (arg2 m c) (arg3 m c) (arg4 m c) (arg5 m c) r d).symm)
  rw [gainArr_eq]
  simp only [rowsAt_eq]
set_option maxHeartbeats 4000000 in
theorem gate_ct_eq (c : Dev nD) (hm : Cert.Pre_KernelIdeal_finite m) : (dat2 (V4 m ρ) c).arrAt 4 cfg2.N
    = Cert.ReferenceIdeal.Read.val_main_v60 (F := Ideal) (arg0 m c) (arg1 m c) (arg2 m c) (arg3 m c) (arg4 m c) (arg6 m c) := by
  obtain ⟨h0, h1, h2, h3, h4, h6⟩ := finite_args _ _ _ _ _ _ _ (hm c)
  funext i
  obtain ⟨n, r, f, rfl⟩ : ∃ (n : Fin 4) (r : Fin 16384) (f : Fin 704), i = ix3 n r f := ⟨i 0, i 1, i 2, eq_ix3 i⟩
  refine (result2_4 (V4 m ρ) c n r f).trans (Eq.trans ?_
    (Cert.ReferenceIdeal.Hand.gate_ct_real (arg0 m c) (arg1 m c) (arg2 m c) (arg3 m c) (arg4 m c) (arg6 m c) h0 h1 h2 h3 h4 h6 n r f).symm)
  rw [productAt_eq, aArr_eq, result0_3, gateAt_eq, upAt_eq]
set_option maxHeartbeats 4000000 in
theorem up_ct_eq (c : Dev nD) : (dat2 (V4 m ρ) c).arrAt 5 cfg2.N
    = Cert.ReferenceIdeal.Read.val_main_v63 (F := Ideal) (arg0 m c) (arg1 m c) (arg2 m c) (arg4 m c) (arg6 m c) := by
  funext i
  obtain ⟨n, r, f, rfl⟩ : ∃ (n : Fin 4) (r : Fin 16384) (f : Fin 704), i = ix3 n r f := ⟨i 0, i 1, i 2, eq_ix3 i⟩
  refine (result2_5 (V4 m ρ) c n r f).trans (Eq.trans ?_
    (Cert.ReferenceIdeal.Hand.up_ct_apply (arg0 m c) (arg1 m c) (arg2 m c) (arg4 m c) (arg6 m c) n r f).symm)
  rw [productAt_eq, uArr_eq, result0_4, gateAt_eq]
  exact mul_comm (G := EReal) _ _

set_option maxHeartbeats 4000000 in
/-- The claim for the half-block's forward pass and the cotangents of its two branches. -/
theorem algebraic : Cert.algebraic_KernelIdeal_ReferenceIdeal_pre_finite := by
  intro m g m' g' hm hagree
  refine ⟨fun c => W5 m g c (Proc.devRef .tc main_v45_0), fun c => W5 m g c (Proc.devRef .tc main_v45_1),
    fun c => W5 m g c (Proc.devRef .tc main_v47_0), fun c => W5 m g c (Proc.devRef .tc main_v47_1),
    run_results (F := Ideal) m g, ?_⟩
  refine (θ_run Cert.ReferenceIdeal.defs _ _).mono (fun _ h c => ?_) (Cert.ReferenceIdeal.Value.run (F := Ideal) m' g')
  obtain ⟨h0, h1, h2, h3, h4, h5, h6⟩ := hagree c
  refine ⟨((h c).1.trans (Cert.ReferenceIdeal.Read.val_main_v19_eq ..)).trans ?_,
    ((h c).2.1.trans (Cert.ReferenceIdeal.Read.val_main_v57_eq m' c)).trans ?_,
    ((h c).2.2.1.trans (Cert.ReferenceIdeal.Read.val_main_v60_eq m' c)).trans ?_,
    ((h c).2.2.2.1.trans (Cert.ReferenceIdeal.Read.val_main_v63_eq ..)).trans ?_, (h c).2.2.2.2⟩
  · rw [h0, h1, h2, h3, h4]
    exact ((end_rows m g c).trans (rows_eq m g c)).symm
  · rw [h0, h1, h2, h3, h4, h5]
    exact ((end_next m g c).trans (next_eq m g c)).symm
  · rw [h0, h1, h2, h3, h4, h6]
    exact ((end_gate m g c).trans (gate_ct_eq m g c hm)).symm
  · rw [h0, h1, h2, h4, h6]
    exact ((end_up m g c).trans (up_ct_eq m g c)).symm

end Cert.KernelIdeal.Hand
-- ==== Proof.Adamw.lean ====
/-
  One AdamW step at the extended reals, of arrays of any shape: the new moments and the change of the weight, element by
  element, with the words of the constants as the programs hold them.
-/
module

public import Idealize.ShloMosaic.Lib.Pipeline.Value
public import Idealize.ShloMosaic.PureOps.Ideal

@[expose] public section

noncomputable section

open Idealize.ShloMosaic

namespace Cert.Adamw

variable {s : Shape}

/-- The new first moment: 0.9 of the old one and 0.1 of the gradient. -/
def moment (g m : Vec Ideal s .f32) : Vec Ideal s .f32 := fun i =>
  (Ideal.ofBits .f32 0x3F666666#32 * m i + Ideal.ofBits .f32 0x3DCCCCCD#32 * g i : EReal)

/-- The new second moment: 0.999 of the old one and 0.001 of the gradient's square. -/
def second (g v : Vec Ideal s .f32) : Vec Ideal s .f32 := fun i =>
  (Ideal.ofBits .f32 0x3F7FBE77#32 * v i + Ideal.ofBits .f32 0x3A83126F#32 * (g i * g i) : EReal)

/-- The weight's change: the step times the corrected first moment over the root of the corrected second, with the decay. -/
def change (w g m v : Vec Ideal s .f32) : Vec Ideal s .f32 := fun i =>
  (Ideal.ofBits .f32 0xBA83126F#32
    * (Ideal.div (Ideal.div (moment g m i) (Ideal.ofBits .f32 0x3F26BD02#32))
        (Ideal.sqrt (Ideal.div (second g v i) (Ideal.ofBits .f32 0x3C231ACC#32)) + Ideal.ofBits .f32 0x322BCC77#32)
      + Ideal.ofBits .f32 0x3C23D70A#32 * w i) : EReal)

end Cert.Adamw
-- ==== Proof.Adamw5Eq.lean ====
module

public import proofs.«01_k».proof.Proof.Adamw
public import proofs.«01_k».proof.Proof.Norm
public import proofs.«01_k».proof.Proof.Gen.Kernel5Ideal.Value
public import proofs.«01_k».proof.Proof.Gen.Reference5Ideal.Read
public import proofs.«01_k».proof.Defs
public import Idealize.ShloMosaic.Lib.StableHlo.RunRead

/-! The optimiser's step of a weight that the kernel takes as rows: a grid point steps a block of rows, the blocks
tile the array, and the reference steps the whole weight and reads the results as the same rows. -/

@[expose] public section

set_option maxRecDepth 16384

noncomputable section

open Idealize.ShloMosaic Idealize.ShloMosaic.TcCoe Idealize.SL.Sem
open Cert.Adamw

namespace Cert.Kernel5Ideal.Hand

open Cert.Kernel5Ideal Cert.Kernel5Ideal.Gen Cert.Kernel5Ideal.Value

/-- The offset of a whole block. -/
theorem off2 : (![0, 0] : Fin 2 → Nat) = fun _ => 0 := funext fun a => by fin_cases a <;> rfl

/-- What a grid point leaves in a block of rows: the step of the block. -/
theorem out_change (x0 x1 x2 x3 : Vec Ideal S256x704 .f32) (r : Fin 256) (d : Fin 704) :
    out0_4 (F := Ideal) x0 x1 x2 x3 (ix2 r d) = change x0 x1 x2 x3 (ix2 r d) := by
  unfold out0_4 change moment second
  rw [View.canon_unit_zero off2]
  simp only [View.ld_unit_zero (S := S256x704) off2]
  pointwise [k0_pay4, k0_pay3, k0_pay2, k0_pay1]
theorem out_moment (x0 x1 x2 x3 : Vec Ideal S256x704 .f32) (r : Fin 256) (d : Fin 704) :
    out0_5 (F := Ideal) x0 x1 x2 x3 (ix2 r d) = moment x1 x2 (ix2 r d) := by
  unfold out0_5 moment
  rw [View.canon_unit_zero off2]
  simp only [View.ld_unit_zero (S := S256x704) off2]
  pointwise [k0_pay4, k0_pay3, k0_pay2, k0_pay1]
theorem out_second (x0 x1 x2 x3 : Vec Ideal S256x704 .f32) (r : Fin 256) (d : Fin 704) :
    out0_6 (F := Ideal) x0 x1 x2 x3 (ix2 r d) = second x1 x3 (ix2 r d) := by
  unfold out0_6 second
  rw [View.canon_unit_zero off2]
  simp only [View.ld_unit_zero (S := S256x704) off2]
  pointwise [k0_pay4, k0_pay3, k0_pay2, k0_pay1]

/-- An argument as rows. -/
abbrev rows (x : Vec Ideal S4x1024x704 .f32) : Vec Ideal S4096x704 .f32 := shapeCast S4096x704 x shapeCasts_S4x1024x704_S4096x704

variable (m : (ℓ : Loc nD τ sig) → Buf (Elt Ideal) ℓ)

/-- The kernel takes its arguments as rows. -/
theorem arr0 (c : Dev nD) : V m c main_v0 = rows (m (c.tc.loc main_arg0)) := by
  unfold V
  after_reads_simp
  rfl
theorem arr1 (c : Dev nD) : V m c main_v1 = rows (m (c.tc.loc main_arg1)) := by
  unfold V
  after_reads_simp
  rfl
theorem arr2 (c : Dev nD) : V m c main_v2 = rows (m (c.tc.loc main_arg2)) := by
  unfold V
  after_reads_simp
  rfl
theorem arr3 (c : Dev nD) : V m c main_v3 = rows (m (c.tc.loc main_arg3)) := by
  unfold V
  after_reads_simp
  rfl

/-- A grid point reads and writes the block of rows of its own number. -/
theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = t.val ∧ win0_2.index t 1 = 0 := by decide +kernel
theorem index3 : ∀ t : Fin grid0.N, win0_3.index t 0 = t.val ∧ win0_3.index t 1 = 0 := by decide +kernel
theorem index4 : ∀ t : Fin grid0.N, win0_4.index t 0 = t.val ∧ win0_4.index t 1 = 0 := by decide +kernel
theorem index5 : ∀ t : Fin grid0.N, win0_5.index t 0 = t.val ∧ win0_5.index t 1 = 0 := by decide +kernel
theorem index6 : ∀ t : Fin grid0.N, win0_6.index t 0 = t.val ∧ win0_6.index t 1 = 0 := by decide +kernel
/-- What a grid point reads: rows of the arrays. -/
theorem block0 (c : Dev nD) (t : Fin cfg0.N) (k : Fin 256) (d : Fin 704) (r : Fin 4096) (hr : r.val = 256 * t.val + k.val) :
    iblk m c 0 t (ix2 k d) = V m c main_v0 (ix2 r d) := by
  have hi := index0 t
  unfold iblk
  rw [View.read_apply]
  refine congrArg (V m c main_v0) ?_
  funext a
  apply Fin.ext
  match a with
  | ⟨0, _⟩ => show win0_0.index t 0 * 256 + 1 * k.val = r.val; omega
  | ⟨1, _⟩ => show win0_0.index t 1 * 704 + 1 * d.val = d.val; omega
theorem block1 (c : Dev nD) (t : Fin cfg0.N) (k : Fin 256) (d : Fin 704) (r : Fin 4096) (hr : r.val = 256 * t.val + k.val) :
    iblk m c 1 t (ix2 k d) = V m c main_v1 (ix2 r d) := by
  have hi := index1 t
  unfold iblk
  rw [View.read_apply]
  refine congrArg (V m c main_v1) ?_
  funext a
  apply Fin.ext
  match a with
  | ⟨0, _⟩ => show win0_1.index t 0 * 256 + 1 * k.val = r.val; omega
  | ⟨1, _⟩ => show win0_1.index t 1 * 704 + 1 * d.val = d.val; omega
theorem block2 (c : Dev nD) (t : Fin cfg0.N) (k : Fin 256) (d : Fin 704) (r : Fin 4096) (hr : r.val = 256 * t.val + k.val) :
    iblk m c 2 t (ix2 k d) = V m c main_v2 (ix2 r d) := by
  have hi := index2 t
  unfold iblk
  rw [View.read_apply]
  refine congrArg (V m c main_v2) ?_
  funext a
  apply Fin.ext
  match a with
  | ⟨0, _⟩ => show win0_2.index t 0 * 256 + 1 * k.val = r.val; omega
  | ⟨1, _⟩ => show win0_2.index t 1 * 704 + 1 * d.val = d.val; omega
theorem block3 (c : Dev nD) (t : Fin cfg0.N) (k : Fin 256) (d : Fin 704) (r : Fin 4096) (hr : r.val = 256 * t.val + k.val) :
    iblk m c 3 t (ix2 k d) = V m c main_v3 (ix2 r d) := by
  have hi := index3 t
  unfold iblk
  rw [View.read_apply]
  refine congrArg (V m c main_v3) ?_
  funext a
  apply Fin.ext
  match a with
  | ⟨0, _⟩ => show win0_3.index t 0 * 256 + 1 * k.val = r.val; omega
  | ⟨1, _⟩ => show win0_3.index t 1 * 704 + 1 * d.val = d.val; omega

/-- The point whose block holds a row. -/
abbrev pt (r : Fin 4096) : Fin cfg0.N := ⟨r.val / 256, by have hN : cfg0.N = 16 := N_0; omega⟩
/-- The place of a row inside its block. -/
abbrev loc (r : Fin 4096) : Fin 256 := ⟨r.val % 256, by omega⟩

/-- The three results at an index: the step of the arguments as rows. -/
theorem result4 (c : Dev nD) (r : Fin 4096) (d : Fin 704) : (dats m 0 c).arrAt 4 cfg0.N (ix2 r d)
    = change (rows (m (c.tc.loc main_arg0))) (rows (m (c.tc.loc main_arg1))) (rows (m (c.tc.loc main_arg2))) (rows (m (c.tc.loc main_arg3))) (ix2 r d) := by
  have hr : r.val = 256 * (pt r).val + (loc r).val := by dsimp only; omega
  have hi := index4 (pt r)
  have e : ((cfg0.win 4).blk (pt r)).view.emb (ix2 (loc r) d) = ix2 r d := by
    funext a
    apply Fin.ext
    match a with
    | ⟨0, _⟩ => show win0_4.index (pt r) 0 * 256 + 1 * (r.val % 256) = r.val; rw [hi.1]; show r.val / 256 * 256 + _ = _; omega
    | ⟨1, _⟩ => show win0_4.index (pt r) 1 * 704 + 1 * d.val = d.val; omega
  have h := (dats m 0 c).arrAt_emb_eq_flushed 4 disjoint4 (pt r) (flush0_4 (pt r)) (ix2 (loc r) d)
  rw [e] at h
  refine h.trans ?_
  show (dats m 0 c).after 4 (pt r) (ix2 (loc r) d) = _
  rw [after0_4, out_change]
  unfold change moment second
  rw [block0 m c _ _ d r hr, block1 m c _ _ d r hr, block2 m c _ _ d r hr, block3 m c _ _ d r hr, arr0, arr1, arr2, arr3]
theorem result5 (c : Dev nD) (r : Fin 4096) (d : Fin 704) : (dats m 0 c).arrAt 5 cfg0.N (ix2 r d)
    = moment (rows (m (c.tc.loc main_arg1))) (rows (m (c.tc.loc main_arg2))) (ix2 r d) := by
  have hr : r.val = 256 * (pt r).val + (loc r).val := by dsimp only; omega
  have hi := index5 (pt r)
  have e : ((cfg0.win 5).blk (pt r)).view.emb (ix2 (loc r) d) = ix2 r d := by
    funext a
    apply Fin.ext
    match a with
    | ⟨0, _⟩ => show win0_5.index (pt r) 0 * 256 + 1 * (r.val % 256) = r.val; rw [hi.1]; show r.val / 256 * 256 + _ = _; omega
    | ⟨1, _⟩ => show win0_5.index (pt r) 1 * 704 + 1 * d.val = d.val; omega
  have h := (dats m 0 c).arrAt_emb_eq_flushed 5 disjoint5 (pt r) (flush0_5 (pt r)) (ix2 (loc r) d)
  rw [e] at h
  refine h.trans ?_
  show (dats m 0 c).after 5 (pt r) (ix2 (loc r) d) = _
  rw [after0_5, out_moment]
  unfold moment
  rw [block1 m c _ _ d r hr, block2 m c _ _ d r hr, arr1, arr2]
theorem result6 (c : Dev nD) (r : Fin 4096) (d : Fin 704) : (dats m 0 c).arrAt 6 cfg0.N (ix2 r d)
    = second (rows (m (c.tc.loc main_arg1))) (rows (m (c.tc.loc main_arg3))) (ix2 r d) := by
  have hr : r.val = 256 * (pt r).val + (loc r).val := by dsimp only; omega
  have hi := index6 (pt r)
  have e : ((cfg0.win 6).blk (pt r)).view.emb (ix2 (loc r) d) = ix2 r d := by
    funext a
    apply Fin.ext
    match a with
    | ⟨0, _⟩ => show win0_6.index (pt r) 0 * 256 + 1 * (r.val % 256) = r.val; rw [hi.1]; show r.val / 256 * 256 + _ = _; omega
    | ⟨1, _⟩ => show win0_6.index (pt r) 1 * 704 + 1 * d.val = d.val; omega
  have h := (dats m 0 c).arrAt_emb_eq_flushed 6 disjoint6 (pt r) (flush0_6 (pt r)) (ix2 (loc r) d)
  rw [e] at h
  refine h.trans ?_
  show (dats m 0 c).after 6 (pt r) (ix2 (loc r) d) = _
  rw [after0_6, out_second]
  unfold second
  rw [block1 m c _ _ d r hr, block3 m c _ _ d r hr, arr1, arr3]

/-- The reference's results are the step of the arguments, as rows. -/
theorem ref_change (x0 x1 x2 x3 : Vec Ideal S4x1024x704 .f32) : Cert.Reference5Ideal.Read.val_main_v24 (F := Ideal) x0 x1 x2 x3
    = change (rows x0) (rows x1) (rows x2) (rows x3) := rfl
theorem ref_moment (x1 x2 : Vec Ideal S4x1024x704 .f32) : Cert.Reference5Ideal.Read.val_main_v25 (F := Ideal) x1 x2
    = moment (rows x1) (rows x2) := rfl
theorem ref_second (x1 x3 : Vec Ideal S4x1024x704 .f32) : Cert.Reference5Ideal.Read.val_main_v26 (F := Ideal) x1 x3
    = second (rows x1) (rows x3) := rfl

/-- The claim for one step of this weight. -/
theorem algebraic : Cert.algebraic_Kernel5Ideal_Reference5Ideal := by
  intro m g m' g' _ hagree
  refine ⟨fun c => (dats m 0 c).arrAt 4 cfg0.N, fun c => (dats m 0 c).arrAt 5 cfg0.N, fun c => (dats m 0 c).arrAt 6 cfg0.N,
    run_blocks (F := Ideal) m g, ?_⟩
  refine (θ_run Cert.Reference5Ideal.defs _ _).mono (fun _ h c => ?_) (Cert.Reference5Ideal.Value.run (F := Ideal) m' g')
  obtain ⟨h0, h1, h2, h3⟩ := hagree c
  refine ⟨((h c).1.trans (Cert.Reference5Ideal.Read.val_main_v24_eq ..)).trans ?_,
    ((h c).2.1.trans (Cert.Reference5Ideal.Read.val_main_v25_eq ..)).trans ?_,
    ((h c).2.2.1.trans (Cert.Reference5Ideal.Read.val_main_v26_eq ..)).trans ?_, (h c).2.2.2⟩
  · rw [h0, h1, h2, h3, ref_change]
    funext i
    rw [eq_ix2 i]
    exact (result4 m c (i 0) (i 1)).symm
  · rw [h1, h2, ref_moment]
    funext i
    rw [eq_ix2 i]
    exact (result5 m c (i 0) (i 1)).symm
  · rw [h1, h3, ref_second]
    funext i
    rw [eq_ix2 i]
    exact (result6 m c (i 0) (i 1)).symm

end Cert.Kernel5Ideal.Hand
-- ==== Proof.Adamw6Eq.lean ====
module

public import proofs.«01_k».proof.Proof.Adamw
public import proofs.«01_k».proof.Proof.Norm
public import proofs.«01_k».proof.Proof.Gen.Kernel6Ideal.Value
public import proofs.«01_k».proof.Proof.Gen.Reference6Ideal.Read
public import proofs.«01_k».proof.Defs
public import Idealize.ShloMosaic.Lib.StableHlo.RunRead

/-! The optimiser's step of a weight that the kernel takes as rows: a grid point steps a block of rows, the blocks
tile the array, and the reference steps the whole weight and reads the results as the same rows. -/

@[expose] public section

set_option maxRecDepth 16384

noncomputable section

open Idealize.ShloMosaic Idealize.ShloMosaic.TcCoe Idealize.SL.Sem
open Cert.Adamw

namespace Cert.Kernel6Ideal.Hand

open Cert.Kernel6Ideal Cert.Kernel6Ideal.Gen Cert.Kernel6Ideal.Value

/-- The offset of a whole block. -/
theorem off2 : (![0, 0] : Fin 2 → Nat) = fun _ => 0 := funext fun a => by fin_cases a <;> rfl

/-- What a grid point leaves in a block of rows: the step of the block. -/
theorem out_change (x0 x1 x2 x3 : Vec Ideal S256x1024 .f32) (r : Fin 256) (d : Fin 1024) :
    out0_4 (F := Ideal) x0 x1 x2 x3 (ix2 r d) = change x0 x1 x2 x3 (ix2 r d) := by
  unfold out0_4 change moment second
  rw [View.canon_unit_zero off2]
  simp only [View.ld_unit_zero (S := S256x1024) off2]
  pointwise [k0_pay4, k0_pay3, k0_pay2, k0_pay1]
theorem out_moment (x0 x1 x2 x3 : Vec Ideal S256x1024 .f32) (r : Fin 256) (d : Fin 1024) :
    out0_5 (F := Ideal) x0 x1 x2 x3 (ix2 r d) = moment x1 x2 (ix2 r d) := by
  unfold out0_5 moment
  rw [View.canon_unit_zero off2]
  simp only [View.ld_unit_zero (S := S256x1024) off2]
  pointwise [k0_pay4, k0_pay3, k0_pay2, k0_pay1]
theorem out_second (x0 x1 x2 x3 : Vec Ideal S256x1024 .f32) (r : Fin 256) (d : Fin 1024) :
    out0_6 (F := Ideal) x0 x1 x2 x3 (ix2 r d) = second x1 x3 (ix2 r d) := by
  unfold out0_6 second
  rw [View.canon_unit_zero off2]
  simp only [View.ld_unit_zero (S := S256x1024) off2]
  pointwise [k0_pay4, k0_pay3, k0_pay2, k0_pay1]

/-- An argument as rows. -/
abbrev rows (x : Vec Ideal S4x704x1024 .f32) : Vec Ideal S2816x1024 .f32 := shapeCast S2816x1024 x shapeCasts_S4x704x1024_S2816x1024

variable (m : (ℓ : Loc nD τ sig) → Buf (Elt Ideal) ℓ)

/-- The kernel takes its arguments as rows. -/
theorem arr0 (c : Dev nD) : V m c main_v0 = rows (m (c.tc.loc main_arg0)) := by
  unfold V
  after_reads_simp
  rfl
theorem arr1 (c : Dev nD) : V m c main_v1 = rows (m (c.tc.loc main_arg1)) := by
  unfold V
  after_reads_simp
  rfl
theorem arr2 (c : Dev nD) : V m c main_v2 = rows (m (c.tc.loc main_arg2)) := by
  unfold V
  after_reads_simp
  rfl
theorem arr3 (c : Dev nD) : V m c main_v3 = rows (m (c.tc.loc main_arg3)) := by
  unfold V
  after_reads_simp
  rfl

/-- A grid point reads and writes the block of rows of its own number. -/
theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = t.val ∧ win0_2.index t 1 = 0 := by decide +kernel
theorem index3 : ∀ t : Fin grid0.N, win0_3.index t 0 = t.val ∧ win0_3.index t 1 = 0 := by decide +kernel
theorem index4 : ∀ t : Fin grid0.N, win0_4.index t 0 = t.val ∧ win0_4.index t 1 = 0 := by decide +kernel
theorem index5 : ∀ t : Fin grid0.N, win0_5.index t 0 = t.val ∧ win0_5.index t 1 = 0 := by decide +kernel
theorem index6 : ∀ t : Fin grid0.N, win0_6.index t 0 = t.val ∧ win0_6.index t 1 = 0 := by decide +kernel
/-- What a grid point reads: rows of the arrays. -/
theorem block0 (c : Dev nD) (t : Fin cfg0.N) (k : Fin 256) (d : Fin 1024) (r : Fin 2816) (hr : r.val = 256 * t.val + k.val) :
    iblk m c 0 t (ix2 k d) = V m c main_v0 (ix2 r d) := by
  have hi := index0 t
  unfold iblk
  rw [View.read_apply]
  refine congrArg (V m c main_v0) ?_
  funext a
  apply Fin.ext
  match a with
  | ⟨0, _⟩ => show win0_0.index t 0 * 256 + 1 * k.val = r.val; omega
  | ⟨1, _⟩ => show win0_0.index t 1 * 1024 + 1 * d.val = d.val; omega
theorem block1 (c : Dev nD) (t : Fin cfg0.N) (k : Fin 256) (d : Fin 1024) (r : Fin 2816) (hr : r.val = 256 * t.val + k.val) :
    iblk m c 1 t (ix2 k d) = V m c main_v1 (ix2 r d) := by
  have hi := index1 t
  unfold iblk
  rw [View.read_apply]
  refine congrArg (V m c main_v1) ?_
  funext a
  apply Fin.ext
  match a with
  | ⟨0, _⟩ => show win0_1.index t 0 * 256 + 1 * k.val = r.val; omega
  | ⟨1, _⟩ => show win0_1.index t 1 * 1024 + 1 * d.val = d.val; omega
theorem block2 (c : Dev nD) (t : Fin cfg0.N) (k : Fin 256) (d : Fin 1024) (r : Fin 2816) (hr : r.val = 256 * t.val + k.val) :
    iblk m c 2 t (ix2 k d) = V m c main_v2 (ix2 r d) := by
  have hi := index2 t
  unfold iblk
  rw [View.read_apply]
  refine congrArg (V m c main_v2) ?_
  funext a
  apply Fin.ext
  match a with
  | ⟨0, _⟩ => show win0_2.index t 0 * 256 + 1 * k.val = r.val; omega
  | ⟨1, _⟩ => show win0_2.index t 1 * 1024 + 1 * d.val = d.val; omega
theorem block3 (c : Dev nD) (t : Fin cfg0.N) (k : Fin 256) (d : Fin 1024) (r : Fin 2816) (hr : r.val = 256 * t.val + k.val) :
    iblk m c 3 t (ix2 k d) = V m c main_v3 (ix2 r d) := by
  have hi := index3 t
  unfold iblk
  rw [View.read_apply]
  refine congrArg (V m c main_v3) ?_
  funext a
  apply Fin.ext
  match a with
  | ⟨0, _⟩ => show win0_3.index t 0 * 256 + 1 * k.val = r.val; omega
  | ⟨1, _⟩ => show win0_3.index t 1 * 1024 + 1 * d.val = d.val; omega

/-- The point whose block holds a row. -/
abbrev pt (r : Fin 2816) : Fin cfg0.N := ⟨r.val / 256, by have hN : cfg0.N = 11 := N_0; omega⟩
/-- The place of a row inside its block. -/
abbrev loc (r : Fin 2816) : Fin 256 := ⟨r.val % 256, by omega⟩

/-- The three results at an index: the step of the arguments as rows. -/
theorem result4 (c : Dev nD) (r : Fin 2816) (d : Fin 1024) : (dats m 0 c).arrAt 4 cfg0.N (ix2 r d)
    = change (rows (m (c.tc.loc main_arg0))) (rows (m (c.tc.loc main_arg1))) (rows (m (c.tc.loc main_arg2))) (rows (m (c.tc.loc main_arg3))) (ix2 r d) := by
  have hr : r.val = 256 * (pt r).val + (loc r).val := by dsimp only; omega
  have hi := index4 (pt r)
  have e : ((cfg0.win 4).blk (pt r)).view.emb (ix2 (loc r) d) = ix2 r d := by
    funext a
    apply Fin.ext
    match a with
    | ⟨0, _⟩ => show win0_4.index (pt r) 0 * 256 + 1 * (r.val % 256) = r.val; rw [hi.1]; show r.val / 256 * 256 + _ = _; omega
    | ⟨1, _⟩ => show win0_4.index (pt r) 1 * 1024 + 1 * d.val = d.val; omega
  have h := (dats m 0 c).arrAt_emb_eq_flushed 4 disjoint4 (pt r) (flush0_4 (pt r)) (ix2 (loc r) d)
  rw [e] at h
  refine h.trans ?_
  show (dats m 0 c).after 4 (pt r) (ix2 (loc r) d) = _
  rw [after0_4, out_change]
  unfold change moment second
  rw [block0 m c _ _ d r hr, block1 m c _ _ d r hr, block2 m c _ _ d r hr, block3 m c _ _ d r hr, arr0, arr1, arr2, arr3]
theorem result5 (c : Dev nD) (r : Fin 2816) (d : Fin 1024) : (dats m 0 c).arrAt 5 cfg0.N (ix2 r d)
    = moment (rows (m (c.tc.loc main_arg1))) (rows (m (c.tc.loc main_arg2))) (ix2 r d) := by
  have hr : r.val = 256 * (pt r).val + (loc r).val := by dsimp only; omega
  have hi := index5 (pt r)
  have e : ((cfg0.win 5).blk (pt r)).view.emb (ix2 (loc r) d) = ix2 r d := by
    funext a
    apply Fin.ext
    match a with
    | ⟨0, _⟩ => show win0_5.index (pt r) 0 * 256 + 1 * (r.val % 256) = r.val; rw [hi.1]; show r.val / 256 * 256 + _ = _; omega
    | ⟨1, _⟩ => show win0_5.index (pt r) 1 * 1024 + 1 * d.val = d.val; omega
  have h := (dats m 0 c).arrAt_emb_eq_flushed 5 disjoint5 (pt r) (flush0_5 (pt r)) (ix2 (loc r) d)
  rw [e] at h
  refine h.trans ?_
  show (dats m 0 c).after 5 (pt r) (ix2 (loc r) d) = _
  rw [after0_5, out_moment]
  unfold moment
  rw [block1 m c _ _ d r hr, block2 m c _ _ d r hr, arr1, arr2]
theorem result6 (c : Dev nD) (r : Fin 2816) (d : Fin 1024) : (dats m 0 c).arrAt 6 cfg0.N (ix2 r d)
    = second (rows (m (c.tc.loc main_arg1))) (rows (m (c.tc.loc main_arg3))) (ix2 r d) := by
  have hr : r.val = 256 * (pt r).val + (loc r).val := by dsimp only; omega
  have hi := index6 (pt r)
  have e : ((cfg0.win 6).blk (pt r)).view.emb (ix2 (loc r) d) = ix2 r d := by
    funext a
    apply Fin.ext
    match a with
    | ⟨0, _⟩ => show win0_6.index (pt r) 0 * 256 + 1 * (r.val % 256) = r.val; rw [hi.1]; show r.val / 256 * 256 + _ = _; omega
    | ⟨1, _⟩ => show win0_6.index (pt r) 1 * 1024 + 1 * d.val = d.val; omega
  have h := (dats m 0 c).arrAt_emb_eq_flushed 6 disjoint6 (pt r) (flush0_6 (pt r)) (ix2 (loc r) d)
  rw [e] at h
  refine h.trans ?_
  show (dats m 0 c).after 6 (pt r) (ix2 (loc r) d) = _
  rw [after0_6, out_second]
  unfold second
  rw [block1 m c _ _ d r hr, block3 m c _ _ d r hr, arr1, arr3]

/-- The reference's results are the step of the arguments, as rows. -/
theorem ref_change (x0 x1 x2 x3 : Vec Ideal S4x704x1024 .f32) : Cert.Reference6Ideal.Read.val_main_v24 (F := Ideal) x0 x1 x2 x3
    = change (rows x0) (rows x1) (rows x2) (rows x3) := rfl
theorem ref_moment (x1 x2 : Vec Ideal S4x704x1024 .f32) : Cert.Reference6Ideal.Read.val_main_v25 (F := Ideal) x1 x2
    = moment (rows x1) (rows x2) := rfl
theorem ref_second (x1 x3 : Vec Ideal S4x704x1024 .f32) : Cert.Reference6Ideal.Read.val_main_v26 (F := Ideal) x1 x3
    = second (rows x1) (rows x3) := rfl

/-- The claim for one step of this weight. -/
theorem algebraic : Cert.algebraic_Kernel6Ideal_Reference6Ideal := by
  intro m g m' g' _ hagree
  refine ⟨fun c => (dats m 0 c).arrAt 4 cfg0.N, fun c => (dats m 0 c).arrAt 5 cfg0.N, fun c => (dats m 0 c).arrAt 6 cfg0.N,
    run_blocks (F := Ideal) m g, ?_⟩
  refine (θ_run Cert.Reference6Ideal.defs _ _).mono (fun _ h c => ?_) (Cert.Reference6Ideal.Value.run (F := Ideal) m' g')
  obtain ⟨h0, h1, h2, h3⟩ := hagree c
  refine ⟨((h c).1.trans (Cert.Reference6Ideal.Read.val_main_v24_eq ..)).trans ?_,
    ((h c).2.1.trans (Cert.Reference6Ideal.Read.val_main_v25_eq ..)).trans ?_,
    ((h c).2.2.1.trans (Cert.Reference6Ideal.Read.val_main_v26_eq ..)).trans ?_, (h c).2.2.2⟩
  · rw [h0, h1, h2, h3, ref_change]
    funext i
    rw [eq_ix2 i]
    exact (result4 m c (i 0) (i 1)).symm
  · rw [h1, h2, ref_moment]
    funext i
    rw [eq_ix2 i]
    exact (result5 m c (i 0) (i 1)).symm
  · rw [h1, h3, ref_second]
    funext i
    rw [eq_ix2 i]
    exact (result6 m c (i 0) (i 1)).symm

end Cert.Kernel6Ideal.Hand
-- ==== Proof.Adamw7Eq.lean ====
module

public import proofs.«01_k».proof.Proof.Adamw
public import proofs.«01_k».proof.Proof.Gen.Kernel7Ideal.Value
public import proofs.«01_k».proof.Proof.Gen.Reference7Ideal.Read
public import proofs.«01_k».proof.Defs

/-! The optimiser's step of a weight kept as rows already: the kernel's and the reference's results are both the step
of `Adamw`, element by element. -/

@[expose] public section

noncomputable section

open Idealize.ShloMosaic Idealize.ShloMosaic.TcCoe Idealize.SL.Sem
open Cert.Adamw

namespace Cert.Kernel7Ideal.Hand

open Cert.Kernel7Ideal Cert.Kernel7Ideal.Gen Cert.Kernel7Ideal.Value

/-- What the kernel leaves. -/
theorem ker_change (x0 x1 x2 x3 : Vec Ideal S4x1024 .f32) : G4 (F := Ideal) x1 x2 x3 x0 = change x0 x1 x2 x3 := rfl
theorem ker_moment (x1 x2 : Vec Ideal S4x1024 .f32) : G5 (F := Ideal) x1 x2 = moment x1 x2 := rfl
theorem ker_second (x1 x3 : Vec Ideal S4x1024 .f32) : G6 (F := Ideal) x1 x3 = second x1 x3 := rfl

/-- What the reference leaves. -/
theorem ref_change (x0 x1 x2 x3 : Vec Ideal S4x1024 .f32) : Cert.Reference7Ideal.Read.val_main_v23 (F := Ideal) x0 x1 x2 x3
    = change x0 x1 x2 x3 := rfl
theorem ref_moment (x1 x2 : Vec Ideal S4x1024 .f32) : Cert.Reference7Ideal.Read.val_main_v4 (F := Ideal) x1 x2
    = moment x1 x2 := rfl
theorem ref_second (x1 x3 : Vec Ideal S4x1024 .f32) : Cert.Reference7Ideal.Read.val_main_v10 (F := Ideal) x1 x3
    = second x1 x3 := rfl

/-- The claim for one step of this weight. -/
theorem algebraic : Cert.algebraic_Kernel7Ideal_Reference7Ideal := by
  intro m g m' g' _ hagree
  refine ⟨_, _, _, Cert.Kernel7Ideal.Value.run (F := Ideal) m g, ?_⟩
  refine (θ_run Cert.Reference7Ideal.defs _ _).mono (fun _ h c => ?_) (Cert.Reference7Ideal.Value.run (F := Ideal) m' g')
  obtain ⟨h0, h1, h2, h3⟩ := hagree c
  refine ⟨((h c).1.trans (Cert.Reference7Ideal.Read.val_main_v23_eq ..)).trans ?_,
    ((h c).2.1.trans (Cert.Reference7Ideal.Read.val_main_v4_eq ..)).trans ?_,
    ((h c).2.2.1.trans (Cert.Reference7Ideal.Read.val_main_v10_eq ..)).trans ?_, (h c).2.2.2⟩
  · rw [h0, h1, h2, h3, ref_change]; exact (ker_change ..).symm
  · rw [h1, h2, ref_moment]; exact (ker_moment ..).symm
  · rw [h1, h3, ref_second]; exact (ker_second ..).symm

end Cert.Kernel7Ideal.Hand
-- ==== Proof.Adamw8Eq.lean ====
module

public import proofs.«01_k».proof.Proof.Adamw
public import proofs.«01_k».proof.Proof.Norm
public import proofs.«01_k».proof.Proof.Gen.Kernel8Ideal.Value
public import proofs.«01_k».proof.Proof.Gen.Reference8Ideal.Read
public import proofs.«01_k».proof.Defs
public import Idealize.ShloMosaic.Lib.StableHlo.RunRead

/-! The optimiser's step of a weight that the kernel takes as rows: a grid point steps a block of rows, the blocks
tile the array, and the reference steps the whole weight and reads the results as the same rows. -/

@[expose] public section

set_option maxRecDepth 16384

noncomputable section

open Idealize.ShloMosaic Idealize.ShloMosaic.TcCoe Idealize.SL.Sem
open Cert.Adamw

namespace Cert.Kernel8Ideal.Hand

open Cert.Kernel8Ideal Cert.Kernel8Ideal.Gen Cert.Kernel8Ideal.Value

/-- The offset of a whole block. -/
theorem off2 : (![0, 0] : Fin 2 → Nat) = fun _ => 0 := funext fun a => by fin_cases a <;> rfl

/-- What a grid point leaves in a block of rows: the step of the block. -/
theorem out_change (x0 x1 x2 x3 : Vec Ideal S256x424 .f32) (r : Fin 256) (d : Fin 424) :
    out0_4 (F := Ideal) x0 x1 x2 x3 (ix2 r d) = change x0 x1 x2 x3 (ix2 r d) := by
  unfold out0_4 change moment second
  rw [View.canon_unit_zero off2]
  simp only [View.ld_unit_zero (S := S256x424) off2]
  pointwise [k0_pay4, k0_pay3, k0_pay2, k0_pay1]
theorem out_moment (x0 x1 x2 x3 : Vec Ideal S256x424 .f32) (r : Fin 256) (d : Fin 424) :
    out0_5 (F := Ideal) x0 x1 x2 x3 (ix2 r d) = moment x1 x2 (ix2 r d) := by
  unfold out0_5 moment
  rw [View.canon_unit_zero off2]
  simp only [View.ld_unit_zero (S := S256x424) off2]
  pointwise [k0_pay4, k0_pay3, k0_pay2, k0_pay1]
theorem out_second (x0 x1 x2 x3 : Vec Ideal S256x424 .f32) (r : Fin 256) (d : Fin 424) :
    out0_6 (F := Ideal) x0 x1 x2 x3 (ix2 r d) = second x1 x3 (ix2 r d) := by
  unfold out0_6 second
  rw [View.canon_unit_zero off2]
  simp only [View.ld_unit_zero (S := S256x424) off2]
  pointwise [k0_pay4, k0_pay3, k0_pay2, k0_pay1]

/-- An argument as rows. -/
abbrev rows (x : Vec Ideal S2x1024x424 .f32) : Vec Ideal S2048x424 .f32 := shapeCast S2048x424 x shapeCasts_S2x1024x424_S2048x424

variable (m : (ℓ : Loc nD τ sig) → Buf (Elt Ideal) ℓ)

/-- The kernel takes its arguments as rows. -/
theorem arr0 (c : Dev nD) : V m c main_v0 = rows (m (c.tc.loc main_arg0)) := by
  unfold V
  after_reads_simp
  rfl
theorem arr1 (c : Dev nD) : V m c main_v1 = rows (m (c.tc.loc main_arg1)) := by
  unfold V
  after_reads_simp
  rfl
theorem arr2 (c : Dev nD) : V m c main_v2 = rows (m (c.tc.loc main_arg2)) := by
  unfold V
  after_reads_simp
  rfl
theorem arr3 (c : Dev nD) : V m c main_v3 = rows (m (c.tc.loc main_arg3)) := by
  unfold V
  after_reads_simp
  rfl

/-- A grid point reads and writes the block of rows of its own number. -/
theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = t.val ∧ win0_2.index t 1 = 0 := by decide +kernel
theorem index3 : ∀ t : Fin grid0.N, win0_3.index t 0 = t.val ∧ win0_3.index t 1 = 0 := by decide +kernel
theorem index4 : ∀ t : Fin grid0.N, win0_4.index t 0 = t.val ∧ win0_4.index t 1 = 0 := by decide +kernel
theorem index5 : ∀ t : Fin grid0.N, win0_5.index t 0 = t.val ∧ win0_5.index t 1 = 0 := by decide +kernel
theorem index6 : ∀ t : Fin grid0.N, win0_6.index t 0 = t.val ∧ win0_6.index t 1 = 0 := by decide +kernel
/-- What a grid point reads: rows of the arrays. -/
theorem block0 (c : Dev nD) (t : Fin cfg0.N) (k : Fin 256) (d : Fin 424) (r : Fin 2048) (hr : r.val = 256 * t.val + k.val) :
    iblk m c 0 t (ix2 k d) = V m c main_v0 (ix2 r d) := by
  have hi := index0 t
  unfold iblk
  rw [View.read_apply]
  refine congrArg (V m c main_v0) ?_
  funext a
  apply Fin.ext
  match a with
  | ⟨0, _⟩ => show win0_0.index t 0 * 256 + 1 * k.val = r.val; omega
  | ⟨1, _⟩ => show win0_0.index t 1 * 424 + 1 * d.val = d.val; omega
theorem block1 (c : Dev nD) (t : Fin cfg0.N) (k : Fin 256) (d : Fin 424) (r : Fin 2048) (hr : r.val = 256 * t.val + k.val) :
    iblk m c 1 t (ix2 k d) = V m c main_v1 (ix2 r d) := by
  have hi := index1 t
  unfold iblk
  rw [View.read_apply]
  refine congrArg (V m c main_v1) ?_
  funext a
  apply Fin.ext
  match a with
  | ⟨0, _⟩ => show win0_1.index t 0 * 256 + 1 * k.val = r.val; omega
  | ⟨1, _⟩ => show win0_1.index t 1 * 424 + 1 * d.val = d.val; omega
theorem block2 (c : Dev nD) (t : Fin cfg0.N) (k : Fin 256) (d : Fin 424) (r : Fin 2048) (hr : r.val = 256 * t.val + k.val) :
    iblk m c 2 t (ix2 k d) = V m c main_v2 (ix2 r d) := by
  have hi := index2 t
  unfold iblk
  rw [View.read_apply]
  refine congrArg (V m c main_v2) ?_
  funext a
  apply Fin.ext
  match a with
  | ⟨0, _⟩ => show win0_2.index t 0 * 256 + 1 * k.val = r.val; omega
  | ⟨1, _⟩ => show win0_2.index t 1 * 424 + 1 * d.val = d.val; omega
theorem block3 (c : Dev nD) (t : Fin cfg0.N) (k : Fin 256) (d : Fin 424) (r : Fin 2048) (hr : r.val = 256 * t.val + k.val) :
    iblk m c 3 t (ix2 k d) = V m c main_v3 (ix2 r d) := by
  have hi := index3 t
  unfold iblk
  rw [View.read_apply]
  refine congrArg (V m c main_v3) ?_
  funext a
  apply Fin.ext
  match a with
  | ⟨0, _⟩ => show win0_3.index t 0 * 256 + 1 * k.val = r.val; omega
  | ⟨1, _⟩ => show win0_3.index t 1 * 424 + 1 * d.val = d.val; omega

/-- The point whose block holds a row. -/
abbrev pt (r : Fin 2048) : Fin cfg0.N := ⟨r.val / 256, by have hN : cfg0.N = 8 := N_0; omega⟩
/-- The place of a row inside its block. -/
abbrev loc (r : Fin 2048) : Fin 256 := ⟨r.val % 256, by omega⟩

/-- The three results at an index: the step of the arguments as rows. -/
theorem result4 (c : Dev nD) (r : Fin 2048) (d : Fin 424) : (dats m 0 c).arrAt 4 cfg0.N (ix2 r d)
    = change (rows (m (c.tc.loc main_arg0))) (rows (m (c.tc.loc main_arg1))) (rows (m (c.tc.loc main_arg2))) (rows (m (c.tc.loc main_arg3))) (ix2 r d) := by
  have hr : r.val = 256 * (pt r).val + (loc r).val := by dsimp only; omega
  have hi := index4 (pt r)
  have e : ((cfg0.win 4).blk (pt r)).view.emb (ix2 (loc r) d) = ix2 r d := by
    funext a
    apply Fin.ext
    match a with
    | ⟨0, _⟩ => show win0_4.index (pt r) 0 * 256 + 1 * (r.val % 256) = r.val; rw [hi.1]; show r.val / 256 * 256 + _ = _; omega
    | ⟨1, _⟩ => show win0_4.index (pt r) 1 * 424 + 1 * d.val = d.val; omega
  have h := (dats m 0 c).arrAt_emb_eq_flushed 4 disjoint4 (pt r) (flush0_4 (pt r)) (ix2 (loc r) d)
  rw [e] at h
  refine h.trans ?_
  show (dats m 0 c).after 4 (pt r) (ix2 (loc r) d) = _
  rw [after0_4, out_change]
  unfold change moment second
  rw [block0 m c _ _ d r hr, block1 m c _ _ d r hr, block2 m c _ _ d r hr, block3 m c _ _ d r hr, arr0, arr1, arr2, arr3]
theorem result5 (c : Dev nD) (r : Fin 2048) (d : Fin 424) : (dats m 0 c).arrAt 5 cfg0.N (ix2 r d)
    = moment (rows (m (c.tc.loc main_arg1))) (rows (m (c.tc.loc main_arg2))) (ix2 r d) := by
  have hr : r.val = 256 * (pt r).val + (loc r).val := by dsimp only; omega
  have hi := index5 (pt r)
  have e : ((cfg0.win 5).blk (pt r)).view.emb (ix2 (loc r) d) = ix2 r d := by
    funext a
    apply Fin.ext
    match a with
    | ⟨0, _⟩ => show win0_5.index (pt r) 0 * 256 + 1 * (r.val % 256) = r.val; rw [hi.1]; show r.val / 256 * 256 + _ = _; omega
    | ⟨1, _⟩ => show win0_5.index (pt r) 1 * 424 + 1 * d.val = d.val; omega
  have h := (dats m 0 c).arrAt_emb_eq_flushed 5 disjoint5 (pt r) (flush0_5 (pt r)) (ix2 (loc r) d)
  rw [e] at h
  refine h.trans ?_
  show (dats m 0 c).after 5 (pt r) (ix2 (loc r) d) = _
  rw [after0_5, out_moment]
  unfold moment
  rw [block1 m c _ _ d r hr, block2 m c _ _ d r hr, arr1, arr2]
theorem result6 (c : Dev nD) (r : Fin 2048) (d : Fin 424) : (dats m 0 c).arrAt 6 cfg0.N (ix2 r d)
    = second (rows (m (c.tc.loc main_arg1))) (rows (m (c.tc.loc main_arg3))) (ix2 r d) := by
  have hr : r.val = 256 * (pt r).val + (loc r).val := by dsimp only; omega
  have hi := index6 (pt r)
  have e : ((cfg0.win 6).blk (pt r)).view.emb (ix2 (loc r) d) = ix2 r d := by
    funext a
    apply Fin.ext
    match a with
    | ⟨0, _⟩ => show win0_6.index (pt r) 0 * 256 + 1 * (r.val % 256) = r.val; rw [hi.1]; show r.val / 256 * 256 + _ = _; omega
    | ⟨1, _⟩ => show win0_6.index (pt r) 1 * 424 + 1 * d.val = d.val; omega
  have h := (dats m 0 c).arrAt_emb_eq_flushed 6 disjoint6 (pt r) (flush0_6 (pt r)) (ix2 (loc r) d)
  rw [e] at h
  refine h.trans ?_
  show (dats m 0 c).after 6 (pt r) (ix2 (loc r) d) = _
  rw [after0_6, out_second]
  unfold second
  rw [block1 m c _ _ d r hr, block3 m c _ _ d r hr, arr1, arr3]

/-- The reference's results are the step of the arguments, as rows. -/
theorem ref_change (x0 x1 x2 x3 : Vec Ideal S2x1024x424 .f32) : Cert.Reference8Ideal.Read.val_main_v24 (F := Ideal) x0 x1 x2 x3
    = change (rows x0) (rows x1) (rows x2) (rows x3) := rfl
theorem ref_moment (x1 x2 : Vec Ideal S2x1024x424 .f32) : Cert.Reference8Ideal.Read.val_main_v25 (F := Ideal) x1 x2
    = moment (rows x1) (rows x2) := rfl
theorem ref_second (x1 x3 : Vec Ideal S2x1024x424 .f32) : Cert.Reference8Ideal.Read.val_main_v26 (F := Ideal) x1 x3
    = second (rows x1) (rows x3) := rfl

/-- The claim for one step of this weight. -/
theorem algebraic : Cert.algebraic_Kernel8Ideal_Reference8Ideal := by
  intro m g m' g' _ hagree
  refine ⟨fun c => (dats m 0 c).arrAt 4 cfg0.N, fun c => (dats m 0 c).arrAt 5 cfg0.N, fun c => (dats m 0 c).arrAt 6 cfg0.N,
    run_blocks (F := Ideal) m g, ?_⟩
  refine (θ_run Cert.Reference8Ideal.defs _ _).mono (fun _ h c => ?_) (Cert.Reference8Ideal.Value.run (F := Ideal) m' g')
  obtain ⟨h0, h1, h2, h3⟩ := hagree c
  refine ⟨((h c).1.trans (Cert.Reference8Ideal.Read.val_main_v24_eq ..)).trans ?_,
    ((h c).2.1.trans (Cert.Reference8Ideal.Read.val_main_v25_eq ..)).trans ?_,
    ((h c).2.2.1.trans (Cert.Reference8Ideal.Read.val_main_v26_eq ..)).trans ?_, (h c).2.2.2⟩
  · rw [h0, h1, h2, h3, ref_change]
    funext i
    rw [eq_ix2 i]
    exact (result4 m c (i 0) (i 1)).symm
  · rw [h1, h2, ref_moment]
    funext i
    rw [eq_ix2 i]
    exact (result5 m c (i 0) (i 1)).symm
  · rw [h1, h3, ref_second]
    funext i
    rw [eq_ix2 i]
    exact (result6 m c (i 0) (i 1)).symm

end Cert.Kernel8Ideal.Hand
-- ==== Proof.Adamw9Eq.lean ====
module

public import proofs.«01_k».proof.Proof.Adamw
public import proofs.«01_k».proof.Proof.Gen.Kernel9Ideal.Value
public import proofs.«01_k».proof.Proof.Gen.Reference9Ideal.Read
public import proofs.«01_k».proof.Defs

/-! The optimiser's step of a weight kept as rows already: the kernel's and the reference's results are both the step
of `Adamw`, element by element. -/

@[expose] public section

noncomputable section

open Idealize.ShloMosaic Idealize.ShloMosaic.TcCoe Idealize.SL.Sem
open Cert.Adamw

namespace Cert.Kernel9Ideal.Hand

open Cert.Kernel9Ideal Cert.Kernel9Ideal.Gen Cert.Kernel9Ideal.Value

/-- What the kernel leaves. -/
theorem ker_change (x0 x1 x2 x3 : Vec Ideal S2x384 .f32) : G4 (F := Ideal) x1 x2 x3 x0 = change x0 x1 x2 x3 := rfl
theorem ker_moment (x1 x2 : Vec Ideal S2x384 .f32) : G5 (F := Ideal) x1 x2 = moment x1 x2 := rfl
theorem ker_second (x1 x3 : Vec Ideal S2x384 .f32) : G6 (F := Ideal) x1 x3 = second x1 x3 := rfl

/-- What the reference leaves. -/
theorem ref_change (x0 x1 x2 x3 : Vec Ideal S2x384 .f32) : Cert.Reference9Ideal.Read.val_main_v23 (F := Ideal) x0 x1 x2 x3
    = change x0 x1 x2 x3 := rfl
theorem ref_moment (x1 x2 : Vec Ideal S2x384 .f32) : Cert.Reference9Ideal.Read.val_main_v4 (F := Ideal) x1 x2
    = moment x1 x2 := rfl
theorem ref_second (x1 x3 : Vec Ideal S2x384 .f32) : Cert.Reference9Ideal.Read.val_main_v10 (F := Ideal) x1 x3
    = second x1 x3 := rfl

/-- The claim for one step of this weight. -/
theorem algebraic : Cert.algebraic_Kernel9Ideal_Reference9Ideal := by
  intro m g m' g' _ hagree
  refine ⟨_, _, _, Cert.Kernel9Ideal.Value.run (F := Ideal) m g, ?_⟩
  refine (θ_run Cert.Reference9Ideal.defs _ _).mono (fun _ h c => ?_) (Cert.Reference9Ideal.Value.run (F := Ideal) m' g')
  obtain ⟨h0, h1, h2, h3⟩ := hagree c
  refine ⟨((h c).1.trans (Cert.Reference9Ideal.Read.val_main_v23_eq ..)).trans ?_,
    ((h c).2.1.trans (Cert.Reference9Ideal.Read.val_main_v4_eq ..)).trans ?_,
    ((h c).2.2.1.trans (Cert.Reference9Ideal.Read.val_main_v10_eq ..)).trans ?_, (h c).2.2.2⟩
  · rw [h0, h1, h2, h3, ref_change]; exact (ker_change ..).symm
  · rw [h1, h2, ref_moment]; exact (ker_moment ..).symm
  · rw [h1, h3, ref_second]; exact (ker_second ..).symm

end Cert.Kernel9Ideal.Hand
-- ==== Proof.Adamw10Eq.lean ====
module

public import proofs.«01_k».proof.Proof.Adamw
public import proofs.«01_k».proof.Proof.Norm
public import proofs.«01_k».proof.Proof.Gen.Kernel10Ideal.Value
public import proofs.«01_k».proof.Proof.Gen.Reference10Ideal.Read
public import proofs.«01_k».proof.Defs
public import Idealize.ShloMosaic.Lib.StableHlo.RunRead

/-! The optimiser's step of a weight that the kernel takes as rows: a grid point steps a block of rows, the blocks
tile the array, and the reference steps the whole weight and reads the results as the same rows. -/

@[expose] public section

set_option maxRecDepth 16384

noncomputable section

open Idealize.ShloMosaic Idealize.ShloMosaic.TcCoe Idealize.SL.Sem
open Cert.Adamw

namespace Cert.Kernel10Ideal.Hand

open Cert.Kernel10Ideal Cert.Kernel10Ideal.Gen Cert.Kernel10Ideal.Value

/-- The offset of a whole block. -/
theorem off2 : (![0, 0] : Fin 2 → Nat) = fun _ => 0 := funext fun a => by fin_cases a <;> rfl

/-- What a grid point leaves in a block of rows: the step of the block. -/
theorem out_change (x0 x1 x2 x3 : Vec Ideal S256x192 .f32) (r : Fin 256) (d : Fin 192) :
    out0_4 (F := Ideal) x0 x1 x2 x3 (ix2 r d) = change x0 x1 x2 x3 (ix2 r d) := by
  unfold out0_4 change moment second
  rw [View.canon_unit_zero off2]
  simp only [View.ld_unit_zero (S := S256x192) off2]
  pointwise [k0_pay4, k0_pay3, k0_pay2, k0_pay1]
theorem out_moment (x0 x1 x2 x3 : Vec Ideal S256x192 .f32) (r : Fin 256) (d : Fin 192) :
    out0_5 (F := Ideal) x0 x1 x2 x3 (ix2 r d) = moment x1 x2 (ix2 r d) := by
  unfold out0_5 moment
  rw [View.canon_unit_zero off2]
  simp only [View.ld_unit_zero (S := S256x192) off2]
  pointwise [k0_pay4, k0_pay3, k0_pay2, k0_pay1]
theorem out_second (x0 x1 x2 x3 : Vec Ideal S256x192 .f32) (r : Fin 256) (d : Fin 192) :
    out0_6 (F := Ideal) x0 x1 x2 x3 (ix2 r d) = second x1 x3 (ix2 r d) := by
  unfold out0_6 second
  rw [View.canon_unit_zero off2]
  simp only [View.ld_unit_zero (S := S256x192) off2]
  pointwise [k0_pay4, k0_pay3, k0_pay2, k0_pay1]

/-- An argument as rows. -/
abbrev rows (x : Vec Ideal S2x384x192 .f32) : Vec Ideal S768x192 .f32 := shapeCast S768x192 x shapeCasts_S2x384x192_S768x192

variable (m : (ℓ : Loc nD τ sig) → Buf (Elt Ideal) ℓ)

/-- The kernel takes its arguments as rows. -/
theorem arr0 (c : Dev nD) : V m c main_v0 = rows (m (c.tc.loc main_arg0)) := by
  unfold V
  after_reads_simp
  rfl
theorem arr1 (c : Dev nD) : V m c main_v1 = rows (m (c.tc.loc main_arg1)) := by
  unfold V
  after_reads_simp
  rfl
theorem arr2 (c : Dev nD) : V m c main_v2 = rows (m (c.tc.loc main_arg2)) := by
  unfold V
  after_reads_simp
  rfl
theorem arr3 (c : Dev nD) : V m c main_v3 = rows (m (c.tc.loc main_arg3)) := by
  unfold V
  after_reads_simp
  rfl

/-- A grid point reads and writes the block of rows of its own number. -/
theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = t.val ∧ win0_2.index t 1 = 0 := by decide +kernel
theorem index3 : ∀ t : Fin grid0.N, win0_3.index t 0 = t.val ∧ win0_3.index t 1 = 0 := by decide +kernel
theorem index4 : ∀ t : Fin grid0.N, win0_4.index t 0 = t.val ∧ win0_4.index t 1 = 0 := by decide +kernel
theorem index5 : ∀ t : Fin grid0.N, win0_5.index t 0 = t.val ∧ win0_5.index t 1 = 0 := by decide +kernel
theorem index6 : ∀ t : Fin grid0.N, win0_6.index t 0 = t.val ∧ win0_6.index t 1 = 0 := by decide +kernel
/-- What a grid point reads: rows of the arrays. -/
theorem block0 (c : Dev nD) (t : Fin cfg0.N) (k : Fin 256) (d : Fin 192) (r : Fin 768) (hr : r.val = 256 * t.val + k.val) :
    iblk m c 0 t (ix2 k d) = V m c main_v0 (ix2 r d) := by
  have hi := index0 t
  unfold iblk
  rw [View.read_apply]
  refine congrArg (V m c main_v0) ?_
  funext a
  apply Fin.ext
  match a with
  | ⟨0, _⟩ => show win0_0.index t 0 * 256 + 1 * k.val = r.val; omega
  | ⟨1, _⟩ => show win0_0.index t 1 * 192 + 1 * d.val = d.val; omega
theorem block1 (c : Dev nD) (t : Fin cfg0.N) (k : Fin 256) (d : Fin 192) (r : Fin 768) (hr : r.val = 256 * t.val + k.val) :
    iblk m c 1 t (ix2 k d) = V m c main_v1 (ix2 r d) := by
  have hi := index1 t
  unfold iblk
  rw [View.read_apply]
  refine congrArg (V m c main_v1) ?_
  funext a
  apply Fin.ext
  match a with
  | ⟨0, _⟩ => show win0_1.index t 0 * 256 + 1 * k.val = r.val; omega
  | ⟨1, _⟩ => show win0_1.index t 1 * 192 + 1 * d.val = d.val; omega
theorem block2 (c : Dev nD) (t : Fin cfg0.N) (k : Fin 256) (d : Fin 192) (r : Fin 768) (hr : r.val = 256 * t.val + k.val) :
    iblk m c 2 t (ix2 k d) = V m c main_v2 (ix2 r d) := by
  have hi := index2 t
  unfold iblk
  rw [View.read_apply]
  refine congrArg (V m c main_v2) ?_
  funext a
  apply Fin.ext
  match a with
  | ⟨0, _⟩ => show win0_2.index t 0 * 256 + 1 * k.val = r.val; omega
  | ⟨1, _⟩ => show win0_2.index t 1 * 192 + 1 * d.val = d.val; omega
theorem block3 (c : Dev nD) (t : Fin cfg0.N) (k : Fin 256) (d : Fin 192) (r : Fin 768) (hr : r.val = 256 * t.val + k.val) :
    iblk m c 3 t (ix2 k d) = V m c main_v3 (ix2 r d) := by
  have hi := index3 t
  unfold iblk
  rw [View.read_apply]
  refine congrArg (V m c main_v3) ?_
  funext a
  apply Fin.ext
  match a with
  | ⟨0, _⟩ => show win0_3.index t 0 * 256 + 1 * k.val = r.val; omega
  | ⟨1, _⟩ => show win0_3.index t 1 * 192 + 1 * d.val = d.val; omega

/-- The point whose block holds a row. -/
abbrev pt (r : Fin 768) : Fin cfg0.N := ⟨r.val / 256, by have hN : cfg0.N = 3 := N_0; omega⟩
/-- The place of a row inside its block. -/
abbrev loc (r : Fin 768) : Fin 256 := ⟨r.val % 256, by omega⟩

/-- The three results at an index: the step of the arguments as rows. -/
theorem result4 (c : Dev nD) (r : Fin 768) (d : Fin 192) : (dats m 0 c).arrAt 4 cfg0.N (ix2 r d)
    = change (rows (m (c.tc.loc main_arg0))) (rows (m (c.tc.loc main_arg1))) (rows (m (c.tc.loc main_arg2))) (rows (m (c.tc.loc main_arg3))) (ix2 r d) := by
  have hr : r.val = 256 * (pt r).val + (loc r).val := by dsimp only; omega
  have hi := index4 (pt r)
  have e : ((cfg0.win 4).blk (pt r)).view.emb (ix2 (loc r) d) = ix2 r d := by
    funext a
    apply Fin.ext
    match a with
    | ⟨0, _⟩ => show win0_4.index (pt r) 0 * 256 + 1 * (r.val % 256) = r.val; rw [hi.1]; show r.val / 256 * 256 + _ = _; omega
    | ⟨1, _⟩ => show win0_4.index (pt r) 1 * 192 + 1 * d.val = d.val; omega
  have h := (dats m 0 c).arrAt_emb_eq_flushed 4 disjoint4 (pt r) (flush0_4 (pt r)) (ix2 (loc r) d)
  rw [e] at h
  refine h.trans ?_
  show (dats m 0 c).after 4 (pt r) (ix2 (loc r) d) = _
  rw [after0_4, out_change]
  unfold change moment second
  rw [block0 m c _ _ d r hr, block1 m c _ _ d r hr, block2 m c _ _ d r hr, block3 m c _ _ d r hr, arr0, arr1, arr2, arr3]
theorem result5 (c : Dev nD) (r : Fin 768) (d : Fin 192) : (dats m 0 c).arrAt 5 cfg0.N (ix2 r d)
    = moment (rows (m (c.tc.loc main_arg1))) (rows (m (c.tc.loc main_arg2))) (ix2 r d) := by
  have hr : r.val = 256 * (pt r).val + (loc r).val := by dsimp only; omega
  have hi := index5 (pt r)
  have e : ((cfg0.win 5).blk (pt r)).view.emb (ix2 (loc r) d) = ix2 r d := by
    funext a
    apply Fin.ext
    match a with
    | ⟨0, _⟩ => show win0_5.index (pt r) 0 * 256 + 1 * (r.val % 256) = r.val; rw [hi.1]; show r.val / 256 * 256 + _ = _; omega
    | ⟨1, _⟩ => show win0_5.index (pt r) 1 * 192 + 1 * d.val = d.val; omega
  have h := (dats m 0 c).arrAt_emb_eq_flushed 5 disjoint5 (pt r) (flush0_5 (pt r)) (ix2 (loc r) d)
  rw [e] at h
  refine h.trans ?_
  show (dats m 0 c).after 5 (pt r) (ix2 (loc r) d) = _
  rw [after0_5, out_moment]
  unfold moment
  rw [block1 m c _ _ d r hr, block2 m c _ _ d r hr, arr1, arr2]
theorem result6 (c : Dev nD) (r : Fin 768) (d : Fin 192) : (dats m 0 c).arrAt 6 cfg0.N (ix2 r d)
    = second (rows (m (c.tc.loc main_arg1))) (rows (m (c.tc.loc main_arg3))) (ix2 r d) := by
  have hr : r.val = 256 * (pt r).val + (loc r).val := by dsimp only; omega
  have hi := index6 (pt r)
  have e : ((cfg0.win 6).blk (pt r)).view.emb (ix2 (loc r) d) = ix2 r d := by
    funext a
    apply Fin.ext
    match a with
    | ⟨0, _⟩ => show win0_6.index (pt r) 0 * 256 + 1 * (r.val % 256) = r.val; rw [hi.1]; show r.val / 256 * 256 + _ = _; omega
    | ⟨1, _⟩ => show win0_6.index (pt r) 1 * 192 + 1 * d.val = d.val; omega
  have h := (dats m 0 c).arrAt_emb_eq_flushed 6 disjoint6 (pt r) (flush0_6 (pt r)) (ix2 (loc r) d)
  rw [e] at h
  refine h.trans ?_
  show (dats m 0 c).after 6 (pt r) (ix2 (loc r) d) = _
  rw [after0_6, out_second]
  unfold second
  rw [block1 m c _ _ d r hr, block3 m c _ _ d r hr, arr1, arr3]

/-- The reference's results are the step of the arguments, as rows. -/
theorem ref_change (x0 x1 x2 x3 : Vec Ideal S2x384x192 .f32) : Cert.Reference10Ideal.Read.val_main_v24 (F := Ideal) x0 x1 x2 x3
    = change (rows x0) (rows x1) (rows x2) (rows x3) := rfl
theorem ref_moment (x1 x2 : Vec Ideal S2x384x192 .f32) : Cert.Reference10Ideal.Read.val_main_v25 (F := Ideal) x1 x2
    = moment (rows x1) (rows x2) := rfl
theorem ref_second (x1 x3 : Vec Ideal S2x384x192 .f32) : Cert.Reference10Ideal.Read.val_main_v26 (F := Ideal) x1 x3
    = second (rows x1) (rows x3) := rfl

/-- The claim for one step of this weight. -/
theorem algebraic : Cert.algebraic_Kernel10Ideal_Reference10Ideal := by
  intro m g m' g' _ hagree
  refine ⟨fun c => (dats m 0 c).arrAt 4 cfg0.N, fun c => (dats m 0 c).arrAt 5 cfg0.N, fun c => (dats m 0 c).arrAt 6 cfg0.N,
    run_blocks (F := Ideal) m g, ?_⟩
  refine (θ_run Cert.Reference10Ideal.defs _ _).mono (fun _ h c => ?_) (Cert.Reference10Ideal.Value.run (F := Ideal) m' g')
  obtain ⟨h0, h1, h2, h3⟩ := hagree c
  refine ⟨((h c).1.trans (Cert.Reference10Ideal.Read.val_main_v24_eq ..)).trans ?_,
    ((h c).2.1.trans (Cert.Reference10Ideal.Read.val_main_v25_eq ..)).trans ?_,
    ((h c).2.2.1.trans (Cert.Reference10Ideal.Read.val_main_v26_eq ..)).trans ?_, (h c).2.2.2⟩
  · rw [h0, h1, h2, h3, ref_change]
    funext i
    rw [eq_ix2 i]
    exact (result4 m c (i 0) (i 1)).symm
  · rw [h1, h2, ref_moment]
    funext i
    rw [eq_ix2 i]
    exact (result5 m c (i 0) (i 1)).symm
  · rw [h1, h3, ref_second]
    funext i
    rw [eq_ix2 i]
    exact (result6 m c (i 0) (i 1)).symm

end Cert.Kernel10Ideal.Hand
-- ==== Proof.Adamw11Eq.lean ====
module

public import proofs.«01_k».proof.Proof.Adamw
public import proofs.«01_k».proof.Proof.Gen.Kernel11Ideal.Value
public import proofs.«01_k».proof.Proof.Gen.Reference11Ideal.Read
public import proofs.«01_k».proof.Defs

/-! The optimiser's step of a weight kept as rows already: the kernel's and the reference's results are both the step
of `Adamw`, element by element. -/

@[expose] public section

noncomputable section

open Idealize.ShloMosaic Idealize.ShloMosaic.TcCoe Idealize.SL.Sem
open Cert.Adamw

namespace Cert.Kernel11Ideal.Hand

open Cert.Kernel11Ideal Cert.Kernel11Ideal.Gen Cert.Kernel11Ideal.Value

/-- What the kernel leaves. -/
theorem ker_change (x0 x1 x2 x3 : Vec Ideal S2x256 .f32) : G4 (F := Ideal) x1 x2 x3 x0 = change x0 x1 x2 x3 := rfl
theorem ker_moment (x1 x2 : Vec Ideal S2x256 .f32) : G5 (F := Ideal) x1 x2 = moment x1 x2 := rfl
theorem ker_second (x1 x3 : Vec Ideal S2x256 .f32) : G6 (F := Ideal) x1 x3 = second x1 x3 := rfl

/-- What the reference leaves. -/
theorem ref_change (x0 x1 x2 x3 : Vec Ideal S2x256 .f32) : Cert.Reference11Ideal.Read.val_main_v23 (F := Ideal) x0 x1 x2 x3
    = change x0 x1 x2 x3 := rfl
theorem ref_moment (x1 x2 : Vec Ideal S2x256 .f32) : Cert.Reference11Ideal.Read.val_main_v4 (F := Ideal) x1 x2
    = moment x1 x2 := rfl
theorem ref_second (x1 x3 : Vec Ideal S2x256 .f32) : Cert.Reference11Ideal.Read.val_main_v10 (F := Ideal) x1 x3
    = second x1 x3 := rfl

/-- The claim for one step of this weight. -/
theorem algebraic : Cert.algebraic_Kernel11Ideal_Reference11Ideal := by
  intro m g m' g' _ hagree
  refine ⟨_, _, _, Cert.Kernel11Ideal.Value.run (F := Ideal) m g, ?_⟩
  refine (θ_run Cert.Reference11Ideal.defs _ _).mono (fun _ h c => ?_) (Cert.Reference11Ideal.Value.run (F := Ideal) m' g')
  obtain ⟨h0, h1, h2, h3⟩ := hagree c
  refine ⟨((h c).1.trans (Cert.Reference11Ideal.Read.val_main_v23_eq ..)).trans ?_,
    ((h c).2.1.trans (Cert.Reference11Ideal.Read.val_main_v4_eq ..)).trans ?_,
    ((h c).2.2.1.trans (Cert.Reference11Ideal.Read.val_main_v10_eq ..)).trans ?_, (h c).2.2.2⟩
  · rw [h0, h1, h2, h3, ref_change]; exact (ker_change ..).symm
  · rw [h1, h2, ref_moment]; exact (ker_moment ..).symm
  · rw [h1, h3, ref_second]; exact (ker_second ..).symm

end Cert.Kernel11Ideal.Hand
-- ==== Proof.Adamw12Eq.lean ====
module

public import proofs.«01_k».proof.Proof.Adamw
public import proofs.«01_k».proof.Proof.Norm
public import proofs.«01_k».proof.Proof.Gen.Kernel12Ideal.Value
public import proofs.«01_k».proof.Proof.Gen.Reference12Ideal.Read
public import proofs.«01_k».proof.Defs
public import Idealize.ShloMosaic.Lib.StableHlo.RunRead

/-! The optimiser's step of a weight that the kernel takes as rows: a grid point steps a block of rows, the blocks
tile the array, and the reference steps the whole weight and reads the results as the same rows. -/

@[expose] public section

set_option maxRecDepth 16384

noncomputable section

open Idealize.ShloMosaic Idealize.ShloMosaic.TcCoe Idealize.SL.Sem
open Cert.Adamw

namespace Cert.Kernel12Ideal.Hand

open Cert.Kernel12Ideal Cert.Kernel12Ideal.Gen Cert.Kernel12Ideal.Value

/-- The offset of a whole block. -/
theorem off2 : (![0, 0] : Fin 2 → Nat) = fun _ => 0 := funext fun a => by fin_cases a <;> rfl

/-- What a grid point leaves in a block of rows: the step of the block. -/
theorem out_change (x0 x1 x2 x3 : Vec Ideal S256x256 .f32) (r : Fin 256) (d : Fin 256) :
    out0_4 (F := Ideal) x0 x1 x2 x3 (ix2 r d) = change x0 x1 x2 x3 (ix2 r d) := by
  unfold out0_4 change moment second
  rw [View.canon_unit_zero off2]
  simp only [View.ld_unit_zero (S := S256x256) off2]
  pointwise [k0_pay4, k0_pay3, k0_pay2, k0_pay1]
theorem out_moment (x0 x1 x2 x3 : Vec Ideal S256x256 .f32) (r : Fin 256) (d : Fin 256) :
    out0_5 (F := Ideal) x0 x1 x2 x3 (ix2 r d) = moment x1 x2 (ix2 r d) := by
  unfold out0_5 moment
  rw [View.canon_unit_zero off2]
  simp only [View.ld_unit_zero (S := S256x256) off2]
  pointwise [k0_pay4, k0_pay3, k0_pay2, k0_pay1]
theorem out_second (x0 x1 x2 x3 : Vec Ideal S256x256 .f32) (r : Fin 256) (d : Fin 256) :
    out0_6 (F := Ideal) x0 x1 x2 x3 (ix2 r d) = second x1 x3 (ix2 r d) := by
  unfold out0_6 second
  rw [View.canon_unit_zero off2]
  simp only [View.ld_unit_zero (S := S256x256) off2]
  pointwise [k0_pay4, k0_pay3, k0_pay2, k0_pay1]

/-- An argument as rows. -/
abbrev rows (x : Vec Ideal S2x256x256 .f32) : Vec Ideal S512x256 .f32 := shapeCast S512x256 x shapeCasts_S2x256x256_S512x256

variable (m : (ℓ : Loc nD τ sig) → Buf (Elt Ideal) ℓ)

/-- The kernel takes its arguments as rows. -/
theorem arr0 (c : Dev nD) : V m c main_v0 = rows (m (c.tc.loc main_arg0)) := by
  unfold V
  after_reads_simp
  rfl
theorem arr1 (c : Dev nD) : V m c main_v1 = rows (m (c.tc.loc main_arg1)) := by
  unfold V
  after_reads_simp
  rfl
theorem arr2 (c : Dev nD) : V m c main_v2 = rows (m (c.tc.loc main_arg2)) := by
  unfold V
  after_reads_simp
  rfl
theorem arr3 (c : Dev nD) : V m c main_v3 = rows (m (c.tc.loc main_arg3)) := by
  unfold V
  after_reads_simp
  rfl

/-- A grid point reads and writes the block of rows of its own number. -/
theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = t.val ∧ win0_2.index t 1 = 0 := by decide +kernel
theorem index3 : ∀ t : Fin grid0.N, win0_3.index t 0 = t.val ∧ win0_3.index t 1 = 0 := by decide +kernel
theorem index4 : ∀ t : Fin grid0.N, win0_4.index t 0 = t.val ∧ win0_4.index t 1 = 0 := by decide +kernel
theorem index5 : ∀ t : Fin grid0.N, win0_5.index t 0 = t.val ∧ win0_5.index t 1 = 0 := by decide +kernel
theorem index6 : ∀ t : Fin grid0.N, win0_6.index t 0 = t.val ∧ win0_6.index t 1 = 0 := by decide +kernel
/-- What a grid point reads: rows of the arrays. -/
theorem block0 (c : Dev nD) (t : Fin cfg0.N) (k : Fin 256) (d : Fin 256) (r : Fin 512) (hr : r.val = 256 * t.val + k.val) :
    iblk m c 0 t (ix2 k d) = V m c main_v0 (ix2 r d) := by
  have hi := index0 t
  unfold iblk
  rw [View.read_apply]
  refine congrArg (V m c main_v0) ?_
  funext a
  apply Fin.ext
  match a with
  | ⟨0, _⟩ => show win0_0.index t 0 * 256 + 1 * k.val = r.val; omega
  | ⟨1, _⟩ => show win0_0.index t 1 * 256 + 1 * d.val = d.val; omega
theorem block1 (c : Dev nD) (t : Fin cfg0.N) (k : Fin 256) (d : Fin 256) (r : Fin 512) (hr : r.val = 256 * t.val + k.val) :
    iblk m c 1 t (ix2 k d) = V m c main_v1 (ix2 r d) := by
  have hi := index1 t
  unfold iblk
  rw [View.read_apply]
  refine congrArg (V m c main_v1) ?_
  funext a
  apply Fin.ext
  match a with
  | ⟨0, _⟩ => show win0_1.index t 0 * 256 + 1 * k.val = r.val; omega
  | ⟨1, _⟩ => show win0_1.index t 1 * 256 + 1 * d.val = d.val; omega
theorem block2 (c : Dev nD) (t : Fin cfg0.N) (k : Fin 256) (d : Fin 256) (r : Fin 512) (hr : r.val = 256 * t.val + k.val) :
    iblk m c 2 t (ix2 k d) = V m c main_v2 (ix2 r d) := by
  have hi := index2 t
  unfold iblk
  rw [View.read_apply]
  refine congrArg (V m c main_v2) ?_
  funext a
  apply Fin.ext
  match a with
  | ⟨0, _⟩ => show win0_2.index t 0 * 256 + 1 * k.val = r.val; omega
  | ⟨1, _⟩ => show win0_2.index t 1 * 256 + 1 * d.val = d.val; omega
theorem block3 (c : Dev nD) (t : Fin cfg0.N) (k : Fin 256) (d : Fin 256) (r : Fin 512) (hr : r.val = 256 * t.val + k.val) :
    iblk m c 3 t (ix2 k d) = V m c main_v3 (ix2 r d) := by
  have hi := index3 t
  unfold iblk
  rw [View.read_apply]
  refine congrArg (V m c main_v3) ?_
  funext a
  apply Fin.ext
  match a with
  | ⟨0, _⟩ => show win0_3.index t 0 * 256 + 1 * k.val = r.val; omega
  | ⟨1, _⟩ => show win0_3.index t 1 * 256 + 1 * d.val = d.val; omega

/-- The point whose block holds a row. -/
abbrev pt (r : Fin 512) : Fin cfg0.N := ⟨r.val / 256, by have hN : cfg0.N = 2 := N_0; omega⟩
/-- The place of a row inside its block. -/
abbrev loc (r : Fin 512) : Fin 256 := ⟨r.val % 256, by omega⟩

/-- The three results at an index: the step of the arguments as rows. -/
theorem result4 (c : Dev nD) (r : Fin 512) (d : Fin 256) : (dats m 0 c).arrAt 4 cfg0.N (ix2 r d)
    = change (rows (m (c.tc.loc main_arg0))) (rows (m (c.tc.loc main_arg1))) (rows (m (c.tc.loc main_arg2))) (rows (m (c.tc.loc main_arg3))) (ix2 r d) := by
  have hr : r.val = 256 * (pt r).val + (loc r).val := by dsimp only; omega
  have hi := index4 (pt r)
  have e : ((cfg0.win 4).blk (pt r)).view.emb (ix2 (loc r) d) = ix2 r d := by
    funext a
    apply Fin.ext
    match a with
    | ⟨0, _⟩ => show win0_4.index (pt r) 0 * 256 + 1 * (r.val % 256) = r.val; rw [hi.1]; show r.val / 256 * 256 + _ = _; omega
    | ⟨1, _⟩ => show win0_4.index (pt r) 1 * 256 + 1 * d.val = d.val; omega
  have h := (dats m 0 c).arrAt_emb_eq_flushed 4 disjoint4 (pt r) (flush0_4 (pt r)) (ix2 (loc r) d)
  rw [e] at h
  refine h.trans ?_
  show (dats m 0 c).after 4 (pt r) (ix2 (loc r) d) = _
  rw [after0_4, out_change]
  unfold change moment second
  rw [block0 m c _ _ d r hr, block1 m c _ _ d r hr, block2 m c _ _ d r hr, block3 m c _ _ d r hr, arr0, arr1, arr2, arr3]
theorem result5 (c : Dev nD) (r : Fin 512) (d : Fin 256) : (dats m 0 c).arrAt 5 cfg0.N (ix2 r d)
    = moment (rows (m (c.tc.loc main_arg1))) (rows (m (c.tc.loc main_arg2))) (ix2 r d) := by
  have hr : r.val = 256 * (pt r).val + (loc r).val := by dsimp only; omega
  have hi := index5 (pt r)
  have e : ((cfg0.win 5).blk (pt r)).view.emb (ix2 (loc r) d) = ix2 r d := by
    funext a
    apply Fin.ext
    match a with
    | ⟨0, _⟩ => show win0_5.index (pt r) 0 * 256 + 1 * (r.val % 256) = r.val; rw [hi.1]; show r.val / 256 * 256 + _ = _; omega
    | ⟨1, _⟩ => show win0_5.index (pt r) 1 * 256 + 1 * d.val = d.val; omega
  have h := (dats m 0 c).arrAt_emb_eq_flushed 5 disjoint5 (pt r) (flush0_5 (pt r)) (ix2 (loc r) d)
  rw [e] at h
  refine h.trans ?_
  show (dats m 0 c).after 5 (pt r) (ix2 (loc r) d) = _
  rw [after0_5, out_moment]
  unfold moment
  rw [block1 m c _ _ d r hr, block2 m c _ _ d r hr, arr1, arr2]
theorem result6 (c : Dev nD) (r : Fin 512) (d : Fin 256) : (dats m 0 c).arrAt 6 cfg0.N (ix2 r d)
    = second (rows (m (c.tc.loc main_arg1))) (rows (m (c.tc.loc main_arg3))) (ix2 r d) := by
  have hr : r.val = 256 * (pt r).val + (loc r).val := by dsimp only; omega
  have hi := index6 (pt r)
  have e : ((cfg0.win 6).blk (pt r)).view.emb (ix2 (loc r) d) = ix2 r d := by
    funext a
    apply Fin.ext
    match a with
    | ⟨0, _⟩ => show win0_6.index (pt r) 0 * 256 + 1 * (r.val % 256) = r.val; rw [hi.1]; show r.val / 256 * 256 + _ = _; omega
    | ⟨1, _⟩ => show win0_6.index (pt r) 1 * 256 + 1 * d.val = d.val; omega
  have h := (dats m 0 c).arrAt_emb_eq_flushed 6 disjoint6 (pt r) (flush0_6 (pt r)) (ix2 (loc r) d)
  rw [e] at h
  refine h.trans ?_
  show (dats m 0 c).after 6 (pt r) (ix2 (loc r) d) = _
  rw [after0_6, out_second]
  unfold second
  rw [block1 m c _ _ d r hr, block3 m c _ _ d r hr, arr1, arr3]

/-- The reference's results are the step of the arguments, as rows. -/
theorem ref_change (x0 x1 x2 x3 : Vec Ideal S2x256x256 .f32) : Cert.Reference12Ideal.Read.val_main_v24 (F := Ideal) x0 x1 x2 x3
    = change (rows x0) (rows x1) (rows x2) (rows x3) := rfl
theorem ref_moment (x1 x2 : Vec Ideal S2x256x256 .f32) : Cert.Reference12Ideal.Read.val_main_v25 (F := Ideal) x1 x2
    = moment (rows x1) (rows x2) := rfl
theorem ref_second (x1 x3 : Vec Ideal S2x256x256 .f32) : Cert.Reference12Ideal.Read.val_main_v26 (F := Ideal) x1 x3
    = second (rows x1) (rows x3) := rfl

/-- The claim for one step of this weight. -/
theorem algebraic : Cert.algebraic_Kernel12Ideal_Reference12Ideal := by
  intro m g m' g' _ hagree
  refine ⟨fun c => (dats m 0 c).arrAt 4 cfg0.N, fun c => (dats m 0 c).arrAt 5 cfg0.N, fun c => (dats m 0 c).arrAt 6 cfg0.N,
    run_blocks (F := Ideal) m g, ?_⟩
  refine (θ_run Cert.Reference12Ideal.defs _ _).mono (fun _ h c => ?_) (Cert.Reference12Ideal.Value.run (F := Ideal) m' g')
  obtain ⟨h0, h1, h2, h3⟩ := hagree c
  refine ⟨((h c).1.trans (Cert.Reference12Ideal.Read.val_main_v24_eq ..)).trans ?_,
    ((h c).2.1.trans (Cert.Reference12Ideal.Read.val_main_v25_eq ..)).trans ?_,
    ((h c).2.2.1.trans (Cert.Reference12Ideal.Read.val_main_v26_eq ..)).trans ?_, (h c).2.2.2⟩
  · rw [h0, h1, h2, h3, ref_change]
    funext i
    rw [eq_ix2 i]
    exact (result4 m c (i 0) (i 1)).symm
  · rw [h1, h2, ref_moment]
    funext i
    rw [eq_ix2 i]
    exact (result5 m c (i 0) (i 1)).symm
  · rw [h1, h3, ref_second]
    funext i
    rw [eq_ix2 i]
    exact (result6 m c (i 0) (i 1)).symm

end Cert.Kernel12Ideal.Hand
-- ==== Proof.Adamw13Eq.lean ====
module

public import proofs.«01_k».proof.Proof.Adamw
public import proofs.«01_k».proof.Proof.Gen.Kernel13Ideal.Value
public import proofs.«01_k».proof.Proof.Gen.Reference13Ideal.Read
public import proofs.«01_k».proof.Defs

/-! The optimiser's step of a weight kept as rows already: the kernel's and the reference's results are both the step
of `Adamw`, element by element. -/

@[expose] public section

noncomputable section

open Idealize.ShloMosaic Idealize.ShloMosaic.TcCoe Idealize.SL.Sem
open Cert.Adamw

namespace Cert.Kernel13Ideal.Hand

open Cert.Kernel13Ideal Cert.Kernel13Ideal.Gen Cert.Kernel13Ideal.Value

/-- What the kernel leaves. -/
theorem ker_change (x0 x1 x2 x3 : Vec Ideal S2x512 .f32) : G4 (F := Ideal) x1 x2 x3 x0 = change x0 x1 x2 x3 := rfl
theorem ker_moment (x1 x2 : Vec Ideal S2x512 .f32) : G5 (F := Ideal) x1 x2 = moment x1 x2 := rfl
theorem ker_second (x1 x3 : Vec Ideal S2x512 .f32) : G6 (F := Ideal) x1 x3 = second x1 x3 := rfl

/-- What the reference leaves. -/
theorem ref_change (x0 x1 x2 x3 : Vec Ideal S2x512 .f32) : Cert.Reference13Ideal.Read.val_main_v23 (F := Ideal) x0 x1 x2 x3
    = change x0 x1 x2 x3 := rfl
theorem ref_moment (x1 x2 : Vec Ideal S2x512 .f32) : Cert.Reference13Ideal.Read.val_main_v4 (F := Ideal) x1 x2
    = moment x1 x2 := rfl
theorem ref_second (x1 x3 : Vec Ideal S2x512 .f32) : Cert.Reference13Ideal.Read.val_main_v10 (F := Ideal) x1 x3
    = second x1 x3 := rfl

/-- The claim for one step of this weight. -/
theorem algebraic : Cert.algebraic_Kernel13Ideal_Reference13Ideal := by
  intro m g m' g' _ hagree
  refine ⟨_, _, _, Cert.Kernel13Ideal.Value.run (F := Ideal) m g, ?_⟩
  refine (θ_run Cert.Reference13Ideal.defs _ _).mono (fun _ h c => ?_) (Cert.Reference13Ideal.Value.run (F := Ideal) m' g')
  obtain ⟨h0, h1, h2, h3⟩ := hagree c
  refine ⟨((h c).1.trans (Cert.Reference13Ideal.Read.val_main_v23_eq ..)).trans ?_,
    ((h c).2.1.trans (Cert.Reference13Ideal.Read.val_main_v4_eq ..)).trans ?_,
    ((h c).2.2.1.trans (Cert.Reference13Ideal.Read.val_main_v10_eq ..)).trans ?_, (h c).2.2.2⟩
  · rw [h0, h1, h2, h3, ref_change]; exact (ker_change ..).symm
  · rw [h1, h2, ref_moment]; exact (ker_moment ..).symm
  · rw [h1, h3, ref_second]; exact (ker_second ..).symm

end Cert.Kernel13Ideal.Hand
-- ==== Proof.Adamw14Eq.lean ====
module

public import proofs.«01_k».proof.Proof.Adamw
public import proofs.«01_k».proof.Proof.Norm
public import proofs.«01_k».proof.Proof.Gen.Kernel14Ideal.Value
public import proofs.«01_k».proof.Proof.Gen.Reference14Ideal.Read
public import proofs.«01_k».proof.Defs
public import Idealize.ShloMosaic.Lib.StableHlo.RunRead

/-! The optimiser's step of a weight that the kernel takes as rows: a grid point steps a block of rows, the blocks
tile the array, and the reference steps the whole weight and reads the results as the same rows. -/

@[expose] public section

set_option maxRecDepth 16384

noncomputable section

open Idealize.ShloMosaic Idealize.ShloMosaic.TcCoe Idealize.SL.Sem
open Cert.Adamw

namespace Cert.Kernel14Ideal.Hand

open Cert.Kernel14Ideal Cert.Kernel14Ideal.Gen Cert.Kernel14Ideal.Value

/-- The offset of a whole block. -/
theorem off2 : (![0, 0] : Fin 2 → Nat) = fun _ => 0 := funext fun a => by fin_cases a <;> rfl

/-- What a grid point leaves in a block of rows: the step of the block. -/
theorem out_change (x0 x1 x2 x3 : Vec Ideal S256x128 .f32) (r : Fin 256) (d : Fin 128) :
    out0_4 (F := Ideal) x0 x1 x2 x3 (ix2 r d) = change x0 x1 x2 x3 (ix2 r d) := by
  unfold out0_4 change moment second
  rw [View.canon_unit_zero off2]
  simp only [View.ld_unit_zero (S := S256x128) off2]
  pointwise [k0_pay4, k0_pay3, k0_pay2, k0_pay1]
theorem out_moment (x0 x1 x2 x3 : Vec Ideal S256x128 .f32) (r : Fin 256) (d : Fin 128) :
    out0_5 (F := Ideal) x0 x1 x2 x3 (ix2 r d) = moment x1 x2 (ix2 r d) := by
  unfold out0_5 moment
  rw [View.canon_unit_zero off2]
  simp only [View.ld_unit_zero (S := S256x128) off2]
  pointwise [k0_pay4, k0_pay3, k0_pay2, k0_pay1]
theorem out_second (x0 x1 x2 x3 : Vec Ideal S256x128 .f32) (r : Fin 256) (d : Fin 128) :
    out0_6 (F := Ideal) x0 x1 x2 x3 (ix2 r d) = second x1 x3 (ix2 r d) := by
  unfold out0_6 second
  rw [View.canon_unit_zero off2]
  simp only [View.ld_unit_zero (S := S256x128) off2]
  pointwise [k0_pay4, k0_pay3, k0_pay2, k0_pay1]

/-- An argument as rows. -/
abbrev rows (x : Vec Ideal S2x8x128x128 .f32) : Vec Ideal S2048x128 .f32 := shapeCast S2048x128 x shapeCasts_S2x8x128x128_S2048x128

variable (m : (ℓ : Loc nD τ sig) → Buf (Elt Ideal) ℓ)

/-- The kernel takes its arguments as rows. -/
theorem arr0 (c : Dev nD) : V m c main_v0 = rows (m (c.tc.loc main_arg0)) := by
  unfold V
  after_reads_simp
  rfl
theorem arr1 (c : Dev nD) : V m c main_v1 = rows (m (c.tc.loc main_arg1)) := by
  unfold V
  after_reads_simp
  rfl
theorem arr2 (c : Dev nD) : V m c main_v2 = rows (m (c.tc.loc main_arg2)) := by
  unfold V
  after_reads_simp
  rfl
theorem arr3 (c : Dev nD) : V m c main_v3 = rows (m (c.tc.loc main_arg3)) := by
  unfold V
  after_reads_simp
  rfl

/-- A grid point reads and writes the block of rows of its own number. -/
theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = t.val ∧ win0_2.index t 1 = 0 := by decide +kernel
theorem index3 : ∀ t : Fin grid0.N, win0_3.index t 0 = t.val ∧ win0_3.index t 1 = 0 := by decide +kernel
theorem index4 : ∀ t : Fin grid0.N, win0_4.index t 0 = t.val ∧ win0_4.index t 1 = 0 := by decide +kernel
theorem index5 : ∀ t : Fin grid0.N, win0_5.index t 0 = t.val ∧ win0_5.index t 1 = 0 := by decide +kernel
theorem index6 : ∀ t : Fin grid0.N, win0_6.index t 0 = t.val ∧ win0_6.index t 1 = 0 := by decide +kernel
/-- What a grid point reads: rows of the arrays. -/
theorem block0 (c : Dev nD) (t : Fin cfg0.N) (k : Fin 256) (d : Fin 128) (r : Fin 2048) (hr : r.val = 256 * t.val + k.val) :
    iblk m c 0 t (ix2 k d) = V m c main_v0 (ix2 r d) := by
  have hi := index0 t
  unfold iblk
  rw [View.read_apply]
  refine congrArg (V m c main_v0) ?_
  funext a
  apply Fin.ext
  match a with
  | ⟨0, _⟩ => show win0_0.index t 0 * 256 + 1 * k.val = r.val; omega
  | ⟨1, _⟩ => show win0_0.index t 1 * 128 + 1 * d.val = d.val; omega
theorem block1 (c : Dev nD) (t : Fin cfg0.N) (k : Fin 256) (d : Fin 128) (r : Fin 2048) (hr : r.val = 256 * t.val + k.val) :
    iblk m c 1 t (ix2 k d) = V m c main_v1 (ix2 r d) := by
  have hi := index1 t
  unfold iblk
  rw [View.read_apply]
  refine congrArg (V m c main_v1) ?_
  funext a
  apply Fin.ext
  match a with
  | ⟨0, _⟩ => show win0_1.index t 0 * 256 + 1 * k.val = r.val; omega
  | ⟨1, _⟩ => show win0_1.index t 1 * 128 + 1 * d.val = d.val; omega
theorem block2 (c : Dev nD) (t : Fin cfg0.N) (k : Fin 256) (d : Fin 128) (r : Fin 2048) (hr : r.val = 256 * t.val + k.val) :
    iblk m c 2 t (ix2 k d) = V m c main_v2 (ix2 r d) := by
  have hi := index2 t
  unfold iblk
  rw [View.read_apply]
  refine congrArg (V m c main_v2) ?_
  funext a
  apply Fin.ext
  match a with
  | ⟨0, _⟩ => show win0_2.index t 0 * 256 + 1 * k.val = r.val; omega
  | ⟨1, _⟩ => show win0_2.index t 1 * 128 + 1 * d.val = d.val; omega
theorem block3 (c : Dev nD) (t : Fin cfg0.N) (k : Fin 256) (d : Fin 128) (r : Fin 2048) (hr : r.val = 256 * t.val + k.val) :
    iblk m c 3 t (ix2 k d) = V m c main_v3 (ix2 r d) := by
  have hi := index3 t
  unfold iblk
  rw [View.read_apply]
  refine congrArg (V m c main_v3) ?_
  funext a
  apply Fin.ext
  match a with
  | ⟨0, _⟩ => show win0_3.index t 0 * 256 + 1 * k.val = r.val; omega
  | ⟨1, _⟩ => show win0_3.index t 1 * 128 + 1 * d.val = d.val; omega

/-- The point whose block holds a row. -/
abbrev pt (r : Fin 2048) : Fin cfg0.N := ⟨r.val / 256, by have hN : cfg0.N = 8 := N_0; omega⟩
/-- The place of a row inside its block. -/
abbrev loc (r : Fin 2048) : Fin 256 := ⟨r.val % 256, by omega⟩

/-- The three results at an index: the step of the arguments as rows. -/
theorem result4 (c : Dev nD) (r : Fin 2048) (d : Fin 128) : (dats m 0 c).arrAt 4 cfg0.N (ix2 r d)
    = change (rows (m (c.tc.loc main_arg0))) (rows (m (c.tc.loc main_arg1))) (rows (m (c.tc.loc main_arg2))) (rows (m (c.tc.loc main_arg3))) (ix2 r d) := by
  have hr : r.val = 256 * (pt r).val + (loc r).val := by dsimp only; omega
  have hi := index4 (pt r)
  have e : ((cfg0.win 4).blk (pt r)).view.emb (ix2 (loc r) d) = ix2 r d := by
    funext a
    apply Fin.ext
    match a with
    | ⟨0, _⟩ => show win0_4.index (pt r) 0 * 256 + 1 * (r.val % 256) = r.val; rw [hi.1]; show r.val / 256 * 256 + _ = _; omega
    | ⟨1, _⟩ => show win0_4.index (pt r) 1 * 128 + 1 * d.val = d.val; omega
  have h := (dats m 0 c).arrAt_emb_eq_flushed 4 disjoint4 (pt r) (flush0_4 (pt r)) (ix2 (loc r) d)
  rw [e] at h
  refine h.trans ?_
  show (dats m 0 c).after 4 (pt r) (ix2 (loc r) d) = _
  rw [after0_4, out_change]
  unfold change moment second
  rw [block0 m c _ _ d r hr, block1 m c _ _ d r hr, block2 m c _ _ d r hr, block3 m c _ _ d r hr, arr0, arr1, arr2, arr3]
theorem result5 (c : Dev nD) (r : Fin 2048) (d : Fin 128) : (dats m 0 c).arrAt 5 cfg0.N (ix2 r d)
    = moment (rows (m (c.tc.loc main_arg1))) (rows (m (c.tc.loc main_arg2))) (ix2 r d) := by
  have hr : r.val = 256 * (pt r).val + (loc r).val := by dsimp only; omega
  have hi := index5 (pt r)
  have e : ((cfg0.win 5).blk (pt r)).view.emb (ix2 (loc r) d) = ix2 r d := by
    funext a
    apply Fin.ext
    match a with
    | ⟨0, _⟩ => show win0_5.index (pt r) 0 * 256 + 1 * (r.val % 256) = r.val; rw [hi.1]; show r.val / 256 * 256 + _ = _; omega
    | ⟨1, _⟩ => show win0_5.index (pt r) 1 * 128 + 1 * d.val = d.val; omega
  have h := (dats m 0 c).arrAt_emb_eq_flushed 5 disjoint5 (pt r) (flush0_5 (pt r)) (ix2 (loc r) d)
  rw [e] at h
  refine h.trans ?_
  show (dats m 0 c).after 5 (pt r) (ix2 (loc r) d) = _
  rw [after0_5, out_moment]
  unfold moment
  rw [block1 m c _ _ d r hr, block2 m c _ _ d r hr, arr1, arr2]
theorem result6 (c : Dev nD) (r : Fin 2048) (d : Fin 128) : (dats m 0 c).arrAt 6 cfg0.N (ix2 r d)
    = second (rows (m (c.tc.loc main_arg1))) (rows (m (c.tc.loc main_arg3))) (ix2 r d) := by
  have hr : r.val = 256 * (pt r).val + (loc r).val := by dsimp only; omega
  have hi := index6 (pt r)
  have e : ((cfg0.win 6).blk (pt r)).view.emb (ix2 (loc r) d) = ix2 r d := by
    funext a
    apply Fin.ext
    match a with
    | ⟨0, _⟩ => show win0_6.index (pt r) 0 * 256 + 1 * (r.val % 256) = r.val; rw [hi.1]; show r.val / 256 * 256 + _ = _; omega
    | ⟨1, _⟩ => show win0_6.index (pt r) 1 * 128 + 1 * d.val = d.val; omega
  have h := (dats m 0 c).arrAt_emb_eq_flushed 6 disjoint6 (pt r) (flush0_6 (pt r)) (ix2 (loc r) d)
  rw [e] at h
  refine h.trans ?_
  show (dats m 0 c).after 6 (pt r) (ix2 (loc r) d) = _
  rw [after0_6, out_second]
  unfold second
  rw [block1 m c _ _ d r hr, block3 m c _ _ d r hr, arr1, arr3]

/-- The reference's results are the step of the arguments, as rows. -/
theorem ref_change (x0 x1 x2 x3 : Vec Ideal S2x8x128x128 .f32) : Cert.Reference14Ideal.Read.val_main_v24 (F := Ideal) x0 x1 x2 x3
    = change (rows x0) (rows x1) (rows x2) (rows x3) := rfl
theorem ref_moment (x1 x2 : Vec Ideal S2x8x128x128 .f32) : Cert.Reference14Ideal.Read.val_main_v25 (F := Ideal) x1 x2
    = moment (rows x1) (rows x2) := rfl
theorem ref_second (x1 x3 : Vec Ideal S2x8x128x128 .f32) : Cert.Reference14Ideal.Read.val_main_v26 (F := Ideal) x1 x3
    = second (rows x1) (rows x3) := rfl

/-- The claim for one step of this weight. -/
theorem algebraic : Cert.algebraic_Kernel14Ideal_Reference14Ideal := by
  intro m g m' g' _ hagree
  refine ⟨fun c => (dats m 0 c).arrAt 4 cfg0.N, fun c => (dats m 0 c).arrAt 5 cfg0.N, fun c => (dats m 0 c).arrAt 6 cfg0.N,
    run_blocks (F := Ideal) m g, ?_⟩
  refine (θ_run Cert.Reference14Ideal.defs _ _).mono (fun _ h c => ?_) (Cert.Reference14Ideal.Value.run (F := Ideal) m' g')
  obtain ⟨h0, h1, h2, h3⟩ := hagree c
  refine ⟨((h c).1.trans (Cert.Reference14Ideal.Read.val_main_v24_eq ..)).trans ?_,
    ((h c).2.1.trans (Cert.Reference14Ideal.Read.val_main_v25_eq ..)).trans ?_,
    ((h c).2.2.1.trans (Cert.Reference14Ideal.Read.val_main_v26_eq ..)).trans ?_, (h c).2.2.2⟩
  · rw [h0, h1, h2, h3, ref_change]
    funext i
    rw [eq_ix2 i]
    exact (result4 m c (i 0) (i 1)).symm
  · rw [h1, h2, ref_moment]
    funext i
    rw [eq_ix2 i]
    exact (result5 m c (i 0) (i 1)).symm
  · rw [h1, h3, ref_second]
    funext i
    rw [eq_ix2 i]
    exact (result6 m c (i 0) (i 1)).symm

end Cert.Kernel14Ideal.Hand
-- ==== Proof.Adamw15Eq.lean ====
module

public import proofs.«01_k».proof.Proof.Adamw
public import proofs.«01_k».proof.Proof.Norm
public import proofs.«01_k».proof.Proof.Gen.Kernel15Ideal.Value
public import proofs.«01_k».proof.Proof.Gen.Reference15Ideal.Read
public import proofs.«01_k».proof.Defs
public import Idealize.ShloMosaic.Lib.StableHlo.RunRead

/-! The optimiser's step of a weight that the kernel takes as rows: a grid point steps a block of rows, the blocks
tile the array, and the reference steps the whole weight and reads the results as the same rows. -/

@[expose] public section

set_option maxRecDepth 16384

noncomputable section

open Idealize.ShloMosaic Idealize.ShloMosaic.TcCoe Idealize.SL.Sem
open Cert.Adamw

namespace Cert.Kernel15Ideal.Hand

open Cert.Kernel15Ideal Cert.Kernel15Ideal.Gen Cert.Kernel15Ideal.Value

/-- The offset of a whole block. -/
theorem off2 : (![0, 0] : Fin 2 → Nat) = fun _ => 0 := funext fun a => by fin_cases a <;> rfl

/-- What a grid point leaves in a block of rows: the step of the block. -/
theorem out_change (x0 x1 x2 x3 : Vec Ideal S16x128 .f32) (r : Fin 16) (d : Fin 128) :
    out0_4 (F := Ideal) x0 x1 x2 x3 (ix2 r d) = change x0 x1 x2 x3 (ix2 r d) := by
  unfold out0_4 change moment second
  rw [View.canon_unit_zero off2]
  simp only [View.ld_unit_zero (S := S16x128) off2]
  pointwise [k0_pay4, k0_pay3, k0_pay2, k0_pay1]
theorem out_moment (x0 x1 x2 x3 : Vec Ideal S16x128 .f32) (r : Fin 16) (d : Fin 128) :
    out0_5 (F := Ideal) x0 x1 x2 x3 (ix2 r d) = moment x1 x2 (ix2 r d) := by
  unfold out0_5 moment
  rw [View.canon_unit_zero off2]
  simp only [View.ld_unit_zero (S := S16x128) off2]
  pointwise [k0_pay4, k0_pay3, k0_pay2, k0_pay1]
theorem out_second (x0 x1 x2 x3 : Vec Ideal S16x128 .f32) (r : Fin 16) (d : Fin 128) :
    out0_6 (F := Ideal) x0 x1 x2 x3 (ix2 r d) = second x1 x3 (ix2 r d) := by
  unfold out0_6 second
  rw [View.canon_unit_zero off2]
  simp only [View.ld_unit_zero (S := S16x128) off2]
  pointwise [k0_pay4, k0_pay3, k0_pay2, k0_pay1]

/-- An argument as rows. -/
abbrev rows (x : Vec Ideal S2x8x128 .f32) : Vec Ideal S16x128 .f32 := shapeCast S16x128 x shapeCasts_S2x8x128_S16x128

variable (m : (ℓ : Loc nD τ sig) → Buf (Elt Ideal) ℓ)

/-- The kernel takes its arguments as rows. -/
theorem arr0 (c : Dev nD) : V m c main_v0 = rows (m (c.tc.loc main_arg0)) := by
  unfold V
  after_reads_simp
  rfl
theorem arr1 (c : Dev nD) : V m c main_v1 = rows (m (c.tc.loc main_arg1)) := by
  unfold V
  after_reads_simp
  rfl
theorem arr2 (c : Dev nD) : V m c main_v2 = rows (m (c.tc.loc main_arg2)) := by
  unfold V
  after_reads_simp
  rfl
theorem arr3 (c : Dev nD) : V m c main_v3 = rows (m (c.tc.loc main_arg3)) := by
  unfold V
  after_reads_simp
  rfl

/-- A grid point reads and writes the block of rows of its own number. -/
theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = t.val ∧ win0_2.index t 1 = 0 := by decide +kernel
theorem index3 : ∀ t : Fin grid0.N, win0_3.index t 0 = t.val ∧ win0_3.index t 1 = 0 := by decide +kernel
theorem index4 : ∀ t : Fin grid0.N, win0_4.index t 0 = t.val ∧ win0_4.index t 1 = 0 := by decide +kernel
theorem index5 : ∀ t : Fin grid0.N, win0_5.index t 0 = t.val ∧ win0_5.index t 1 = 0 := by decide +kernel
theorem index6 : ∀ t : Fin grid0.N, win0_6.index t 0 = t.val ∧ win0_6.index t 1 = 0 := by decide +kernel
/-- What a grid point reads: rows of the arrays. -/
theorem block0 (c : Dev nD) (t : Fin cfg0.N) (k : Fin 16) (d : Fin 128) (r : Fin 16) (hr : r.val = 16 * t.val + k.val) :
    iblk m c 0 t (ix2 k d) = V m c main_v0 (ix2 r d) := by
  have hi := index0 t
  unfold iblk
  rw [View.read_apply]
  refine congrArg (V m c main_v0) ?_
  funext a
  apply Fin.ext
  match a with
  | ⟨0, _⟩ => show win0_0.index t 0 * 16 + 1 * k.val = r.val; omega
  | ⟨1, _⟩ => show win0_0.index t 1 * 128 + 1 * d.val = d.val; omega
theorem block1 (c : Dev nD) (t : Fin cfg0.N) (k : Fin 16) (d : Fin 128) (r : Fin 16) (hr : r.val = 16 * t.val + k.val) :
    iblk m c 1 t (ix2 k d) = V m c main_v1 (ix2 r d) := by
  have hi := index1 t
  unfold iblk
  rw [View.read_apply]
  refine congrArg (V m c main_v1) ?_
  funext a
  apply Fin.ext
  match a with
  | ⟨0, _⟩ => show win0_1.index t 0 * 16 + 1 * k.val = r.val; omega
  | ⟨1, _⟩ => show win0_1.index t 1 * 128 + 1 * d.val = d.val; omega
theorem block2 (c : Dev nD) (t : Fin cfg0.N) (k : Fin 16) (d : Fin 128) (r : Fin 16) (hr : r.val = 16 * t.val + k.val) :
    iblk m c 2 t (ix2 k d) = V m c main_v2 (ix2 r d) := by
  have hi := index2 t
  unfold iblk
  rw [View.read_apply]
  refine congrArg (V m c main_v2) ?_
  funext a
  apply Fin.ext
  match a with
  | ⟨0, _⟩ => show win0_2.index t 0 * 16 + 1 * k.val = r.val; omega
  | ⟨1, _⟩ => show win0_2.index t 1 * 128 + 1 * d.val = d.val; omega
theorem block3 (c : Dev nD) (t : Fin cfg0.N) (k : Fin 16) (d : Fin 128) (r : Fin 16) (hr : r.val = 16 * t.val + k.val) :
    iblk m c 3 t (ix2 k d) = V m c main_v3 (ix2 r d) := by
  have hi := index3 t
  unfold iblk
  rw [View.read_apply]
  refine congrArg (V m c main_v3) ?_
  funext a
  apply Fin.ext
  match a with
  | ⟨0, _⟩ => show win0_3.index t 0 * 16 + 1 * k.val = r.val; omega
  | ⟨1, _⟩ => show win0_3.index t 1 * 128 + 1 * d.val = d.val; omega

/-- The point whose block holds a row. -/
abbrev pt (r : Fin 16) : Fin cfg0.N := ⟨r.val / 16, by have hN : cfg0.N = 1 := N_0; omega⟩
/-- The place of a row inside its block. -/
abbrev loc (r : Fin 16) : Fin 16 := ⟨r.val % 16, by omega⟩

/-- The three results at an index: the step of the arguments as rows. -/
theorem result4 (c : Dev nD) (r : Fin 16) (d : Fin 128) : (dats m 0 c).arrAt 4 cfg0.N (ix2 r d)
    = change (rows (m (c.tc.loc main_arg0))) (rows (m (c.tc.loc main_arg1))) (rows (m (c.tc.loc main_arg2))) (rows (m (c.tc.loc main_arg3))) (ix2 r d) := by
  have hr : r.val = 16 * (pt r).val + (loc r).val := by dsimp only; omega
  have hi := index4 (pt r)
  have e : ((cfg0.win 4).blk (pt r)).view.emb (ix2 (loc r) d) = ix2 r d := by
    funext a
    apply Fin.ext
    match a with
    | ⟨0, _⟩ => show win0_4.index (pt r) 0 * 16 + 1 * (r.val % 16) = r.val; rw [hi.1]; show r.val / 16 * 16 + _ = _; omega
    | ⟨1, _⟩ => show win0_4.index (pt r) 1 * 128 + 1 * d.val = d.val; omega
  have h := (dats m 0 c).arrAt_emb_eq_flushed 4 disjoint4 (pt r) (flush0_4 (pt r)) (ix2 (loc r) d)
  rw [e] at h
  refine h.trans ?_
  show (dats m 0 c).after 4 (pt r) (ix2 (loc r) d) = _
  rw [after0_4, out_change]
  unfold change moment second
  rw [block0 m c _ _ d r hr, block1 m c _ _ d r hr, block2 m c _ _ d r hr, block3 m c _ _ d r hr, arr0, arr1, arr2, arr3]
theorem result5 (c : Dev nD) (r : Fin 16) (d : Fin 128) : (dats m 0 c).arrAt 5 cfg0.N (ix2 r d)
    = moment (rows (m (c.tc.loc main_arg1))) (rows (m (c.tc.loc main_arg2))) (ix2 r d) := by
  have hr : r.val = 16 * (pt r).val + (loc r).val := by dsimp only; omega
  have hi := index5 (pt r)
  have e : ((cfg0.win 5).blk (pt r)).view.emb (ix2 (loc r) d) = ix2 r d := by
    funext a
    apply Fin.ext
    match a with
    | ⟨0, _⟩ => show win0_5.index (pt r) 0 * 16 + 1 * (r.val % 16) = r.val; rw [hi.1]; show r.val / 16 * 16 + _ = _; omega
    | ⟨1, _⟩ => show win0_5.index (pt r) 1 * 128 + 1 * d.val = d.val; omega
  have h := (dats m 0 c).arrAt_emb_eq_flushed 5 disjoint5 (pt r) (flush0_5 (pt r)) (ix2 (loc r) d)
  rw [e] at h
  refine h.trans ?_
  show (dats m 0 c).after 5 (pt r) (ix2 (loc r) d) = _
  rw [after0_5, out_moment]
  unfold moment
  rw [block1 m c _ _ d r hr, block2 m c _ _ d r hr, arr1, arr2]
theorem result6 (c : Dev nD) (r : Fin 16) (d : Fin 128) : (dats m 0 c).arrAt 6 cfg0.N (ix2 r d)
    = second (rows (m (c.tc.loc main_arg1))) (rows (m (c.tc.loc main_arg3))) (ix2 r d) := by
  have hr : r.val = 16 * (pt r).val + (loc r).val := by dsimp only; omega
  have hi := index6 (pt r)
  have e : ((cfg0.win 6).blk (pt r)).view.emb (ix2 (loc r) d) = ix2 r d := by
    funext a
    apply Fin.ext
    match a with
    | ⟨0, _⟩ => show win0_6.index (pt r) 0 * 16 + 1 * (r.val % 16) = r.val; rw [hi.1]; show r.val / 16 * 16 + _ = _; omega
    | ⟨1, _⟩ => show win0_6.index (pt r) 1 * 128 + 1 * d.val = d.val; omega
  have h := (dats m 0 c).arrAt_emb_eq_flushed 6 disjoint6 (pt r) (flush0_6 (pt r)) (ix2 (loc r) d)
  rw [e] at h
  refine h.trans ?_
  show (dats m 0 c).after 6 (pt r) (ix2 (loc r) d) = _
  rw [after0_6, out_second]
  unfold second
  rw [block1 m c _ _ d r hr, block3 m c _ _ d r hr, arr1, arr3]

/-- The reference's results are the step of the arguments, as rows. -/
theorem ref_change (x0 x1 x2 x3 : Vec Ideal S2x8x128 .f32) : Cert.Reference15Ideal.Read.val_main_v24 (F := Ideal) x0 x1 x2 x3
    = change (rows x0) (rows x1) (rows x2) (rows x3) := rfl
theorem ref_moment (x1 x2 : Vec Ideal S2x8x128 .f32) : Cert.Reference15Ideal.Read.val_main_v25 (F := Ideal) x1 x2
    = moment (rows x1) (rows x2) := rfl
theorem ref_second (x1 x3 : Vec Ideal S2x8x128 .f32) : Cert.Reference15Ideal.Read.val_main_v26 (F := Ideal) x1 x3
    = second (rows x1) (rows x3) := rfl

/-- The claim for one step of this weight. -/
theorem algebraic : Cert.algebraic_Kernel15Ideal_Reference15Ideal := by
  intro m g m' g' _ hagree
  refine ⟨fun c => (dats m 0 c).arrAt 4 cfg0.N, fun c => (dats m 0 c).arrAt 5 cfg0.N, fun c => (dats m 0 c).arrAt 6 cfg0.N,
    run_blocks (F := Ideal) m g, ?_⟩
  refine (θ_run Cert.Reference15Ideal.defs _ _).mono (fun _ h c => ?_) (Cert.Reference15Ideal.Value.run (F := Ideal) m' g')
  obtain ⟨h0, h1, h2, h3⟩ := hagree c
  refine ⟨((h c).1.trans (Cert.Reference15Ideal.Read.val_main_v24_eq ..)).trans ?_,
    ((h c).2.1.trans (Cert.Reference15Ideal.Read.val_main_v25_eq ..)).trans ?_,
    ((h c).2.2.1.trans (Cert.Reference15Ideal.Read.val_main_v26_eq ..)).trans ?_, (h c).2.2.2⟩
  · rw [h0, h1, h2, h3, ref_change]
    funext i
    rw [eq_ix2 i]
    exact (result4 m c (i 0) (i 1)).symm
  · rw [h1, h2, ref_moment]
    funext i
    rw [eq_ix2 i]
    exact (result5 m c (i 0) (i 1)).symm
  · rw [h1, h3, ref_second]
    funext i
    rw [eq_ix2 i]
    exact (result6 m c (i 0) (i 1)).symm

end Cert.Kernel15Ideal.Hand
-- ==== Proof.Adamw16Eq.lean ====
module

public import proofs.«01_k».proof.Proof.Adamw
public import proofs.«01_k».proof.Proof.Norm
public import proofs.«01_k».proof.Proof.Gen.Kernel16Ideal.Value
public import proofs.«01_k».proof.Proof.Gen.Reference16Ideal.Read
public import proofs.«01_k».proof.Defs
public import Idealize.ShloMosaic.Lib.StableHlo.RunRead

/-! The optimiser's step of a weight that the kernel takes as rows: a grid point steps a block of rows, the blocks
tile the array, and the reference steps the whole weight and reads the results as the same rows. -/

@[expose] public section

set_option maxRecDepth 16384

noncomputable section

open Idealize.ShloMosaic Idealize.ShloMosaic.TcCoe Idealize.SL.Sem
open Cert.Adamw

namespace Cert.Kernel16Ideal.Hand

open Cert.Kernel16Ideal Cert.Kernel16Ideal.Gen Cert.Kernel16Ideal.Value

/-- The offset of a whole block. -/
theorem off2 : (![0, 0] : Fin 2 → Nat) = fun _ => 0 := funext fun a => by fin_cases a <;> rfl

/-- What a grid point leaves in a block of rows: the step of the block. -/
theorem out_change (x0 x1 x2 x3 : Vec Ideal S256x1024 .f32) (r : Fin 256) (d : Fin 1024) :
    out0_4 (F := Ideal) x0 x1 x2 x3 (ix2 r d) = change x0 x1 x2 x3 (ix2 r d) := by
  unfold out0_4 change moment second
  rw [View.canon_unit_zero off2]
  simp only [View.ld_unit_zero (S := S256x1024) off2]
  pointwise [k0_pay4, k0_pay3, k0_pay2, k0_pay1]
theorem out_moment (x0 x1 x2 x3 : Vec Ideal S256x1024 .f32) (r : Fin 256) (d : Fin 1024) :
    out0_5 (F := Ideal) x0 x1 x2 x3 (ix2 r d) = moment x1 x2 (ix2 r d) := by
  unfold out0_5 moment
  rw [View.canon_unit_zero off2]
  simp only [View.ld_unit_zero (S := S256x1024) off2]
  pointwise [k0_pay4, k0_pay3, k0_pay2, k0_pay1]
theorem out_second (x0 x1 x2 x3 : Vec Ideal S256x1024 .f32) (r : Fin 256) (d : Fin 1024) :
    out0_6 (F := Ideal) x0 x1 x2 x3 (ix2 r d) = second x1 x3 (ix2 r d) := by
  unfold out0_6 second
  rw [View.canon_unit_zero off2]
  simp only [View.ld_unit_zero (S := S256x1024) off2]
  pointwise [k0_pay4, k0_pay3, k0_pay2, k0_pay1]

/-- An argument as rows. -/
abbrev rows (x : Vec Ideal S2x256x1024 .f32) : Vec Ideal S512x1024 .f32 := shapeCast S512x1024 x shapeCasts_S2x256x1024_S512x1024

variable (m : (ℓ : Loc nD τ sig) → Buf (Elt Ideal) ℓ)

/-- The kernel takes its arguments as rows. -/
theorem arr0 (c : Dev nD) : V m c main_v0 = rows (m (c.tc.loc main_arg0)) := by
  unfold V
  after_reads_simp
  rfl
theorem arr1 (c : Dev nD) : V m c main_v1 = rows (m (c.tc.loc main_arg1)) := by
  unfold V
  after_reads_simp
  rfl
theorem arr2 (c : Dev nD) : V m c main_v2 = rows (m (c.tc.loc main_arg2)) := by
  unfold V
  after_reads_simp
  rfl
theorem arr3 (c : Dev nD) : V m c main_v3 = rows (m (c.tc.loc main_arg3)) := by
  unfold V
  after_reads_simp
  rfl

/-- A grid point reads and writes the block of rows of its own number. -/
theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = t.val ∧ win0_2.index t 1 = 0 := by decide +kernel
theorem index3 : ∀ t : Fin grid0.N, win0_3.index t 0 = t.val ∧ win0_3.index t 1 = 0 := by decide +kernel
theorem index4 : ∀ t : Fin grid0.N, win0_4.index t 0 = t.val ∧ win0_4.index t 1 = 0 := by decide +kernel
theorem index5 : ∀ t : Fin grid0.N, win0_5.index t 0 = t.val ∧ win0_5.index t 1 = 0 := by decide +kernel
theorem index6 : ∀ t : Fin grid0.N, win0_6.index t 0 = t.val ∧ win0_6.index t 1 = 0 := by decide +kernel
/-- What a grid point reads: rows of the arrays. -/
theorem block0 (c : Dev nD) (t : Fin cfg0.N) (k : Fin 256) (d : Fin 1024) (r : Fin 512) (hr : r.val = 256 * t.val + k.val) :
    iblk m c 0 t (ix2 k d) = V m c main_v0 (ix2 r d) := by
  have hi := index0 t
  unfold iblk
  rw [View.read_apply]
  refine congrArg (V m c main_v0) ?_
  funext a
  apply Fin.ext
  match a with
  | ⟨0, _⟩ => show win0_0.index t 0 * 256 + 1 * k.val = r.val; omega
  | ⟨1, _⟩ => show win0_0.index t 1 * 1024 + 1 * d.val = d.val; omega
theorem block1 (c : Dev nD) (t : Fin cfg0.N) (k : Fin 256) (d : Fin 1024) (r : Fin 512) (hr : r.val = 256 * t.val + k.val) :
    iblk m c 1 t (ix2 k d) = V m c main_v1 (ix2 r d) := by
  have hi := index1 t
  unfold iblk
  rw [View.read_apply]
  refine congrArg (V m c main_v1) ?_
  funext a
  apply Fin.ext
  match a with
  | ⟨0, _⟩ => show win0_1.index t 0 * 256 + 1 * k.val = r.val; omega
  | ⟨1, _⟩ => show win0_1.index t 1 * 1024 + 1 * d.val = d.val; omega
theorem block2 (c : Dev nD) (t : Fin cfg0.N) (k : Fin 256) (d : Fin 1024) (r : Fin 512) (hr : r.val = 256 * t.val + k.val) :
    iblk m c 2 t (ix2 k d) = V m c main_v2 (ix2 r d) := by
  have hi := index2 t
  unfold iblk
  rw [View.read_apply]
  refine congrArg (V m c main_v2) ?_
  funext a
  apply Fin.ext
  match a with
  | ⟨0, _⟩ => show win0_2.index t 0 * 256 + 1 * k.val = r.val; omega
  | ⟨1, _⟩ => show win0_2.index t 1 * 1024 + 1 * d.val = d.val; omega
theorem block3 (c : Dev nD) (t : Fin cfg0.N) (k : Fin 256) (d : Fin 1024) (r : Fin 512) (hr : r.val = 256 * t.val + k.val) :
    iblk m c 3 t (ix2 k d) = V m c main_v3 (ix2 r d) := by
  have hi := index3 t
  unfold iblk
  rw [View.read_apply]
  refine congrArg (V m c main_v3) ?_
  funext a
  apply Fin.ext
  match a with
  | ⟨0, _⟩ => show win0_3.index t 0 * 256 + 1 * k.val = r.val; omega
  | ⟨1, _⟩ => show win0_3.index t 1 * 1024 + 1 * d.val = d.val; omega

/-- The point whose block holds a row. -/
abbrev pt (r : Fin 512) : Fin cfg0.N := ⟨r.val / 256, by have hN : cfg0.N = 2 := N_0; omega⟩
/-- The place of a row inside its block. -/
abbrev loc (r : Fin 512) : Fin 256 := ⟨r.val % 256, by omega⟩

/-- The three results at an index: the step of the arguments as rows. -/
theorem result4 (c : Dev nD) (r : Fin 512) (d : Fin 1024) : (dats m 0 c).arrAt 4 cfg0.N (ix2 r d)
    = change (rows (m (c.tc.loc main_arg0))) (rows (m (c.tc.loc main_arg1))) (rows (m (c.tc.loc main_arg2))) (rows (m (c.tc.loc main_arg3))) (ix2 r d) := by
  have hr : r.val = 256 * (pt r).val + (loc r).val := by dsimp only; omega
  have hi := index4 (pt r)
  have e : ((cfg0.win 4).blk (pt r)).view.emb (ix2 (loc r) d) = ix2 r d := by
    funext a
    apply Fin.ext
    match a with
    | ⟨0, _⟩ => show win0_4.index (pt r) 0 * 256 + 1 * (r.val % 256) = r.val; rw [hi.1]; show r.val / 256 * 256 + _ = _; omega
    | ⟨1, _⟩ => show win0_4.index (pt r) 1 * 1024 + 1 * d.val = d.val; omega
  have h := (dats m 0 c).arrAt_emb_eq_flushed 4 disjoint4 (pt r) (flush0_4 (pt r)) (ix2 (loc r) d)
  rw [e] at h
  refine h.trans ?_
  show (dats m 0 c).after 4 (pt r) (ix2 (loc r) d) = _
  rw [after0_4, out_change]
  unfold change moment second
  rw [block0 m c _ _ d r hr, block1 m c _ _ d r hr, block2 m c _ _ d r hr, block3 m c _ _ d r hr, arr0, arr1, arr2, arr3]
theorem result5 (c : Dev nD) (r : Fin 512) (d : Fin 1024) : (dats m 0 c).arrAt 5 cfg0.N (ix2 r d)
    = moment (rows (m (c.tc.loc main_arg1))) (rows (m (c.tc.loc main_arg2))) (ix2 r d) := by
  have hr : r.val = 256 * (pt r).val + (loc r).val := by dsimp only; omega
  have hi := index5 (pt r)
  have e : ((cfg0.win 5).blk (pt r)).view.emb (ix2 (loc r) d) = ix2 r d := by
    funext a
    apply Fin.ext
    match a with
    | ⟨0, _⟩ => show win0_5.index (pt r) 0 * 256 + 1 * (r.val % 256) = r.val; rw [hi.1]; show r.val / 256 * 256 + _ = _; omega
    | ⟨1, _⟩ => show win0_5.index (pt r) 1 * 1024 + 1 * d.val = d.val; omega
  have h := (dats m 0 c).arrAt_emb_eq_flushed 5 disjoint5 (pt r) (flush0_5 (pt r)) (ix2 (loc r) d)
  rw [e] at h
  refine h.trans ?_
  show (dats m 0 c).after 5 (pt r) (ix2 (loc r) d) = _
  rw [after0_5, out_moment]
  unfold moment
  rw [block1 m c _ _ d r hr, block2 m c _ _ d r hr, arr1, arr2]
theorem result6 (c : Dev nD) (r : Fin 512) (d : Fin 1024) : (dats m 0 c).arrAt 6 cfg0.N (ix2 r d)
    = second (rows (m (c.tc.loc main_arg1))) (rows (m (c.tc.loc main_arg3))) (ix2 r d) := by
  have hr : r.val = 256 * (pt r).val + (loc r).val := by dsimp only; omega
  have hi := index6 (pt r)
  have e : ((cfg0.win 6).blk (pt r)).view.emb (ix2 (loc r) d) = ix2 r d := by
    funext a
    apply Fin.ext
    match a with
    | ⟨0, _⟩ => show win0_6.index (pt r) 0 * 256 + 1 * (r.val % 256) = r.val; rw [hi.1]; show r.val / 256 * 256 + _ = _; omega
    | ⟨1, _⟩ => show win0_6.index (pt r) 1 * 1024 + 1 * d.val = d.val; omega
  have h := (dats m 0 c).arrAt_emb_eq_flushed 6 disjoint6 (pt r) (flush0_6 (pt r)) (ix2 (loc r) d)
  rw [e] at h
  refine h.trans ?_
  show (dats m 0 c).after 6 (pt r) (ix2 (loc r) d) = _
  rw [after0_6, out_second]
  unfold second
  rw [block1 m c _ _ d r hr, block3 m c _ _ d r hr, arr1, arr3]

/-- The reference's results are the step of the arguments, as rows. -/
theorem ref_change (x0 x1 x2 x3 : Vec Ideal S2x256x1024 .f32) : Cert.Reference16Ideal.Read.val_main_v24 (F := Ideal) x0 x1 x2 x3
    = change (rows x0) (rows x1) (rows x2) (rows x3) := rfl
theorem ref_moment (x1 x2 : Vec Ideal S2x256x1024 .f32) : Cert.Reference16Ideal.Read.val_main_v25 (F := Ideal) x1 x2
    = moment (rows x1) (rows x2) := rfl
theorem ref_second (x1 x3 : Vec Ideal S2x256x1024 .f32) : Cert.Reference16Ideal.Read.val_main_v26 (F := Ideal) x1 x3
    = second (rows x1) (rows x3) := rfl

/-- The claim for one step of this weight. -/
theorem algebraic : Cert.algebraic_Kernel16Ideal_Reference16Ideal := by
  intro m g m' g' _ hagree
  refine ⟨fun c => (dats m 0 c).arrAt 4 cfg0.N, fun c => (dats m 0 c).arrAt 5 cfg0.N, fun c => (dats m 0 c).arrAt 6 cfg0.N,
    run_blocks (F := Ideal) m g, ?_⟩
  refine (θ_run Cert.Reference16Ideal.defs _ _).mono (fun _ h c => ?_) (Cert.Reference16Ideal.Value.run (F := Ideal) m' g')
  obtain ⟨h0, h1, h2, h3⟩ := hagree c
  refine ⟨((h c).1.trans (Cert.Reference16Ideal.Read.val_main_v24_eq ..)).trans ?_,
    ((h c).2.1.trans (Cert.Reference16Ideal.Read.val_main_v25_eq ..)).trans ?_,
    ((h c).2.2.1.trans (Cert.Reference16Ideal.Read.val_main_v26_eq ..)).trans ?_, (h c).2.2.2⟩
  · rw [h0, h1, h2, h3, ref_change]
    funext i
    rw [eq_ix2 i]
    exact (result4 m c (i 0) (i 1)).symm
  · rw [h1, h2, ref_moment]
    funext i
    rw [eq_ix2 i]
    exact (result5 m c (i 0) (i 1)).symm
  · rw [h1, h3, ref_second]
    funext i
    rw [eq_ix2 i]
    exact (result6 m c (i 0) (i 1)).symm

end Cert.Kernel16Ideal.Hand
-- ==== Proof.Adamw17Eq.lean ====
module

public import proofs.«01_k».proof.Proof.Adamw
public import proofs.«01_k».proof.Proof.Norm
public import proofs.«01_k».proof.Proof.Gen.Kernel17Ideal.Value
public import proofs.«01_k».proof.Proof.Gen.Reference17Ideal.Read
public import proofs.«01_k».proof.Defs
public import Idealize.ShloMosaic.Lib.StableHlo.RunRead

/-! The optimiser's step of a weight that the kernel takes as rows: a grid point steps a block of rows, the blocks
tile the array, and the reference steps the whole weight and reads the results as the same rows. -/

@[expose] public section

set_option maxRecDepth 16384

noncomputable section

open Idealize.ShloMosaic Idealize.ShloMosaic.TcCoe Idealize.SL.Sem
open Cert.Adamw

namespace Cert.Kernel17Ideal.Hand

open Cert.Kernel17Ideal Cert.Kernel17Ideal.Gen Cert.Kernel17Ideal.Value

/-- The offset of a whole block. -/
theorem off2 : (![0, 0] : Fin 2 → Nat) = fun _ => 0 := funext fun a => by fin_cases a <;> rfl

/-- What a grid point leaves in a block of rows: the step of the block. -/
theorem out_change (x0 x1 x2 x3 : Vec Ideal S256x768 .f32) (r : Fin 256) (d : Fin 768) :
    out0_4 (F := Ideal) x0 x1 x2 x3 (ix2 r d) = change x0 x1 x2 x3 (ix2 r d) := by
  unfold out0_4 change moment second
  rw [View.canon_unit_zero off2]
  simp only [View.ld_unit_zero (S := S256x768) off2]
  pointwise [k0_pay4, k0_pay3, k0_pay2, k0_pay1]
theorem out_moment (x0 x1 x2 x3 : Vec Ideal S256x768 .f32) (r : Fin 256) (d : Fin 768) :
    out0_5 (F := Ideal) x0 x1 x2 x3 (ix2 r d) = moment x1 x2 (ix2 r d) := by
  unfold out0_5 moment
  rw [View.canon_unit_zero off2]
  simp only [View.ld_unit_zero (S := S256x768) off2]
  pointwise [k0_pay4, k0_pay3, k0_pay2, k0_pay1]
theorem out_second (x0 x1 x2 x3 : Vec Ideal S256x768 .f32) (r : Fin 256) (d : Fin 768) :
    out0_6 (F := Ideal) x0 x1 x2 x3 (ix2 r d) = second x1 x3 (ix2 r d) := by
  unfold out0_6 second
  rw [View.canon_unit_zero off2]
  simp only [View.ld_unit_zero (S := S256x768) off2]
  pointwise [k0_pay4, k0_pay3, k0_pay2, k0_pay1]

/-- An argument as rows. -/
abbrev rows (x : Vec Ideal S2x1024x768 .f32) : Vec Ideal S2048x768 .f32 := shapeCast S2048x768 x shapeCasts_S2x1024x768_S2048x768

variable (m : (ℓ : Loc nD τ sig) → Buf (Elt Ideal) ℓ)

/-- The kernel takes its arguments as rows. -/
theorem arr0 (c : Dev nD) : V m c main_v0 = rows (m (c.tc.loc main_arg0)) := by
  unfold V
  after_reads_simp
  rfl
theorem arr1 (c : Dev nD) : V m c main_v1 = rows (m (c.tc.loc main_arg1)) := by
  unfold V
  after_reads_simp
  rfl
theorem arr2 (c : Dev nD) : V m c main_v2 = rows (m (c.tc.loc main_arg2)) := by
  unfold V
  after_reads_simp
  rfl
theorem arr3 (c : Dev nD) : V m c main_v3 = rows (m (c.tc.loc main_arg3)) := by
  unfold V
  after_reads_simp
  rfl

/-- A grid point reads and writes the block of rows of its own number. -/
theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = t.val ∧ win0_2.index t 1 = 0 := by decide +kernel
theorem index3 : ∀ t : Fin grid0.N, win0_3.index t 0 = t.val ∧ win0_3.index t 1 = 0 := by decide +kernel
theorem index4 : ∀ t : Fin grid0.N, win0_4.index t 0 = t.val ∧ win0_4.index t 1 = 0 := by decide +kernel
theorem index5 : ∀ t : Fin grid0.N, win0_5.index t 0 = t.val ∧ win0_5.index t 1 = 0 := by decide +kernel
theorem index6 : ∀ t : Fin grid0.N, win0_6.index t 0 = t.val ∧ win0_6.index t 1 = 0 := by decide +kernel
/-- What a grid point reads: rows of the arrays. -/
theorem block0 (c : Dev nD) (t : Fin cfg0.N) (k : Fin 256) (d : Fin 768) (r : Fin 2048) (hr : r.val = 256 * t.val + k.val) :
    iblk m c 0 t (ix2 k d) = V m c main_v0 (ix2 r d) := by
  have hi := index0 t
  unfold iblk
  rw [View.read_apply]
  refine congrArg (V m c main_v0) ?_
  funext a
  apply Fin.ext
  match a with
  | ⟨0, _⟩ => show win0_0.index t 0 * 256 + 1 * k.val = r.val; omega
  | ⟨1, _⟩ => show win0_0.index t 1 * 768 + 1 * d.val = d.val; omega
theorem block1 (c : Dev nD) (t : Fin cfg0.N) (k : Fin 256) (d : Fin 768) (r : Fin 2048) (hr : r.val = 256 * t.val + k.val) :
    iblk m c 1 t (ix2 k d) = V m c main_v1 (ix2 r d) := by
  have hi := index1 t
  unfold iblk
  rw [View.read_apply]
  refine congrArg (V m c main_v1) ?_
  funext a
  apply Fin.ext
  match a with
  | ⟨0, _⟩ => show win0_1.index t 0 * 256 + 1 * k.val = r.val; omega
  | ⟨1, _⟩ => show win0_1.index t 1 * 768 + 1 * d.val = d.val; omega
theorem block2 (c : Dev nD) (t : Fin cfg0.N) (k : Fin 256) (d : Fin 768) (r : Fin 2048) (hr : r.val = 256 * t.val + k.val) :
    iblk m c 2 t (ix2 k d) = V m c main_v2 (ix2 r d) := by
  have hi := index2 t
  unfold iblk
  rw [View.read_apply]
  refine congrArg (V m c main_v2) ?_
  funext a
  apply Fin.ext
  match a with
  | ⟨0, _⟩ => show win0_2.index t 0 * 256 + 1 * k.val = r.val; omega
  | ⟨1, _⟩ => show win0_2.index t 1 * 768 + 1 * d.val = d.val; omega
theorem block3 (c : Dev nD) (t : Fin cfg0.N) (k : Fin 256) (d : Fin 768) (r : Fin 2048) (hr : r.val = 256 * t.val + k.val) :
    iblk m c 3 t (ix2 k d) = V m c main_v3 (ix2 r d) := by
  have hi := index3 t
  unfold iblk
  rw [View.read_apply]
  refine congrArg (V m c main_v3) ?_
  funext a
  apply Fin.ext
  match a with
  | ⟨0, _⟩ => show win0_3.index t 0 * 256 + 1 * k.val = r.val; omega
  | ⟨1, _⟩ => show win0_3.index t 1 * 768 + 1 * d.val = d.val; omega

/-- The point whose block holds a row. -/
abbrev pt (r : Fin 2048) : Fin cfg0.N := ⟨r.val / 256, by have hN : cfg0.N = 8 := N_0; omega⟩
/-- The place of a row inside its block. -/
abbrev loc (r : Fin 2048) : Fin 256 := ⟨r.val % 256, by omega⟩

/-- The three results at an index: the step of the arguments as rows. -/
theorem result4 (c : Dev nD) (r : Fin 2048) (d : Fin 768) : (dats m 0 c).arrAt 4 cfg0.N (ix2 r d)
    = change (rows (m (c.tc.loc main_arg0))) (rows (m (c.tc.loc main_arg1))) (rows (m (c.tc.loc main_arg2))) (rows (m (c.tc.loc main_arg3))) (ix2 r d) := by
  have hr : r.val = 256 * (pt r).val + (loc r).val := by dsimp only; omega
  have hi := index4 (pt r)
  have e : ((cfg0.win 4).blk (pt r)).view.emb (ix2 (loc r) d) = ix2 r d := by
    funext a
    apply Fin.ext
    match a with
    | ⟨0, _⟩ => show win0_4.index (pt r) 0 * 256 + 1 * (r.val % 256) = r.val; rw [hi.1]; show r.val / 256 * 256 + _ = _; omega
    | ⟨1, _⟩ => show win0_4.index (pt r) 1 * 768 + 1 * d.val = d.val; omega
  have h := (dats m 0 c).arrAt_emb_eq_flushed 4 disjoint4 (pt r) (flush0_4 (pt r)) (ix2 (loc r) d)
  rw [e] at h
  refine h.trans ?_
  show (dats m 0 c).after 4 (pt r) (ix2 (loc r) d) = _
  rw [after0_4, out_change]
  unfold change moment second
  rw [block0 m c _ _ d r hr, block1 m c _ _ d r hr, block2 m c _ _ d r hr, block3 m c _ _ d r hr, arr0, arr1, arr2, arr3]
theorem result5 (c : Dev nD) (r : Fin 2048) (d : Fin 768) : (dats m 0 c).arrAt 5 cfg0.N (ix2 r d)
    = moment (rows (m (c.tc.loc main_arg1))) (rows (m (c.tc.loc main_arg2))) (ix2 r d) := by
  have hr : r.val = 256 * (pt r).val + (loc r).val := by dsimp only; omega
  have hi := index5 (pt r)
  have e : ((cfg0.win 5).blk (pt r)).view.emb (ix2 (loc r) d) = ix2 r d := by
    funext a
    apply Fin.ext
    match a with
    | ⟨0, _⟩ => show win0_5.index (pt r) 0 * 256 + 1 * (r.val % 256) = r.val; rw [hi.1]; show r.val / 256 * 256 + _ = _; omega
    | ⟨1, _⟩ => show win0_5.index (pt r) 1 * 768 + 1 * d.val = d.val; omega
  have h := (dats m 0 c).arrAt_emb_eq_flushed 5 disjoint5 (pt r) (flush0_5 (pt r)) (ix2 (loc r) d)
  rw [e] at h
  refine h.trans ?_
  show (dats m 0 c).after 5 (pt r) (ix2 (loc r) d) = _
  rw [after0_5, out_moment]
  unfold moment
  rw [block1 m c _ _ d r hr, block2 m c _ _ d r hr, arr1, arr2]
theorem result6 (c : Dev nD) (r : Fin 2048) (d : Fin 768) : (dats m 0 c).arrAt 6 cfg0.N (ix2 r d)
    = second (rows (m (c.tc.loc main_arg1))) (rows (m (c.tc.loc main_arg3))) (ix2 r d) := by
  have hr : r.val = 256 * (pt r).val + (loc r).val := by dsimp only; omega
  have hi := index6 (pt r)
  have e : ((cfg0.win 6).blk (pt r)).view.emb (ix2 (loc r) d) = ix2 r d := by
    funext a
    apply Fin.ext
    match a with
    | ⟨0, _⟩ => show win0_6.index (pt r) 0 * 256 + 1 * (r.val % 256) = r.val; rw [hi.1]; show r.val / 256 * 256 + _ = _; omega
    | ⟨1, _⟩ => show win0_6.index (pt r) 1 * 768 + 1 * d.val = d.val; omega
  have h := (dats m 0 c).arrAt_emb_eq_flushed 6 disjoint6 (pt r) (flush0_6 (pt r)) (ix2 (loc r) d)
  rw [e] at h
  refine h.trans ?_
  show (dats m 0 c).after 6 (pt r) (ix2 (loc r) d) = _
  rw [after0_6, out_second]
  unfold second
  rw [block1 m c _ _ d r hr, block3 m c _ _ d r hr, arr1, arr3]

/-- The reference's results are the step of the arguments, as rows. -/
theorem ref_change (x0 x1 x2 x3 : Vec Ideal S2x1024x768 .f32) : Cert.Reference17Ideal.Read.val_main_v24 (F := Ideal) x0 x1 x2 x3
    = change (rows x0) (rows x1) (rows x2) (rows x3) := rfl
theorem ref_moment (x1 x2 : Vec Ideal S2x1024x768 .f32) : Cert.Reference17Ideal.Read.val_main_v25 (F := Ideal) x1 x2
    = moment (rows x1) (rows x2) := rfl
theorem ref_second (x1 x3 : Vec Ideal S2x1024x768 .f32) : Cert.Reference17Ideal.Read.val_main_v26 (F := Ideal) x1 x3
    = second (rows x1) (rows x3) := rfl

/-- The claim for one step of this weight. -/
theorem algebraic : Cert.algebraic_Kernel17Ideal_Reference17Ideal := by
  intro m g m' g' _ hagree
  refine ⟨fun c => (dats m 0 c).arrAt 4 cfg0.N, fun c => (dats m 0 c).arrAt 5 cfg0.N, fun c => (dats m 0 c).arrAt 6 cfg0.N,
    run_blocks (F := Ideal) m g, ?_⟩
  refine (θ_run Cert.Reference17Ideal.defs _ _).mono (fun _ h c => ?_) (Cert.Reference17Ideal.Value.run (F := Ideal) m' g')
  obtain ⟨h0, h1, h2, h3⟩ := hagree c
  refine ⟨((h c).1.trans (Cert.Reference17Ideal.Read.val_main_v24_eq ..)).trans ?_,
    ((h c).2.1.trans (Cert.Reference17Ideal.Read.val_main_v25_eq ..)).trans ?_,
    ((h c).2.2.1.trans (Cert.Reference17Ideal.Read.val_main_v26_eq ..)).trans ?_, (h c).2.2.2⟩
  · rw [h0, h1, h2, h3, ref_change]
    funext i
    rw [eq_ix2 i]
    exact (result4 m c (i 0) (i 1)).symm
  · rw [h1, h2, ref_moment]
    funext i
    rw [eq_ix2 i]
    exact (result5 m c (i 0) (i 1)).symm
  · rw [h1, h3, ref_second]
    funext i
    rw [eq_ix2 i]
    exact (result6 m c (i 0) (i 1)).symm

end Cert.Kernel17Ideal.Hand
-- ==== Proof.Adamw18Eq.lean ====
module

public import proofs.«01_k».proof.Proof.Adamw
public import proofs.«01_k».proof.Proof.Norm
public import proofs.«01_k».proof.Proof.Gen.Kernel18Ideal.Value
public import proofs.«01_k».proof.Proof.Gen.Reference18Ideal.Read
public import proofs.«01_k».proof.Defs
public import Idealize.ShloMosaic.Lib.StableHlo.RunRead

/-! The optimiser's step of a weight that the kernel takes as rows: a grid point steps a block of rows, the blocks
tile the array, and the reference steps the whole weight and reads the results as the same rows. -/

@[expose] public section

set_option maxRecDepth 16384

noncomputable section

open Idealize.ShloMosaic Idealize.ShloMosaic.TcCoe Idealize.SL.Sem
open Cert.Adamw

namespace Cert.Kernel18Ideal.Hand

open Cert.Kernel18Ideal Cert.Kernel18Ideal.Gen Cert.Kernel18Ideal.Value

/-- The offset of a whole block. -/
theorem off2 : (![0, 0] : Fin 2 → Nat) = fun _ => 0 := funext fun a => by fin_cases a <;> rfl

/-- What a grid point leaves in a block of rows: the step of the block. -/
theorem out_change (x0 x1 x2 x3 : Vec Ideal S6x256 .f32) (r : Fin 6) (d : Fin 256) :
    out0_4 (F := Ideal) x0 x1 x2 x3 (ix2 r d) = change x0 x1 x2 x3 (ix2 r d) := by
  unfold out0_4 change moment second
  rw [View.canon_unit_zero off2]
  simp only [View.ld_unit_zero (S := S6x256) off2]
  pointwise [k0_pay4, k0_pay3, k0_pay2, k0_pay1]
theorem out_moment (x0 x1 x2 x3 : Vec Ideal S6x256 .f32) (r : Fin 6) (d : Fin 256) :
    out0_5 (F := Ideal) x0 x1 x2 x3 (ix2 r d) = moment x1 x2 (ix2 r d) := by
  unfold out0_5 moment
  rw [View.canon_unit_zero off2]
  simp only [View.ld_unit_zero (S := S6x256) off2]
  pointwise [k0_pay4, k0_pay3, k0_pay2, k0_pay1]
theorem out_second (x0 x1 x2 x3 : Vec Ideal S6x256 .f32) (r : Fin 6) (d : Fin 256) :
    out0_6 (F := Ideal) x0 x1 x2 x3 (ix2 r d) = second x1 x3 (ix2 r d) := by
  unfold out0_6 second
  rw [View.canon_unit_zero off2]
  simp only [View.ld_unit_zero (S := S6x256) off2]
  pointwise [k0_pay4, k0_pay3, k0_pay2, k0_pay1]

/-- An argument as rows. -/
abbrev rows (x : Vec Ideal S2x3x256 .f32) : Vec Ideal S6x256 .f32 := shapeCast S6x256 x shapeCasts_S2x3x256_S6x256

variable (m : (ℓ : Loc nD τ sig) → Buf (Elt Ideal) ℓ)

/-- The kernel takes its arguments as rows. -/
theorem arr0 (c : Dev nD) : V m c main_v0 = rows (m (c.tc.loc main_arg0)) := by
  unfold V
  after_reads_simp
  rfl
theorem arr1 (c : Dev nD) : V m c main_v1 = rows (m (c.tc.loc main_arg1)) := by
  unfold V
  after_reads_simp
  rfl
theorem arr2 (c : Dev nD) : V m c main_v2 = rows (m (c.tc.loc main_arg2)) := by
  unfold V
  after_reads_simp
  rfl
theorem arr3 (c : Dev nD) : V m c main_v3 = rows (m (c.tc.loc main_arg3)) := by
  unfold V
  after_reads_simp
  rfl

/-- A grid point reads and writes the block of rows of its own number. -/
theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = t.val ∧ win0_2.index t 1 = 0 := by decide +kernel
theorem index3 : ∀ t : Fin grid0.N, win0_3.index t 0 = t.val ∧ win0_3.index t 1 = 0 := by decide +kernel
theorem index4 : ∀ t : Fin grid0.N, win0_4.index t 0 = t.val ∧ win0_4.index t 1 = 0 := by decide +kernel
theorem index5 : ∀ t : Fin grid0.N, win0_5.index t 0 = t.val ∧ win0_5.index t 1 = 0 := by decide +kernel
theorem index6 : ∀ t : Fin grid0.N, win0_6.index t 0 = t.val ∧ win0_6.index t 1 = 0 := by decide +kernel
/-- What a grid point reads: rows of the arrays. -/
theorem block0 (c : Dev nD) (t : Fin cfg0.N) (k : Fin 6) (d : Fin 256) (r : Fin 6) (hr : r.val = 6 * t.val + k.val) :
    iblk m c 0 t (ix2 k d) = V m c main_v0 (ix2 r d) := by
  have hi := index0 t
  unfold iblk
  rw [View.read_apply]
  refine congrArg (V m c main_v0) ?_
  funext a
  apply Fin.ext
  match a with
  | ⟨0, _⟩ => show win0_0.index t 0 * 6 + 1 * k.val = r.val; omega
  | ⟨1, _⟩ => show win0_0.index t 1 * 256 + 1 * d.val = d.val; omega
theorem block1 (c : Dev nD) (t : Fin cfg0.N) (k : Fin 6) (d : Fin 256) (r : Fin 6) (hr : r.val = 6 * t.val + k.val) :
    iblk m c 1 t (ix2 k d) = V m c main_v1 (ix2 r d) := by
  have hi := index1 t
  unfold iblk
  rw [View.read_apply]
  refine congrArg (V m c main_v1) ?_
  funext a
  apply Fin.ext
  match a with
  | ⟨0, _⟩ => show win0_1.index t 0 * 6 + 1 * k.val = r.val; omega
  | ⟨1, _⟩ => show win0_1.index t 1 * 256 + 1 * d.val = d.val; omega
theorem block2 (c : Dev nD) (t : Fin cfg0.N) (k : Fin 6) (d : Fin 256) (r : Fin 6) (hr : r.val = 6 * t.val + k.val) :
    iblk m c 2 t (ix2 k d) = V m c main_v2 (ix2 r d) := by
  have hi := index2 t
  unfold iblk
  rw [View.read_apply]
  refine congrArg (V m c main_v2) ?_
  funext a
  apply Fin.ext
  match a with
  | ⟨0, _⟩ => show win0_2.index t 0 * 6 + 1 * k.val = r.val; omega
  | ⟨1, _⟩ => show win0_2.index t 1 * 256 + 1 * d.val = d.val; omega
theorem block3 (c : Dev nD) (t : Fin cfg0.N) (k : Fin 6) (d : Fin 256) (r : Fin 6) (hr : r.val = 6 * t.val + k.val) :
    iblk m c 3 t (ix2 k d) = V m c main_v3 (ix2 r d) := by
  have hi := index3 t
  unfold iblk
  rw [View.read_apply]
  refine congrArg (V m c main_v3) ?_
  funext a
  apply Fin.ext
  match a with
  | ⟨0, _⟩ => show win0_3.index t 0 * 6 + 1 * k.val = r.val; omega
  | ⟨1, _⟩ => show win0_3.index t 1 * 256 + 1 * d.val = d.val; omega

/-- The point whose block holds a row. -/
abbrev pt (r : Fin 6) : Fin cfg0.N := ⟨r.val / 6, by have hN : cfg0.N = 1 := N_0; omega⟩
/-- The place of a row inside its block. -/
abbrev loc (r : Fin 6) : Fin 6 := ⟨r.val % 6, by omega⟩

/-- The three results at an index: the step of the arguments as rows. -/
theorem result4 (c : Dev nD) (r : Fin 6) (d : Fin 256) : (dats m 0 c).arrAt 4 cfg0.N (ix2 r d)
    = change (rows (m (c.tc.loc main_arg0))) (rows (m (c.tc.loc main_arg1))) (rows (m (c.tc.loc main_arg2))) (rows (m (c.tc.loc main_arg3))) (ix2 r d) := by
  have hr : r.val = 6 * (pt r).val + (loc r).val := by dsimp only; omega
  have hi := index4 (pt r)
  have e : ((cfg0.win 4).blk (pt r)).view.emb (ix2 (loc r) d) = ix2 r d := by
    funext a
    apply Fin.ext
    match a with
    | ⟨0, _⟩ => show win0_4.index (pt r) 0 * 6 + 1 * (r.val % 6) = r.val; rw [hi.1]; show r.val / 6 * 6 + _ = _; omega
    | ⟨1, _⟩ => show win0_4.index (pt r) 1 * 256 + 1 * d.val = d.val; omega
  have h := (dats m 0 c).arrAt_emb_eq_flushed 4 disjoint4 (pt r) (flush0_4 (pt r)) (ix2 (loc r) d)
  rw [e] at h
  refine h.trans ?_
  show (dats m 0 c).after 4 (pt r) (ix2 (loc r) d) = _
  rw [after0_4, out_change]
  unfold change moment second
  rw [block0 m c _ _ d r hr, block1 m c _ _ d r hr, block2 m c _ _ d r hr, block3 m c _ _ d r hr, arr0, arr1, arr2, arr3]
theorem result5 (c : Dev nD) (r : Fin 6) (d : Fin 256) : (dats m 0 c).arrAt 5 cfg0.N (ix2 r d)
    = moment (rows (m (c.tc.loc main_arg1))) (rows (m (c.tc.loc main_arg2))) (ix2 r d) := by
  have hr : r.val = 6 * (pt r).val + (loc r).val := by dsimp only; omega
  have hi := index5 (pt r)
  have e : ((cfg0.win 5).blk (pt r)).view.emb (ix2 (loc r) d) = ix2 r d := by
    funext a
    apply Fin.ext
    match a with
    | ⟨0, _⟩ => show win0_5.index (pt r) 0 * 6 + 1 * (r.val % 6) = r.val; rw [hi.1]; show r.val / 6 * 6 + _ = _; omega
    | ⟨1, _⟩ => show win0_5.index (pt r) 1 * 256 + 1 * d.val = d.val; omega
  have h := (dats m 0 c).arrAt_emb_eq_flushed 5 disjoint5 (pt r) (flush0_5 (pt r)) (ix2 (loc r) d)
  rw [e] at h
  refine h.trans ?_
  show (dats m 0 c).after 5 (pt r) (ix2 (loc r) d) = _
  rw [after0_5, out_moment]
  unfold moment
  rw [block1 m c _ _ d r hr, block2 m c _ _ d r hr, arr1, arr2]
theorem result6 (c : Dev nD) (r : Fin 6) (d : Fin 256) : (dats m 0 c).arrAt 6 cfg0.N (ix2 r d)
    = second (rows (m (c.tc.loc main_arg1))) (rows (m (c.tc.loc main_arg3))) (ix2 r d) := by
  have hr : r.val = 6 * (pt r).val + (loc r).val := by dsimp only; omega
  have hi := index6 (pt r)
  have e : ((cfg0.win 6).blk (pt r)).view.emb (ix2 (loc r) d) = ix2 r d := by
    funext a
    apply Fin.ext
    match a with
    | ⟨0, _⟩ => show win0_6.index (pt r) 0 * 6 + 1 * (r.val % 6) = r.val; rw [hi.1]; show r.val / 6 * 6 + _ = _; omega
    | ⟨1, _⟩ => show win0_6.index (pt r) 1 * 256 + 1 * d.val = d.val; omega
  have h := (dats m 0 c).arrAt_emb_eq_flushed 6 disjoint6 (pt r) (flush0_6 (pt r)) (ix2 (loc r) d)
  rw [e] at h
  refine h.trans ?_
  show (dats m 0 c).after 6 (pt r) (ix2 (loc r) d) = _
  rw [after0_6, out_second]
  unfold second
  rw [block1 m c _ _ d r hr, block3 m c _ _ d r hr, arr1, arr3]

/-- The reference's results are the step of the arguments, as rows. -/
theorem ref_change (x0 x1 x2 x3 : Vec Ideal S2x3x256 .f32) : Cert.Reference18Ideal.Read.val_main_v24 (F := Ideal) x0 x1 x2 x3
    = change (rows x0) (rows x1) (rows x2) (rows x3) := rfl
theorem ref_moment (x1 x2 : Vec Ideal S2x3x256 .f32) : Cert.Reference18Ideal.Read.val_main_v25 (F := Ideal) x1 x2
    = moment (rows x1) (rows x2) := rfl
theorem ref_second (x1 x3 : Vec Ideal S2x3x256 .f32) : Cert.Reference18Ideal.Read.val_main_v26 (F := Ideal) x1 x3
    = second (rows x1) (rows x3) := rfl

/-- The claim for one step of this weight. -/
theorem algebraic : Cert.algebraic_Kernel18Ideal_Reference18Ideal := by
  intro m g m' g' _ hagree
  refine ⟨fun c => (dats m 0 c).arrAt 4 cfg0.N, fun c => (dats m 0 c).arrAt 5 cfg0.N, fun c => (dats m 0 c).arrAt 6 cfg0.N,
    run_blocks (F := Ideal) m g, ?_⟩
  refine (θ_run Cert.Reference18Ideal.defs _ _).mono (fun _ h c => ?_) (Cert.Reference18Ideal.Value.run (F := Ideal) m' g')
  obtain ⟨h0, h1, h2, h3⟩ := hagree c
  refine ⟨((h c).1.trans (Cert.Reference18Ideal.Read.val_main_v24_eq ..)).trans ?_,
    ((h c).2.1.trans (Cert.Reference18Ideal.Read.val_main_v25_eq ..)).trans ?_,
    ((h c).2.2.1.trans (Cert.Reference18Ideal.Read.val_main_v26_eq ..)).trans ?_, (h c).2.2.2⟩
  · rw [h0, h1, h2, h3, ref_change]
    funext i
    rw [eq_ix2 i]
    exact (result4 m c (i 0) (i 1)).symm
  · rw [h1, h2, ref_moment]
    funext i
    rw [eq_ix2 i]
    exact (result5 m c (i 0) (i 1)).symm
  · rw [h1, h3, ref_second]
    funext i
    rw [eq_ix2 i]
    exact (result6 m c (i 0) (i 1)).symm

end Cert.Kernel18Ideal.Hand
-- ==== Proof.Adamw19Eq.lean ====
module

public import proofs.«01_k».proof.Proof.Adamw
public import proofs.«01_k».proof.Proof.Norm
public import proofs.«01_k».proof.Proof.Gen.Kernel19Ideal.Value
public import proofs.«01_k».proof.Proof.Gen.Reference19Ideal.Read
public import proofs.«01_k».proof.Defs
public import Idealize.ShloMosaic.Lib.StableHlo.RunRead

/-! The optimiser's step of a weight that the kernel takes as rows: a grid point steps a block of rows, the blocks
tile the array, and the reference steps the whole weight and reads the results as the same rows. -/

@[expose] public section

set_option maxRecDepth 16384

noncomputable section

open Idealize.ShloMosaic Idealize.ShloMosaic.TcCoe Idealize.SL.Sem
open Cert.Adamw

namespace Cert.Kernel19Ideal.Hand

open Cert.Kernel19Ideal Cert.Kernel19Ideal.Gen Cert.Kernel19Ideal.Value

/-- The offset of a whole block. -/
theorem off2 : (![0, 0] : Fin 2 → Nat) = fun _ => 0 := funext fun a => by fin_cases a <;> rfl

/-- What a grid point leaves in a block of rows: the step of the block. -/
theorem out_change (x0 x1 x2 x3 : Vec Ideal S1x1024 .f32) (r : Fin 1) (d : Fin 1024) :
    out0_4 (F := Ideal) x0 x1 x2 x3 (ix2 r d) = change x0 x1 x2 x3 (ix2 r d) := by
  unfold out0_4 change moment second
  rw [View.canon_unit_zero off2]
  simp only [View.ld_unit_zero (S := S1x1024) off2]
  pointwise [k0_pay4, k0_pay3, k0_pay2, k0_pay1]
theorem out_moment (x0 x1 x2 x3 : Vec Ideal S1x1024 .f32) (r : Fin 1) (d : Fin 1024) :
    out0_5 (F := Ideal) x0 x1 x2 x3 (ix2 r d) = moment x1 x2 (ix2 r d) := by
  unfold out0_5 moment
  rw [View.canon_unit_zero off2]
  simp only [View.ld_unit_zero (S := S1x1024) off2]
  pointwise [k0_pay4, k0_pay3, k0_pay2, k0_pay1]
theorem out_second (x0 x1 x2 x3 : Vec Ideal S1x1024 .f32) (r : Fin 1) (d : Fin 1024) :
    out0_6 (F := Ideal) x0 x1 x2 x3 (ix2 r d) = second x1 x3 (ix2 r d) := by
  unfold out0_6 second
  rw [View.canon_unit_zero off2]
  simp only [View.ld_unit_zero (S := S1x1024) off2]
  pointwise [k0_pay4, k0_pay3, k0_pay2, k0_pay1]

/-- An argument as rows. -/
abbrev rows (x : Vec Ideal S1024 .f32) : Vec Ideal S1x1024 .f32 := shapeCast S1x1024 x shapeCasts_S1024_S1x1024

variable (m : (ℓ : Loc nD τ sig) → Buf (Elt Ideal) ℓ)

/-- The kernel takes its arguments as rows. -/
theorem arr0 (c : Dev nD) : V m c main_v0 = rows (m (c.tc.loc main_arg0)) := by
  unfold V
  after_reads_simp
  rfl
theorem arr1 (c : Dev nD) : V m c main_v1 = rows (m (c.tc.loc main_arg1)) := by
  unfold V
  after_reads_simp
  rfl
theorem arr2 (c : Dev nD) : V m c main_v2 = rows (m (c.tc.loc main_arg2)) := by
  unfold V
  after_reads_simp
  rfl
theorem arr3 (c : Dev nD) : V m c main_v3 = rows (m (c.tc.loc main_arg3)) := by
  unfold V
  after_reads_simp
  rfl

/-- A grid point reads and writes the block of rows of its own number. -/
theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = t.val ∧ win0_2.index t 1 = 0 := by decide +kernel
theorem index3 : ∀ t : Fin grid0.N, win0_3.index t 0 = t.val ∧ win0_3.index t 1 = 0 := by decide +kernel
theorem index4 : ∀ t : Fin grid0.N, win0_4.index t 0 = t.val ∧ win0_4.index t 1 = 0 := by decide +kernel
theorem index5 : ∀ t : Fin grid0.N, win0_5.index t 0 = t.val ∧ win0_5.index t 1 = 0 := by decide +kernel
theorem index6 : ∀ t : Fin grid0.N, win0_6.index t 0 = t.val ∧ win0_6.index t 1 = 0 := by decide +kernel
/-- What a grid point reads: rows of the arrays. -/
theorem block0 (c : Dev nD) (t : Fin cfg0.N) (k : Fin 1) (d : Fin 1024) (r : Fin 1) (hr : r.val = 1 * t.val + k.val) :
    iblk m c 0 t (ix2 k d) = V m c main_v0 (ix2 r d) := by
  have hi := index0 t
  unfold iblk
  rw [View.read_apply]
  refine congrArg (V m c main_v0) ?_
  funext a
  apply Fin.ext
  match a with
  | ⟨0, _⟩ => show win0_0.index t 0 * 1 + 1 * k.val = r.val; omega
  | ⟨1, _⟩ => show win0_0.index t 1 * 1024 + 1 * d.val = d.val; omega
theorem block1 (c : Dev nD) (t : Fin cfg0.N) (k : Fin 1) (d : Fin 1024) (r : Fin 1) (hr : r.val = 1 * t.val + k.val) :
    iblk m c 1 t (ix2 k d) = V m c main_v1 (ix2 r d) := by
  have hi := index1 t
  unfold iblk
  rw [View.read_apply]
  refine congrArg (V m c main_v1) ?_
  funext a
  apply Fin.ext
  match a with
  | ⟨0, _⟩ => show win0_1.index t 0 * 1 + 1 * k.val = r.val; omega
  | ⟨1, _⟩ => show win0_1.index t 1 * 1024 + 1 * d.val = d.val; omega
theorem block2 (c : Dev nD) (t : Fin cfg0.N) (k : Fin 1) (d : Fin 1024) (r : Fin 1) (hr : r.val = 1 * t.val + k.val) :
    iblk m c 2 t (ix2 k d) = V m c main_v2 (ix2 r d) := by
  have hi := index2 t
  unfold iblk
  rw [View.read_apply]
  refine congrArg (V m c main_v2) ?_
  funext a
  apply Fin.ext
  match a with
  | ⟨0, _⟩ => show win0_2.index t 0 * 1 + 1 * k.val = r.val; omega
  | ⟨1, _⟩ => show win0_2.index t 1 * 1024 + 1 * d.val = d.val; omega
theorem block3 (c : Dev nD) (t : Fin cfg0.N) (k : Fin 1) (d : Fin 1024) (r : Fin 1) (hr : r.val = 1 * t.val + k.val) :
    iblk m c 3 t (ix2 k d) = V m c main_v3 (ix2 r d) := by
  have hi := index3 t
  unfold iblk
  rw [View.read_apply]
  refine congrArg (V m c main_v3) ?_
  funext a
  apply Fin.ext
  match a with
  | ⟨0, _⟩ => show win0_3.index t 0 * 1 + 1 * k.val = r.val; omega
  | ⟨1, _⟩ => show win0_3.index t 1 * 1024 + 1 * d.val = d.val; omega

/-- The point whose block holds a row. -/
abbrev pt (r : Fin 1) : Fin cfg0.N := ⟨r.val / 1, by have hN : cfg0.N = 1 := N_0; omega⟩
/-- The place of a row inside its block. -/
abbrev loc (r : Fin 1) : Fin 1 := ⟨r.val % 1, by omega⟩

/-- The three results at an index: the step of the arguments as rows. -/
theorem result4 (c : Dev nD) (r : Fin 1) (d : Fin 1024) : (dats m 0 c).arrAt 4 cfg0.N (ix2 r d)
    = change (rows (m (c.tc.loc main_arg0))) (rows (m (c.tc.loc main_arg1))) (rows (m (c.tc.loc main_arg2))) (rows (m (c.tc.loc main_arg3))) (ix2 r d) := by
  have hr : r.val = 1 * (pt r).val + (loc r).val := by dsimp only; omega
  have hi := index4 (pt r)
  have e : ((cfg0.win 4).blk (pt r)).view.emb (ix2 (loc r) d) = ix2 r d := by
    funext a
    apply Fin.ext
    match a with
    | ⟨0, _⟩ => show win0_4.index (pt r) 0 * 1 + 1 * (r.val % 1) = r.val; rw [hi.1]; show r.val / 1 * 1 + _ = _; omega
    | ⟨1, _⟩ => show win0_4.index (pt r) 1 * 1024 + 1 * d.val = d.val; omega
  have h := (dats m 0 c).arrAt_emb_eq_flushed 4 disjoint4 (pt r) (flush0_4 (pt r)) (ix2 (loc r) d)
  rw [e] at h
  refine h.trans ?_
  show (dats m 0 c).after 4 (pt r) (ix2 (loc r) d) = _
  rw [after0_4, out_change]
  unfold change moment second
  rw [block0 m c _ _ d r hr, block1 m c _ _ d r hr, block2 m c _ _ d r hr, block3 m c _ _ d r hr, arr0, arr1, arr2, arr3]
theorem result5 (c : Dev nD) (r : Fin 1) (d : Fin 1024) : (dats m 0 c).arrAt 5 cfg0.N (ix2 r d)
    = moment (rows (m (c.tc.loc main_arg1))) (rows (m (c.tc.loc main_arg2))) (ix2 r d) := by
  have hr : r.val = 1 * (pt r).val + (loc r).val := by dsimp only; omega
  have hi := index5 (pt r)
  have e : ((cfg0.win 5).blk (pt r)).view.emb (ix2 (loc r) d) = ix2 r d := by
    funext a
    apply Fin.ext
    match a with
    | ⟨0, _⟩ => show win0_5.index (pt r) 0 * 1 + 1 * (r.val % 1) = r.val; rw [hi.1]; show r.val / 1 * 1 + _ = _; omega
    | ⟨1, _⟩ => show win0_5.index (pt r) 1 * 1024 + 1 * d.val = d.val; omega
  have h := (dats m 0 c).arrAt_emb_eq_flushed 5 disjoint5 (pt r) (flush0_5 (pt r)) (ix2 (loc r) d)
  rw [e] at h
  refine h.trans ?_
  show (dats m 0 c).after 5 (pt r) (ix2 (loc r) d) = _
  rw [after0_5, out_moment]
  unfold moment
  rw [block1 m c _ _ d r hr, block2 m c _ _ d r hr, arr1, arr2]
theorem result6 (c : Dev nD) (r : Fin 1) (d : Fin 1024) : (dats m 0 c).arrAt 6 cfg0.N (ix2 r d)
    = second (rows (m (c.tc.loc main_arg1))) (rows (m (c.tc.loc main_arg3))) (ix2 r d) := by
  have hr : r.val = 1 * (pt r).val + (loc r).val := by dsimp only; omega
  have hi := index6 (pt r)
  have e : ((cfg0.win 6).blk (pt r)).view.emb (ix2 (loc r) d) = ix2 r d := by
    funext a
    apply Fin.ext
    match a with
    | ⟨0, _⟩ => show win0_6.index (pt r) 0 * 1 + 1 * (r.val % 1) = r.val; rw [hi.1]; show r.val / 1 * 1 + _ = _; omega
    | ⟨1, _⟩ => show win0_6.index (pt r) 1 * 1024 + 1 * d.val = d.val; omega
  have h := (dats m 0 c).arrAt_emb_eq_flushed 6 disjoint6 (pt r) (flush0_6 (pt r)) (ix2 (loc r) d)
  rw [e] at h
  refine h.trans ?_
  show (dats m 0 c).after 6 (pt r) (ix2 (loc r) d) = _
  rw [after0_6, out_second]
  unfold second
  rw [block1 m c _ _ d r hr, block3 m c _ _ d r hr, arr1, arr3]

/-- The reference's results are the step of the arguments, as rows. -/
theorem ref_change (x0 x1 x2 x3 : Vec Ideal S1024 .f32) : Cert.Reference19Ideal.Read.val_main_v24 (F := Ideal) x0 x1 x2 x3
    = change (rows x0) (rows x1) (rows x2) (rows x3) := rfl
theorem ref_moment (x1 x2 : Vec Ideal S1024 .f32) : Cert.Reference19Ideal.Read.val_main_v25 (F := Ideal) x1 x2
    = moment (rows x1) (rows x2) := rfl
theorem ref_second (x1 x3 : Vec Ideal S1024 .f32) : Cert.Reference19Ideal.Read.val_main_v26 (F := Ideal) x1 x3
    = second (rows x1) (rows x3) := rfl

/-- The claim for one step of this weight. -/
theorem algebraic : Cert.algebraic_Kernel19Ideal_Reference19Ideal := by
  intro m g m' g' _ hagree
  refine ⟨fun c => (dats m 0 c).arrAt 4 cfg0.N, fun c => (dats m 0 c).arrAt 5 cfg0.N, fun c => (dats m 0 c).arrAt 6 cfg0.N,
    run_blocks (F := Ideal) m g, ?_⟩
  refine (θ_run Cert.Reference19Ideal.defs _ _).mono (fun _ h c => ?_) (Cert.Reference19Ideal.Value.run (F := Ideal) m' g')
  obtain ⟨h0, h1, h2, h3⟩ := hagree c
  refine ⟨((h c).1.trans (Cert.Reference19Ideal.Read.val_main_v24_eq ..)).trans ?_,
    ((h c).2.1.trans (Cert.Reference19Ideal.Read.val_main_v25_eq ..)).trans ?_,
    ((h c).2.2.1.trans (Cert.Reference19Ideal.Read.val_main_v26_eq ..)).trans ?_, (h c).2.2.2⟩
  · rw [h0, h1, h2, h3, ref_change]
    funext i
    rw [eq_ix2 i]
    exact (result4 m c (i 0) (i 1)).symm
  · rw [h1, h2, ref_moment]
    funext i
    rw [eq_ix2 i]
    exact (result5 m c (i 0) (i 1)).symm
  · rw [h1, h3, ref_second]
    funext i
    rw [eq_ix2 i]
    exact (result6 m c (i 0) (i 1)).symm

end Cert.Kernel19Ideal.Hand
-- ==== Proof.LossKernel.lean ====
/-
  The loss head (`Kernel20Ideal`): a grid point takes a block of rows through the last norm, compares it with the target,
  sends the difference back through the norm, and adds its part to the gain's gradient and to the loss. Here: what each
  point leaves, and the four result arrays at an index, over the arguments, at the extended reals.
-/
module

public import proofs.«01_k».proof.Proof.Gen.Kernel20Ideal.Value
public import proofs.«01_k».proof.Proof.Norm
public import proofs.«01_k».proof.Proof.Sums
public import Idealize.ShloMosaic.Lib.Pointwise
public import Idealize.ShloMosaic.Lib.StableHlo.ReadAt
public import Idealize.ShloMosaic.Lib.StableHlo.RunRead
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Kernel20Ideal.Hand

open Cert.Kernel20Ideal Cert.Kernel20Ideal.Gen Cert.Kernel20Ideal.Value

/-- The two-axis zero offset, as a constant function. -/
theorem off2 : (![0, 0] : Fin 2 → Nat) = fun _ => 0 := funext fun a => by fin_cases a <;> rfl

section Cases

variable {F : FTy → Type} [FloatOps F]

variable (c : Dev nD) (i : grid0.Coords) (arg1 : Memref sig .tc .vmem S512x1024 .f32) (harg1 : arg1.IsWhole)
  (arg2 : Memref sig .tc .vmem S512x1024 .f32) (harg2 : arg2.IsWhole) (arg3 : Memref sig .tc .vmem S1x1024 .f32)
  (harg3 : arg3.IsWhole) (arg4 : Memref sig .tc .vmem S512x1024 .f32) (harg4 : arg4.IsWhole)
  (arg5 : Memref sig .tc .vmem S512x1024 .bf16) (harg5 : arg5.IsWhole) (arg6 : Memref sig .tc .vmem S1x1024 .f32)
  (harg6 : arg6.IsWhole) (arg7 : Memref sig .tc .vmem S1x128 .f32) (harg7 : arg7.IsWhole)
  (x0 x1 : Vec F S512x1024 .f32) (x2 xo5 : Vec F S1x1024 .f32) (xo6 : Vec F S1x128 .f32)

/-- What a first point leaves in the output `dx`. -/
theorem dx_first (hc0 : cond0_0 i) (hc1 : ¬cond0_1 i) :
    out0_A_3 c i arg1 harg1 arg2 harg2 arg3 harg3 arg4 harg4 arg5 harg5 arg6 harg6 arg7 harg7 hc0 hc1 x0 x1 x2 = k0_pay10 x0 x2 x1 := by
  unfold out0_A_3
  rw [View.read_writes_eq_canon _ _ _ (cover0_A_3 c i arg1 harg1 arg2 harg2 arg3 harg3 arg4 harg4 arg5 harg5 arg6 harg6 arg7 harg7 hc0 hc1 x0 x1 x2)]
  unfold kernelRun0_A
  dsimp only
  sl_unfold_words
  rw [View.canon_unit_zero off2]
  simp only [View.readAt_eq_ld, harg1.read_unread, harg2.read_unread, harg3.read_unread, harg6.read_unread, harg7.read_unread,
    View.ld_unit_zero (S := S512x1024) off2, View.ld_unit_zero (S := S1x1024) off2, View.ld_unit_zero (S := S1x128) off2]

/-- What a first point leaves in the output `dxb`. -/
theorem dxb_first (hc0 : cond0_0 i) (hc1 : ¬cond0_1 i) :
    out0_A_4 c i arg1 harg1 arg2 harg2 arg3 harg3 arg4 harg4 arg5 harg5 arg6 harg6 arg7 harg7 hc0 hc1 x0 x1 x2 = k0_pay1 (k0_pay10 x0 x2 x1) := by
  unfold out0_A_4
  rw [View.read_writes_eq_canon _ _ _ (cover0_A_4 c i arg1 harg1 arg2 harg2 arg3 harg3 arg4 harg4 arg5 harg5 arg6 harg6 arg7 harg7 hc0 hc1 x0 x1 x2)]
  unfold kernelRun0_A
  dsimp only
  sl_unfold_words
  rw [View.canon_unit_zero off2]
  simp only [View.readAt_eq_ld, harg1.read_unread, harg2.read_unread, harg3.read_unread, harg6.read_unread, harg7.read_unread,
    View.ld_unit_zero (S := S512x1024) off2, View.ld_unit_zero (S := S1x1024) off2, View.ld_unit_zero (S := S1x128) off2]

/-- What a first point leaves in the output `dgain`. -/
theorem dgain_first (hc0 : cond0_0 i) (hc1 : ¬cond0_1 i) :
    out0_A_5 c i arg1 harg1 arg2 harg2 arg3 harg3 arg4 harg4 arg5 harg5 arg6 harg6 arg7 harg7 hc0 hc1 x0 x1 x2 = k0_pay2 (k0_pay11 x0 x2 x1) := by
  unfold out0_A_5
  rw [View.read_writes_eq_canon _ _ _ (cover0_A_5 c i arg1 harg1 arg2 harg2 arg3 harg3 arg4 harg4 arg5 harg5 arg6 harg6 arg7 harg7 hc0 hc1 x0 x1 x2)]
  unfold kernelRun0_A
  dsimp only
  sl_unfold_words
  rw [View.canon_unit_zero off2]
  simp only [View.readAt_eq_ld, harg1.read_unread, harg2.read_unread, harg3.read_unread, harg6.read_unread, harg7.read_unread,
    View.ld_unit_zero (S := S512x1024) off2, View.ld_unit_zero (S := S1x1024) off2, View.ld_unit_zero (S := S1x128) off2]

/-- What a first point leaves in the output `loss`. -/
theorem loss_first (hc0 : cond0_0 i) (hc1 : ¬cond0_1 i) :
    out0_A_6 c i arg1 harg1 arg2 harg2 arg3 harg3 arg4 harg4 arg5 harg5 arg6 harg6 arg7 harg7 hc0 hc1 x0 x1 x2 = k0_pay3 (k0_pay6 x0 x2 x1) := by
  unfold out0_A_6
  rw [View.read_writes_eq_canon _ _ _ (cover0_A_6 c i arg1 harg1 arg2 harg2 arg3 harg3 arg4 harg4 arg5 harg5 arg6 harg6 arg7 harg7 hc0 hc1 x0 x1 x2)]
  unfold kernelRun0_A
  dsimp only
  sl_unfold_words
  rw [View.canon_unit_zero off2]
  simp only [View.readAt_eq_ld, harg1.read_unread, harg2.read_unread, harg3.read_unread, harg6.read_unread, harg7.read_unread,
    View.ld_unit_zero (S := S512x1024) off2, View.ld_unit_zero (S := S1x1024) off2, View.ld_unit_zero (S := S1x128) off2]

/-- What a later point leaves in the output `dx`. -/
theorem dx_later (hc0 : ¬cond0_0 i) (hc1 : cond0_1 i) :
    out0_B_3 c i arg1 harg1 arg2 harg2 arg3 harg3 arg4 harg4 arg5 harg5 arg6 harg6 arg7 harg7 hc0 hc1 x0 x1 x2 xo5 xo6 = k0_pay10 x0 x2 x1 := by
  unfold out0_B_3
  rw [View.read_writes_eq_canon _ _ _ (cover0_B_3 c i arg1 harg1 arg2 harg2 arg3 harg3 arg4 harg4 arg5 harg5 arg6 harg6 arg7 harg7 hc0 hc1 x0 x1 x2 xo5 xo6)]
  unfold kernelRun0_B
  dsimp only
  sl_unfold_words
  rw [View.canon_unit_zero off2]
  simp only [View.readAt_eq_ld, harg1.read_unread, harg2.read_unread, harg3.read_unread, harg6.read_unread, harg7.read_unread,
    View.ld_unit_zero (S := S512x1024) off2, View.ld_unit_zero (S := S1x1024) off2, View.ld_unit_zero (S := S1x128) off2]

/-- What a later point leaves in the output `dxb`. -/
theorem dxb_later (hc0 : ¬cond0_0 i) (hc1 : cond0_1 i) :
    out0_B_4 c i arg1 harg1 arg2 harg2 arg3 harg3 arg4 harg4 arg5 harg5 arg6 harg6 arg7 harg7 hc0 hc1 x0 x1 x2 xo5 xo6 = k0_pay1 (k0_pay10 x0 x2 x1) := by
  unfold out0_B_4
  rw [View.read_writes_eq_canon _ _ _ (cover0_B_4 c i arg1 harg1 arg2 harg2 arg3 harg3 arg4 harg4 arg5 harg5 arg6 harg6 arg7 harg7 hc0 hc1 x0 x1 x2 xo5 xo6)]
  unfold kernelRun0_B
  dsimp only
  sl_unfold_words
  rw [View.canon_unit_zero off2]
  simp only [View.readAt_eq_ld, harg1.read_unread, harg2.read_unread, harg3.read_unread, harg6.read_unread, harg7.read_unread,
    View.ld_unit_zero (S := S512x1024) off2, View.ld_unit_zero (S := S1x1024) off2, View.ld_unit_zero (S := S1x128) off2]

/-- What a later point leaves in the output `dgain`. -/
theorem dgain_later (hc0 : ¬cond0_0 i) (hc1 : cond0_1 i) :
    out0_B_5 c i arg1 harg1 arg2 harg2 arg3 harg3 arg4 harg4 arg5 harg5 arg6 harg6 arg7 harg7 hc0 hc1 x0 x1 x2 xo5 xo6 = k0_pay4 (k0_pay11 x0 x2 x1) xo5 := by
  unfold out0_B_5
  rw [View.read_writes_eq_canon _ _ _ (cover0_B_5 c i arg1 harg1 arg2 harg2 arg3 harg3 arg4 harg4 arg5 harg5 arg6 harg6 arg7 harg7 hc0 hc1 x0 x1 x2 xo5 xo6)]
  unfold kernelRun0_B
  dsimp only
  sl_unfold_words
  rw [View.canon_unit_zero off2]
  simp only [View.readAt_eq_ld, harg1.read_unread, harg2.read_unread, harg3.read_unread, harg6.read_unread, harg7.read_unread,
    View.ld_unit_zero (S := S512x1024) off2, View.ld_unit_zero (S := S1x1024) off2, View.ld_unit_zero (S := S1x128) off2]

/-- What a later point leaves in the output `loss`. -/
theorem loss_later (hc0 : ¬cond0_0 i) (hc1 : cond0_1 i) :
    out0_B_6 c i arg1 harg1 arg2 harg2 arg3 harg3 arg4 harg4 arg5 harg5 arg6 harg6 arg7 harg7 hc0 hc1 x0 x1 x2 xo5 xo6 = k0_pay5 (k0_pay6 x0 x2 x1) xo6 := by
  unfold out0_B_6
  rw [View.read_writes_eq_canon _ _ _ (cover0_B_6 c i arg1 harg1 arg2 harg2 arg3 harg3 arg4 harg4 arg5 harg5 arg6 harg6 arg7 harg7 hc0 hc1 x0 x1 x2 xo5 xo6)]
  unfold kernelRun0_B
  dsimp only
  sl_unfold_words
  rw [View.canon_unit_zero off2]
  simp only [View.readAt_eq_ld, harg1.read_unread, harg2.read_unread, harg3.read_unread, harg6.read_unread, harg7.read_unread,
    View.ld_unit_zero (S := S512x1024) off2, View.ld_unit_zero (S := S1x1024) off2, View.ld_unit_zero (S := S1x128) off2]

end Cases

/-- A row through the norm with its gain, less the target. -/
def err (x g t : Fin 1024 → EReal) (k : Fin 1024) : EReal := x k * Cert.Norm.rstd x * g k - t k

/-- The difference at an index of a block. -/
theorem diff_apply (x t : Vec Ideal S512x1024 .f32) (g : Vec Ideal S1x1024 .f32) (r : Fin 512) (d : Fin 1024) :
    k0_pay6 (F := Ideal) x g t (ix2 r d) = err (fun k => x (ix2 r k)) (fun k => g (ix2 0 k)) (fun k => t (ix2 r k)) d := by
  unfold err Cert.Norm.rstd
  pointwise [k0_pay6]

/-- The rows' gradient at an index of a block. -/
theorem dx_apply (x t : Vec Ideal S512x1024 .f32) (g : Vec Ideal S1x1024 .f32) (r : Fin 512) (d : Fin 1024) :
    k0_pay10 (F := Ideal) x g t (ix2 r d) = Cert.Norm.back (fun k => x (ix2 r k))
      (fun k => g (ix2 0 k) * (err (fun k => x (ix2 r k)) (fun k => g (ix2 0 k)) (fun k => t (ix2 r k)) k * Ideal.ofBits .f32 0x3A800000#32)) d := by
  simp only [← diff_apply]
  unfold Cert.Norm.back Cert.Norm.rstd k0_pay10 k0_pay7
  generalize k0_pay6 (F := Ideal) x g t = e
  pointwise [k0_pay9, k0_pay8]

/-- The second copy of it, in the narrower format, is the same. -/
theorem dxb_apply (x : FVec Ideal S512x1024 .f32) (i : S512x1024.Idx) : k0_pay1 (F := Ideal) x i = x i := rfl

/-- What a block of rows adds to the gain's gradient. -/
theorem dgain_apply (x t : Vec Ideal S512x1024 .f32) (g : Vec Ideal S1x1024 .f32) (d : Fin 1024) :
    k0_pay2 (F := Ideal) (k0_pay11 x g t) (ix2 0 d) = (∑ r : Fin 512,
      err (fun k => x (ix2 r k)) (fun k => g (ix2 0 k)) (fun k => t (ix2 r k)) d * Ideal.ofBits .f32 0x3A800000#32
        * (x (ix2 r d) * Cert.Norm.rstd (fun k => x (ix2 r k))) : EReal) := by
  simp only [← diff_apply]
  unfold Cert.Norm.rstd k0_pay11 k0_pay7
  generalize k0_pay6 (F := Ideal) x g t = e
  pointwise [k0_pay2, k0_pay9, k0_pay8]
theorem dgain_next_apply (e : FVec Ideal S512x1024 .f32) (o : Vec Ideal S1x1024 .f32) (d : Fin 1024) :
    k0_pay4 (F := Ideal) e o (ix2 0 d) = (o (ix2 0 d) + k0_pay2 (F := Ideal) e (ix2 0 d) : EReal) := by
  pointwise [k0_pay4, k0_pay2]

/-- What a block of rows adds to the loss, in every lane. -/
theorem loss_apply (x t : Vec Ideal S512x1024 .f32) (g : Vec Ideal S1x1024 .f32) (l : Fin 128) :
    k0_pay3 (F := Ideal) (k0_pay6 x g t) (ix2 0 l) = (Ideal.ofBits .f32 0x3F000000#32 * (∑ r : Fin 512, ∑ k : Fin 1024,
      err (fun k => x (ix2 r k)) (fun k => g (ix2 0 k)) (fun k => t (ix2 r k)) k
        * err (fun k => x (ix2 r k)) (fun k => g (ix2 0 k)) (fun k => t (ix2 r k)) k) * Ideal.ofBits .f32 0x3A800000#32 : EReal) := by
  simp only [← diff_apply]
  generalize k0_pay6 (F := Ideal) x g t = e
  pointwise [k0_pay3]
theorem loss_next_apply (e : FVec Ideal S512x1024 .f32) (o : Vec Ideal S1x128 .f32) (l : Fin 128) :
    k0_pay5 (F := Ideal) e o (ix2 0 l) = (o (ix2 0 l) + k0_pay3 (F := Ideal) e (ix2 0 l) : EReal) := by
  unfold k0_pay5
  generalize k0_pay3 (F := Ideal) e = z
  pointwise

variable (m : (ℓ : Loc nD τ sig) → Buf (Elt Ideal) ℓ)

/-- The arguments: the rows, the target and the gain. -/
abbrev xArr (c : Dev nD) : Vec Ideal S16384x1024 .f32 := V m c main_arg0
abbrev tArr (c : Dev nD) : Vec Ideal S16384x1024 .f32 := V m c main_arg1
abbrev gArr (c : Dev nD) : Vec Ideal S1x1024 .f32 := V m c main_arg2

/-- Where the windows stand at point `t`. -/
theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = 0 ∧ win0_2.index t 1 = 0 := by decide +kernel
theorem index3 : ∀ t : Fin grid0.N, win0_3.index t 0 = t.val ∧ win0_3.index t 1 = 0 := by decide +kernel
theorem index4 : ∀ t : Fin grid0.N, win0_4.index t 0 = t.val ∧ win0_4.index t 1 = 0 := by decide +kernel
theorem index5 : ∀ t : Fin grid0.N, win0_5.index t 0 = 0 ∧ win0_5.index t 1 = 0 := by decide +kernel
theorem index6 : ∀ t : Fin grid0.N, win0_6.index t 0 = 0 ∧ win0_6.index t 1 = 0 := by decide +kernel

/-- The blocks that point `t` reads, at an index. -/
theorem block_x (c : Dev nD) (t : Fin cfg0.N) (k : Fin 512) (d : Fin 1024) (r : Fin 16384)
    (hr : r.val = 512 * t.val + k.val) : iblk m c 0 t (ix2 k d) = V m c main_arg0 (ix2 r d) := by
  have hi := index0 t
  unfold iblk
  rw [View.read_apply]
  refine congrArg (V m c main_arg0) ?_
  funext a
  apply Fin.ext
  match a with
  | ⟨0, _⟩ => show win0_0.index t 0 * 512 + 1 * k.val = r.val; omega
  | ⟨1, _⟩ => show win0_0.index t 1 * 1024 + 1 * d.val = d.val; omega
theorem block_t (c : Dev nD) (t : Fin cfg0.N) (k : Fin 512) (d : Fin 1024) (r : Fin 16384)
    (hr : r.val = 512 * t.val + k.val) : iblk m c 1 t (ix2 k d) = V m c main_arg1 (ix2 r d) := by
  have hi := index1 t
  unfold iblk
  rw [View.read_apply]
  refine congrArg (V m c main_arg1) ?_
  funext a
  apply Fin.ext
  match a with
  | ⟨0, _⟩ => show win0_1.index t 0 * 512 + 1 * k.val = r.val; omega
  | ⟨1, _⟩ => show win0_1.index t 1 * 1024 + 1 * d.val = d.val; omega
theorem block_g (c : Dev nD) (t : Fin cfg0.N) (d : Fin 1024) : iblk m c 2 t (ix2 0 d) = V m c main_arg2 (ix2 0 d) := by
  have hi := index2 t
  unfold iblk
  rw [View.read_apply]
  refine congrArg (V m c main_arg2) ?_
  funext a
  apply Fin.ext
  match a with
  | ⟨0, _⟩ => show win0_2.index t 0 * 1 + 1 * 0 = 0; omega
  | ⟨1, _⟩ => show win0_2.index t 1 * 1024 + 1 * d.val = d.val; omega

/-- The difference from the target at an index of the whole. -/
def errAt (c : Dev nD) (r : Fin 16384) (d : Fin 1024) : EReal :=
  err (fun k => xArr m c (ix2 r k)) (fun k => gArr m c (ix2 0 k)) (fun k => tArr m c (ix2 r k)) d

/-- What point `n` adds to the gain's gradient, and to the loss (nothing past the grid). -/
def gainAdd (c : Dev nD) (n : ℕ) (d : Fin 1024) : EReal :=
  if h : n < cfg0.N then k0_pay2 (F := Ideal) (k0_pay11 (iblk m c 0 ⟨n, h⟩) (iblk m c 2 ⟨n, h⟩) (iblk m c 1 ⟨n, h⟩)) (ix2 0 d) else 0
def lossAdd (c : Dev nD) (n : ℕ) (l : Fin 128) : EReal :=
  if h : n < cfg0.N then k0_pay3 (F := Ideal) (k0_pay6 (iblk m c 0 ⟨n, h⟩) (iblk m c 2 ⟨n, h⟩) (iblk m c 1 ⟨n, h⟩)) (ix2 0 l) else 0

set_option maxHeartbeats 4000000 in
/-- What every point leaves: the rows' gradient twice, and the sums of what the points so far add. -/
theorem outs (c : Dev nD) : ∀ (n : ℕ) (h : n < cfg0.N),
    (outsAt0 m c n h).1 = k0_pay10 (F := Ideal) (iblk m c 0 ⟨n, h⟩) (iblk m c 2 ⟨n, h⟩) (iblk m c 1 ⟨n, h⟩)
    ∧ (outsAt0 m c n h).2.1 = k0_pay1 (F := Ideal) (k0_pay10 (iblk m c 0 ⟨n, h⟩) (iblk m c 2 ⟨n, h⟩) (iblk m c 1 ⟨n, h⟩))
    ∧ (∀ d : Fin 1024, (outsAt0 m c n h).2.2.1 (ix2 0 d) = ∑ s ∈ Finset.range (n + 1), gainAdd m c s d)
    ∧ (∀ l : Fin 128, (outsAt0 m c n h).2.2.2 (ix2 0 l) = ∑ s ∈ Finset.range (n + 1), lossAdd m c s l)
  | 0, h => by
    rw [outsAt0_A m c ⟨0, h⟩ (Nat.zero_mod _) (by dsimp only; omega)]
    dsimp only
    rw [dx_first, dxb_first, dgain_first, loss_first]
    refine ⟨rfl, rfl, fun d => ?_, fun l => ?_⟩
    · rw [Finset.sum_range_one]
      unfold gainAdd
      rw [dif_pos h]
    · rw [Finset.sum_range_one]
      unfold lossAdd
      rw [dif_pos h]
  | n + 1, h => by
    have hN : cfg0.N = 32 := N_0
    obtain ⟨-, -, i3, i4⟩ := outs c n (by omega)
    rw [outsAt0_B m c ⟨n + 1, h⟩ (by dsimp only; omega) (by dsimp only; omega)]
    dsimp only
    rw [dx_later, dxb_later, dgain_later, loss_later]
    simp only [Nat.add_sub_cancel]
    refine ⟨trivial, trivial, fun d => ?_, fun l => ?_⟩
    · rw [dgain_next_apply, i3 d]
      refine (congrArg _ ?_).trans (Finset.sum_range_succ (fun s => gainAdd m c s d) (n + 1)).symm
      unfold gainAdd
      rw [dif_pos h]
    · rw [loss_next_apply, i4 l]
      refine (congrArg _ ?_).trans (Finset.sum_range_succ (fun s => lossAdd m c s l) (n + 1)).symm
      unfold lossAdd
      rw [dif_pos h]

/-- The grid point that holds row `r`. -/
abbrev pt (r : Fin 16384) : Fin cfg0.N := ⟨r.val / 512, by have hN : cfg0.N = 32 := N_0; omega⟩

/-- The rows' gradient at an index. -/
theorem dx_result (c : Dev nD) (r : Fin 16384) (d : Fin 1024) : (dats m 0 c).arrAt 3 cfg0.N (ix2 r d)
    = Cert.Norm.back (fun k => xArr m c (ix2 r k)) (fun k => gArr m c (ix2 0 k) * (errAt m c r k * Ideal.ofBits .f32 0x3A800000#32)) d := by
  have hi := index3 (pt r)
  have e : ((cfg0.win 3).blk (pt r)).view.emb (ix2 (⟨r.val % 512, by omega⟩ : Fin 512) d) = ix2 r d := by
    funext a
    apply Fin.ext
    match a with
    | ⟨0, _⟩ => show win0_3.index (pt r) 0 * 512 + 1 * (r.val % 512) = r.val; rw [hi.1]; show r.val / 512 * 512 + _ = _; omega
    | ⟨1, _⟩ => show win0_3.index (pt r) 1 * 1024 + 1 * d.val = d.val; omega
  have h := (dats m 0 c).arrAt_emb_eq_flushed 3 disjoint3 (pt r) (flush0_3 (pt r)) (ix2 (⟨r.val % 512, by omega⟩ : Fin 512) d)
  rw [e] at h
  refine h.trans ?_
  show (dats m 0 c).flushed 3 (pt r) (ix2 (⟨r.val % 512, by omega⟩ : Fin 512) d) = _
  rw [flushed3]
  show (outsAt0 m c (pt r).val (pt r).isLt).1 (ix2 (⟨r.val % 512, by omega⟩ : Fin 512) d) = _
  have hr : r.val = 512 * (pt r).val + (⟨r.val % 512, by omega⟩ : Fin 512).val := by dsimp only; omega
  unfold errAt
  rw [(outs m c _ _).1, dx_apply]
  simp only [block_x m c _ _ _ r hr, block_t m c _ _ _ r hr, block_g]

/-- The rows' gradient at an index, the copy in the narrower format. -/
theorem dxb_result (c : Dev nD) (r : Fin 16384) (d : Fin 1024) : (dats m 0 c).arrAt 4 cfg0.N (ix2 r d)
    = Cert.Norm.back (fun k => xArr m c (ix2 r k)) (fun k => gArr m c (ix2 0 k) * (errAt m c r k * Ideal.ofBits .f32 0x3A800000#32)) d := by
  have hi := index4 (pt r)
  have e : ((cfg0.win 4).blk (pt r)).view.emb (ix2 (⟨r.val % 512, by omega⟩ : Fin 512) d) = ix2 r d := by
    funext a
    apply Fin.ext
    match a with
    | ⟨0, _⟩ => show win0_4.index (pt r) 0 * 512 + 1 * (r.val % 512) = r.val; rw [hi.1]; show r.val / 512 * 512 + _ = _; omega
    | ⟨1, _⟩ => show win0_4.index (pt r) 1 * 1024 + 1 * d.val = d.val; omega
  have h := (dats m 0 c).arrAt_emb_eq_flushed 4 disjoint4 (pt r) (flush0_4 (pt r)) (ix2 (⟨r.val % 512, by omega⟩ : Fin 512) d)
  rw [e] at h
  refine h.trans ?_
  show (dats m 0 c).flushed 4 (pt r) (ix2 (⟨r.val % 512, by omega⟩ : Fin 512) d) = _
  rw [flushed4]
  show (outsAt0 m c (pt r).val (pt r).isLt).2.1 (ix2 (⟨r.val % 512, by omega⟩ : Fin 512) d) = _
  have hr : r.val = 512 * (pt r).val + (⟨r.val % 512, by omega⟩ : Fin 512).val := by dsimp only; omega
  unfold errAt
  rw [(outs m c _ _).2.1, dxb_apply, dx_apply]
  simp only [block_x m c _ _ _ r hr, block_t m c _ _ _ r hr, block_g]

/-- The arguments as they come. -/
theorem x_eq (c : Dev nD) : xArr m c = m (c.tc.loc main_arg0) := by
  unfold xArr V
  after_reads_simp
theorem t_eq (c : Dev nD) : tArr m c = m (c.tc.loc main_arg1) := by
  unfold tArr V
  after_reads_simp
theorem g_eq (c : Dev nD) : gArr m c = m (c.tc.loc main_arg2) := by
  unfold gArr V
  after_reads_simp

end Cert.Kernel20Ideal.Hand
-- ==== Proof.LossFold.lean ====
/-
  The loss head: the gain's gradient and the loss, which its points add up, at an index, over the arguments.
-/
module

public import proofs.«01_k».proof.Proof.LossKernel

@[expose] public section

set_option maxRecDepth 16384

noncomputable section

open Idealize.ShloMosaic Idealize.ShloMosaic.TcCoe Idealize.SL.Sem
open Idealize.ShloMosaic.Pipeline (Dat)

namespace Cert.Kernel20Ideal.Hand

open Cert.Kernel20Ideal Cert.Kernel20Ideal.Gen Cert.Kernel20Ideal.Value

variable (m : (ℓ : Loc nD τ sig) → Buf (Elt Ideal) ℓ)

/-- A row's part of the gain's gradient, and a row's sum of the squared differences. -/
def gainRow (c : Dev nD) (r : Fin 16384) (d : Fin 1024) : EReal :=
  errAt m c r d * Ideal.ofBits .f32 0x3A800000#32 * (xArr m c (ix2 r d) * Cert.Norm.rstd (fun k => xArr m c (ix2 r k)))
def errRow (c : Dev nD) (r : Fin 16384) : EReal := ∑ d : Fin 1024, errAt m c r d * errAt m c r d

/-- What a point adds to the gain's gradient: the parts of its rows. -/
theorem gainAdd_eq (c : Dev nD) (s : Fin 32) (d : Fin 1024) :
    gainAdd m c s.val d = ∑ k : Fin 512, gainRow m c ⟨512 * s.val + k.val, by omega⟩ d := by
  have hN : cfg0.N = 32 := N_0
  have hs : s.val < cfg0.N := by omega
  unfold gainAdd
  rw [dif_pos hs, dgain_apply]
  refine Finset.sum_congr rfl fun k _ => ?_
  have hr : (⟨512 * s.val + k.val, by omega⟩ : Fin 16384).val = 512 * (⟨s.val, hs⟩ : Fin cfg0.N).val + k.val := rfl
  generalize (⟨512 * s.val + k.val, by omega⟩ : Fin 16384) = r at hr ⊢
  unfold gainRow errAt
  simp only [block_x m c _ k _ r hr, block_t m c _ k _ r hr, block_g]

/-- What a point adds to the loss. -/
theorem lossAdd_eq (c : Dev nD) (s : Fin 32) (l : Fin 128) : lossAdd m c s.val l = (Ideal.ofBits .f32 0x3F000000#32
    * (∑ k : Fin 512, errRow m c ⟨512 * s.val + k.val, by omega⟩) * Ideal.ofBits .f32 0x3A800000#32 : EReal) := by
  have hN : cfg0.N = 32 := N_0
  have hs : s.val < cfg0.N := by omega
  unfold lossAdd
  rw [dif_pos hs, loss_apply]
  refine congrArg (fun z : EReal => Ideal.ofBits .f32 0x3F000000#32 * z * Ideal.ofBits .f32 0x3A800000#32) ?_
  refine Finset.sum_congr rfl fun k _ => ?_
  have hr : (⟨512 * s.val + k.val, by omega⟩ : Fin 16384).val = 512 * (⟨s.val, hs⟩ : Fin cfg0.N).val + k.val := rfl
  generalize (⟨512 * s.val + k.val, by omega⟩ : Fin 16384) = r at hr ⊢
  unfold errRow errAt
  refine Finset.sum_congr rfl fun d _ => ?_
  simp only [block_x m c _ k _ r hr, block_t m c _ k _ r hr, block_g]

/-- The last point. -/
abbrev last : Fin cfg0.N := ⟨31, by have hN : cfg0.N = 32 := N_0; omega⟩

/-- Only the last point writes the gain's gradient back. -/
theorem disjoint5 : ∀ t t' : Fin cfg0.N, (cfg0.win 5).flush t = true → (cfg0.win 5).flush t' = true → t ≠ t' →
    Disjoint ((cfg0.win 5).blk t).view.set ((cfg0.win 5).blk t').view.set := fun t t' h h' hne => by
  have hN : cfg0.N = 32 := N_0
  have e := (flush0_5 t).mp h
  have e' := (flush0_5 t').mp h'
  exact absurd (Fin.ext (by have := t.isLt; have := t'.isLt; omega)) hne
theorem emb5 (d : Fin 1024) : ((cfg0.win 5).blk last).view.emb (ix2 (0 : Fin 1) d) = ix2 0 d := by
  have hi := index5 last
  funext a
  apply Fin.ext
  match a with
  | ⟨0, _⟩ => show win0_5.index last 0 * 1 + 1 * 0 = 0; omega
  | ⟨1, _⟩ => show win0_5.index last 1 * 1024 + 1 * d.val = d.val; omega

/-- The gain's gradient at an index: the sum of what the points add. -/
theorem dgain_last (c : Dev nD) (d : Fin 1024) : (dats m 0 c).arrAt 5 cfg0.N (ix2 0 d)
    = (∑ s ∈ Finset.range 32, gainAdd m c s d : EReal) := by
  have h := (dats m 0 c).arrAt_emb_eq_flushed 5 disjoint5 last ((flush0_5 last).mpr (by rfl)) (ix2 (0 : Fin 1) d)
  rw [emb5] at h
  refine h.trans ?_
  show (dats m 0 c).flushed 5 last (ix2 (0 : Fin 1) d) = _
  rw [flushed5]
  exact (outs m c 31 last.isLt).2.2.1 d

/-- Only the last point writes the loss back. -/
theorem disjoint6 : ∀ t t' : Fin cfg0.N, (cfg0.win 6).flush t = true → (cfg0.win 6).flush t' = true → t ≠ t' →
    Disjoint ((cfg0.win 6).blk t).view.set ((cfg0.win 6).blk t').view.set := fun t t' h h' hne => by
  have hN : cfg0.N = 32 := N_0
  have e := (flush0_6 t).mp h
  have e' := (flush0_6 t').mp h'
  exact absurd (Fin.ext (by have := t.isLt; have := t'.isLt; omega)) hne
theorem emb6 (l : Fin 128) : ((cfg0.win 6).blk last).view.emb (ix2 (0 : Fin 1) l) = ix2 0 l := by
  have hi := index6 last
  funext a
  apply Fin.ext
  match a with
  | ⟨0, _⟩ => show win0_6.index last 0 * 1 + 1 * 0 = 0; omega
  | ⟨1, _⟩ => show win0_6.index last 1 * 128 + 1 * l.val = l.val; omega

/-- The loss, in any lane, at an index: the sum of what the points add. -/
theorem loss_last (c : Dev nD) (l : Fin 128) : (dats m 0 c).arrAt 6 cfg0.N (ix2 0 l)
    = (∑ s ∈ Finset.range 32, lossAdd m c s l : EReal) := by
  have h := (dats m 0 c).arrAt_emb_eq_flushed 6 disjoint6 last ((flush0_6 last).mpr (by rfl)) (ix2 (0 : Fin 1) l)
  rw [emb6] at h
  refine h.trans ?_
  show (dats m 0 c).flushed 6 last (ix2 (0 : Fin 1) l) = _
  rw [flushed6]
  exact (outs m c 31 last.isLt).2.2.2 l

/-- The sums over the points, as sums over the rows. -/
theorem gain_sum (c : Dev nD) (d : Fin 1024) :
    (∑ s ∈ Finset.range 32, gainAdd m c s d) = ∑ r : Fin 16384, gainRow m c r d := by
  rw [Finset.sum_range, Cert.Sums.sum_blocks 32 512 rfl]
  exact Finset.sum_congr rfl fun s _ => gainAdd_eq m c s d
theorem loss_parts (c : Dev nD) (l : Fin 128) : (∑ s ∈ Finset.range 32, lossAdd m c s l)
    = (∑ s : Fin 32, Ideal.ofBits .f32 0x3F000000#32 * (∑ k : Fin 512, errRow m c ⟨512 * s.val + k.val, by omega⟩)
        * Ideal.ofBits .f32 0x3A800000#32 : EReal) := by
  rw [Finset.sum_range]
  exact Finset.sum_congr rfl fun s _ => lossAdd_eq m c s l

/-- The gain's gradient at an index: one sum over all the rows. -/
theorem dgain_result (c : Dev nD) (d : Fin 1024) : (dats m 0 c).arrAt 5 cfg0.N (ix2 0 d) = (∑ r : Fin 16384, gainRow m c r d : EReal) :=
  (dgain_last m c d).trans (gain_sum m c d)

/-- The loss, in any lane. -/
theorem loss_result (c : Dev nD) (l : Fin 128) : (dats m 0 c).arrAt 6 cfg0.N (ix2 0 l)
    = (∑ s : Fin 32, Ideal.ofBits .f32 0x3F000000#32 * (∑ k : Fin 512, errRow m c ⟨512 * s.val + k.val, by omega⟩)
        * Ideal.ofBits .f32 0x3A800000#32 : EReal) :=
  (loss_last m c l).trans (loss_parts m c l)

end Cert.Kernel20Ideal.Hand
-- ==== Proof.LossRef.lean ====
/-
  The loss head: the reference's results at an index. The derivative doubles the difference and scales it by a half over the
  width, which is the reciprocal of the width; the norm's backward step is written as the derivative's terms.
-/
module

public import proofs.«01_k».proof.Proof.LossKernel
public import proofs.«01_k».proof.Proof.Gen.Reference20Ideal.Read
public import Idealize.ShloMosaic.Lib.Pipeline.ValueKit.Acc

@[expose] public section

set_option maxRecDepth 16384

noncomputable section

open Idealize.ShloMosaic Idealize.ShloMosaic.TcCoe Idealize.SL.Sem

namespace Cert.Reference20Ideal.Hand

open Cert.Reference20Ideal Cert.Reference20Ideal.Read Cert.Norm
open Cert.Kernel20Ideal.Hand (err)

/-- The words of two and of the reciprocal of the width. -/
theorem two : Ideal.ofBits .f32 0x40000000#32 = ((2 : ℝ) : EReal) := by
  simp [Ideal.ofBits, Ideal.ieee, -EReal.coe_mul]
  norm_num
theorem inv_width : Ideal.ofBits .f32 0x3A800000#32 = ((1 / 1024 : ℝ) : EReal) := by
  simp [Ideal.ofBits, Ideal.ieee, -EReal.coe_mul]
  norm_num

/-- The two ways of scaling a difference. -/
theorem scale (e : EReal) : (Ideal.div (Ideal.ofBits .f32 0x3F000000#32 * Ideal.ofBits .f32 0x3F800000#32) (Ideal.ofBits .f32 0x44800000#32)
    * (Ideal.ofBits .f32 0x40000000#32 * e) : EReal) = e * Ideal.ofBits .f32 0x3A800000#32 := by
  rw [half, one, thousand, two, inv_width, ← EReal.coe_mul, div_real _ (by norm_num), ← mul_assoc, ← EReal.coe_mul, mul_comm]
  congr 2
  norm_num

variable (x0 x1 : Vec Ideal S16384x1024 .f32) (x2 : Vec Ideal S1x1024 .f32)

/-- A row's difference from the target. -/
abbrev errOf (r : Fin 16384) (d : Fin 1024) : EReal :=
  err (fun k => x0 (ix2 r k)) (fun k => x2 (ix2 0 k)) (fun k => x1 (ix2 r k)) d

theorem diff_ref_apply (r : Fin 16384) (d : Fin 1024) : val_main_v15 (F := Ideal) x0 x1 x2 (ix2 r d) = errOf x0 x1 x2 r d := by
  unfold errOf err rstd
  pointwise [val_main_v15, val_main_v14, val_main_v13, val_main_v12, val_main_v11, val_main_v7, val_main_v6, val_main_v5, val_main_v4,
    val_main_v3, val_main_v2, val_main_v1, val_main_v0, val_main_cst, val_main_cst_0, val_main_cst_1]

/-- The cotangent of the norm's output. -/
theorem ct_ref_apply (r : Fin 16384) (d : Fin 1024) : val_main_v29 (F := Ideal) x0 x1 x2 (ix2 r d)
    = (errOf x0 x1 x2 r d * Ideal.ofBits .f32 0x3A800000#32 : EReal) := by
  rw [← scale, ← diff_ref_apply]
  unfold val_main_v29 val_main_v18
  generalize val_main_v15 (F := Ideal) x0 x1 x2 = e
  pointwise [val_main_v28, val_main_v27, val_main_v26, val_main_v25, val_main_v24, val_main_v17, val_main_cst_3, val_main_cst_8,
    val_main_cst_9, val_main_cst_10]

/-- The cotangent of a row's mean of squares, divided by the row's length. -/
def squares (x y : Fin 1024 → EReal) : EReal :=
  Ideal.div ((∑ k, x k * y k) * (Ideal.ofBits .f32 0xBF000000#32
    * Ideal.div (rstd x) (Ideal.div (∑ k, x k * x k) (Ideal.ofBits .f32 0x44800000#32) + Ideal.ofBits .f32 0x358637BD#32)))
    (Ideal.ofBits .f32 0x44800000#32)

/-- The rows' gradient, at an index. -/
theorem dx_ref_apply (r : Fin 16384) (d : Fin 1024) : val_main_v48 (F := Ideal) x0 x1 x2 (ix2 r d)
    = ((val_main_v29 (F := Ideal) x0 x1 x2 (ix2 r d) * x2 (ix2 0 d)) * rstd (fun k => x0 (ix2 r k))
      + x0 (ix2 r d) * squares (fun k => x0 (ix2 r k)) (fun k => val_main_v29 (F := Ideal) x0 x1 x2 (ix2 r k) * x2 (ix2 0 k))
      + squares (fun k => x0 (ix2 r k)) (fun k => val_main_v29 (F := Ideal) x0 x1 x2 (ix2 r k) * x2 (ix2 0 k)) * x0 (ix2 r d) : EReal) := by
  unfold val_main_v48 val_main_v47 val_main_v46 val_main_v45 val_main_v44 val_main_v43 val_main_v42 val_main_v40 val_main_v39
    val_main_v37 val_main_v36 val_main_v35 val_main_v34 squares rstd
  generalize val_main_v29 (F := Ideal) x0 x1 x2 = h
  pointwise [val_main_v41, val_main_v38, val_main_v33, val_main_v10, val_main_v9, val_main_v8, val_main_v7, val_main_v6, val_main_v5,
    val_main_v4, val_main_v3, val_main_v2, val_main_v1, val_main_v0, val_main_cst, val_main_cst_0, val_main_cst_1, val_main_cst_2,
    val_main_cst_12, val_main_cst_13, val_main_cst_14]
  simp only [Finset.univ_unique, Finset.sum_singleton]

/-- The gain's gradient, at an index. -/
theorem dgain_ref_apply (d : Fin 1024) : val_main_v32 (F := Ideal) x0 x1 x2 (ix2 0 d)
    = (∑ r : Fin 16384, (x0 (ix2 r d) * rstd (fun k => x0 (ix2 r k))) * val_main_v29 (F := Ideal) x0 x1 x2 (ix2 r d) : EReal) := by
  unfold val_main_v32 val_main_v31 val_main_v30 rstd
  generalize val_main_v29 (F := Ideal) x0 x1 x2 = h
  pointwise [val_main_v12, val_main_v11, val_main_v7, val_main_v6, val_main_v5, val_main_v4, val_main_v3, val_main_v2, val_main_v1,
    val_main_v0, val_main_cst, val_main_cst_0, val_main_cst_1, val_main_cst_11]

/-- A row's mean of the squared differences. -/
theorem mean_ref_apply (r : Fin 16384) : val_main_v21 (F := Ideal) x0 x1 x2 (ix1 r)
    = Ideal.div (∑ d : Fin 1024, errOf x0 x1 x2 r d * errOf x0 x1 x2 r d) (Ideal.ofBits .f32 0x44800000#32) := by
  simp only [← diff_ref_apply]
  unfold val_main_v21 val_main_v19 val_main_v16
  generalize val_main_v15 (F := Ideal) x0 x1 x2 = e
  pointwise [val_main_v20, val_main_cst_4, val_main_cst_5]

/-- The loss, in any lane. -/
theorem loss_ref_apply (l : Fin 128) : val_main_v50 (F := Ideal) x0 x1 x2 (ix2 0 l) = (Ideal.ofBits .f32 0x3F000000#32
    * ∑ r : Fin 16384, Ideal.div (∑ d : Fin 1024, errOf x0 x1 x2 r d * errOf x0 x1 x2 r d) (Ideal.ofBits .f32 0x44800000#32) : EReal) := by
  rw [val_main_v50_apply, val_main_v23_apply, val_main_v22_apply]
  have e : (∑ j : S16384.Idx, val_main_v21 (F := Ideal) x0 x1 x2 j : EReal)
      = ∑ r : Fin 16384, Ideal.div (∑ d : Fin 1024, errOf x0 x1 x2 r d * errOf x0 x1 x2 r d) (Ideal.ofBits .f32 0x44800000#32) := by
    refine (sum_idx1 fun j : S16384.Idx => (val_main_v21 (F := Ideal) x0 x1 x2 j : EReal)).trans ?_
    exact Finset.sum_congr rfl fun r _ => mean_ref_apply x0 x1 x2 r
  rw [e]
  have z : Ideal.ofBits .f32 0x00000000#32 = 0 := by simp [Ideal.ofBits, Ideal.ieee]
  show (Ideal.ofBits .f32 0x3F000000#32 * (Ideal.ofBits .f32 0x00000000#32 + _) : EReal) = _
  rw [z, zero_add]

/-- The sums of the points' parts of the loss are the loss. -/
theorem loss_sum (f : Fin 16384 → EReal) : (∑ s : Fin 32, Ideal.ofBits .f32 0x3F000000#32 * (∑ k : Fin 512, f ⟨512 * s.val + k.val, by omega⟩)
      * Ideal.ofBits .f32 0x3A800000#32 : EReal)
    = Ideal.ofBits .f32 0x3F000000#32 * ∑ r : Fin 16384, Ideal.div (f r) (Ideal.ofBits .f32 0x44800000#32) := by
  have hd : ∀ a : EReal, Ideal.div a (Ideal.ofBits .f32 0x44800000#32) = ((1 / 1024 : ℝ) : EReal) * a := fun a => by
    rw [thousand, Ideal.div_coe (by norm_num), mul_comm]
  simp only [hd]
  rw [Cert.Sums.sum_blocks 32 512 rfl, half, inv_width, Cert.Sums.mul_sum_real _ _ (by norm_num)]
  refine Finset.sum_congr rfl fun s _ => ?_
  rw [← Cert.Sums.mul_sum_real _ _ (by norm_num), mul_assoc]
  exact congrArg _ (mul_comm _ _)

section Real

variable (h0 : ∀ i, IsReal (x0 i)) (h1 : ∀ i, IsReal (x1 i)) (h2 : ∀ i, IsReal (x2 i))

include h0 h1 h2 in
theorem isReal_ct (r : Fin 16384) (d : Fin 1024) : IsReal (val_main_v29 (F := Ideal) x0 x1 x2 (ix2 r d)) := by
  rw [ct_ref_apply]
  exact ((((h0 _).mul (isReal_rstd fun k => h0 _)).mul (h2 _)).sub (h1 _)).mul ⟨_, inv_width⟩

include h0 h1 h2 in
/-- The rows' gradient, at an index, on real arguments: the norm's backward step. -/
theorem dx_ref_real (r : Fin 16384) (d : Fin 1024) : val_main_v48 (F := Ideal) x0 x1 x2 (ix2 r d)
    = back (fun k => x0 (ix2 r k)) (fun k => x2 (ix2 0 k) * (errOf x0 x1 x2 r k * Ideal.ofBits .f32 0x3A800000#32)) d := by
  have h := back_eq (fun k => x0 (ix2 r k))
    (fun k => val_main_v29 (F := Ideal) x0 x1 x2 (ix2 r k) * x2 (ix2 0 k)) (fun k => h0 _)
    (fun k => (isReal_ct x0 x1 x2 h0 h1 h2 r k).mul (h2 _)) 0 ⟨0, rfl⟩ d _ rfl _ rfl
  rw [zero_add, zero_add] at h
  refine ((dx_ref_apply x0 x1 x2 r d).trans h).trans ?_
  refine congrArg (fun y => back (fun k => x0 (ix2 r k)) y d) (funext fun k => ?_)
  rw [ct_ref_apply]
  exact mul_comm (G := EReal) _ _

end Real

end Cert.Reference20Ideal.Hand
-- ==== Proof.LossEq.lean ====
/-
  The loss head: the kernel and the reference end with equal results when the arguments are real numbers. The kernel
  scales the difference by the reciprocal of the width where the derivative doubles a half of it over the width; the norm's
  backward step is one formula in the kernel and the derivative's terms in the reference.
-/
module

public import proofs.«01_k».proof.Proof.LossFold
public import proofs.«01_k».proof.Proof.LossRef
public import proofs.«01_k».proof.Proof.Gen.Pre_finite_loss
public import Idealize.ShloMosaic.Lib.ReduceAll
public import proofs.«01_k».proof.Defs

@[expose] public section

set_option maxRecDepth 16384

noncomputable section

open Idealize.ShloMosaic Idealize.ShloMosaic.TcCoe Idealize.SL.Sem

namespace Cert.Kernel20Ideal.Hand

open Cert.Kernel20Ideal Cert.Kernel20Ideal.Gen Cert.Kernel20Ideal.Value

/-- What the precondition says: every element of every argument is a real number. -/
theorem finite_args (x0 x1 : FVec Ideal S16384x1024 .f32) (x2 : FVec Ideal S1x1024 .f32)
    (h : Cert.Pre_finite_loss.fn (F := Ideal) x0 x1 x2 = fun _ => 1#1) :
    (∀ i, Cert.Norm.IsReal (x0 i)) ∧ (∀ i, Cert.Norm.IsReal (x1 i)) ∧ (∀ i, Cert.Norm.IsReal (x2 i)) := by
  have hsub : Subsingleton Cert.Pre_finite_loss.S_.Idx := ⟨fun a b => funext fun i => i.elim0⟩
  have e := congrFun h (fun a => a.elim0)
  unfold Cert.Pre_finite_loss.fn at e
  dsimp only at e
  obtain ⟨e, e2⟩ := IntOp.andi_eq_one.mp e
  obtain ⟨e0, e1⟩ := IntOp.andi_eq_one.mp e
  exact ⟨fun i => Cert.Norm.isReal_of_finite _ (Host.reduce_andi_all _ _ _ _ _ e0 i),
    fun i => Cert.Norm.isReal_of_finite _ (Host.reduce_andi_all _ _ _ _ _ e1 i),
    fun i => Cert.Norm.isReal_of_finite _ (Host.reduce_andi_all _ _ _ _ _ e2 i)⟩

variable (m : (ℓ : Loc nD τ sig) → Buf (Elt Ideal) ℓ)

theorem errAt_eq (c : Dev nD) (r : Fin 16384) (d : Fin 1024) : errAt m c r d
    = Cert.Reference20Ideal.Hand.errOf (m (c.tc.loc main_arg0)) (m (c.tc.loc main_arg1)) (m (c.tc.loc main_arg2)) r d := by
  unfold errAt
  rw [x_eq, t_eq, g_eq]

/-- The rows' gradient, at an index, on real arguments. -/
theorem dx_eq (c : Dev nD) (hm : Cert.Pre_Kernel20Ideal_finite_loss m) (r : Fin 16384) (d : Fin 1024) :
    Cert.Norm.back (fun k => xArr m c (ix2 r k)) (fun k => gArr m c (ix2 0 k) * (errAt m c r k * Ideal.ofBits .f32 0x3A800000#32)) d
      = Cert.Reference20Ideal.Read.val_main_v48 (F := Ideal) (m (c.tc.loc main_arg0)) (m (c.tc.loc main_arg1)) (m (c.tc.loc main_arg2)) (ix2 r d) := by
  obtain ⟨h0, h1, h2⟩ := finite_args _ _ _ (hm c)
  refine Eq.trans ?_ (Cert.Reference20Ideal.Hand.dx_ref_real _ _ _ h0 h1 h2 r d).symm
  simp only [errAt_eq]

/-- The gain's gradient, at an index. -/
theorem dgain_eq (c : Dev nD) (d : Fin 1024) : (∑ r : Fin 16384, gainRow m c r d : EReal)
    = Cert.Reference20Ideal.Read.val_main_v32 (F := Ideal) (m (c.tc.loc main_arg0)) (m (c.tc.loc main_arg1)) (m (c.tc.loc main_arg2)) (ix2 0 d) := by
  refine Eq.trans ?_ (Cert.Reference20Ideal.Hand.dgain_ref_apply _ _ _ d).symm
  refine Finset.sum_congr rfl fun r _ => ?_
  unfold gainRow
  rw [Cert.Reference20Ideal.Hand.ct_ref_apply, errAt_eq, x_eq]
  exact mul_comm (G := EReal) _ _

theorem result3_eq (c : Dev nD) (hm : Cert.Pre_Kernel20Ideal_finite_loss m) : (dats m 0 c).arrAt 3 cfg0.N
    = Cert.Reference20Ideal.Read.val_main_v48 (F := Ideal) (m (c.tc.loc main_arg0)) (m (c.tc.loc main_arg1)) (m (c.tc.loc main_arg2)) := by
  funext i
  obtain ⟨r, d, rfl⟩ : ∃ (r : Fin 16384) (d : Fin 1024), i = ix2 r d := ⟨i 0, i 1, eq_ix2 i⟩
  exact (dx_result m c r d).trans (dx_eq m c hm r d)
theorem result4_eq (c : Dev nD) (hm : Cert.Pre_Kernel20Ideal_finite_loss m) : (dats m 0 c).arrAt 4 cfg0.N
    = Cert.Reference20Ideal.Read.val_main_v49 (F := Ideal) (m (c.tc.loc main_arg0)) (m (c.tc.loc main_arg1)) (m (c.tc.loc main_arg2)) := by
  funext i
  obtain ⟨r, d, rfl⟩ : ∃ (r : Fin 16384) (d : Fin 1024), i = ix2 r d := ⟨i 0, i 1, eq_ix2 i⟩
  exact (dxb_result m c r d).trans (dx_eq m c hm r d)
theorem result5_eq (c : Dev nD) : (dats m 0 c).arrAt 5 cfg0.N
    = Cert.Reference20Ideal.Read.val_main_v32 (F := Ideal) (m (c.tc.loc main_arg0)) (m (c.tc.loc main_arg1)) (m (c.tc.loc main_arg2)) := by
  funext i
  obtain ⟨z, d, rfl⟩ : ∃ (z : Fin 1) (d : Fin 1024), i = ix2 z d := ⟨i 0, i 1, eq_ix2 i⟩
  obtain rfl : z = 0 := Subsingleton.elim _ _
  exact (dgain_result m c d).trans (dgain_eq m c d)
theorem result6_eq (c : Dev nD) : (dats m 0 c).arrAt 6 cfg0.N
    = Cert.Reference20Ideal.Read.val_main_v50 (F := Ideal) (m (c.tc.loc main_arg0)) (m (c.tc.loc main_arg1)) (m (c.tc.loc main_arg2)) := by
  funext i
  obtain ⟨z, l, rfl⟩ : ∃ (z : Fin 1) (l : Fin 128), i = ix2 z l := ⟨i 0, i 1, eq_ix2 i⟩
  obtain rfl : z = 0 := Subsingleton.elim _ _
  refine (loss_result m c l).trans (Eq.trans ?_ (Cert.Reference20Ideal.Hand.loss_ref_apply _ _ _ l).symm)
  refine (Cert.Reference20Ideal.Hand.loss_sum (errRow m c)).trans ?_
  unfold errRow
  simp only [errAt_eq]

set_option maxHeartbeats 4000000 in
/-- The claim for the loss head. -/
theorem algebraic : Cert.algebraic_Kernel20Ideal_Reference20Ideal_pre_finite_loss := by
  intro m g m' g' hm hagree
  refine ⟨fun c => (dats m 0 c).arrAt 3 cfg0.N, fun c => (dats m 0 c).arrAt 4 cfg0.N, fun c => (dats m 0 c).arrAt 5 cfg0.N,
    fun c => (dats m 0 c).arrAt 6 cfg0.N, Cert.Kernel20Ideal.Value.run_blocks (F := Ideal) m g, ?_⟩
  refine (θ_run Cert.Reference20Ideal.defs _ _).mono (fun _ h c => ?_) (Cert.Reference20Ideal.Value.run (F := Ideal) m' g')
  obtain ⟨h0, h1, h2⟩ := hagree c
  refine ⟨((h c).1.trans (Cert.Reference20Ideal.Read.val_main_v48_eq m' c)).trans ?_,
    ((h c).2.1.trans (Cert.Reference20Ideal.Read.val_main_v49_eq m' c)).trans ?_,
    ((h c).2.2.1.trans (Cert.Reference20Ideal.Read.val_main_v32_eq _ _ _)).trans ?_,
    ((h c).2.2.2.1.trans (Cert.Reference20Ideal.Read.val_main_v50_eq _ _ _)).trans ?_, (h c).2.2.2.2⟩
  · rw [h0, h1, h2]
    exact (result3_eq m c hm).symm
  · rw [h0, h1, h2]
    exact (result4_eq m c hm).symm
  · rw [h0, h1, h2]
    exact (result5_eq m c).symm
  · rw [h0, h1, h2]
    exact (result6_eq m c).symm

end Cert.Kernel20Ideal.Hand
-- ==== Proof.lean ====
/- Every claim of the certificate, from the modules that prove it. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Pre_finite
public import proofs.«01_k».proof.Proof.Gen.Pre_finite_dx
public import proofs.«01_k».proof.Proof.Gen.Kernel2Ideal.Value
public import proofs.«01_k».proof.Proof.Gen.Kernel3Ideal.Value
public import proofs.«01_k».proof.Proof.Gen.Kernel4Ideal.Value
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.ReferenceIdeal.Read
public import proofs.«01_k».proof.Proof.Gen.Reference2Ideal.Read
public import proofs.«01_k».proof.Proof.Gen.Reference3Ideal.Read
public import proofs.«01_k».proof.Proof.Gen.Reference4Ideal.Read
public import proofs.«01_k».proof.Proof.DownEq
public import proofs.«01_k».proof.Proof.GateUpEq
public import proofs.«01_k».proof.Proof.DxEq
public import proofs.«01_k».proof.Proof.FwdEq
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Adamw5Eq
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Adamw6Eq
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Adamw7Eq
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Adamw8Eq
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Adamw9Eq
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Adamw10Eq
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Adamw11Eq
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Adamw12Eq
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Adamw13Eq
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Adamw14Eq
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Adamw15Eq
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Adamw16Eq
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Adamw17Eq
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Adamw18Eq
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Adamw19Eq
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.LossEq
public import proofs.«01_k».proof.Proof.Gen.Pre_finite_loss
public import Idealize.ShloMosaic.Adequacy
public import Idealize.ShloMosaic.Init

@[expose] public section

noncomputable section

namespace Cert.Proof

open Idealize.ShloMosaic Idealize.SL.Sem Cert.Kernel

theorem quiescent_Kernel_holds : Cert.quiescent_Kernel :=
  fun m g _ => Cert.Kernel.Gen.frame m g

theorem quiescent_KernelIdeal_holds : Cert.quiescent_KernelIdeal :=
  fun m g _ => Cert.KernelIdeal.Gen.frame m g

theorem quiescent_KernelIdeal_pre_finite_holds : Cert.quiescent_KernelIdeal_pre_finite :=
  fun m g _ => Cert.KernelIdeal.Gen.frame m g

theorem quiescent_ReferenceIdeal_holds : Cert.quiescent_ReferenceIdeal := by
  intro m g _
  refine (θ_run Cert.ReferenceIdeal.defs _ _).mono (fun r h => ?_) (Cert.ReferenceIdeal.Value.run (F := Ideal) m g)
  exact ⟨fun c => (h c).2.2.2.2, sem_eq_zero_of_no_sems (by decide) r.2⟩

theorem quiescent_ReferenceIdeal_pre_finite_holds : Cert.quiescent_ReferenceIdeal_pre_finite := by
  intro m g _
  refine (θ_run Cert.ReferenceIdeal.defs _ _).mono (fun r h => ?_) (Cert.ReferenceIdeal.Value.run (F := Ideal) m g)
  exact ⟨fun c => (h c).2.2.2.2, sem_eq_zero_of_no_sems (by decide) r.2⟩

theorem quiescent_Kernel2_holds : Cert.quiescent_Kernel2 :=
  fun m g _ => Cert.Kernel2.Gen.frame m g

theorem quiescent_Kernel2Ideal_holds : Cert.quiescent_Kernel2Ideal :=
  fun m g _ => Cert.Kernel2Ideal.Gen.frame m g

theorem quiescent_Reference2Ideal_holds : Cert.quiescent_Reference2Ideal := by
  intro m g _
  refine (θ_run Cert.Reference2Ideal.defs _ _).mono (fun r h => ?_) (Cert.Reference2Ideal.Value.run (F := Ideal) m g)
  exact ⟨fun c => (h c).2, sem_eq_zero_of_no_sems (by decide) r.2⟩

theorem quiescent_Kernel3_holds : Cert.quiescent_Kernel3 :=
  fun m g _ => Cert.Kernel3.Gen.frame m g

theorem quiescent_Kernel3Ideal_holds : Cert.quiescent_Kernel3Ideal :=
  fun m g _ => Cert.Kernel3Ideal.Gen.frame m g

theorem quiescent_Reference3Ideal_holds : Cert.quiescent_Reference3Ideal := by
  intro m g _
  refine (θ_run Cert.Reference3Ideal.defs _ _).mono (fun r h => ?_) (Cert.Reference3Ideal.Value.run (F := Ideal) m g)
  exact ⟨fun c => (h c).2.2, sem_eq_zero_of_no_sems (by decide) r.2⟩

theorem quiescent_Kernel4_holds : Cert.quiescent_Kernel4 :=
  fun m g _ => Cert.Kernel4.Gen.frame m g

theorem quiescent_Kernel4Ideal_holds : Cert.quiescent_Kernel4Ideal :=
  fun m g _ => Cert.Kernel4Ideal.Gen.frame m g

theorem quiescent_Kernel4Ideal_pre_finite_dx_holds : Cert.quiescent_Kernel4Ideal_pre_finite_dx :=
  fun m g _ => Cert.Kernel4Ideal.Gen.frame m g

theorem quiescent_Reference4Ideal_holds : Cert.quiescent_Reference4Ideal := by
  intro m g _
  refine (θ_run Cert.Reference4Ideal.defs _ _).mono (fun r h => ?_) (Cert.Reference4Ideal.Value.run (F := Ideal) m g)
  exact ⟨fun c => (h c).2.2.2, sem_eq_zero_of_no_sems (by decide) r.2⟩

theorem quiescent_Reference4Ideal_pre_finite_dx_holds : Cert.quiescent_Reference4Ideal_pre_finite_dx := by
  intro m g _
  refine (θ_run Cert.Reference4Ideal.defs _ _).mono (fun r h => ?_) (Cert.Reference4Ideal.Value.run (F := Ideal) m g)
  exact ⟨fun c => (h c).2.2.2, sem_eq_zero_of_no_sems (by decide) r.2⟩

theorem quiescent_Kernel5_holds : Cert.quiescent_Kernel5 :=
  fun m g _ => Cert.Kernel5.Gen.frame m g

theorem quiescent_Kernel5Ideal_holds : Cert.quiescent_Kernel5Ideal :=
  fun m g _ => Cert.Kernel5Ideal.Gen.frame m g

theorem quiescent_Reference5Ideal_holds : Cert.quiescent_Reference5Ideal := by
  intro m g _
  refine (θ_run Cert.Reference5Ideal.defs _ _).mono (fun r h => ?_) (Cert.Reference5Ideal.Value.run (F := Ideal) m g)
  exact ⟨fun c => (h c).2.2.2, sem_eq_zero_of_no_sems (by decide) r.2⟩

theorem quiescent_Kernel6_holds : Cert.quiescent_Kernel6 :=
  fun m g _ => Cert.Kernel6.Gen.frame m g

theorem quiescent_Kernel6Ideal_holds : Cert.quiescent_Kernel6Ideal :=
  fun m g _ => Cert.Kernel6Ideal.Gen.frame m g

theorem quiescent_Reference6Ideal_holds : Cert.quiescent_Reference6Ideal := by
  intro m g _
  refine (θ_run Cert.Reference6Ideal.defs _ _).mono (fun r h => ?_) (Cert.Reference6Ideal.Value.run (F := Ideal) m g)
  exact ⟨fun c => (h c).2.2.2, sem_eq_zero_of_no_sems (by decide) r.2⟩

theorem quiescent_Kernel7_holds : Cert.quiescent_Kernel7 :=
  fun m g _ => Cert.Kernel7.Gen.frame m g

theorem quiescent_Kernel7Ideal_holds : Cert.quiescent_Kernel7Ideal :=
  fun m g _ => Cert.Kernel7Ideal.Gen.frame m g

theorem quiescent_Reference7Ideal_holds : Cert.quiescent_Reference7Ideal := by
  intro m g _
  refine (θ_run Cert.Reference7Ideal.defs _ _).mono (fun r h => ?_) (Cert.Reference7Ideal.Value.run (F := Ideal) m g)
  exact ⟨fun c => (h c).2.2.2, sem_eq_zero_of_no_sems (by decide) r.2⟩

theorem quiescent_Kernel8_holds : Cert.quiescent_Kernel8 :=
  fun m g _ => Cert.Kernel8.Gen.frame m g

theorem quiescent_Kernel8Ideal_holds : Cert.quiescent_Kernel8Ideal :=
  fun m g _ => Cert.Kernel8Ideal.Gen.frame m g

theorem quiescent_Reference8Ideal_holds : Cert.quiescent_Reference8Ideal := by
  intro m g _
  refine (θ_run Cert.Reference8Ideal.defs _ _).mono (fun r h => ?_) (Cert.Reference8Ideal.Value.run (F := Ideal) m g)
  exact ⟨fun c => (h c).2.2.2, sem_eq_zero_of_no_sems (by decide) r.2⟩

theorem quiescent_Kernel9_holds : Cert.quiescent_Kernel9 :=
  fun m g _ => Cert.Kernel9.Gen.frame m g

theorem quiescent_Kernel9Ideal_holds : Cert.quiescent_Kernel9Ideal :=
  fun m g _ => Cert.Kernel9Ideal.Gen.frame m g

theorem quiescent_Reference9Ideal_holds : Cert.quiescent_Reference9Ideal := by
  intro m g _
  refine (θ_run Cert.Reference9Ideal.defs _ _).mono (fun r h => ?_) (Cert.Reference9Ideal.Value.run (F := Ideal) m g)
  exact ⟨fun c => (h c).2.2.2, sem_eq_zero_of_no_sems (by decide) r.2⟩

theorem quiescent_Kernel10_holds : Cert.quiescent_Kernel10 :=
  fun m g _ => Cert.Kernel10.Gen.frame m g

theorem quiescent_Kernel10Ideal_holds : Cert.quiescent_Kernel10Ideal :=
  fun m g _ => Cert.Kernel10Ideal.Gen.frame m g

theorem quiescent_Reference10Ideal_holds : Cert.quiescent_Reference10Ideal := by
  intro m g _
  refine (θ_run Cert.Reference10Ideal.defs _ _).mono (fun r h => ?_) (Cert.Reference10Ideal.Value.run (F := Ideal) m g)
  exact ⟨fun c => (h c).2.2.2, sem_eq_zero_of_no_sems (by decide) r.2⟩

theorem quiescent_Kernel11_holds : Cert.quiescent_Kernel11 :=
  fun m g _ => Cert.Kernel11.Gen.frame m g

theorem quiescent_Kernel11Ideal_holds : Cert.quiescent_Kernel11Ideal :=
  fun m g _ => Cert.Kernel11Ideal.Gen.frame m g

theorem quiescent_Reference11Ideal_holds : Cert.quiescent_Reference11Ideal := by
  intro m g _
  refine (θ_run Cert.Reference11Ideal.defs _ _).mono (fun r h => ?_) (Cert.Reference11Ideal.Value.run (F := Ideal) m g)
  exact ⟨fun c => (h c).2.2.2, sem_eq_zero_of_no_sems (by decide) r.2⟩

theorem quiescent_Kernel12_holds : Cert.quiescent_Kernel12 :=
  fun m g _ => Cert.Kernel12.Gen.frame m g

theorem quiescent_Kernel12Ideal_holds : Cert.quiescent_Kernel12Ideal :=
  fun m g _ => Cert.Kernel12Ideal.Gen.frame m g

theorem quiescent_Reference12Ideal_holds : Cert.quiescent_Reference12Ideal := by
  intro m g _
  refine (θ_run Cert.Reference12Ideal.defs _ _).mono (fun r h => ?_) (Cert.Reference12Ideal.Value.run (F := Ideal) m g)
  exact ⟨fun c => (h c).2.2.2, sem_eq_zero_of_no_sems (by decide) r.2⟩

theorem quiescent_Kernel13_holds : Cert.quiescent_Kernel13 :=
  fun m g _ => Cert.Kernel13.Gen.frame m g

theorem quiescent_Kernel13Ideal_holds : Cert.quiescent_Kernel13Ideal :=
  fun m g _ => Cert.Kernel13Ideal.Gen.frame m g

theorem quiescent_Reference13Ideal_holds : Cert.quiescent_Reference13Ideal := by
  intro m g _
  refine (θ_run Cert.Reference13Ideal.defs _ _).mono (fun r h => ?_) (Cert.Reference13Ideal.Value.run (F := Ideal) m g)
  exact ⟨fun c => (h c).2.2.2, sem_eq_zero_of_no_sems (by decide) r.2⟩

theorem quiescent_Kernel14_holds : Cert.quiescent_Kernel14 :=
  fun m g _ => Cert.Kernel14.Gen.frame m g

theorem quiescent_Kernel14Ideal_holds : Cert.quiescent_Kernel14Ideal :=
  fun m g _ => Cert.Kernel14Ideal.Gen.frame m g

theorem quiescent_Reference14Ideal_holds : Cert.quiescent_Reference14Ideal := by
  intro m g _
  refine (θ_run Cert.Reference14Ideal.defs _ _).mono (fun r h => ?_) (Cert.Reference14Ideal.Value.run (F := Ideal) m g)
  exact ⟨fun c => (h c).2.2.2, sem_eq_zero_of_no_sems (by decide) r.2⟩

theorem quiescent_Kernel15_holds : Cert.quiescent_Kernel15 :=
  fun m g _ => Cert.Kernel15.Gen.frame m g

theorem quiescent_Kernel15Ideal_holds : Cert.quiescent_Kernel15Ideal :=
  fun m g _ => Cert.Kernel15Ideal.Gen.frame m g

theorem quiescent_Reference15Ideal_holds : Cert.quiescent_Reference15Ideal := by
  intro m g _
  refine (θ_run Cert.Reference15Ideal.defs _ _).mono (fun r h => ?_) (Cert.Reference15Ideal.Value.run (F := Ideal) m g)
  exact ⟨fun c => (h c).2.2.2, sem_eq_zero_of_no_sems (by decide) r.2⟩

theorem quiescent_Kernel16_holds : Cert.quiescent_Kernel16 :=
  fun m g _ => Cert.Kernel16.Gen.frame m g

theorem quiescent_Kernel16Ideal_holds : Cert.quiescent_Kernel16Ideal :=
  fun m g _ => Cert.Kernel16Ideal.Gen.frame m g

theorem quiescent_Reference16Ideal_holds : Cert.quiescent_Reference16Ideal := by
  intro m g _
  refine (θ_run Cert.Reference16Ideal.defs _ _).mono (fun r h => ?_) (Cert.Reference16Ideal.Value.run (F := Ideal) m g)
  exact ⟨fun c => (h c).2.2.2, sem_eq_zero_of_no_sems (by decide) r.2⟩

theorem quiescent_Kernel17_holds : Cert.quiescent_Kernel17 :=
  fun m g _ => Cert.Kernel17.Gen.frame m g

theorem quiescent_Kernel17Ideal_holds : Cert.quiescent_Kernel17Ideal :=
  fun m g _ => Cert.Kernel17Ideal.Gen.frame m g

theorem quiescent_Reference17Ideal_holds : Cert.quiescent_Reference17Ideal := by
  intro m g _
  refine (θ_run Cert.Reference17Ideal.defs _ _).mono (fun r h => ?_) (Cert.Reference17Ideal.Value.run (F := Ideal) m g)
  exact ⟨fun c => (h c).2.2.2, sem_eq_zero_of_no_sems (by decide) r.2⟩

theorem quiescent_Kernel18_holds : Cert.quiescent_Kernel18 :=
  fun m g _ => Cert.Kernel18.Gen.frame m g

theorem quiescent_Kernel18Ideal_holds : Cert.quiescent_Kernel18Ideal :=
  fun m g _ => Cert.Kernel18Ideal.Gen.frame m g

theorem quiescent_Reference18Ideal_holds : Cert.quiescent_Reference18Ideal := by
  intro m g _
  refine (θ_run Cert.Reference18Ideal.defs _ _).mono (fun r h => ?_) (Cert.Reference18Ideal.Value.run (F := Ideal) m g)
  exact ⟨fun c => (h c).2.2.2, sem_eq_zero_of_no_sems (by decide) r.2⟩

theorem quiescent_Kernel19_holds : Cert.quiescent_Kernel19 :=
  fun m g _ => Cert.Kernel19.Gen.frame m g

theorem quiescent_Kernel19Ideal_holds : Cert.quiescent_Kernel19Ideal :=
  fun m g _ => Cert.Kernel19Ideal.Gen.frame m g

theorem quiescent_Reference19Ideal_holds : Cert.quiescent_Reference19Ideal := by
  intro m g _
  refine (θ_run Cert.Reference19Ideal.defs _ _).mono (fun r h => ?_) (Cert.Reference19Ideal.Value.run (F := Ideal) m g)
  exact ⟨fun c => (h c).2.2.2, sem_eq_zero_of_no_sems (by decide) r.2⟩

theorem quiescent_Kernel20_holds : Cert.quiescent_Kernel20 :=
  fun m g _ => Cert.Kernel20.Gen.frame m g

theorem quiescent_Kernel20Ideal_holds : Cert.quiescent_Kernel20Ideal :=
  fun m g _ => Cert.Kernel20Ideal.Gen.frame m g

theorem quiescent_Kernel20Ideal_pre_finite_loss_holds : Cert.quiescent_Kernel20Ideal_pre_finite_loss :=
  fun m g _ => Cert.Kernel20Ideal.Gen.frame m g

theorem quiescent_Reference20Ideal_holds : Cert.quiescent_Reference20Ideal := by
  intro m g _
  refine (θ_run Cert.Reference20Ideal.defs _ _).mono (fun r h => ?_) (Cert.Reference20Ideal.Value.run (F := Ideal) m g)
  exact ⟨fun c => (h c).2.2.2.2, sem_eq_zero_of_no_sems (by decide) r.2⟩

theorem quiescent_Reference20Ideal_pre_finite_loss_holds : Cert.quiescent_Reference20Ideal_pre_finite_loss := by
  intro m g _
  refine (θ_run Cert.Reference20Ideal.defs _ _).mono (fun r h => ?_) (Cert.Reference20Ideal.Value.run (F := Ideal) m g)
  exact ⟨fun c => (h c).2.2.2.2, sem_eq_zero_of_no_sems (by decide) r.2⟩

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Pre_finite.Gen.facts, Cert.Pre_finite_dx.Gen.facts, Cert.Pre_finite_loss.Gen.facts,
    quiescent_Kernel_holds,
    quiescent_KernelIdeal_holds,
    quiescent_KernelIdeal_pre_finite_holds,
    quiescent_ReferenceIdeal_holds,
    quiescent_ReferenceIdeal_pre_finite_holds,
    quiescent_Kernel2_holds,
    quiescent_Kernel2Ideal_holds,
    quiescent_Reference2Ideal_holds,
    quiescent_Kernel3_holds,
    quiescent_Kernel3Ideal_holds,
    quiescent_Reference3Ideal_holds,
    quiescent_Kernel4_holds,
    quiescent_Kernel4Ideal_holds,
    quiescent_Kernel4Ideal_pre_finite_dx_holds,
    quiescent_Reference4Ideal_holds,
    quiescent_Reference4Ideal_pre_finite_dx_holds,
    quiescent_Kernel5_holds,
    quiescent_Kernel5Ideal_holds,
    quiescent_Reference5Ideal_holds,
    quiescent_Kernel6_holds,
    quiescent_Kernel6Ideal_holds,
    quiescent_Reference6Ideal_holds,
    quiescent_Kernel7_holds,
    quiescent_Kernel7Ideal_holds,
    quiescent_Reference7Ideal_holds,
    quiescent_Kernel8_holds,
    quiescent_Kernel8Ideal_holds,
    quiescent_Reference8Ideal_holds,
    quiescent_Kernel9_holds,
    quiescent_Kernel9Ideal_holds,
    quiescent_Reference9Ideal_holds,
    quiescent_Kernel10_holds,
    quiescent_Kernel10Ideal_holds,
    quiescent_Reference10Ideal_holds,
    quiescent_Kernel11_holds,
    quiescent_Kernel11Ideal_holds,
    quiescent_Reference11Ideal_holds,
    quiescent_Kernel12_holds,
    quiescent_Kernel12Ideal_holds,
    quiescent_Reference12Ideal_holds,
    quiescent_Kernel13_holds,
    quiescent_Kernel13Ideal_holds,
    quiescent_Reference13Ideal_holds,
    quiescent_Kernel14_holds,
    quiescent_Kernel14Ideal_holds,
    quiescent_Reference14Ideal_holds,
    quiescent_Kernel15_holds,
    quiescent_Kernel15Ideal_holds,
    quiescent_Reference15Ideal_holds,
    quiescent_Kernel16_holds,
    quiescent_Kernel16Ideal_holds,
    quiescent_Reference16Ideal_holds,
    quiescent_Kernel17_holds,
    quiescent_Kernel17Ideal_holds,
    quiescent_Reference17Ideal_holds,
    quiescent_Kernel18_holds,
    quiescent_Kernel18Ideal_holds,
    quiescent_Reference18Ideal_holds,
    quiescent_Kernel19_holds,
    quiescent_Kernel19Ideal_holds,
    quiescent_Reference19Ideal_holds,
    quiescent_Kernel20_holds,
    quiescent_Kernel20Ideal_holds,
    quiescent_Kernel20Ideal_pre_finite_loss_holds,
    quiescent_Reference20Ideal_holds,
    quiescent_Reference20Ideal_pre_finite_loss_holds,
    trivial,
    Cert.KernelIdeal.Hand.algebraic,
    trivial,
    Cert.Kernel2Ideal.Hand.algebraic,
    trivial,
    Cert.Kernel3Ideal.Hand.algebraic,
    trivial,
    Cert.Kernel4Ideal.Hand.algebraic,
    trivial,
    Cert.Kernel5Ideal.Hand.algebraic,
    trivial,
    Cert.Kernel6Ideal.Hand.algebraic,
    trivial,
    Cert.Kernel7Ideal.Hand.algebraic,
    trivial,
    Cert.Kernel8Ideal.Hand.algebraic,
    trivial,
    Cert.Kernel9Ideal.Hand.algebraic,
    trivial,
    Cert.Kernel10Ideal.Hand.algebraic,
    trivial,
    Cert.Kernel11Ideal.Hand.algebraic,
    trivial,
    Cert.Kernel12Ideal.Hand.algebraic,
    trivial,
    Cert.Kernel13Ideal.Hand.algebraic,
    trivial,
    Cert.Kernel14Ideal.Hand.algebraic,
    trivial,
    Cert.Kernel15Ideal.Hand.algebraic,
    trivial,
    Cert.Kernel16Ideal.Hand.algebraic,
    trivial,
    Cert.Kernel17Ideal.Hand.algebraic,
    trivial,
    Cert.Kernel18Ideal.Hand.algebraic,
    trivial,
    Cert.Kernel19Ideal.Hand.algebraic,
    trivial,
    Cert.Kernel20Ideal.Hand.algebraic⟩

end Cert.Proof

end
